-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_tame_down [hPre_tame_down : Cert.Pre_tame_down.Facts] (m : (ℓ : Loc Cert.DownIdeal.nD Cert.DownIdeal.τ Cert.DownIdeal.sig) → Buf (Elt Ideal) ℓ) : Prop :=
  ∀ c : Dev Cert.DownIdeal.nD,
    (Cert.Pre_tame_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_tame_down [hPre_tame_down : Cert.Pre_tame_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_tame_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_tame_down [hDownIdeal : Cert.DownIdeal.Facts] [hPre_tame_down : Cert.Pre_tame_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_tame_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_tame_down [hDownReferenceIdeal : Cert.DownReferenceIdeal.Facts] [hPre_tame_down : Cert.Pre_tame_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_tame_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def preserves_Kernel_KernelIdeal : Prop :=
  IdealRules.bf16_pack.Statement Cert.KernelIdeal.S64x256

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Down_DownIdeal : Prop :=
  IdealRules.bf16_pack.Statement Cert.DownIdeal.S32x256

def algebraic_DownIdeal_DownReferenceIdeal_pre_tame_down [hDownIdeal : Cert.DownIdeal.Facts] [hDownReferenceIdeal : Cert.DownReferenceIdeal.Facts] [hPre_tame_down : Cert.Pre_tame_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_tame_down m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v31_0)) (v1 : (c : Dev Cert.DownIdeal.nD) → Buf (Elt Ideal) ((c.tc : Thread Cert.DownIdeal.nD Cert.DownIdeal.τ).loc Cert.DownIdeal.main_v32)) (v2 : (c : Dev Cert.DownIdeal.nD) → Buf (Elt Ideal) ((c.tc : Thread Cert.DownIdeal.nD Cert.DownIdeal.τ).loc Cert.DownIdeal.main_v34)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v31_0) = v0 c
          ∧ r.2.mem ((c.tc : Thread Cert.DownIdeal.nD Cert.DownIdeal.τ).loc Cert.DownIdeal.main_v32) = v1 c
          ∧ r.2.mem ((c.tc : Thread Cert.DownIdeal.nD Cert.DownIdeal.τ).loc Cert.DownIdeal.main_v34) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v76) = v0 c
          ∧ r.2.mem ((c.tc : Thread Cert.DownReferenceIdeal.nD Cert.DownReferenceIdeal.τ).loc Cert.DownReferenceIdeal.main_v59) = v1 c
          ∧ r.2.mem ((c.tc : Thread Cert.DownReferenceIdeal.nD Cert.DownReferenceIdeal.τ).loc Cert.DownReferenceIdeal.main_v43) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hPre_tame : Cert.Pre_tame.Facts) (hPre_tame_down : Cert.Pre_tame_down.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Down (hDown := hDown)
    ∧ quiescent_DownIdeal (hDownIdeal := hDownIdeal)
    ∧ quiescent_DownIdeal_pre_tame_down (hDownIdeal := hDownIdeal) (hPre_tame_down := hPre_tame_down)
    ∧ quiescent_DownReferenceIdeal (hDownReferenceIdeal := hDownReferenceIdeal)
    ∧ quiescent_DownReferenceIdeal_pre_tame_down (hDownReferenceIdeal := hDownReferenceIdeal) (hPre_tame_down := hPre_tame_down)
    ∧ preserves_Kernel_KernelIdeal
    ∧ algebraic_KernelIdeal_ReferenceIdeal_pre_tame (hKernelIdeal := hKernelIdeal) (hReferenceIdeal := hReferenceIdeal) (hPre_tame := hPre_tame)
    ∧ preserves_Down_DownIdeal
    ∧ algebraic_DownIdeal_DownReferenceIdeal_pre_tame_down (hDownIdeal := hDownIdeal) (hDownReferenceIdeal := hDownReferenceIdeal) (hPre_tame_down := hPre_tame_down)
-- ==== Pre_tame.lean ====
abbrev S3x7168x4096 : Shape := ⟨3, ![3, 7168, 4096]⟩
abbrev S3x56x32 : Shape := ⟨3, ![3, 56, 32]⟩
abbrev S3x4096 : Shape := ⟨2, ![3, 4096]⟩
abbrev S4096 : Shape := ⟨1, ![4096]⟩
abbrev S64x64 : Shape := ⟨2, ![64, 64]⟩
abbrev S128x128 : Shape := ⟨2, ![128, 128]⟩
abbrev S3x7168 : Shape := ⟨2, ![3, 7168]⟩
abbrev S_ : Shape := ⟨0, ![]⟩

class Facts : Prop where
  bcast_S_S3x7168x4096 : S_.BroadcastsInDim S3x7168x4096 (![] : Fin 0 → Fin S3x7168x4096.rank)
  reducesTo_S3x7168x4096_S_d0_1_2 : S3x7168x4096.ReducesTo [0, 1, 2] S_
  h_S_ : 0 < S_.numel
  bcast_S_S3x56x32 : S_.BroadcastsInDim S3x56x32 (![] : Fin 0 → Fin S3x56x32.rank)
  reducesTo_S3x56x32_S_d0_1_2 : S3x56x32.ReducesTo [0, 1, 2] S_
  bcast_S_S3x4096 : S_.BroadcastsInDim S3x4096 (![] : Fin 0 → Fin S3x4096.rank)
  reducesTo_S3x4096_S_d0_1 : S3x4096.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_
  bcast_S_S3x7168 : S_.BroadcastsInDim S3x7168 (![] : Fin 0 → Fin S3x7168.rank)
  reducesTo_S3x7168_S_d0_1 : S3x7168.ReducesTo [0, 1] S_

variable [Facts]

def fn_part1 {F : FTy → Type} [FloatOps F] (main_arg5 : FVec F S64x64 .bf16) (main_arg7 : IVec S3x7168 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S64x64 .bf16 := Host.absf main_arg5
  let main_cst_6 : FVec F S_ .bf16 := constant S_ .bf16 0x7F80#16
  let main_v20 : FVec F S64x64 .bf16 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S3x7168 32 := broadcastInDim S3x7168 ![] bcast_S_S3x7168 main_c_8
  let main_v25 : IVec S3x7168 1 := cmpi .sge main_arg7 main_v24
  let main_c_9 : IVec S_ 32 := constantI S_ 32 8#32
  let main_v26 : IVec S3x7168 32 := broadcastInDim S3x7168 ![] bcast_S_S3x7168 main_c_9
  let main_v27 : IVec S3x7168 1 := cmpi .slt main_arg7 main_v26
  let main_v28 : IVec S3x7168 1 := andi main_v25 main_v27
  let main_c_10 : IVec S_ 1 := constantI S_ 1 1#1
  let main_v29 : IVec S_ 1 := (fun x v => Host.reduce IntOp.andi x v reducesTo_S3x7168_S_d0_1 h_S_) main_v28 main_c_10
  let main_v30 : IVec S_ 1 := andi main_v23 main_v29
  main_v30

def fn {F : FTy → Type} [FloatOps F] (main_arg0 : FVec F S3x7168x4096 .f32) (main_arg1 : FVec F S3x56x32 .f32) (main_arg2 : FVec F S3x4096 .f32) (main_arg3 : FVec F S4096 .f32) (main_arg4 : FVec F S64x64 .bf16) (main_arg5 : FVec F S64x64 .bf16) (main_arg6 : FVec F S128x128 .bf16) (main_arg7 : IVec S3x7168 32) : IVec S_ 1 :=
  let main_v0 : FVec F S3x7168x4096 .f32 := Host.absf main_arg0
  let main_cst : FVec F S_ .f32 := constant S_ .f32 0x7F800000#32
  let main_v1 : FVec F S3x7168x4096 .f32 := broadcastInDim S3x7168x4096 ![] bcast_S_S3x7168x4096 main_cst
  let main_v2 : IVec S3x7168x4096 1 := cmpf .olt main_v0 main_v1
  let main_c : IVec S_ 1 := constantI S_ 1 1#1
  let main_v3 : IVec S_ 1 := (fun x v => Host.reduce IntOp.andi x v reducesTo_S3x7168x4096_S_d0_1_2 h_S_) main_v2 main_c
  let main_v4 : FVec F S3x56x32 .f32 := Host.absf main_arg1
  let main_cst_0 : FVec F S_ .f32 := constant S_ .f32 0x7F800000#32
  let main_v5 : FVec F S3x56x32 .f32 := broadcastInDim S3x56x32 ![] bcast_S_S3x56x32 main_cst_0
  let main_v6 : IVec S3x56x32 1 := cmpf .olt main_v4 main_v5
  let main_c_1 : IVec S_ 1 := constantI S_ 1 1#1
  let main_v7 : IVec S_ 1 := (fun x v => Host.reduce IntOp.andi x v reducesTo_S3x56x32_S_d0_1_2 h_S_) main_v6 main_c_1
  let main_v8 : IVec S_ 1 := andi main_v3 main_v7
  let main_v9 : FVec F S3x4096 .f32 := Host.absf main_arg2
  let main_cst_2 : FVec F S_ .f32 := constant S_ .f32 0x7F800000#32
  let main_v10 : FVec F S3x4096 .f32 := broadcastInDim S3x4096 ![] bcast_S_S3x4096 main_cst_2
  let main_v11 : IVec S3x4096 1 := cmpf .olt main_v9 main_v10
  let main_c_3 : IVec S_ 1 := constantI S_ 1 1#1
  let main_v12 : IVec S_ 1 := (fun x v => Host.reduce IntOp.andi x v reducesTo_S3x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg7 main_v13 main_v16
-- ==== Pre_tame_down.lean ====
abbrev S3x2048x7168 : Shape := ⟨3, ![3, 2048, 7168]⟩
abbrev S256x256 : Shape := ⟨2, ![256, 256]⟩
abbrev S28x28 : Shape := ⟨2, ![28, 28]⟩
abbrev S3x4096 : Shape := ⟨2, ![3, 4096]⟩
abbrev S3x2048x7168x2 : Shape := ⟨4, ![3, 2048, 7168, 2]⟩
abbrev S3x2048x2x7168 : Shape := ⟨4, ![3, 2048, 2, 7168]⟩
abbrev S3x4096x7168 : Shape := ⟨3, ![3, 4096, 7168]⟩
abbrev S_ : Shape := ⟨0, ![]⟩

class Facts : Prop where
  splits_S3x2048x7168_w32_S3x2048x7168x2_w16 : S3x2048x7168.SplitsWords 32 S3x2048x7168x2 16
  transposes_S3x2048x7168x2_S3x2048x2x7168_0_1_3_2 : S3x2048x7168x2.Transposes [0, 1, 3, 2] S3x2048x2x7168
  shapeCasts_S3x2048x2x7168_S3x4096x7168 : S3x2048x2x7168.ShapeCasts S3x4096x7168
  bcast_S_S3x4096x7168 : S_.BroadcastsInDim S3x4096x7168 (![] : Fin 0 → Fin S3x4096x7168.rank)
  reducesTo_S3x4096x7168_S_d0_1_2 : S3x4096x7168.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S3x4096 : S_.BroadcastsInDim S3x4096 (![] : Fin 0 → Fin S3x4096.rank)
  reducesTo_S3x4096_S_d0_1 : S3x4096.ReducesTo [0, 1] S_

variable [Facts]

def fn_part1 {F : FTy → Type} [FloatOps F] (main_v11 : IVec S_ 1) (main_v16 : IVec S3x4096 1) (main_c_4 : IVec S_ 1) : IVec S_ 1 :=
  let main_v17 : IVec S_ 1 := (fun x v => Host.reduce IntOp.andi x v reducesTo_S3x4096_S_d0_1 h_S_) main_v16 main_c_4
  let main_v18 : IVec S_ 1 := andi main_v11 main_v17
  main_v18

def fn {F : FTy → Type} [FloatOps F] (main_arg0 : IVec S3x2048x7168 32) (main_arg1 : FVec F S256x256 .bf16) (main_arg2 : FVec F S28x28 .bf16) (main_arg3 : IVec S3x4096 32) : IVec S_ 1 :=
  let main_v0 : FVec F S3x2048x7168x2 .bf16 := (fun x => bitcastToFloat .bf16 (Host.bitcastConvertNarrow S3x2048x7168x2 16 x splits_S3x2048x7168_w32_S3x2048x7168x2_w16)) main_arg0
  let main_v1 : FVec F S3x2048x2x7168 .bf16 := (transpose S3x2048x2x7168 [0, 1, 3, 2] · transposes_S3x2048x7168x2_S3x2048x2x7168_0_1_3_2) main_v0
  let main_v2 : FVec F S3x4096x7168 .bf16 := shapeCast S3x4096x7168 main_v1 shapeCasts_S3x2048x2x7168_S3x4096x7168
  let main_v3 : FVec F S3x4096x7168 .bf16 := Host.absf main_v2
  let main_cst : FVec F S_ .bf16 := constant S_ .bf16 0x7F80#16
  let main_v4 : FVec F S3x4096x7168 .bf16 := broadcastInDim S3x4096x7168 ![] bcast_S_S3x4096x7168 main_cst
  let main_v5 : IVec S3x4096x7168 1 := cmpf .olt main_v3 main_v4
  let main_c : IVec S_ 1 := constantI S_ 1 1#1
  let main_v6 : IVec S_ 1 := (fun x v => Host.reduce IntOp.andi x v reducesTo_S3x4096x7168_S_d0_1_2 h_S_) main_v5 main_c
  let main_v7 : FVec F S256x256 .bf16 := Host.absf main_arg1
  let main_cst_0 : FVec F S_ .bf16 := constant S_ .bf16 0x7F80#16
  let main_v8 : FVec F S256x256 .bf16 := broadcastInDim S256x256 ![] bcast_S_S256x256 main_cst_0
  let main_v9 : IVec S256x256 1 := cmpf .olt main_v7 main_v8
  let main_c_1 : IVec S_ 1 := constantI S_ 1 1#1
  let main_v10 : IVec S_ 1 := (fun x v => Host.reduce IntOp.andi x v reducesTo_S256x256_S_d0_1 h_S_) main_v9 main_c_1
  let main_v11 : IVec S_ 1 := andi main_v6 main_v10
  let main_c_2 : IVec S_ 32 := constantI S_ 32 0#32
  let main_v12 : IVec S3x4096 32 := broadcastInDim S3x4096 ![] bcast_S_S3x4096 main_c_2
  let main_v13 : IVec S3x4096 1 := cmpi .sge main_arg3 main_v12
  let main_c_3 : IVec S_ 32 := constantI S_ 32 8#32
  let main_v14 : IVec S3x4096 32 := broadcastInDim S3x4096 ![] bcast_S_S3x4096 main_c_3
  let main_v15 : IVec S3x4096 1 := cmpi .slt main_arg3 main_v14
  let main_v16 : IVec S3x4096 1 := andi main_v13 main_v15
  let main_c_4 : IVec S_ 1 := constantI S_ 1 1#1
  fn_part1 (F := F) main_v11 main_v16 main_c_4
-- ==== Kernel.lean ====
abbrev S3x7168x4096 : Shape := ⟨3, ![3, 7168, 4096]⟩
abbrev S3x56x32 : Shape := ⟨3, ![3, 56, 32]⟩
abbrev S3x4096 : Shape := ⟨2, ![3, 4096]⟩
abbrev S4096 : Shape := ⟨1, ![4096]⟩
abbrev S64x64 : Shape := ⟨2, ![64, 64]⟩
abbrev S128x128 : Shape := ⟨2, ![128, 128]⟩
abbrev S3x7168 : Shape := ⟨2, ![3, 7168]⟩
abbrev S1x4096 : Shape := ⟨2, ![1, 4096]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x3x64 : Shape := ⟨4, ![1, 64, 3, 64]⟩
abbrev S64x192 : Shape := ⟨2, ![64, 192]⟩
abbrev S2x2 : Shape := ⟨2, ![2, 2]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S4 : Shape := ⟨1, ![4]⟩
abbrev S1x4 : Shape := ⟨2, ![1, 4]⟩
abbrev S1x1x4x1 : Shape := ⟨4, ![1, 1, 4, 1]⟩
abbrev S1x64x4x64 : Shape := ⟨4, ![1, 64, 4, 64]⟩
abbrev S64x256 : Shape := ⟨2, ![64, 256]⟩
abbrev S3x56x32x1 : Shape := ⟨4, ![3, 56, 32, 1]⟩
abbrev S3x56x32x128 : Shape := ⟨4, ![3, 56, 32, 128]⟩
abbrev S3x56x4096 : Shape := ⟨3, ![3, 56, 4096]⟩
abbrev S3x28x2x4096 : Shape := ⟨4, ![3, 28, 2, 4096]⟩
abbrev S3x1x4096 : Shape := ⟨3, ![3, 1, 4096]⟩
abbrev S3x28x1x256 : Shape := ⟨4, ![3, 28, 1, 256]⟩
abbrev S3x7168x512 : Shape := ⟨3, ![3, 7168, 512]⟩
abbrev S3x28x8x256 : Shape := ⟨4, ![3, 28, 8, 256]⟩
abbrev S1x256x4096 : Shape := ⟨3, ![1, 256, 4096]⟩
abbrev S1x1x2x4096 : Shape := ⟨4, ![1, 1, 2, 4096]⟩
abbrev S1x1x4096 : Shape := ⟨3, ![1, 1, 4096]⟩
abbrev S1x1x1x256 : Shape := ⟨4, ![1, 1, 1, 256]⟩
abbrev S1x256x512 : Shape := ⟨3, ![1, 256, 512]⟩
abbrev S1x1x8x256 : Shape := ⟨4, ![1, 1, 8, 256]⟩
abbrev S2x4608x128 : Shape := ⟨3, ![2, 4608, 128]⟩
abbrev S64x64x256 : Shape := ⟨3, ![64, 64, 256]⟩
abbrev S2x576x128 : Shape := ⟨3, ![2, 576, 128]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S64x128 : Shape := ⟨2, ![64, 128]⟩
abbrev S1x64x128 : Shape := ⟨3, ![1, 64, 128]⟩
abbrev S16x256 : Shape := ⟨2, ![16, 256]⟩
abbrev S192x256 : Shape := ⟨2, ![192, 256]⟩
abbrev S1x64x256 : Shape := ⟨3, ![1, 64, 256]⟩
abbrev S256 : Shape := ⟨1, ![256]⟩
abbrev S8x256 : Shape := ⟨2, ![8, 256]⟩
abbrev S1x16x256 : Shape := ⟨3, ![1, 16, 256]⟩
abbrev S1x8x128 : Shape := ⟨3, ![1, 8, 128]⟩
abbrev S8x128 : Shape := ⟨2, ![8, 128]⟩
abbrev S1x128x128 : Shape := ⟨3, ![1, 128, 128]⟩
abbrev S3x28x256x8 : Shape := ⟨4, ![3, 28, 256, 8]⟩
abbrev S3x7168x8 : Shape := ⟨3, ![3, 7168, 8]⟩

abbrev nBuf : Space → Nat
  | .hbm => 82
  | .vmem => 21
  | .smem => 0
  | _ => 0

abbrev bufTy : (tb : Table) → Fin (tcTables nBuf tb) → BufTy
  | .hbm, ⟨0, _⟩ => ⟨S3x7168x4096, .f32⟩
  | .hbm, ⟨1, _⟩ => ⟨S3x56x32, .f32⟩
  | .hbm, ⟨2, _⟩ => ⟨S3x4096, .f32⟩
  | .hbm, ⟨3, _⟩ => ⟨S4096, .f32⟩
  | .hbm, ⟨4, _⟩ => ⟨S64x64, .bf16⟩
  | .hbm, ⟨5, _⟩ => ⟨S64x64, .bf16⟩
  | .hbm, ⟨6, _⟩ => ⟨S128x128, .bf16⟩
  | .hbm, ⟨7, _⟩ => ⟨S3x7168, .i32⟩
  | .hbm, ⟨8, _⟩ => ⟨S3x7168x4096, .fp8e4m3⟩
  | .hbm, ⟨9, _⟩ => ⟨S1x4096, .f32⟩
  | .hbm, ⟨10, _⟩ => ⟨S3x4096, .f32⟩
  | .hbm, ⟨11, _⟩ => ⟨S3x4096, .f32⟩
  | .hbm, ⟨12, _⟩ => ⟨S64x64, .bf16⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S64x64, .f32⟩
  | .hbm, ⟨21, _⟩ => ⟨S4x1x4x1, .f32⟩
  | .hbm, ⟨22, _⟩ => ⟨S1x64x1x64, .f32⟩
  | .hbm, ⟨23, _⟩ => ⟨S4x64x4x64, .f32⟩
  | .hbm, ⟨24, _⟩ => ⟨S4x64x4x64, .f32⟩
  | .hbm, ⟨25, _⟩ => ⟨S4x64x4x64, .f32⟩
  | .hbm, ⟨26, _⟩ => ⟨S256x256, .f32⟩
  | .hbm, ⟨27, _⟩ => ⟨S256x256, .bf16⟩
  | .hbm, ⟨28, _⟩ => ⟨S64x64, .bf16⟩
  | .hbm, ⟨29, _⟩ => ⟨S1x64x1x64, .bf16⟩
  | .hbm, ⟨30, _⟩ => ⟨S1x64x3x64, .bf16⟩
  | .hbm, ⟨31, _⟩ => ⟨S64x192, .bf16⟩
  | .hbm, ⟨32, _⟩ => ⟨S2x2, .i32⟩
  | .hbm, ⟨33, _⟩ => ⟨S2x2, .i32⟩
  | .hbm, ⟨34, _⟩ => ⟨S_, .i32⟩
  | .hbm, ⟨35, _⟩ => ⟨S2x2, .i32⟩
  | .hbm, ⟨36, _⟩ => ⟨S2x2, .i32⟩
  | .hbm, ⟨37, _⟩ => ⟨S2x2, .i1⟩
  | .hbm, ⟨38, _⟩ => ⟨S2x2, .f32⟩
  | .hbm, ⟨39, _⟩ => ⟨S128x128, .f32⟩
  | .hbm, ⟨40, _⟩ => ⟨S2x1x2x1, .f32⟩
  | .hbm, ⟨41, _⟩ => ⟨S1x128x1x128, .f32⟩
  | .hbm, ⟨42, _⟩ => ⟨S2x128x2x128, .f32⟩
  | .hbm, ⟨43, _⟩ => ⟨S2x128x2x128, .f32⟩
  | .hbm, ⟨44, _⟩ => ⟨S2x128x2x128, .f32⟩
  | .hbm, ⟨45, _⟩ => ⟨S256x256, .f32⟩
  | .hbm, ⟨46, _⟩ => ⟨S256x256, .bf16⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S1x4, .f32⟩
  | .hbm, ⟨56, _⟩ => ⟨S64x64, .i32⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S64x64, .i1⟩
  | .hbm, ⟨62, _⟩ => ⟨S64x64, .f32⟩
  | .hbm, ⟨63, _⟩ => ⟨S1x1x4x1, .f32⟩
  | .hbm, ⟨64, _⟩ => ⟨S1x64x1x64, .f32⟩
  | .hbm, ⟨65, _⟩ => ⟨S1x64x4x64, .f32⟩
  | .hbm, ⟨66, _⟩ => ⟨S1x64x4x64, .f32⟩
  | .hbm, ⟨67, _⟩ => ⟨S1x64x4x64, .f32⟩
  | .hbm, ⟨68, _⟩ => ⟨S64x256, .f32⟩
  | .hbm, ⟨69, _⟩ => ⟨S64x256, .bf16⟩
  | .hbm, ⟨70, _⟩ => ⟨S3x56x32x1, .f32⟩
  | .hbm, ⟨71, _⟩ => ⟨S3x56x32x128, .f32⟩
  | .hbm, ⟨72, _⟩ => ⟨S3x56x4096, .f32⟩
  | .hbm, ⟨73, _⟩ => ⟨S3x28x2x4096, .f32⟩
  | .hbm, ⟨74, _⟩ => ⟨S3x1x4096, .f32⟩
  | .hbm, ⟨75, _⟩ => ⟨S3x28x1x256, .i32⟩
  | .hbm, ⟨76, _⟩ => ⟨S3x7168x512, .i32⟩
  | .hbm, ⟨77, _⟩ => ⟨S3x28x1x256, .f32⟩
  | .hbm, ⟨78, _⟩ => ⟨S3x28x8x256, .f32⟩
  | .hbm, ⟨79, _⟩ => ⟨S3x7168, .f32⟩
  | .hbm, ⟨80, _⟩ => ⟨S3x28x256x8, .f32⟩
  | .hbm, ⟨81, _⟩ => ⟨S3x7168x8, .f32⟩
  | .local _ .vmem, ⟨0, _⟩ => ⟨S1x256x4096, .fp8e4m3⟩
  | .local _ .vmem, ⟨1, _⟩ => ⟨S1x256x4096, .fp8e4m3⟩
  | .local _ .vmem, ⟨2, _⟩ => ⟨S1x1x2x4096, .f32⟩
  | .local _ .vmem, ⟨3, _⟩ => ⟨S1x1x2x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x256, .bf16⟩
  | .local _ .vmem, ⟨7, _⟩ => ⟨S64x192, .bf16⟩
  | .local _ .vmem, ⟨8, _⟩ => ⟨S256x256, .bf16⟩
  | .local _ .vmem, ⟨9, _⟩ => ⟨S64x256, .bf16⟩
  | .local _ .vmem, ⟨10, _⟩ => ⟨S1x1x1x256, .i32⟩
  | .local _ .vmem, ⟨11, _⟩ => ⟨S1x1x1x256, .i32⟩
  | .local _ .vmem, ⟨12, _⟩ => ⟨S1x256x512, .i32⟩
  | .local _ .vmem, ⟨13, _⟩ => ⟨S1x256x512, .i32⟩
  | .local _ .vmem, ⟨14, _⟩ => ⟨S1x1x1x256, .f32⟩
  | .local _ .vmem, ⟨15, _⟩ => ⟨S1x1x1x256, .f32⟩
  | .local _ .vmem, ⟨16, _⟩ => ⟨S1x1x8x256, .f32⟩
  | .local _ .vmem, ⟨17, _⟩ => ⟨S1x1x8x256, .f32⟩
  | .local _ .vmem, ⟨18, _⟩ => ⟨S2x4608x128, .f32⟩
  | .local _ .vmem, ⟨19, _⟩ => ⟨S64x64x256, .bf16⟩
  | .local _ .vmem, ⟨20, _⟩ => ⟨S2x576x128, .i32⟩
  | _, _ => ⟨S3x7168x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48_0 : Ref sig .tc := ⟨.hbm, 76, rfl⟩
abbrev main_v48_1 : Ref sig .tc := ⟨.hbm, 77, rfl⟩
abbrev main_v48_2 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [BitOps F]

abbrev grid0 : Pipeline.Grid := ⟨2, ![3, 28], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c256_i32 : BitVec 32 := 256#32
  let c0_i32 : BitVec 32 := 0#32
  let c1_i32 : BitVec 32 := 1#32
  let arg16 : BitVec 32 := Scf.iv c0_i32 c1_i32 k0_t1
  let v204 : BitVec 32 := Scalar.muli c256_i32 arg16
  v204
def k0_off1 (k0_t1 : Fin k0_t1_loop.trips) : Fin 3 → Nat :=
  let c0_128 : Index := 0#32
  let c0_129 : Index := 0#32
  let c256_i32 : BitVec 32 := 256#32
  let c0_i32 : BitVec 32 := 0#32
  let c1_i32 : BitVec 32 := 1#32
  let arg16 : BitVec 32 := Scf.iv c0_i32 c1_i32 k0_t1
  let v204 : BitVec 32 := Scalar.muli c256_i32 arg16
  let v205 : BitVec 32 := v204
  let v206 : Index := Scalar.indexCast v205
  ![0, 0, v206.toNat]
def k0_off2 (k0_t1 : Fin k0_t1_loop.trips) : Fin 3 → Nat :=
  let c0_130 : Index := 0#32
  let c0_131 : Index := 0#32
  let c256_i32 : BitVec 32 := 256#32
  let c0_i32 : BitVec 32 := 0#32
  let c1_i32 : BitVec 32 := 1#32
  let arg16 : BitVec 32 := Scf.iv c0_i32 c1_i32 k0_t1
  let v204 : BitVec 32 := Scalar.muli c256_i32 arg16
  let v205 : BitVec 32 := v204
  let v209 : Index := Scalar.indexCast v205
  ![0, 0, v209.toNat]
def k0_off3 (k0_t1 : Fin k0_t1_loop.trips) : Fin 4 → Nat :=
  let c0_132 : Index := 0#32
  let c0_133 : Index := 0#32
  let c0_134 : Index := 0#32
  let c256_i32 : BitVec 32 := 256#32
  let c0_i32 : BitVec 32 := 0#32
  let c1_i32 : BitVec 32 := 1#32
  let arg16 : BitVec 32 := Scf.iv c0_i32 c1_i32 k0_t1
  let v204 : BitVec 32 := Scalar.muli c256_i32 arg16
  let v205 : BitVec 32 := v204
  let v213 : Index := Scalar.indexCast v205
  ![0, 0, 0, v213.toNat]
def k0_off4 (k0_t1 : Fin k0_t1_loop.trips) : Fin 3 → Nat :=
  let c0_135 : Index := 0#32
  let c128 : Index := 128#32
  let c256_i32 : BitVec 32 := 256#32
  let c0_i32 : BitVec 32 := 0#32
  let c1_i32 : BitVec 32 := 1#32
  let arg16 : BitVec 32 := Scf.iv c0_i32 c1_i32 k0_t1
  let v204 : BitVec 32 := Scalar.muli c256_i32 arg16
  let v205 : BitVec 32 := v204
  let v223 : Index := Scalar.indexCast v205
  ![0, 128, v223.toNat]
def k0_off5 (k0_t1 : Fin k0_t1_loop.trips) : Fin 4 → Nat :=
  let c0_136 : Index := 0#32
  let c0_137 : Index := 0#32
  let c1_138 : Index := 1#32
  let c256_i32 : BitVec 32 := 256#32
  let c0_i32 : BitVec 32 := 0#32
  let c1_i32 : BitVec 32 := 1#32
  let arg16 : BitVec 32 := Scf.iv c0_i32 c1_i32 k0_t1
  let v204 : BitVec 32 := Scalar.muli c256_i32 arg16
  let v205 : BitVec 32 := v204
  let v227 : Index := Scalar.indexCast v205
  ![0, 0, 1, v227.toNat]
def k0_mult2 (k0_t1 : Fin k0_t1_loop.trips) : BitVec 32 :=
  let c4_i32_142 : BitVec 32 := 4#32
  let c0_i32 : BitVec 32 := 0#32
  let c1_i32 : BitVec 32 := 1#32
  let arg16 : BitVec 32 := Scf.iv c0_i32 c1_i32 k0_t1
  let v241 : BitVec 32 := Scalar.muli c4_i32_142 arg16
  let c0_i32_143 : BitVec 32 := 0#32
  let v242 : BitVec 32 := Scalar.addi v241 c0_i32_143
  let c72_i32 : BitVec 32 := 72#32
  let v243 : BitVec 32 := Scalar.muli v242 c72_i32
  v243
def k0_off6 (k0_t1 : Fin k0_t1_loop.trips) (c0_i32_143 : BitVec 32) : Fin 3 → Nat :=
  let c0_144 : Index := 0#32
  let c4_i32_142 : BitVec 32 := 4#32
  let c0_i32 : BitVec 32 := 0#32
  let c1_i32 : BitVec 32 := 1#32
  let arg16 : BitVec 32 := Scf.iv c0_i32 c1_i32 k0_t1
  let v241 : BitVec 32 := Scalar.muli c4_i32_142 arg16
  let v242 : BitVec 32 := Scalar.addi v241 c0_i32_143
  let c72_i32 : BitVec 32 := 72#32
  let v243 : BitVec 32 := Scalar.muli v242 c72_i32
  let v244 : BitVec 32 := v243
  let v247 : Index := Scalar.indexCast v244
  let c0_145 : Index := 0#32
  ![0, v247.toNat, 0]
def k0_off7 (k0_t1 : Fin k0_t1_loop.trips) (c0_i32_143 : BitVec 32) : Fin 3 → Nat :=
  let c1_146 : Index := 1#32
  let c4_i32_142 : BitVec 32 := 4#32
  let c0_i32 : BitVec 32 := 0#32
  let c1_i32 : BitVec 32 := 1#32
  let arg16 : BitVec 32 := Scf.iv c0_i32 c1_i32 k0_t1
  let v241 : BitVec 32 := Scalar.muli c4_i32_142 arg16
  let v242 : BitVec 32 := Scalar.addi v241 c0_i32_143
  let c72_i32 : BitVec 32 := 72#32
  let v243 : BitVec 32 := Scalar.muli v242 c72_i32
  let v244 : BitVec 32 := v243
  let v252 : Index := Scalar.indexCast v244
  let c0_147 : Index := 0#32
  ![1, v252.toNat, 0]
def k0_mult3 (k0_t1 : Fin k0_t1_loop.trips) : BitVec 32 :=
  let c4_i32_148 : BitVec 32 := 4#32
  let c0_i32 : BitVec 32 := 0#32
  let c1_i32 : BitVec 32 := 1#32
  let arg16 : BitVec 32 := Scf.iv c0_i32 c1_i32 k0_t1
  let v256 : BitVec 32 := Scalar.muli c4_i32_148 arg16
  let c1_i32_149 : BitVec 32 := 1#32
  let v257 : BitVec 32 := Scalar.addi v256 c1_i32_149
  let c72_i32_150 : BitVec 32 := 72#32
  let v258 : BitVec 32 := Scalar.muli v257 c72_i32_150
  v258
def k0_mult4 (k0_t1 : Fin k0_t1_loop.trips) : BitVec 32 :=
  let c4_i32_155 : BitVec 32 := 4#32
  let c0_i32 : BitVec 32 := 0#32
  let c1_i32 : BitVec 32 := 1#32
  let arg16 : BitVec 32 := Scf.iv c0_i32 c1_i32 k0_t1
  let v271 : BitVec 32 := Scalar.muli c4_i32_155 arg16
  let c2_i32_156 : BitVec 32 := 2#32
  let v272 : BitVec 32 := Scalar.addi v271 c2_i32_156
  let c72_i32_157 : BitVec 32 := 72#32
  let v273 : BitVec 32 := Scalar.muli v272 c72_i32_157
  v273
def k0_mult5 (k0_t1 : Fin k0_t1_loop.trips) : BitVec 32 :=
  let c4_i32_162 : BitVec 32 := 4#32
  let c0_i32 : BitVec 32 := 0#32
  let c1_i32 : BitVec 32 := 1#32
  let arg16 : BitVec 32 := Scf.iv c0_i32 c1_i32 k0_t1
  let v286 : BitVec 32 := Scalar.muli c4_i32_162 arg16
  let c3_i32_163 : BitVec 32 := 3#32
  let v287 : BitVec 32 := Scalar.addi v286 c3_i32_163
  let c72_i32_164 : BitVec 32 := 72#32
  let v288 : BitVec 32 := Scalar.muli v287 c72_i32_164
  v288
@[reducible] def k0_t2_loop : Scf.Loop 32 :=
  let c0_i32_1 : BitVec 32 := 0#32
  let c16_i32_2 : BitVec 32 := 16#32
  let v2 : BitVec 32 := Scalar.addi c0_i32_1 c16_i32_2
  let c1_i32_3 : BitVec 32 := 1#32
  ⟨c0_i32_1, v2, c1_i32_3⟩
def k0_off8 (k0_t2 : Fin k0_t2_loop.trips) (c0_i32_129 : BitVec 32) : Fin 3 → Nat :=
  let c0_130 : Index := 0#32
  let c4_i32_128 : BitVec 32 := 4#32
  let c0_i32_1 : BitVec 32 := 0#32
  let c1_i32_3 : BitVec 32 := 1#32
  let arg16 : BitVec 32 := Scf.iv c0_i32_1 c1_i32_3 k0_t2
  let v204 : BitVec 32 := Scalar.muli c4_i32_128 arg16
  let v205 : BitVec 32 := Scalar.addi v204 c0_i32_129
  let v206 : Index := Scalar.indexCast v205
  let c0_131 : Index := 0#32
  ![0, v206.toNat, 0]
def k0_off9 (k0_t2 : Fin k0_t2_loop.trips) (c0_i32_129 : BitVec 32) : Fin 3 → Nat :=
  let c1_132 : Index := 1#32
  let c4_i32_128 : BitVec 32 := 4#32
  let c0_i32_1 : BitVec 32 := 0#32
  let c1_i32_3 : BitVec 32 := 1#32
  let arg16 : BitVec 32 := Scf.iv c0_i32_1 c1_i32_3 k0_t2
  let v204 : BitVec 32 := Scalar.muli c4_i32_128 arg16
  let v205 : BitVec 32 := Scalar.addi v204 c0_i32_129
  let v209 : Index := Scalar.indexCast v205
  let c0_133 : Index := 0#32
  ![1, v209.toNat, 0]
def k0_off10 (k0_t2 : Fin k0_t2_loop.trips) (c0_i32_129 : BitVec 32) : Fin 3 → Nat :=
  let c4_i32_128 : BitVec 32 := 4#32
  let c0_i32_1 : BitVec 32 := 0#32
  let c1_i32_3 : BitVec 32 := 1#32
  let arg16 : BitVec 32 := Scf.iv c0_i32_1 c1_i32_3 k0_t2
  let v204 : BitVec 32 := Scalar.muli c4_i32_128 arg16
  let v205 : BitVec 32 := Scalar.addi v204 c0_i32_129
  let v230 : Index := Scalar.indexCast v205
  let c0_139 : Index := 0#32
  let c0_140 : Index := 0#32
  ![v230.toNat, 0, 0]
@[reducible] def k0_t3_loop : Scf.Loop 32 :=
  let c0_i32_62 : BitVec 32 := 0#32
  let c64_i32 : BitVec 32 := 64#32
  let v111 : BitVec 32 := Scalar.addi c0_i32_62 c64_i32
  let c1_i32_63 : BitVec 32 := 1#32
  ⟨c0_i32_62, v111, c1_i32_63⟩
def k0_off11 (k0_t3 : Fin k0_t3_loop.trips) : Fin 3 → Nat :=
  let c0_i32_62 : BitVec 32 := 0#32
  let c1_i32_63 : BitVec 32 := 1#32
  let arg16 : BitVec 32 := Scf.iv c0_i32_62 c1_i32_63 k0_t3
  let v204 : Index := Scalar.indexCast arg16
  let c0_128 : Index := 0#32
  let c0_129 : Index := 0#32
  ![v204.toNat, 0, 0]
def k0_off12 (k0_t3 : Fin k0_t3_loop.trips) : Fin 3 → Nat :=
  let c0_i32_62 : BitVec 32 := 0#32
  let c1_i32_63 : BitVec 32 := 1#32
  let arg16 : BitVec 32 := Scf.iv c0_i32_62 c1_i32_63 k0_t3
  let v328 : Index := Scalar.indexCast arg16
  let c16 : Index := 16#32
  let c0_146 : Index := 0#32
  ![v328.toNat, 16, 0]
def k0_off13 (k0_t3 : Fin k0_t3_loop.trips) : Fin 3 → Nat :=
  let c0_i32_62 : BitVec 32 := 0#32
  let c1_i32_63 : BitVec 32 := 1#32
  let arg16 : BitVec 32 := Scf.iv c0_i32_62 c1_i32_63 k0_t3
  let v452 : Index := Scalar.indexCast arg16
  let c32 : Index := 32#32
  let c0_163 : Index := 0#32
  ![v452.toNat, 32, 0]
def k0_off14 (k0_t3 : Fin k0_t3_loop.trips) : Fin 3 → Nat :=
  let c0_i32_62 : BitVec 32 := 0#32
  let c1_i32_63 : BitVec 32 := 1#32
  let arg16 : BitVec 32 := Scf.iv c0_i32_62 c1_i32_63 k0_t3
  let v576 : Index := Scalar.indexCast arg16
  let c48 : Index := 48#32
  let c0_180 : Index := 0#32
  ![v576.toNat, 48, 0]
@[reducible] def k0_t4_loop : Scf.Loop 32 :=
  let c0_i32_121 : BitVec 32 := 0#32
  let c8_i32 : BitVec 32 := 8#32
  let v202 : BitVec 32 := Scalar.addi c0_i32_121 c8_i32
  let c1_i32_122 : BitVec 32 := 1#32
  ⟨c0_i32_121, v202, c1_i32_122⟩
def k0_off15 (k0_t4 : Fin k0_t4_loop.trips) (c0_i32_131 : BitVec 32) : Fin 3 → Nat :=
  let c8_i32_130 : BitVec 32 := 8#32
  let c0_i32_121 : BitVec 32 := 0#32
  let c1_i32_122 : BitVec 32 := 1#32
  let arg16 : BitVec 32 := Scf.iv c0_i32_121 c1_i32_122 k0_t4
  let v206 : BitVec 32 := Scalar.muli c8_i32_130 arg16
  let v207 : BitVec 32 := Scalar.addi v206 c0_i32_131
  let v208 : Index := Scalar.indexCast v207
  let c0_132 : Index := 0#32
  let c0_133 : Index := 0#32
  ![v208.toNat, 0, 0]
def k0_mult6 (k0_t4 : Fin k0_t4_loop.trips) : BitVec 32 :=
  let c0_i32_121 : BitVec 32 := 0#32
  let c1_i32_122 : BitVec 32 := 1#32
  let arg16 : BitVec 32 := Scf.iv c0_i32_121 c1_i32_122 k0_t4
  let c72_i32 : BitVec 32 := 72#32
  let v324 : BitVec 32 := Scalar.muli arg16 c72_i32
  v324
def k0_off16 (k0_t4 : Fin k0_t4_loop.trips) : Fin 3 → Nat :=
  let c0_184 : Index := 0#32
  let c0_i32_121 : BitVec 32 := 0#32
  let c1_i32_122 : BitVec 32 := 1#32
  let arg16 : BitVec 32 := Scf.iv c0_i32_121 c1_i32_122 k0_t4
  let c72_i32 : BitVec 32 := 72#32
  let v324 : BitVec 32 := Scalar.muli arg16 c72_i32
  let v325 : BitVec 32 := v324
  let v338 : Index := Scalar.indexCast v325
  let c0_185 : Index := 0#32
  ![0, v338.toNat, 0]
def k0_off17 (k0_t4 : Fin k0_t4_loop.trips) : Fin 3 → Nat :=
  let c1_186 : Index := 1#32
  let c0_i32_121 : BitVec 32 := 0#32
  let c1_i32_122 : BitVec 32 := 1#32
  let arg16 : BitVec 32 := Scf.iv c0_i32_121 c1_i32_122 k0_t4
  let c72_i32 : BitVec 32 := 72#32
  let v324 : BitVec 32 := Scalar.muli arg16 c72_i32
  let v325 : BitVec 32 := v324
  let v343 : Index := Scalar.indexCast v325
  let c0_187 : Index := 0#32
  ![1, v343.toNat, 0]
@[reducible] def k0_t5_loop : Scf.Loop 32 :=
  let c0_i32_124 : BitVec 32 := 0#32
  let c4_i32_125 : BitVec 32 := 4#32
  let v203 : BitVec 32 := Scalar.addi c0_i32_124 c4_i32_125
  let c1_i32_126 : BitVec 32 := 1#32
  ⟨c0_i32_124, v203, c1_i32_126⟩
def k0_off18 (k0_t5 : Fin k0_t5_loop.trips) (c0_i32_129 : BitVec 32) : Fin 3 → Nat :=
  let c0_130 : Index := 0#32
  let c16_i32_128 : BitVec 32 := 16#32
  let c0_i32_124 : BitVec 32 := 0#32
  let c1_i32_126 : BitVec 32 := 1#32
  let arg16 : BitVec 32 := Scf.iv c0_i32_124 c1_i32_126 k0_t5
  let v204 : BitVec 32 := Scalar.muli c16_i32_128 arg16
  let v205 : BitVec 32 := Scalar.addi v204 c0_i32_129
  let v206 : Index := Scalar.indexCast v205
  let c0_131 : Index := 0#32
  ![0, v206.toNat, 0]
def k0_off19 (k0_t5 : Fin k0_t5_loop.trips) (c0_i32_186 : BitVec 32) : Fin 3 → Nat :=
  let c1_187 : Index := 1#32
  let c16_i32_185 : BitVec 32 := 16#32
  let c0_i32_124 : BitVec 32 := 0#32
  let c1_i32_126 : BitVec 32 := 1#32
  let arg16 : BitVec 32 := Scf.iv c0_i32_124 c1_i32_126 k0_t5
  let v285 : BitVec 32 := Scalar.muli c16_i32_185 arg16
  let v286 : BitVec 32 := Scalar.addi v285 c0_i32_186
  let v287 : Index := Scalar.indexCast v286
  let c0_188 : Index := 0#32
  ![1, v287.toNat, 0]
def k0_mult7 (k0_t5 : Fin k0_t5_loop.trips) : BitVec 32 :=
  let c128_i32 : BitVec 32 := 128#32
  let c0_i32_124 : BitVec 32 := 0#32
  let c1_i32_126 : BitVec 32 := 1#32
  let arg16 : BitVec 32 := Scf.iv c0_i32_124 c1_i32_126 k0_t5
  let v367 : BitVec 32 := Scalar.muli c128_i32 arg16
  v367
def k0_off20 (k0_t5 : Fin k0_t5_loop.trips) : Fin 3 → Nat :=
  let c0_249 : Index := 0#32
  let c0_250 : Index := 0#32
  let c128_i32 : BitVec 32 := 128#32
  let c0_i32_124 : BitVec 32 := 0#32
  let c1_i32_126 : BitVec 32 := 1#32
  let arg16 : BitVec 32 := Scf.iv c0_i32_124 c1_i32_126 k0_t5
  let v367 : BitVec 32 := Scalar.muli c128_i32 arg16
  let v368 : BitVec 32 := v367
  let v369 : Index := Scalar.indexCast v368
  ![0, 0, v369.toNat]
def k0_mult8 (k0_t5 : Fin k0_t5_loop.trips) : BitVec 32 :=
  let c128_i32_251 : BitVec 32 := 128#32
  let c0_i32_124 : BitVec 32 := 0#32
  let c1_i32_126 : BitVec 32 := 1#32
  let arg16 : BitVec 32 := Scf.iv c0_i32_124 c1_i32_126 k0_t5
  let v374 : BitVec 32 := Scalar.muli c128_i32_251 arg16
  v374
def k0_off21 (k0_t5 : Fin k0_t5_loop.trips) : Fin 3 → Nat :=
  let c0_252 : Index := 0#32
  let c128 : Index := 128#32
  let c128_i32_251 : BitVec 32 := 128#32
  let c0_i32_124 : BitVec 32 := 0#32
  let c1_i32_126 : BitVec 32 := 1#32
  let arg16 : BitVec 32 := Scf.iv c0_i32_124 c1_i32_126 k0_t5
  let v374 : BitVec 32 := Scalar.muli c128_i32_251 arg16
  let v375 : BitVec 32 := v374
  let v376 : Index := Scalar.indexCast v375
  ![0, 128, v376.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F]
-- ==== ReferenceIdeal.lean ====
abbrev S3x7168x4096 : Shape := ⟨3, ![3, 7168, 4096]⟩
abbrev S3x56x32 : Shape := ⟨3, ![3, 56, 32]⟩
abbrev S3x4096 : Shape := ⟨2, ![3, 4096]⟩
abbrev S4096 : Shape := ⟨1, ![4096]⟩
abbrev S64x64 : Shape := ⟨2, ![64, 64]⟩
abbrev S128x128 : Shape := ⟨2, ![128, 128]⟩
abbrev S3x7168 : Shape := ⟨2, ![3, 7168]⟩
abbrev S8 : Shape := ⟨1, ![8]⟩
abbrev S3x56x128x32x128 : Shape := ⟨5, ![3, 56, 128, 32, 128]⟩
abbrev S3x56x1x32x1 : Shape := ⟨5, ![3, 56, 1, 32, 1]⟩
abbrev S1x4096 : Shape := ⟨2, ![1, 4096]⟩
abbrev S3x1x4096 : Shape := ⟨3, ![3, 1, 4096]⟩
abbrev S3x7168x64x64 : Shape := ⟨4, ![3, 7168, 64, 64]⟩
abbrev S64x3x7168x64 : Shape := ⟨4, ![64, 3, 7168, 64]⟩
abbrev S_ : Shape := ⟨0, ![]⟩
abbrev S3x7168x1 : Shape := ⟨3, ![3, 7168, 1]⟩
abbrev S1x1x8 : Shape := ⟨3, ![1, 1, 8]⟩
abbrev S3x7168x8 : Shape := ⟨3, ![3, 7168, 8]⟩
abbrev S3x7168x1x4096 : Shape := ⟨4, ![3, 7168, 1, 4096]⟩
abbrev S3x7168x8x1 : Shape := ⟨4, ![3, 7168, 8, 1]⟩
abbrev S3x7168x8x4096 : Shape := ⟨4, ![3, 7168, 8, 4096]⟩
abbrev S3x7168x512x8 : Shape := ⟨4, ![3, 7168, 512, 8]⟩
abbrev S1x1x1x8 : Shape := ⟨4, ![1, 1, 1, 8]⟩
abbrev S3x7168x512 : Shape := ⟨3, ![3, 7168, 512]⟩

abbrev nBuf : Space → Nat
  | .hbm => 134
  | .vmem => 2
  | .smem => 0
  | _ => 0

abbrev hbmTy0_0 (i : Nat) : BufTy := match i % 128 with
  | 0 => ⟨S3x7168x4096, .f32⟩
  | 1 => ⟨S3x56x32, .f32⟩
  | 2 => ⟨S3x4096, .f32⟩
  | 3 => ⟨S4096, .f32⟩
  | 4 => ⟨S64x64, .bf16⟩
  | 5 => ⟨S64x64, .bf16⟩
  | 6 => ⟨S128x128, .bf16⟩
  | 7 => ⟨S3x7168, .i32⟩
  | 8 => ⟨S8, .f32⟩
  | 9 => ⟨S3x7168x4096, .fp8e4m3⟩
  | 10 => ⟨S3x7168x4096, .bf16⟩
  | 11 => ⟨S3x56x128x32x128, .bf16⟩
  | 12 => ⟨S3x56x32, .bf16⟩
  | 13 => ⟨S3x56x1x32x1, .bf16⟩
  | 14 => ⟨S3x56x128x32x128, .bf16⟩
  | 15 => ⟨S3x56x128x32x128, .bf16⟩
  | 16 => ⟨S3x7168x4096, .bf16⟩
  | 17 => ⟨S1x4096, .f32⟩
  | 18 => ⟨S3x4096, .f32⟩
  | 19 => ⟨S3x4096, .f32⟩
  | 20 => ⟨S3x7168x4096, .f32⟩
  | 21 => ⟨S3x1x4096, .f32⟩
  | 22 => ⟨S3x7168x4096, .f32⟩
  | 23 => ⟨S3x7168x4096, .f32⟩
  | 24 => ⟨S3x7168x4096, .bf16⟩
  | 25 => ⟨S3x7168x64x64, .bf16⟩
  | 26 => ⟨S3x7168x64x64, .f32⟩
  | 27 => ⟨S64x64, .f32⟩
  | 28 => ⟨S64x3x7168x64, .f32⟩
  | 29 => ⟨S3x7168x64x64, .f32⟩
  | 30 => ⟨S_, .f32⟩
  | 31 => ⟨S3x7168x64x64, .f32⟩
  | 32 => ⟨S3x7168x64x64, .f32⟩
  | 33 => ⟨S3x7168x64x64, .bf16⟩
  | 34 => ⟨S3x7168x4096, .bf16⟩
  | 35 => ⟨S3x7168x4096, .f32⟩
  | 36 => ⟨S3x7168x4096, .f32⟩
  | 37 => ⟨S_, .f32⟩
  | 38 => ⟨S3x7168, .f32⟩
  | 39 => ⟨S3x7168x1, .f32⟩
  | 40 => ⟨S_, .f32⟩
  | 41 => ⟨S3x7168x1, .f32⟩
  | 42 => ⟨S3x7168x1, .i1⟩
  | 43 => ⟨S1x1x8, .f32⟩
  | 44 => ⟨S3x7168x8, .f32⟩
  | 45 => ⟨S3x7168x8, .f32⟩
  | 46 => ⟨S3x7168x8, .f32⟩
  | 47 => ⟨S_, .f32⟩
  | 48 => ⟨S3x7168x8, .f32⟩
  | 49 => ⟨S3x7168x8, .f32⟩
  | 50 => ⟨S_, .f32⟩
  | 51 => ⟨S3x7168x8, .f32⟩
  | 52 => ⟨S3x7168x8, .f32⟩
  | 53 => ⟨S_, .f32⟩
  | 54 => ⟨S3x7168x8, .i1⟩
  | 55 => ⟨S3x7168x8, .f32⟩
  | 56 => ⟨S3x7168x8, .f32⟩
  | 57 => ⟨S3x7168x1x4096, .f32⟩
  | 58 => ⟨S3x7168x8x1, .f32⟩
  | 59 => ⟨S3x7168x8x4096, .f32⟩
  | 60 => ⟨S3x7168x8x4096, .f32⟩
  | 61 => ⟨S3x7168x8x4096, .f32⟩
  | 62 => ⟨S3x7168x8x4096, .f32⟩
  | 63 => ⟨S_, .f32⟩
  | 64 => ⟨S_, .f32⟩
  | 65 => ⟨S_, .f32⟩
  | 66 => ⟨S3x7168x8x4096, .f32⟩
  | 67 => ⟨S3x7168x8x4096, .f32⟩
  | 68 => ⟨S_, .f32⟩
  | 69 => ⟨S3x7168x8x4096, .f32⟩
  | 70 => ⟨S3x7168x8x4096, .f32⟩
  | 71 => ⟨S3x7168x8x4096, .i32⟩
  | 72 => ⟨S3x7168x1x4096, .f32⟩
  | 73 => ⟨S3x7168x8x4096, .f32⟩
  | 74 => ⟨S3x7168x8x1, .f32⟩
  | 75 => ⟨S3x7168x8x4096, .f32⟩
  | 76 => ⟨S3x7168x8x4096, .f32⟩
  | 77 => ⟨S3x7168x8x4096, .f32⟩
  | 78 => ⟨S3x7168x8x4096, .f32⟩
  | 79 => ⟨S3x7168x8x4096, .f32⟩
  | 80 => ⟨S_, .f32⟩
  | 81 => ⟨S3x7168x8, .f32⟩
  | 82 => ⟨S3x7168x1, .i32⟩
  | 83 => ⟨S8, .i32⟩
  | 84 => ⟨S1x1x8, .i32⟩
  | 85 => ⟨S3x7168x8, .i32⟩
  | 86 => ⟨S3x7168x8, .i32⟩
  | 87 => ⟨S3x7168x8, .i1⟩
  | 88 => ⟨S_, .f32⟩
  | 89 => ⟨S3x7168x8, .f32⟩
  | 90 => ⟨S3x7168x8, .f32⟩
  | 91 => ⟨S3x7168x8, .f32⟩
  | 92 => ⟨S_, .f32⟩
  | 93 => ⟨S3x7168, .f32⟩
  | 94 => ⟨S_, .f32⟩
  | 95 => ⟨S3x7168, .f32⟩
  | 96 => ⟨S3x7168, .i1⟩
  | 97 => ⟨S3x7168, .f32⟩
  | 98 => ⟨S_, .f32⟩
  | 99 => ⟨S3x7168, .f32⟩
  | 100 => ⟨S3x7168, .f32⟩
  | 101 => ⟨S_, .f32⟩
  | 102 => ⟨S3x7168, .f32⟩
  | 103 => ⟨S3x7168, .f32⟩
  | 104 => ⟨S_, .f32⟩
  | 105 => ⟨S3x7168, .f32⟩
  | 106 => ⟨S3x7168, .f32⟩
  | 107 => ⟨S3x7168x1, .f32⟩
  | 108 => ⟨S3x7168x4096, .f32⟩
  | 109 => ⟨S3x7168x4096, .f32⟩
  | 110 => ⟨S3x7168x4096, .f32⟩
  | 111 => ⟨S_, .f32⟩
  | 112 => ⟨S_, .f32⟩
  | 113 => ⟨S_, .f32⟩
  | 114 => ⟨S3x7168x4096, .f32⟩
  | 115 => ⟨S3x7168x4096, .f32⟩
  | 116 => ⟨S_, .f32⟩
  | 117 => ⟨S3x7168x4096, .f32⟩
  | 118 => ⟨S3x7168x4096, .f32⟩
  | 119 => ⟨S3x7168x4096, .i32⟩
  | 120 => ⟨S_, .i32⟩
  | 121 => ⟨S3x7168x4096, .i32⟩
  | 122 => ⟨S3x7168x4096, .i32⟩
  | 123 => ⟨S3x7168x4096, .i32⟩
  | 124 => ⟨S3x7168x512x8, .i32⟩
  | 125 => ⟨S8, .i32⟩
  | 126 => ⟨S_, .i32⟩
  | 127 => ⟨S8, .i32⟩
  | _ => ⟨S3x7168x4096, .f32⟩

abbrev hbmTy0_1 (i : Nat) : BufTy := match i % 128 with
  | 0 => ⟨S8, .i32⟩
  | 1 => ⟨S1x1x1x8, .i32⟩
  | 2 => ⟨S3x7168x512x8, .i32⟩
  | 3 => ⟨S3x7168x512x8, .i32⟩
  | 4 => ⟨S_, .i32⟩
  | 5 => ⟨S3x7168x512, .i32⟩
  | _ => ⟨S3x7168x4096, .f32⟩

abbrev hbmTy (i : Nat) : BufTy := match i / 128 with
  | 0 => hbmTy0_0 i
  | 1 => hbmTy0_1 i
  | _ => ⟨S3x7168x4096, .f32⟩

abbrev bufTy : (tb : Table) → Fin (tcTables nBuf tb) → BufTy
  | .hbm, ⟨i, _⟩ => hbmTy i
  | .local _ .vmem, ⟨0, _⟩ => ⟨S3x7168x4096, .fp8e4m3⟩
  | .local _ .vmem, ⟨1, _⟩ => ⟨S3x7168x4096, .bf16⟩
  | _, _ => ⟨S3x7168x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_cst_7 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_call3_v0 : Ref sig .tc := ⟨.hbm, 89, rfl⟩
abbrev main_call3_v1 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_call4_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_cst_16 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v77 : Ref sig .tc := ⟨.hbm, 118, rfl⟩
abbrev main_v78 : Ref sig .tc := ⟨.hbm, 119, rfl⟩
abbrev main_c : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_18 : Ref sig .tc := ⟨.hbm, 132, rfl⟩
abbrev main_v89 : Ref sig .tc := ⟨.hbm, 133, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x7168x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x7168x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Down.lean ====
abbrev S3x2048x7168 : Shape := ⟨3, ![3, 2048, 7168]⟩
abbrev S256x256 : Shape := ⟨2, ![256, 256]⟩
abbrev S28x28 : Shape := ⟨2, ![28, 28]⟩
abbrev S3x4096 : Shape := ⟨2, ![3, 4096]⟩
abbrev S_ : Shape := ⟨0, ![]⟩
abbrev S28x32 : Shape := ⟨2, ![28, 32]⟩
abbrev S1x28x1x32 : Shape := ⟨4, ![1, 28, 1, 32]⟩
abbrev S1x28x3x32 : Shape := ⟨4, ![1, 28, 3, 32]⟩
abbrev S28x96 : Shape := ⟨2, ![28, 96]⟩
abbrev S2x2 : Shape := ⟨2, ![2, 2]⟩
abbrev S2x1x2x1 : Shape := ⟨4, ![2, 1, 2, 1]⟩
abbrev S1x28x1x96 : Shape := ⟨4, ![1, 28, 1, 96]⟩
abbrev S2x28x2x96 : Shape := ⟨4, ![2, 28, 2, 96]⟩
abbrev S56x192 : Shape := ⟨2, ![56, 192]⟩
abbrev S4 : Shape := ⟨1, ![4]⟩
abbrev S1x4 : Shape := ⟨2, ![1, 4]⟩
abbrev S32x28 : Shape := ⟨2, ![32, 28]⟩
abbrev S1x1x4x1 : Shape := ⟨4, ![1, 1, 4, 1]⟩
abbrev S1x32x1x28 : Shape := ⟨4, ![1, 32, 1, 28]⟩
abbrev S1x32x4x28 : Shape := ⟨4, ![1, 32, 4, 28]⟩
abbrev S32x112 : Shape := ⟨2, ![32, 112]⟩
abbrev S3x16x1x256 : Shape := ⟨4, ![3, 16, 1, 256]⟩
abbrev S3x4096x896 : Shape := ⟨3, ![3, 4096, 896]⟩
abbrev S3x16x8x256 : Shape := ⟨4, ![3, 16, 8, 256]⟩
abbrev S1x128x7168 : Shape := ⟨3, ![1, 128, 7168]⟩
abbrev S1x1x1x256 : Shape := ⟨4, ![1, 1, 1, 256]⟩
abbrev S1x256x896 : Shape := ⟨3, ![1, 256, 896]⟩
abbrev S1x1x8x256 : Shape := ⟨4, ![1, 1, 8, 256]⟩
abbrev S2x8448x128 : Shape := ⟨3, ![2, 8448, 128]⟩
abbrev S64x112x256 : Shape := ⟨3, ![64, 112, 256]⟩
abbrev S2x1280x128 : Shape := ⟨3, ![2, 1280, 128]⟩
abbrev S1056x128 : Shape := ⟨2, ![1056, 128]⟩
abbrev S1x1056x128 : Shape := ⟨3, ![1, 1056, 128]⟩
abbrev S1x128x256 : Shape := ⟨3, ![1, 128, 256]⟩
abbrev S128x256 : Shape := ⟨2, ![128, 256]⟩
abbrev S256x128 : Shape := ⟨2, ![256, 128]⟩
abbrev S1x256x128 : Shape := ⟨3, ![1, 256, 128]⟩
abbrev S16x256 : Shape := ⟨2, ![16, 256]⟩
abbrev S1x32x128 : Shape := ⟨3, ![1, 32, 128]⟩
abbrev S32x128 : Shape := ⟨2, ![32, 128]⟩
abbrev S32x256 : Shape := ⟨2, ![32, 256]⟩
abbrev S192x256 : Shape := ⟨2, ![192, 256]⟩
abbrev S56x256 : Shape := ⟨2, ![56, 256]⟩
abbrev S112x256 : Shape := ⟨2, ![112, 256]⟩
abbrev S1x112x256 : Shape := ⟨3, ![1, 112, 256]⟩
abbrev S256 : Shape := ⟨1, ![256]⟩
abbrev S1x256 : Shape := ⟨2, ![1, 256]⟩
abbrev S8x256 : Shape := ⟨2, ![8, 256]⟩
abbrev S1x16x256 : Shape := ⟨3, ![1, 16, 256]⟩
abbrev S1x8x128 : Shape := ⟨3, ![1, 8, 128]⟩
abbrev S8x128 : Shape := ⟨2, ![8, 128]⟩
abbrev S128x128 : Shape := ⟨2, ![128, 128]⟩
abbrev S1x128x128 : Shape := ⟨3, ![1, 128, 128]⟩
abbrev S3x16x256x8 : Shape := ⟨4, ![3, 16, 256, 8]⟩
abbrev S3x4096x8 : Shape := ⟨3, ![3, 4096, 8]⟩

abbrev nBuf : Space → Nat
  | .hbm => 57
  | .vmem => 16
  | .smem => 0
  | _ => 0

abbrev bufTy : (tb : Table) → Fin (tcTables nBuf tb) → BufTy
  | .hbm, ⟨0, _⟩ => ⟨S3x2048x7168, .i32⟩
  | .hbm, ⟨1, _⟩ => ⟨S256x256, .bf16⟩
  | .hbm, ⟨2, _⟩ => ⟨S28x28, .bf16⟩
  | .hbm, ⟨3, _⟩ => ⟨S3x4096, .i32⟩
  | .hbm, ⟨4, _⟩ => ⟨S28x28, .bf16⟩
  | .hbm, ⟨5, _⟩ => ⟨S_, .i32⟩
  | .hbm, ⟨6, _⟩ => ⟨S_, .bf16⟩
  | .hbm, ⟨7, _⟩ => ⟨S28x32, .bf16⟩
  | .hbm, ⟨8, _⟩ => ⟨S1x28x1x32, .bf16⟩
  | .hbm, ⟨9, _⟩ => ⟨S1x28x3x32, .bf16⟩
  | .hbm, ⟨10, _⟩ => ⟨S28x96, .bf16⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .f32⟩
  | .hbm, ⟨18, _⟩ => ⟨S28x96, .f32⟩
  | .hbm, ⟨19, _⟩ => ⟨S2x1x2x1, .f32⟩
  | .hbm, ⟨20, _⟩ => ⟨S1x28x1x96, .f32⟩
  | .hbm, ⟨21, _⟩ => ⟨S2x28x2x96, .f32⟩
  | .hbm, ⟨22, _⟩ => ⟨S2x28x2x96, .f32⟩
  | .hbm, ⟨23, _⟩ => ⟨S2x28x2x96, .f32⟩
  | .hbm, ⟨24, _⟩ => ⟨S56x192, .f32⟩
  | .hbm, ⟨25, _⟩ => ⟨S56x192, .bf16⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S1x4, .f32⟩
  | .hbm, ⟨35, _⟩ => ⟨S32x28, .i32⟩
  | .hbm, ⟨36, _⟩ => ⟨S32x28, .i32⟩
  | .hbm, ⟨37, _⟩ => ⟨S_, .i32⟩
  | .hbm, ⟨38, _⟩ => ⟨S32x28, .i32⟩
  | .hbm, ⟨39, _⟩ => ⟨S32x28, .i32⟩
  | .hbm, ⟨40, _⟩ => ⟨S32x28, .i1⟩
  | .hbm, ⟨41, _⟩ => ⟨S32x28, .f32⟩
  | .hbm, ⟨42, _⟩ => ⟨S1x1x4x1, .f32⟩
  | .hbm, ⟨43, _⟩ => ⟨S1x32x1x28, .f32⟩
  | .hbm, ⟨44, _⟩ => ⟨S1x32x4x28, .f32⟩
  | .hbm, ⟨45, _⟩ => ⟨S1x32x4x28, .f32⟩
  | .hbm, ⟨46, _⟩ => ⟨S1x32x4x28, .f32⟩
  | .hbm, ⟨47, _⟩ => ⟨S32x112, .f32⟩
  | .hbm, ⟨48, _⟩ => ⟨S32x112, .bf16⟩
  | .hbm, ⟨49, _⟩ => ⟨S256x256, .bf16⟩
  | .hbm, ⟨50, _⟩ => ⟨S3x16x1x256, .i32⟩
  | .hbm, ⟨51, _⟩ => ⟨S3x4096x896, .i32⟩
  | .hbm, ⟨52, _⟩ => ⟨S3x16x1x256, .f32⟩
  | .hbm, ⟨53, _⟩ => ⟨S3x16x8x256, .f32⟩
  | .hbm, ⟨54, _⟩ => ⟨S3x4096, .f32⟩
  | .hbm, ⟨55, _⟩ => ⟨S3x16x256x8, .f32⟩
  | .hbm, ⟨56, _⟩ => ⟨S3x4096x8, .f32⟩
  | .local _ .vmem, ⟨0, _⟩ => ⟨S1x128x7168, .i32⟩
  | .local _ .vmem, ⟨1, _⟩ => ⟨S1x128x7168, .i32⟩
  | .local _ .vmem, ⟨2, _⟩ => ⟨S256x256, .bf16⟩
  | .local _ .vmem, ⟨3, _⟩ => ⟨S56x192, .bf16⟩
  | .local _ .vmem, ⟨4, _⟩ => ⟨S32x112, .bf16⟩
  | .local _ .vmem, ⟨5, _⟩ => ⟨S1x1x1x256, .i32⟩
  | .local _ .vmem, ⟨6, _⟩ => ⟨S1x1x1x256, .i32⟩
  | .local _ .vmem, ⟨7, _⟩ => ⟨S1x256x896, .i32⟩
  | .local _ .vmem, ⟨8, _⟩ => ⟨S1x256x896, .i32⟩
  | .local _ .vmem, ⟨9, _⟩ => ⟨S1x1x1x256, .f32⟩
  | .local _ .vmem, ⟨10, _⟩ => ⟨S1x1x1x256, .f32⟩
  | .local _ .vmem, ⟨11, _⟩ => ⟨S1x1x8x256, .f32⟩
  | .local _ .vmem, ⟨12, _⟩ => ⟨S1x1x8x256, .f32⟩
  | .local _ .vmem, ⟨13, _⟩ => ⟨S2x8448x128, .f32⟩
  | .local _ .vmem, ⟨14, _⟩ => ⟨S64x112x256, .bf16⟩
  | .local _ .vmem, ⟨15, _⟩ => ⟨S2x1280x128, .i32⟩
  | _, _ => ⟨S3x2048x7168, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨2, ![3, 16], ![false, false]⟩

@[reducible] def k0_t1_loop : Scf.Loop 32 :=
  let c0_i32 : BitVec 32 := 0#32
  let c28_i32 : BitVec 32 := 28#32
  let v8 : BitVec 32 := Scalar.addi c0_i32 c28_i32
  let c1_i32 : BitVec 32 := 1#32
  ⟨c0_i32, v8, c1_i32⟩
def k0_mult1 (k0_t1 : Fin k0_t1_loop.trips) : BitVec 32 :=
  let c256_i32 : BitVec 32 := 256#32
  let c0_i32 : BitVec 32 := 0#32
  let c1_i32 : BitVec 32 := 1#32
  let arg13 : BitVec 32 := Scf.iv c0_i32 c1_i32 k0_t1
  let v212 : BitVec 32 := Scalar.muli c256_i32 arg13
  v212
def k0_off1 (k0_t1 : Fin k0_t1_loop.trips) : Fin 3 → Nat :=
  let c0_135 : Index := 0#32
  let c0_136 : Index := 0#32
  let c256_i32 : BitVec 32 := 256#32
  let c0_i32 : BitVec 32 := 0#32
  let c1_i32 : BitVec 32 := 1#32
  let arg13 : BitVec 32 := Scf.iv c0_i32 c1_i32 k0_t1
  let v212 : BitVec 32 := Scalar.muli c256_i32 arg13
  let v213 : BitVec 32 := v212
  let v214 : Index := Scalar.indexCast v213
  ![0, 0, v214.toNat]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c264_i32 : BitVec 32 := 264#32
  let v221 : BitVec 32 := Scalar.muli arg13 c264_i32
  v221
def k0_off2 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c264_i32 : BitVec 32 := 264#32
  let v221 : BitVec 32 := Scalar.muli arg13 c264_i32
  let v222 : BitVec 32 := v221
  let v224 : Index := Scalar.indexCast v222
  let c0_141 : Index := 0#32
  ![0, v224.toNat, 0]
def k0_off3 (k0_t1 : Fin k0_t1_loop.trips) : Fin 3 → Nat :=
  let c1_142 : Index := 1#32
  let c0_i32 : BitVec 32 := 0#32
  let c1_i32 : BitVec 32 := 1#32
  let arg13 : BitVec 32 := Scf.iv c0_i32 c1_i32 k0_t1
  let c264_i32 : BitVec 32 := 264#32
  let v221 : BitVec 32 := Scalar.muli arg13 c264_i32
  let v222 : BitVec 32 := v221
  let v229 : Index := Scalar.indexCast v222
  let c0_143 : Index := 0#32
  ![1, v229.toNat, 0]
@[reducible] def k0_t2_loop : Scf.Loop 32 :=
  let c0_i32_6 : BitVec 32 := 0#32
  let c64_i32 : BitVec 32 := 64#32
  let v10 : BitVec 32 := Scalar.addi c0_i32_6 c64_i32
  let c1_i32_7 : BitVec 32 := 1#32
  ⟨c0_i32_6, v10, c1_i32_7⟩
def k0_off4 (k0_t2 : Fin k0_t2_loop.trips) (c0_i32_136 : BitVec 32) (c0_i32_137 : BitVec 32) : Fin 3 → Nat :=
  let c0_138 : Index := 0#32
  let c4_i32_135 : BitVec 32 := 4#32
  let c0_i32_6 : BitVec 32 := 0#32
  let c1_i32_7 : BitVec 32 := 1#32
  let arg13 : BitVec 32 := Scf.iv c0_i32_6 c1_i32_7 k0_t2
  let v212 : BitVec 32 := Scalar.muli c4_i32_135 arg13
  let v213 : BitVec 32 := Scalar.addi v212 c0_i32_136
  let v214 : BitVec 32 := Scalar.addi v213 c0_i32_137
  let v215 : Index := Scalar.indexCast v214
  let c0_139 : Index := 0#32
  ![0, v215.toNat, 0]
def k0_off5 (k0_t2 : Fin k0_t2_loop.trips) (c0_i32_136 : BitVec 32) (c0_i32_137 : BitVec 32) : Fin 3 → Nat :=
  let c1_140 : Index := 1#32
  let c4_i32_135 : BitVec 32 := 4#32
  let c0_i32_6 : BitVec 32 := 0#32
  let c1_i32_7 : BitVec 32 := 1#32
  let arg13 : BitVec 32 := Scf.iv c0_i32_6 c1_i32_7 k0_t2
  let v212 : BitVec 32 := Scalar.muli c4_i32_135 arg13
  let v213 : BitVec 32 := Scalar.addi v212 c0_i32_136
  let v214 : BitVec 32 := Scalar.addi v213 c0_i32_137
  let v218 : Index := Scalar.indexCast v214
  let c0_141 : Index := 0#32
  ![1, v218.toNat, 0]
def k0_off6 (k0_t2 : Fin k0_t2_loop.trips) : Fin 3 → Nat :=
  let c0_i32_6 : BitVec 32 := 0#32
  let c1_i32_7 : BitVec 32 := 1#32
  let arg13 : BitVec 32 := Scf.iv c0_i32_6 c1_i32_7 k0_t2
  let v304 : Index := Scalar.indexCast arg13
  let c0_177 : Index := 0#32
  let c0_178 : Index := 0#32
  ![v304.toNat, 0, 0]
@[reducible] def k0_t3_loop : Scf.Loop 32 :=
  let c0_i32_66 : BitVec 32 := 0#32
  let c64_i32_67 : BitVec 32 := 64#32
  let v119 : BitVec 32 := Scalar.addi c0_i32_66 c64_i32_67
  let c1_i32_68 : BitVec 32 := 1#32
  ⟨c0_i32_66, v119, c1_i32_68⟩
def k0_off7 (k0_t3 : Fin k0_t3_loop.trips) : Fin 3 → Nat :=
  let c0_i32_66 : BitVec 32 := 0#32
  let c1_i32_68 : BitVec 32 := 1#32
  let arg13 : BitVec 32 := Scf.iv c0_i32_66 c1_i32_68 k0_t3
  let v212 : Index := Scalar.indexCast arg13
  let c0_135 : Index := 0#32
  let c0_136 : Index := 0#32
  ![v212.toNat, 0, 0]
def k0_off8 (k0_t3 : Fin k0_t3_loop.trips) : Fin 3 → Nat :=
  let c0_i32_66 : BitVec 32 := 0#32
  let c1_i32_68 : BitVec 32 := 1#32
  let arg13 : BitVec 32 := Scf.iv c0_i32_66 c1_i32_68 k0_t3
  let v336 : Index := Scalar.indexCast arg13
  let c16 : Index := 16#32
  let c0_153 : Index := 0#32
  ![v336.toNat, 16, 0]
def k0_off9 (k0_t3 : Fin k0_t3_loop.trips) : Fin 3 → Nat :=
  let c0_i32_66 : BitVec 32 := 0#32
  let c1_i32_68 : BitVec 32 := 1#32
  let arg13 : BitVec 32 := Scf.iv c0_i32_66 c1_i32_68 k0_t3
  let v460 : Index := Scalar.indexCast arg13
  let c32 : Index := 32#32
  let c0_170 : Index := 0#32
  ![v460.toNat, 32, 0]
def k0_off10 (k0_t3 : Fin k0_t3_loop.trips) : Fin 3 → Nat :=
  let c0_i32_66 : BitVec 32 := 0#32
  let c1_i32_68 : BitVec 32 := 1#32
  let arg13 : BitVec 32 := Scf.iv c0_i32_66 c1_i32_68 k0_t3
  let v584 : Index := Scalar.indexCast arg13
  let c48 : Index := 48#32
  let c0_187 : Index := 0#32
  ![v584.toNat, 48, 0]
def k0_off11 (k0_t3 : Fin k0_t3_loop.trips) : Fin 3 → Nat :=
  let c0_i32_66 : BitVec 32 := 0#32
  let c1_i32_68 : BitVec 32 := 1#32
  let arg13 : BitVec 32 := Scf.iv c0_i32_66 c1_i32_68 k0_t3
  let v708 : Index := Scalar.indexCast arg13
  let c64 : Index := 64#32
  let c0_204 : Index := 0#32
  ![v708.toNat, 64, 0]
def k0_off12 (k0_t3 : Fin k0_t3_loop.trips) : Fin 3 → Nat :=
  let c0_i32_66 : BitVec 32 := 0#32
  let c1_i32_68 : BitVec 32 := 1#32
  let arg13 : BitVec 32 := Scf.iv c0_i32_66 c1_i32_68 k0_t3
  let v832 : Index := Scalar.indexCast arg13
  let c80 : Index := 80#32
  let c0_221 : Index := 0#32
  ![v832.toNat, 80, 0]
def k0_off13 (k0_t3 : Fin k0_t3_loop.trips) : Fin 3 → Nat :=
  let c0_i32_66 : BitVec 32 := 0#32
  let c1_i32_68 : BitVec 32 := 1#32
  let arg13 : BitVec 32 := Scf.iv c0_i32_66 c1_i32_68 k0_t3
  let v956 : Index := Scalar.indexCast arg13
  let c96 : Index := 96#32
  let c0_238 : Index := 0#32
  ![v956.toNat, 96, 0]
@[reducible] def k0_t4_loop : Scf.Loop 32 :=
  let c0_i32_128 : BitVec 32 := 0#32
  let c32_i32 : BitVec 32 := 32#32
  let v210 : BitVec 32 := Scalar.addi c0_i32_128 c32_i32
  let c1_i32_129 : BitVec 32 := 1#32
  ⟨c0_i32_128, v210, c1_i32_129⟩
def k0_off14 (k0_t4 : Fin k0_t4_loop.trips) : Fin 3 → Nat :=
  let c2_i32_137 : BitVec 32 := 2#32
  let c0_i32_128 : BitVec 32 := 0#32
  let c1_i32_129 : BitVec 32 := 1#32
  let arg13 : BitVec 32 := Scf.iv c0_i32_128 c1_i32_129 k0_t4
  let v214 : BitVec 32 := Scalar.muli c2_i32_137 arg13
  let v215 : Index := Scalar.indexCast v214
  let c0_138 : Index := 0#32
  let c0_139 : Index := 0#32
  ![v215.toNat, 0, 0]
def k0_off15 (k0_t4 : Fin k0_t4_loop.trips) : Fin 3 → Nat :=
  let c2_i32_145 : BitVec 32 := 2#32
  let c0_i32_128 : BitVec 32 := 0#32
  let c1_i32_129 : BitVec 32 := 1#32
  let arg13 : BitVec 32 := Scf.iv c0_i32_128 c1_i32_129 k0_t4
  let v230 : BitVec 32 := Scalar.muli c2_i32_145 arg13
  let c1_i32_146 : BitVec 32 := 1#32
  let v231 : BitVec 32 := Scalar.addi v230 c1_i32_146
  let v232 : Index := Scalar.indexCast v231
  let c0_147 : Index := 0#32
  let c0_148 : Index := 0#32
  ![v232.toNat, 0, 0]
def k0_mult3 (k0_t4 : Fin k0_t4_loop.trips) : BitVec 32 :=
  let c0_i32_128 : BitVec 32 := 0#32
  let c1_i32_129 : BitVec 32 := 1#32
  let arg13 : BitVec 32 := Scf.iv c0_i32_128 c1_i32_129 k0_t4
  let c40_i32 : BitVec 32 := 40#32
  let v245 : BitVec 32 := Scalar.muli arg13 c40_i32
  v245
def k0_off16 (k0_t4 : Fin k0_t4_loop.trips) : Fin 3 → Nat :=
  let c0_153 : Index := 0#32
  let c0_i32_128 : BitVec 32 := 0#32
  let c1_i32_129 : BitVec 32 := 1#32
  let arg13 : BitVec 32 := Scf.iv c0_i32_128 c1_i32_129 k0_t4
  let c40_i32 : BitVec 32 := 40#32
  let v245 : BitVec 32 := Scalar.muli arg13 c40_i32
  let v246 : BitVec 32 := v245
  let v259 : Index := Scalar.indexCast v246
  let c0_154 : Index := 0#32
  ![0, v259.toNat, 0]
def k0_off17 (k0_t4 : Fin k0_t4_loop.trips) : Fin 3 → Nat :=
  let c1_155 : Index := 1#32
  let c0_i32_128 : BitVec 32 := 0#32
  let c1_i32_129 : BitVec 32 := 1#32
  let arg13 : BitVec 32 := Scf.iv c0_i32_128 c1_i32_129 k0_t4
  let c40_i32 : BitVec 32 := 40#32
  let v245 : BitVec 32 := Scalar.muli arg13 c40_i32
  let v246 : BitVec 32 := v245
  let v264 : Index := Scalar.indexCast v246
  let c0_156 : Index := 0#32
  ![1, v264.toNat, 0]
@[reducible] def k0_t5_loop : Scf.Loop 32 :=
  let c0_i32_131 : BitVec 32 := 0#32
  let c7_i32_132 : BitVec 32 := 7#32
  let v211 : BitVec 32 := Scalar.addi c0_i32_131 c7_i32_132
  let c1_i32_133 : BitVec 32 := 1#32
  ⟨c0_i32_131, v211, c1_i32_133⟩
def k0_off18 (k0_t5 : Fin k0_t5_loop.trips) (c0_i32_136 : BitVec 32) (c0_i32_137 : BitVec 32) : Fin 3 → Nat :=
  let c0_138 : Index := 0#32
  let c4_i32_135 : BitVec 32 := 4#32
  let c0_i32_131 : BitVec 32 := 0#32
  let c1_i32_133 : BitVec 32 := 1#32
  let arg13 : BitVec 32 := Scf.iv c0_i32_131 c1_i32_133 k0_t5
  let v212 : BitVec 32 := Scalar.muli c4_i32_135 arg13
  let v213 : BitVec 32 := Scalar.addi c0_i32_136 v212
  let v214 : BitVec 32 := Scalar.addi v213 c0_i32_137
  let v215 : Index := Scalar.indexCast v214
  let c0_139 : Index := 0#32
  ![0, v215.toNat, 0]
def k0_off19 (k0_t5 : Fin k0_t5_loop.trips) (c0_i32_213 : BitVec 32) (c0_i32_214 : BitVec 32) : Fin 3 → Nat :=
  let c1_215 : Index := 1#32
  let c4_i32_212 : BitVec 32 := 4#32
  let c0_i32_131 : BitVec 32 := 0#32
  let c1_i32_133 : BitVec 32 := 1#32
  let arg13 : BitVec 32 := Scf.iv c0_i32_131 c1_i32_133 k0_t5
  let v309 : BitVec 32 := Scalar.muli c4_i32_212 arg13
  let v310 : BitVec 32 := Scalar.addi c0_i32_213 v309
  let v311 : BitVec 32 := Scalar.addi v310 c0_i32_214
  let v312 : Index := Scalar.indexCast v311
  let c0_216 : Index := 0#32
  ![1, v312.toNat, 0]
def k0_mult4 (k0_t5 : Fin k0_t5_loop.trips) : BitVec 32 :=
  let c128_i32 : BitVec 32 := 128#32
  let c0_i32_131 : BitVec 32 := 0#32
  let c1_i32_133 : BitVec 32 := 1#32
  let arg13 : BitVec 32 := Scf.iv c0_i32_131 c1_i32_133 k0_t5
  let v407 : BitVec 32 := Scalar.muli c128_i32 arg13
  v407
def k0_off20 (k0_t5 : Fin k0_t5_loop.trips) : Fin 3 → Nat :=
  let c0_292 : Index := 0#32
  let c0_293 : Index := 0#32
  let c128_i32 : BitVec 32 := 128#32
  let c0_i32_131 : BitVec 32 := 0#32
  let c1_i32_133 : BitVec 32 := 1#32
  let arg13 : BitVec 32 := Scf.iv c0_i32_131 c1_i32_133 k0_t5
  let v407 : BitVec 32 := Scalar.muli c128_i32 arg13
  let v408 : BitVec 32 := v407
  let v409 : Index := Scalar.indexCast v408
  ![0, 0, v409.toNat]
def k0_mult5 (k0_t5 : Fin k0_t5_loop.trips) : BitVec 32 :=
  let c128_i32_294 : BitVec 32 := 128#32
  let c0_i32_131 : BitVec 32 := 0#32
  let c1_i32_133 : BitVec 32 := 1#32
  let arg13 : BitVec 32 := Scf.iv c0_i32_131 c1_i32_133 k0_t5
  let v414 : BitVec 32 := Scalar.muli c128_i32_294 arg13
  v414
def k0_off21 (k0_t5 : Fin k0_t5_loop.trips) : Fin 3 → Nat :=
  let c0_295 : Index := 0#32
  let c128 : Index := 128#32
  let c128_i32_294 : BitVec 32 := 128#32
  let c0_i32_131 : BitVec 32 := 0#32
  let c1_i32_133 : BitVec 32 := 1#32
  let arg13 : BitVec 32 := Scf.iv c0_i32_131 c1_i32_133 k0_t5
  let v414 : BitVec 32 := Scalar.muli c128_i32_294 arg13
  let v415 : BitVec 32 := v414
  let v416 : Index := Scalar.indexCast v415
  ![0, 128, v416.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x7168 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S56x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x112 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x896 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownIdeal.lean ====
variable {F : FTy → Type} [FloatOps F]
-- ==== DownReferenceIdeal.lean ====
abbrev S3x2048x7168 : Shape := ⟨3, ![3, 2048, 7168]⟩
abbrev S256x256 : Shape := ⟨2, ![256, 256]⟩
abbrev S28x28 : Shape := ⟨2, ![28, 28]⟩
abbrev S3x4096 : Shape := ⟨2, ![3, 4096]⟩
abbrev S8 : Shape := ⟨1, ![8]⟩
abbrev S3x2048x7168x2 : Shape := ⟨4, ![3, 2048, 7168, 2]⟩
abbrev S3x2048x2x7168 : Shape := ⟨4, ![3, 2048, 2, 7168]⟩
abbrev S3x4096x7168 : Shape := ⟨3, ![3, 4096, 7168]⟩
abbrev S3x4096x28x256 : Shape := ⟨4, ![3, 4096, 28, 256]⟩
abbrev S28x3x4096x256 : Shape := ⟨4, ![28, 3, 4096, 256]⟩
abbrev S_ : Shape := ⟨0, ![]⟩
abbrev S3x4096x1 : Shape := ⟨3, ![3, 4096, 1]⟩
abbrev S1x1x8 : Shape := ⟨3, ![1, 1, 8]⟩
abbrev S3x4096x8 : Shape := ⟨3, ![3, 4096, 8]⟩
abbrev S3x4096x1x7168 : Shape := ⟨4, ![3, 4096, 1, 7168]⟩
abbrev S3x4096x8x1 : Shape := ⟨4, ![3, 4096, 8, 1]⟩
abbrev S3x4096x8x7168 : Shape := ⟨4, ![3, 4096, 8, 7168]⟩
abbrev S3x4096x896x8 : Shape := ⟨4, ![3, 4096, 896, 8]⟩
abbrev S1x1x1x8 : Shape := ⟨4, ![1, 1, 1, 8]⟩
abbrev S3x4096x896 : Shape := ⟨3, ![3, 4096, 896]⟩

abbrev nBuf : Space → Nat
  | .hbm => 117
  | .vmem => 0
  | .smem => 0
  | _ => 0

abbrev bufTy : (tb : Table) → Fin (tcTables nBuf tb) → BufTy
  | .hbm, ⟨0, _⟩ => ⟨S3x2048x7168, .i32⟩
  | .hbm, ⟨1, _⟩ => ⟨S256x256, .bf16⟩
  | .hbm, ⟨2, _⟩ => ⟨S28x28, .bf16⟩
  | .hbm, ⟨3, _⟩ => ⟨S3x4096, .i32⟩
  | .hbm, ⟨4, _⟩ => ⟨S8, .f32⟩
  | .hbm, ⟨5, _⟩ => ⟨S3x2048x7168x2, .bf16⟩
  | .hbm, ⟨6, _⟩ => ⟨S3x2048x2x7168, .bf16⟩
  | .hbm, ⟨7, _⟩ => ⟨S3x4096x7168, .bf16⟩
  | .hbm, ⟨8, _⟩ => ⟨S3x4096x28x256, .bf16⟩
  | .hbm, ⟨9, _⟩ => ⟨S3x4096x28x256, .f32⟩
  | .hbm, ⟨10, _⟩ => ⟨S28x28, .f32⟩
  | .hbm, ⟨11, _⟩ => ⟨S28x3x4096x256, .f32⟩
  | .hbm, ⟨12, _⟩ => ⟨S3x4096x28x256, .f32⟩
  | .hbm, ⟨13, _⟩ => ⟨S_, .f32⟩
  | .hbm, ⟨14, _⟩ => ⟨S3x4096x28x256, .f32⟩
  | .hbm, ⟨15, _⟩ => ⟨S3x4096x28x256, .f32⟩
  | .hbm, ⟨16, _⟩ => ⟨S3x4096x28x256, .bf16⟩
  | .hbm, ⟨17, _⟩ => ⟨S3x4096x7168, .bf16⟩
  | .hbm, ⟨18, _⟩ => ⟨S3x4096x7168, .f32⟩
  | .hbm, ⟨19, _⟩ => ⟨S3x4096x7168, .f32⟩
  | .hbm, ⟨20, _⟩ => ⟨S_, .f32⟩
  | .hbm, ⟨21, _⟩ => ⟨S3x4096, .f32⟩
  | .hbm, ⟨22, _⟩ => ⟨S3x4096x1, .f32⟩
  | .hbm, ⟨23, _⟩ => ⟨S_, .f32⟩
  | .hbm, ⟨24, _⟩ => ⟨S3x4096x1, .f32⟩
  | .hbm, ⟨25, _⟩ => ⟨S3x4096x1, .i1⟩
  | .hbm, ⟨26, _⟩ => ⟨S1x1x8, .f32⟩
  | .hbm, ⟨27, _⟩ => ⟨S3x4096x8, .f32⟩
  | .hbm, ⟨28, _⟩ => ⟨S3x4096x8, .f32⟩
  | .hbm, ⟨29, _⟩ => ⟨S3x4096x8, .f32⟩
  | .hbm, ⟨30, _⟩ => ⟨S_, .f32⟩
  | .hbm, ⟨31, _⟩ => ⟨S3x4096x8, .f32⟩
  | .hbm, ⟨32, _⟩ => ⟨S3x4096x8, .f32⟩
  | .hbm, ⟨33, _⟩ => ⟨S_, .f32⟩
  | .hbm, ⟨34, _⟩ => ⟨S3x4096x8, .f32⟩
  | .hbm, ⟨35, _⟩ => ⟨S3x4096x8, .f32⟩
  | .hbm, ⟨36, _⟩ => ⟨S_, .f32⟩
  | .hbm, ⟨37, _⟩ => ⟨S3x4096x8, .i1⟩
  | .hbm, ⟨38, _⟩ => ⟨S3x4096x8, .f32⟩
  | .hbm, ⟨39, _⟩ => ⟨S3x4096x8, .f32⟩
  | .hbm, ⟨40, _⟩ => ⟨S3x4096x1x7168, .f32⟩
  | .hbm, ⟨41, _⟩ => ⟨S3x4096x8x1, .f32⟩
  | .hbm, ⟨42, _⟩ => ⟨S3x4096x8x7168, .f32⟩
  | .hbm, ⟨43, _⟩ => ⟨S3x4096x8x7168, .f32⟩
  | .hbm, ⟨44, _⟩ => ⟨S3x4096x8x7168, .f32⟩
  | .hbm, ⟨45, _⟩ => ⟨S3x4096x8x7168, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S3x4096x8x7168, .f32⟩
  | .hbm, ⟨50, _⟩ => ⟨S3x4096x8x7168, .f32⟩
  | .hbm, ⟨51, _⟩ => ⟨S_, .f32⟩
  | .hbm, ⟨52, _⟩ => ⟨S3x4096x8x7168, .f32⟩
  | .hbm, ⟨53, _⟩ => ⟨S3x4096x8x7168, .f32⟩
  | .hbm, ⟨54, _⟩ => ⟨S3x4096x8x7168, .i32⟩
  | .hbm, ⟨55, _⟩ => ⟨S3x4096x1x7168, .f32⟩
  | .hbm, ⟨56, _⟩ => ⟨S3x4096x8x7168, .f32⟩
  | .hbm, ⟨57, _⟩ => ⟨S3x4096x8x1, .f32⟩
  | .hbm, ⟨58, _⟩ => ⟨S3x4096x8x7168, .f32⟩
  | .hbm, ⟨59, _⟩ => ⟨S3x4096x8x7168, .f32⟩
  | .hbm, ⟨60, _⟩ => ⟨S3x4096x8x7168, .f32⟩
  | .hbm, ⟨61, _⟩ => ⟨S3x4096x8x7168, .f32⟩
  | .hbm, ⟨62, _⟩ => ⟨S3x4096x8x7168, .f32⟩
  | .hbm, ⟨63, _⟩ => ⟨S_, .f32⟩
  | .hbm, ⟨64, _⟩ => ⟨S3x4096x8, .f32⟩
  | .hbm, ⟨65, _⟩ => ⟨S3x4096x1, .i32⟩
  | .hbm, ⟨66, _⟩ => ⟨S8, .i32⟩
  | .hbm, ⟨67, _⟩ => ⟨S1x1x8, .i32⟩
  | .hbm, ⟨68, _⟩ => ⟨S3x4096x8, .i32⟩
  | .hbm, ⟨69, _⟩ => ⟨S3x4096x8, .i32⟩
  | .hbm, ⟨70, _⟩ => ⟨S3x4096x8, .i1⟩
  | .hbm, ⟨71, _⟩ => ⟨S_, .f32⟩
  | .hbm, ⟨72, _⟩ => ⟨S3x4096x8, .f32⟩
  | .hbm, ⟨73, _⟩ => ⟨S3x4096x8, .f32⟩
  | .hbm, ⟨74, _⟩ => ⟨S3x4096x8, .f32⟩
  | .hbm, ⟨75, _⟩ => ⟨S_, .f32⟩
  | .hbm, ⟨76, _⟩ => ⟨S3x4096, .f32⟩
  | .hbm, ⟨77, _⟩ => ⟨S_, .f32⟩
  | .hbm, ⟨78, _⟩ => ⟨S3x4096, .f32⟩
  | .hbm, ⟨79, _⟩ => ⟨S3x4096, .i1⟩
  | .hbm, ⟨80, _⟩ => ⟨S3x4096, .f32⟩
  | .hbm, ⟨81, _⟩ => ⟨S_, .f32⟩
  | .hbm, ⟨82, _⟩ => ⟨S3x4096, .f32⟩
  | .hbm, ⟨83, _⟩ => ⟨S3x4096, .f32⟩
  | .hbm, ⟨84, _⟩ => ⟨S_, .f32⟩
  | .hbm, ⟨85, _⟩ => ⟨S3x4096, .f32⟩
  | .hbm, ⟨86, _⟩ => ⟨S3x4096, .f32⟩
  | .hbm, ⟨87, _⟩ => ⟨S_, .f32⟩
  | .hbm, ⟨88, _⟩ => ⟨S3x4096, .f32⟩
  | .hbm, ⟨89, _⟩ => ⟨S3x4096, .f32⟩
  | .hbm, ⟨90, _⟩ => ⟨S3x4096x1, .f32⟩
  | .hbm, ⟨91, _⟩ => ⟨S3x4096x7168, .f32⟩
  | .hbm, ⟨92, _⟩ => ⟨S3x4096x7168, .f32⟩
  | .hbm, ⟨93, _⟩ => ⟨S3x4096x7168, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S3x4096x7168, .f32⟩
  | .hbm, ⟨98, _⟩ => ⟨S3x4096x7168, .f32⟩
  | .hbm, ⟨99, _⟩ => ⟨S_, .f32⟩
  | .hbm, ⟨100, _⟩ => ⟨S3x4096x7168, .f32⟩
  | .hbm, ⟨101, _⟩ => ⟨S3x4096x7168, .f32⟩
  | .hbm, ⟨102, _⟩ => ⟨S3x4096x7168, .i32⟩
  | .hbm, ⟨103, _⟩ => ⟨S_, .i32⟩
  | .hbm, ⟨104, _⟩ => ⟨S3x4096x7168, .i32⟩
  | .hbm, ⟨105, _⟩ => ⟨S3x4096x7168, .i32⟩
  | .hbm, ⟨106, _⟩ => ⟨S3x4096x7168, .i32⟩
  | .hbm, ⟨107, _⟩ => ⟨S3x4096x896x8, .i32⟩
  | .hbm, ⟨108, _⟩ => ⟨S8, .i32⟩
  | .hbm, ⟨109, _⟩ => ⟨S_, .i32⟩
  | .hbm, ⟨110, _⟩ => ⟨S8, .i32⟩
  | .hbm, ⟨111, _⟩ => ⟨S8, .i32⟩
  | .hbm, ⟨112, _⟩ => ⟨S1x1x1x8, .i32⟩
  | .hbm, ⟨113, _⟩ => ⟨S3x4096x896x8, .i32⟩
  | .hbm, ⟨114, _⟩ => ⟨S3x4096x896x8, .i32⟩
  | .hbm, ⟨115, _⟩ => ⟨S_, .i32⟩
  | .hbm, ⟨116, _⟩ => ⟨S3x4096x896, .i32⟩
  | _, _ => ⟨S3x2048x7168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_call3_v0 : Ref sig .tc := ⟨.hbm, 72, rfl⟩
abbrev main_call3_v1 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_call4_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_cst_16 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_v64 : Ref sig .tc := ⟨.hbm, 101, rfl⟩
abbrev main_v65 : Ref sig .tc := ⟨.hbm, 102, rfl⟩
abbrev main_c : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_17 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_18 : Ref sig .tc := ⟨.hbm, 115, rfl⟩
abbrev main_v76 : Ref sig .tc := ⟨.hbm, 116, rfl⟩

abbrev nD : Nat := 1
abbrev τ : Topo := Topo.v7x

variable {F : FTy → Type} [FloatOps F]
-- ==== Proof.BodyK.lean ====
/- The kernel's body, run once by the symbolic executor over its five counted loops: from the staging memrefs and the
   scratch at any contents it returns with the inputs unchanged and each output overwritten by a list of pieces, a function
   of the contents the body began with. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

set_option maxHeartbeats 4000000 in
/-- The body's run: the pieces it leaves in each output (last first) with its triple, for any continuation. -/
@[irreducible] def kernelRun (c : Dev nD) (i : grid0.Coords) (arg2 : Memref sig .tc .vmem S1x256x4096 .fp8e4m3) (harg2 : arg2.IsWhole) (arg3 : Memref sig .tc .vmem S1x1x2x4096 .f32) (harg3 : arg3.IsWhole) (arg4 : Memref sig .tc .vmem S1x1x4096 .f32) (harg4 : arg4.IsWhole) (arg5 : Memref sig .tc .vmem S256x256 .bf16) (harg5 : arg5.IsWhole) (arg6 : Memref sig .tc .vmem S64x192 .bf16) (harg6 : arg6.IsWhole) (arg7 : Memref sig .tc .vmem S256x256 .bf16) (harg7 : arg7.IsWhole) (arg8 : Memref sig .tc .vmem S64x256 .bf16) (harg8 : arg8.IsWhole) (arg9 : Memref sig .tc .vmem S1x1x1x256 .i32) (harg9 : arg9.IsWhole) (arg10 : Memref sig .tc .vmem S1x256x512 .i32) (harg10 : arg10.IsWhole) (arg11 : Memref sig .tc .vmem S1x1x1x256 .f32) (harg11 : arg11.IsWhole) (arg12 : Memref sig .tc .vmem S1x1x8x256 .f32) (harg12 : arg12.IsWhole) (arg13 : Memref sig .tc .vmem S2x4608x128 .f32) (harg13 : arg13.IsWhole) (arg14 : Memref sig .tc .vmem S64x64x256 .bf16) (harg14 : arg14.IsWhole) (arg15 : Memref sig .tc .vmem S2x576x128 .i32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X13 : BufTy.Contents (Elt F) arg13.view.ty) (X14 : BufTy.Contents (Elt F) arg14.view.ty) (X15 : BufTy.Contents (Elt F) arg15.view.ty) :
    Σ' (L10 : List (View.Piece (Elt F) S1x256x512 .i32)) (C11 : BufTy.Contents (Elt F) arg11.view.ty), { C12 : BufTy.Contents (Elt F) arg12.view.ty // ∀ (E : Set ℕ) (f10 : BufTy.Contents (Elt F) arg10.view.ty) (f11 : BufTy.Contents (Elt F) arg11.view.ty) (f12 : BufTy.Contents (Elt F) arg12.view.ty) (K : PUnit → sProp 𝕄),
      iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg8.view.loc (c : Thread nD τ) ↦[arg8.view.set]{fullShare} X8)
        ∗ (arg9.view.loc (c : Thread nD τ) ↦[arg9.view.set]{fullShare} X9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} X13)
        ∗ (arg14.view.loc (c : Thread nD τ) ↦[arg14.view.set]{fullShare} X14)
        ∗ (arg15.view.loc (c : Thread nD τ) ↦[arg15.view.set]{fullShare} X15)
        ∗ (iprop((arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (arg7.view.loc (c : Thread nD τ) ↦[arg7.view.set]{fullShare} X7)
            ∗ (arg8.view.loc (c : Thread nD τ) ↦[arg8.view.set]{fullShare} X8)
            ∗ (arg9.view.loc (c : Thread nD τ) ↦[arg9.view.set]{fullShare} X9)
            ∗ (arg10.view.loc (c : Thread nD τ) ↦[arg10.view.set]{fullShare} arg10.view.writes (Elt F) f10 L10)
            ∗ (arg11.view.loc (c : Thread nD τ) ↦[arg11.view.set]{fullShare} C11)
            ∗ (arg12.view.loc (c : Thread nD τ) ↦[arg12.view.set]{fullShare} C12)
            ∗ (∃ s : BufTy.Contents (Elt F) arg13.view.ty, (arg13.view.loc (c : Thread nD τ) ↦[arg13.view.set]{fullShare} s))
            ∗ (∃ s : BufTy.Contents (Elt F) arg14.view.ty, (arg14.view.loc (c : Thread nD τ) ↦[arg14.view.set]{fullShare} s))
            ∗ (∃ s : BufTy.Contents (Elt F) arg15.view.ty, (arg15.view.loc (c : Thread nD τ) ↦[arg15.view.set]{fullShare} s))) -∗ K ⟨⟩))
      ⊢ wp frame (wpE (defs₀ (F := F)) Variants.none (c : Thread nD τ) none) E (cc0_gate i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E f10 f11 f12 K => ?run⟩
  case run =>
    simp only [cc0_gate_eq_skeleton]; unfold cc0_gate_skel
    iintro ⟨H2, H3, H4, H5, H6, H7, H8, H9, H10, H11, H12, H13, H14, H15, Hk⟩
    sl_exec
    sl_step
    iapply Hk
    sl_close

end Cert.Kernel.Hand

end
-- ==== Proof.FrameK.lean ====
/- The frame: every run of the whole program ends, nothing faulting, with the argument arrays unchanged and every
   semaphore counter at zero. The body's triple is `kernelRun`; what the body leaves in the three outputs is not named here. -/
module

public import proofs.«01_k».proof.Proof.BodyK

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three outputs are not named. -/
def forgets0 : Fin 11 → Bool
  | ⟨8, _⟩ => true
  | ⟨9, _⟩ => true
  | ⟨10, _⟩ => true
  | _ => false

/-- The proof data: the arrays as the region finds them; each input's buffer at its block after the body. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q _ := fullShare
  owed _ := 0

theorem A_eqF (c : Dev nD) (w : Fin cfg0.W) : (datsF m 0 c).A w = V m c (Pipeline.arrRef spec0 w) := by
  dsimp only [datsF]
theorem afterF_0 (c : Dev nD) (t : Fin cfg0.N) : (datsF m 0 c).after 0 t = iblk m c 0 t := by dsimp only [datsF]
theorem beforeF_0 (c : Dev nD) (t : Fin cfg0.N) (d) : (datsF m 0 c).before 0 t d = iblk m c 0 t :=
  before0_0_of m (datsF m 0 c) (A_eqF m c 0) (afterF_0 m c) t d
theorem afterF_1 (c : Dev nD) (t : Fin cfg0.N) : (datsF m 0 c).after 1 t = iblk m c 1 t := by dsimp only [datsF]
theorem beforeF_1 (c : Dev nD) (t : Fin cfg0.N) (d) : (datsF m 0 c).before 1 t d = iblk m c 1 t :=
  before0_1_of m (datsF m 0 c) (A_eqF m c 1) (afterF_1 m c) t d
theorem afterF_2 (c : Dev nD) (t : Fin cfg0.N) : (datsF m 0 c).after 2 t = iblk m c 2 t := by dsimp only [datsF]
theorem beforeF_2 (c : Dev nD) (t : Fin cfg0.N) (d) : (datsF m 0 c).before 2 t d = iblk m c 2 t :=
  before0_2_of m (datsF m 0 c) (A_eqF m c 2) (afterF_2 m c) t d
theorem afterF_3 (c : Dev nD) (t : Fin cfg0.N) : (datsF m 0 c).after 3 t = iblk m c 3 t := by dsimp only [datsF]
theorem beforeF_3 (c : Dev nD) (t : Fin cfg0.N) (d) : (datsF m 0 c).before 3 t d = iblk m c 3 t :=
  before0_3_of m (datsF m 0 c) (A_eqF m c 3) (afterF_3 m c) t d
theorem afterF_4 (c : Dev nD) (t : Fin cfg0.N) : (datsF m 0 c).after 4 t = iblk m c 4 t := by dsimp only [datsF]
theorem beforeF_4 (c : Dev nD) (t : Fin cfg0.N) (d) : (datsF m 0 c).before 4 t d = iblk m c 4 t :=
  before0_4_of m (datsF m 0 c) (A_eqF m c 4) (afterF_4 m c) t d
theorem afterF_5 (c : Dev nD) (t : Fin cfg0.N) : (datsF m 0 c).after 5 t = iblk m c 5 t := by dsimp only [datsF]
theorem beforeF_5 (c : Dev nD) (t : Fin cfg0.N) (d) : (datsF m 0 c).before 5 t d = iblk m c 5 t :=
  before0_5_of m (datsF m 0 c) (A_eqF m c 5) (afterF_5 m c) t d
theorem afterF_6 (c : Dev nD) (t : Fin cfg0.N) : (datsF m 0 c).after 6 t = iblk m c 6 t := by dsimp only [datsF]
theorem beforeF_6 (c : Dev nD) (t : Fin cfg0.N) (d) : (datsF m 0 c).before 6 t d = iblk m c 6 t :=
  before0_6_of m (datsF m 0 c) (A_eqF m c 6) (afterF_6 m c) t d
theorem afterF_7 (c : Dev nD) (t : Fin cfg0.N) : (datsF m 0 c).after 7 t = iblk m c 7 t := by dsimp only [datsF]
theorem beforeF_7 (c : Dev nD) (t : Fin cfg0.N) (d) : (datsF m 0 c).before 7 t d = iblk m c 7 t :=
  before0_7_of m (datsF m 0 c) (A_eqF m c 7) (afterF_7 m c) t d

/-- The class's invariant, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ (∃ r, prngReg c r)) := by
  unfold Pipeline.ΦA; rw [scopedRest0_eq]; simp only [owns_whole]; try rfl

/-- What the body is called with at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare ((datsF m 0 c).before 6 t d))
    ∗ (∃ d, owns (c : Thread nD τ) (st0_7 t) fullShare ((datsF m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

/-- What the body returns. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ owns (c : Thread nD τ) (st0_6 t) fullShare ((datsF m 0 c).after 6 t)
    ∗ owns (c : Thread nD τ) (st0_7 t) fullShare ((datsF m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 1000000 in
theorem sound_bodyF (c : Dev nD) (t : Fin cfg0.N) :
    bodyPreF m c t ⊢ wp frame (wpE (defs₀ (F := F)) Variants.none (c : Thread nD τ) none) Set.univ (bodyAt0 t) (fun _ => bodyPostF m c t) := by
  unfold bodyPreF bodyPostF bodyAt0
  simp only [beforeF_0, beforeF_1, beforeF_2, beforeF_3, beforeF_4, beforeF_5, beforeF_6, beforeF_7]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq, afterF_0, afterF_1, afterF_2, afterF_3, afterF_4, afterF_5, afterF_6, afterF_7]
  unfold owns
  iintro ⟨⟨⟨⟨%e0, %s0, %hs0, S0⟩, ⟨%e1, %s1, %hs1, S1⟩, ⟨%e2, %s2, %hs2, S2⟩⟩, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩⟩
  iapply ((kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) f0 f1 f2 f3 f4 f5 f6 f7 s0 s1 s2).2.2.2 Set.univ f8 f9 f10 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  iintro ⟨H0, H1, H2, H3, H4, H5, H6, H7, H8, H9, H10, ⟨%z0, S0⟩, ⟨%z1, S1⟩, ⟨%z2, S2⟩⟩
  isplitl [S0 S1 S2 Hp]
  · isplitl [S0 S1 S2]
    · isplitl [S0]
      · iexists _, z0; isplitr; swap; · iexact S0
        ipureintro; rfl
      isplitl [S1]
      · iexists _, z1; isplitr; swap; · iexact S1
        ipureintro; rfl
      iexists _, z2; isplitr; swap; · iexact S2
      ipureintro; rfl
    iexact Hp
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) : BodyObligation (datsF (F := F) m 0 c) (defs₀ (F := F)) Variants.none () Set.univ forgets0 := fun t => by
  rw [bigSep_W0, bigSep_W0, defs₀_row]
  exact triple_restated (sound_bodyF m c t) rfl .rfl fun _ => .rfl

/-- The buffers the lines after the region write. -/
def T1 : Finset (Ref sig .tc) := {main_v49, main_v50, main_v51}

theorem hT1 : ∀ ops ∈ ([hostOps1] : List (List (HloOp τ sig (Elt F)))), ∀ op ∈ ops, ∀ b : Ref sig .tc, Proc.devRef .tc b ∈ op.writes → b ∈ T1 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, StableHlo.unary_writes, Finset.mem_singleton] at hb
    have := Proc.devRef_injective _ hb
    subst this
    decide

set_option backward.isDefEq.respectTransparency.types false in
set_option maxHeartbeats 800000 in
theorem run_mainF (m : (ℓ : Loc nD τ sig) → Buf (Elt F) ℓ) (ρ : Dev nD → PrngReg) : θ_run defs (onTc (τ := τ) (main (F := F))) (s₀ m ρ)
    (fun r => Pipeline.RDat.FramePostR (cfgs 0) (fun c => (datsF m 0 c).toRForget forgets0) T1 (V m) r ∧ r.2.sem = fun _ => 0) :=
  Pipeline.θ_run_frame_around_T_forget (Q' := _) cfgs (datsF m) (0 : Fin 1) launch0 defs₀ Variants.none forgets0 T1 m ρ main
    (hbody := fun c => (body_obligationF m c).loose) (hshare := fun c => (datsF m 0 c).share_full fun _ => rfl)
    (howed := fun _ _ => rfl) (V₀ := V0 m) (opss := [hostOps1]) (hsub := sfx_sub) (hfresh := sfx_fresh) (hkeep := sfx_keeps)
    (hT := hT1)
    (hmain := hmain m Variants.none) (hA := A_eqF m) (hΦ := fun _ _ => rfl)

/-- The frame, at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c)⟩, h.2⟩) (run_mainF m ρ)

end Cert.Kernel.Hand

end
-- ==== Proof.BodyIdeal.lean ====
/- The kernel's body, run once by the symbolic executor over its five counted loops: from the staging memrefs and the
   scratch at any contents it returns with the inputs unchanged and each output overwritten by a list of pieces, a function
   of the contents the body began with. -/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 4000000 in
/-- The body's run: the pieces it leaves in each output (last first) with its triple, for any continuation. -/
@[irreducible] def kernelRun (c : Dev nD) (i : grid0.Coords) (arg2 : Memref sig .tc .vmem S1x256x4096 .fp8e4m3) (harg2 : arg2.IsWhole) (arg3 : Memref sig .tc .vmem S1x1x2x4096 .f32) (harg3 : arg3.IsWhole) (arg4 : Memref sig .tc .vmem S1x1x4096 .f32) (harg4 : arg4.IsWhole) (arg5 : Memref sig .tc .vmem S256x256 .bf16) (harg5 : arg5.IsWhole) (arg6 : Memref sig .tc .vmem S64x192 .bf16) (harg6 : arg6.IsWhole) (arg7 : Memref sig .tc .vmem S256x256 .bf16) (harg7 : arg7.IsWhole) (arg8 : Memref sig .tc .vmem S64x256 .bf16) (harg8 : arg8.IsWhole) (arg9 : Memref sig .tc .vmem S1x1x1x256 .i32) (harg9 : arg9.IsWhole) (arg10 : Memref sig .tc .vmem S1x256x512 .i32) (harg10 : arg10.IsWhole) (arg11 : Memref sig .tc .vmem S1x1x1x256 .f32) (harg11 : arg11.IsWhole) (arg12 : Memref sig .tc .vmem S1x1x8x256 .f32) (harg12 : arg12.IsWhole) (arg13 : Memref sig .tc .vmem S2x4608x128 .f32) (harg13 : arg13.IsWhole) (arg14 : Memref sig .tc .vmem S64x64x256 .bf16) (harg14 : arg14.IsWhole) (arg15 : Memref sig .tc .vmem S2x576x128 .i32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X13 : BufTy.Contents (Elt F) arg13.view.ty) (X14 : BufTy.Contents (Elt F) arg14.view.ty) (X15 : BufTy.Contents (Elt F) arg15.view.ty) :
    Σ' (L10 : List (View.Piece (Elt F) S1x256x512 .i32)) (C11 : BufTy.Contents (Elt F) arg11.view.ty), { C12 : BufTy.Contents (Elt F) arg12.view.ty // ∀ (E : Set ℕ) (f10 : BufTy.Contents (Elt F) arg10.view.ty) (f11 : BufTy.Contents (Elt F) arg11.view.ty) (f12 : BufTy.Contents (Elt F) arg12.view.ty) (K : PUnit → sProp 𝕄),
      iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg8.view.loc (c : Thread nD τ) ↦[arg8.view.set]{fullShare} X8)
        ∗ (arg9.view.loc (c : Thread nD τ) ↦[arg9.view.set]{fullShare} X9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} X13)
        ∗ (arg14.view.loc (c : Thread nD τ) ↦[arg14.view.set]{fullShare} X14)
        ∗ (arg15.view.loc (c : Thread nD τ) ↦[arg15.view.set]{fullShare} X15)
        ∗ (iprop((arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (arg7.view.loc (c : Thread nD τ) ↦[arg7.view.set]{fullShare} X7)
            ∗ (arg8.view.loc (c : Thread nD τ) ↦[arg8.view.set]{fullShare} X8)
            ∗ (arg9.view.loc (c : Thread nD τ) ↦[arg9.view.set]{fullShare} X9)
            ∗ (arg10.view.loc (c : Thread nD τ) ↦[arg10.view.set]{fullShare} arg10.view.writes (Elt F) f10 L10)
            ∗ (arg11.view.loc (c : Thread nD τ) ↦[arg11.view.set]{fullShare} C11)
            ∗ (arg12.view.loc (c : Thread nD τ) ↦[arg12.view.set]{fullShare} C12)
            ∗ (∃ s : BufTy.Contents (Elt F) arg13.view.ty, (arg13.view.loc (c : Thread nD τ) ↦[arg13.view.set]{fullShare} s))
            ∗ (∃ s : BufTy.Contents (Elt F) arg14.view.ty, (arg14.view.loc (c : Thread nD τ) ↦[arg14.view.set]{fullShare} s))
            ∗ (∃ s : BufTy.Contents (Elt F) arg15.view.ty, (arg15.view.loc (c : Thread nD τ) ↦[arg15.view.set]{fullShare} s))) -∗ K ⟨⟩))
      ⊢ wp frame (wpE (defs₀ (F := F)) Variants.none (c : Thread nD τ) none) E (cc0_gate i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E f10 f11 f12 K => ?run⟩
  case run =>
    simp only [cc0_gate_eq_skeleton]; unfold cc0_gate_skel
    iintro ⟨H2, H3, H4, H5, H6, H7, H8, H9, H10, H11, H12, H13, H14, H15, Hk⟩
    sl_exec
    sl_step
    iapply Hk
    sl_close

end Cert.KernelIdeal.Hand

end
-- ==== Proof.FrameIdeal.lean ====
/- The frame: every run of the whole program ends, nothing faulting, with the argument arrays unchanged and every
   semaphore counter at zero. The body's triple is `kernelRun`; what the body leaves in the three outputs is not named here. -/
module

public import proofs.«01_k».proof.Proof.BodyIdeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three outputs are not named. -/
def forgets0 : Fin 11 → Bool
  | ⟨8, _⟩ => true
  | ⟨9, _⟩ => true
  | ⟨10, _⟩ => true
  | _ => false

/-- The proof data: the arrays as the region finds them; each input's buffer at its block after the body. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q _ := fullShare
  owed _ := 0

theorem A_eqF (c : Dev nD) (w : Fin cfg0.W) : (datsF m 0 c).A w = V m c (Pipeline.arrRef spec0 w) := by
  dsimp only [datsF]
theorem afterF_0 (c : Dev nD) (t : Fin cfg0.N) : (datsF m 0 c).after 0 t = iblk m c 0 t := by dsimp only [datsF]
theorem beforeF_0 (c : Dev nD) (t : Fin cfg0.N) (d) : (datsF m 0 c).before 0 t d = iblk m c 0 t :=
  before0_0_of m (datsF m 0 c) (A_eqF m c 0) (afterF_0 m c) t d
theorem afterF_1 (c : Dev nD) (t : Fin cfg0.N) : (datsF m 0 c).after 1 t = iblk m c 1 t := by dsimp only [datsF]
theorem beforeF_1 (c : Dev nD) (t : Fin cfg0.N) (d) : (datsF m 0 c).before 1 t d = iblk m c 1 t :=
  before0_1_of m (datsF m 0 c) (A_eqF m c 1) (afterF_1 m c) t d
theorem afterF_2 (c : Dev nD) (t : Fin cfg0.N) : (datsF m 0 c).after 2 t = iblk m c 2 t := by dsimp only [datsF]
theorem beforeF_2 (c : Dev nD) (t : Fin cfg0.N) (d) : (datsF m 0 c).before 2 t d = iblk m c 2 t :=
  before0_2_of m (datsF m 0 c) (A_eqF m c 2) (afterF_2 m c) t d
theorem afterF_3 (c : Dev nD) (t : Fin cfg0.N) : (datsF m 0 c).after 3 t = iblk m c 3 t := by dsimp only [datsF]
theorem beforeF_3 (c : Dev nD) (t : Fin cfg0.N) (d) : (datsF m 0 c).before 3 t d = iblk m c 3 t :=
  before0_3_of m (datsF m 0 c) (A_eqF m c 3) (afterF_3 m c) t d
theorem afterF_4 (c : Dev nD) (t : Fin cfg0.N) : (datsF m 0 c).after 4 t = iblk m c 4 t := by dsimp only [datsF]
theorem beforeF_4 (c : Dev nD) (t : Fin cfg0.N) (d) : (datsF m 0 c).before 4 t d = iblk m c 4 t :=
  before0_4_of m (datsF m 0 c) (A_eqF m c 4) (afterF_4 m c) t d
theorem afterF_5 (c : Dev nD) (t : Fin cfg0.N) : (datsF m 0 c).after 5 t = iblk m c 5 t := by dsimp only [datsF]
theorem beforeF_5 (c : Dev nD) (t : Fin cfg0.N) (d) : (datsF m 0 c).before 5 t d = iblk m c 5 t :=
  before0_5_of m (datsF m 0 c) (A_eqF m c 5) (afterF_5 m c) t d
theorem afterF_6 (c : Dev nD) (t : Fin cfg0.N) : (datsF m 0 c).after 6 t = iblk m c 6 t := by dsimp only [datsF]
theorem beforeF_6 (c : Dev nD) (t : Fin cfg0.N) (d) : (datsF m 0 c).before 6 t d = iblk m c 6 t :=
  before0_6_of m (datsF m 0 c) (A_eqF m c 6) (afterF_6 m c) t d
theorem afterF_7 (c : Dev nD) (t : Fin cfg0.N) : (datsF m 0 c).after 7 t = iblk m c 7 t := by dsimp only [datsF]
theorem beforeF_7 (c : Dev nD) (t : Fin cfg0.N) (d) : (datsF m 0 c).before 7 t d = iblk m c 7 t :=
  before0_7_of m (datsF m 0 c) (A_eqF m c 7) (afterF_7 m c) t d

/-- The class's invariant, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ (∃ r, prngReg c r)) := by
  unfold Pipeline.ΦA; rw [scopedRest0_eq]; simp only [owns_whole]; try rfl

/-- What the body is called with at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare ((datsF m 0 c).before 6 t d))
    ∗ (∃ d, owns (c : Thread nD τ) (st0_7 t) fullShare ((datsF m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

/-- What the body returns. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ owns (c : Thread nD τ) (st0_6 t) fullShare ((datsF m 0 c).after 6 t)
    ∗ owns (c : Thread nD τ) (st0_7 t) fullShare ((datsF m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 1000000 in
theorem sound_bodyF (c : Dev nD) (t : Fin cfg0.N) :
    bodyPreF m c t ⊢ wp frame (wpE (defs₀ (F := F)) Variants.none (c : Thread nD τ) none) Set.univ (bodyAt0 t) (fun _ => bodyPostF m c t) := by
  unfold bodyPreF bodyPostF bodyAt0
  simp only [beforeF_0, beforeF_1, beforeF_2, beforeF_3, beforeF_4, beforeF_5, beforeF_6, beforeF_7]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq, afterF_0, afterF_1, afterF_2, afterF_3, afterF_4, afterF_5, afterF_6, afterF_7]
  unfold owns
  iintro ⟨⟨⟨⟨%e0, %s0, %hs0, S0⟩, ⟨%e1, %s1, %hs1, S1⟩, ⟨%e2, %s2, %hs2, S2⟩⟩, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩⟩
  iapply ((kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) f0 f1 f2 f3 f4 f5 f6 f7 s0 s1 s2).2.2.2 Set.univ f8 f9 f10 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  iintro ⟨H0, H1, H2, H3, H4, H5, H6, H7, H8, H9, H10, ⟨%z0, S0⟩, ⟨%z1, S1⟩, ⟨%z2, S2⟩⟩
  isplitl [S0 S1 S2 Hp]
  · isplitl [S0 S1 S2]
    · isplitl [S0]
      · iexists _, z0; isplitr; swap; · iexact S0
        ipureintro; rfl
      isplitl [S1]
      · iexists _, z1; isplitr; swap; · iexact S1
        ipureintro; rfl
      iexists _, z2; isplitr; swap; · iexact S2
      ipureintro; rfl
    iexact Hp
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) : BodyObligation (datsF (F := F) m 0 c) (defs₀ (F := F)) Variants.none () Set.univ forgets0 := fun t => by
  rw [bigSep_W0, bigSep_W0, defs₀_row]
  exact triple_restated (sound_bodyF m c t) rfl .rfl fun _ => .rfl

/-- The buffers the lines after the region write. -/
def T1 : Finset (Ref sig .tc) := {main_v49, main_v50, main_v51}

theorem hT1 : ∀ ops ∈ ([hostOps1] : List (List (HloOp τ sig (Elt F)))), ∀ op ∈ ops, ∀ b : Ref sig .tc, Proc.devRef .tc b ∈ op.writes → b ∈ T1 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, StableHlo.unary_writes, Finset.mem_singleton] at hb
    have := Proc.devRef_injective _ hb
    subst this
    decide

set_option backward.isDefEq.respectTransparency.types false in
set_option maxHeartbeats 800000 in
theorem run_mainF (m : (ℓ : Loc nD τ sig) → Buf (Elt F) ℓ) (ρ : Dev nD → PrngReg) : θ_run defs (onTc (τ := τ) (main (F := F))) (s₀ m ρ)
    (fun r => Pipeline.RDat.FramePostR (cfgs 0) (fun c => (datsF m 0 c).toRForget forgets0) T1 (V m) r ∧ r.2.sem = fun _ => 0) :=
  Pipeline.θ_run_frame_around_T_forget (Q' := _) cfgs (datsF m) (0 : Fin 1) launch0 defs₀ Variants.none forgets0 T1 m ρ main
    (hbody := fun c => (body_obligationF m c).loose) (hshare := fun c => (datsF m 0 c).share_full fun _ => rfl)
    (howed := fun _ _ => rfl) (V₀ := V0 m) (opss := [hostOps1]) (hsub := sfx_sub) (hfresh := sfx_fresh) (hkeep := sfx_keeps)
    (hT := hT1)
    (hmain := hmain m Variants.none) (hA := A_eqF m) (hΦ := fun _ _ => rfl)

/-- The frame, at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c)⟩, h.2⟩) (run_mainF m ρ)

end Cert.KernelIdeal.Hand

end
-- ==== Proof.DBodyK.lean ====
/- The kernel's body, run once by the symbolic executor over its five counted loops: from the staging memrefs and the
   scratch at any contents it returns with the inputs unchanged and each output overwritten by a list of pieces, a function
   of the contents the body began with. -/
module

public import proofs.«01_k».proof.Proof.Gen.Down.Frame
public import proofs.«01_k».proof.Proof.Gen.Down.Loops
public import Idealize.ShloMosaic.Lib.Claim

@[expose] public section

set_option maxRecDepth 16384

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

set_option maxHeartbeats 4000000 in
/-- The body's run: the pieces it leaves in each output (last first) with its triple, for any continuation. -/
@[irreducible] def kernelRun (c : Dev nD) (i : grid0.Coords) (arg2 : Memref sig .tc .vmem S1x128x7168 .i32) (harg2 : arg2.IsWhole) (arg3 : Memref sig .tc .vmem S256x256 .bf16) (harg3 : arg3.IsWhole) (arg4 : Memref sig .tc .vmem S56x192 .bf16) (harg4 : arg4.IsWhole) (arg5 : Memref sig .tc .vmem S32x112 .bf16) (harg5 : arg5.IsWhole) (arg6 : Memref sig .tc .vmem S1x1x1x256 .i32) (harg6 : arg6.IsWhole) (arg7 : Memref sig .tc .vmem S1x256x896 .i32) (harg7 : arg7.IsWhole) (arg8 : Memref sig .tc .vmem S1x1x1x256 .f32) (harg8 : arg8.IsWhole) (arg9 : Memref sig .tc .vmem S1x1x8x256 .f32) (harg9 : arg9.IsWhole) (arg10 : Memref sig .tc .vmem S2x8448x128 .f32) (harg10 : arg10.IsWhole) (arg11 : Memref sig .tc .vmem S64x112x256 .bf16) (harg11 : arg11.IsWhole) (arg12 : Memref sig .tc .vmem S2x1280x128 .i32) (harg12 : arg12.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty) :
    Σ' (L7 : List (View.Piece (Elt F) S1x256x896 .i32)) (C8 : BufTy.Contents (Elt F) arg8.view.ty), { C9 : BufTy.Contents (Elt F) arg9.view.ty // ∀ (E : Set ℕ) (f7 : BufTy.Contents (Elt F) arg7.view.ty) (f8 : BufTy.Contents (Elt F) arg8.view.ty) (f9 : BufTy.Contents (Elt F) arg9.view.ty) (K : PUnit → sProp 𝕄),
      iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} X10)
        ∗ (arg11.view.loc (c : Thread nD τ) ↦[arg11.view.set]{fullShare} X11)
        ∗ (arg12.view.loc (c : Thread nD τ) ↦[arg12.view.set]{fullShare} X12)
        ∗ (iprop((arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (arg7.view.loc (c : Thread nD τ) ↦[arg7.view.set]{fullShare} arg7.view.writes (Elt F) f7 L7)
            ∗ (arg8.view.loc (c : Thread nD τ) ↦[arg8.view.set]{fullShare} C8)
            ∗ (arg9.view.loc (c : Thread nD τ) ↦[arg9.view.set]{fullShare} C9)
            ∗ (∃ s : BufTy.Contents (Elt F) arg10.view.ty, (arg10.view.loc (c : Thread nD τ) ↦[arg10.view.set]{fullShare} s))
            ∗ (∃ s : BufTy.Contents (Elt F) arg11.view.ty, (arg11.view.loc (c : Thread nD τ) ↦[arg11.view.set]{fullShare} s))
            ∗ (∃ s : BufTy.Contents (Elt F) arg12.view.ty, (arg12.view.loc (c : Thread nD τ) ↦[arg12.view.set]{fullShare} s))) -∗ K ⟨⟩))
      ⊢ wp frame (wpE (defs₀ (F := F)) Variants.none (c : Thread nD τ) none) E (cc0_down_fin i arg2 harg2 arg3 harg3 arg4 harg4 arg5 harg5 arg6 harg6 arg7 harg7 arg8 harg8 arg9 harg9 arg10 harg10 arg11 harg11 arg12 harg12) K } := by
  refine ⟨?_, ?_, ?_, fun E f7 f8 f9 K => ?run⟩
  case run =>
    simp only [cc0_down_fin_eq_skeleton]; unfold cc0_down_fin_skel
    iintro ⟨H2, H3, H4, H5, H6, H7, H8, H9, H10, H11, H12, Hk⟩
    sl_exec
    sl_step
    iapply Hk
    sl_close

end Cert.Down.Hand

end
-- ==== Proof.DFrameK.lean ====
/- The frame: every run of the whole program ends, nothing faulting, with the argument arrays unchanged and every
   semaphore counter at zero. The body's triple is `kernelRun`; what the body leaves in the three outputs is not named here. -/
module

public import proofs.«01_k».proof.Proof.DBodyK

@[expose] public section

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three outputs are not named. -/
def forgets0 : Fin 8 → Bool
  | ⟨5, _⟩ => true
  | ⟨6, _⟩ => true
  | ⟨7, _⟩ => true
  | _ => false

/-- The proof data: the arrays as the region finds them; each input's buffer at its block after the body. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
  Φ _ := Pipeline.ΦA spec0 c
  q _ := fullShare
  owed _ := 0

theorem A_eqF (c : Dev nD) (w : Fin cfg0.W) : (datsF m 0 c).A w = V m c (Pipeline.arrRef spec0 w) := by
  dsimp only [datsF]
theorem afterF_0 (c : Dev nD) (t : Fin cfg0.N) : (datsF m 0 c).after 0 t = iblk m c 0 t := by dsimp only [datsF]
theorem beforeF_0 (c : Dev nD) (t : Fin cfg0.N) (d) : (datsF m 0 c).before 0 t d = iblk m c 0 t :=
  before0_0_of m (datsF m 0 c) (A_eqF m c 0) (afterF_0 m c) t d
theorem afterF_1 (c : Dev nD) (t : Fin cfg0.N) : (datsF m 0 c).after 1 t = iblk m c 1 t := by dsimp only [datsF]
theorem beforeF_1 (c : Dev nD) (t : Fin cfg0.N) (d) : (datsF m 0 c).before 1 t d = iblk m c 1 t :=
  before0_1_of m (datsF m 0 c) (A_eqF m c 1) (afterF_1 m c) t d
theorem afterF_2 (c : Dev nD) (t : Fin cfg0.N) : (datsF m 0 c).after 2 t = iblk m c 2 t := by dsimp only [datsF]
theorem beforeF_2 (c : Dev nD) (t : Fin cfg0.N) (d) : (datsF m 0 c).before 2 t d = iblk m c 2 t :=
  before0_2_of m (datsF m 0 c) (A_eqF m c 2) (afterF_2 m c) t d
theorem afterF_3 (c : Dev nD) (t : Fin cfg0.N) : (datsF m 0 c).after 3 t = iblk m c 3 t := by dsimp only [datsF]
theorem beforeF_3 (c : Dev nD) (t : Fin cfg0.N) (d) : (datsF m 0 c).before 3 t d = iblk m c 3 t :=
  before0_3_of m (datsF m 0 c) (A_eqF m c 3) (afterF_3 m c) t d
theorem afterF_4 (c : Dev nD) (t : Fin cfg0.N) : (datsF m 0 c).after 4 t = iblk m c 4 t := by dsimp only [datsF]
theorem beforeF_4 (c : Dev nD) (t : Fin cfg0.N) (d) : (datsF m 0 c).before 4 t d = iblk m c 4 t :=
  before0_4_of m (datsF m 0 c) (A_eqF m c 4) (afterF_4 m c) t d

/-- The class's invariant, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ (∃ r, prngReg c r)) := by
  unfold Pipeline.ΦA; rw [scopedRest0_eq]; simp only [owns_whole]; try rfl

/-- What the body is called with at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

/-- What the body returns. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

set_option maxHeartbeats 1000000 in
theorem sound_bodyF (c : Dev nD) (t : Fin cfg0.N) :
    bodyPreF m c t ⊢ wp frame (wpE (defs₀ (F := F)) Variants.none (c : Thread nD τ) none) Set.univ (bodyAt0 t) (fun _ => bodyPostF m c t) := by
  unfold bodyPreF bodyPostF bodyAt0
  simp only [beforeF_0, beforeF_1, beforeF_2, beforeF_3, beforeF_4]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq, afterF_0, afterF_1, afterF_2, afterF_3, afterF_4]
  unfold owns
  iintro ⟨⟨⟨⟨%e0, %s0, %hs0, S0⟩, ⟨%e1, %s1, %hs1, S1⟩, ⟨%e2, %s2, %hs2, S2⟩⟩, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  iapply ((kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) f0 f1 f2 f3 f4 s0 s1 s2).2.2.2 Set.univ f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  iintro ⟨H0, H1, H2, H3, H4, H5, H6, H7, ⟨%z0, S0⟩, ⟨%z1, S1⟩, ⟨%z2, S2⟩⟩
  isplitl [S0 S1 S2 Hp]
  · isplitl [S0 S1 S2]
    · isplitl [S0]
      · iexists _, z0; isplitr; swap; · iexact S0
        ipureintro; rfl
      isplitl [S1]
      · iexists _, z1; isplitr; swap; · iexact S1
        ipureintro; rfl
      iexists _, z2; isplitr; swap; · iexact S2
      ipureintro; rfl
    iexact Hp
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) : BodyObligation (datsF (F := F) m 0 c) (defs₀ (F := F)) Variants.none () Set.univ forgets0 := fun t => by
  rw [bigSep_W0, bigSep_W0, defs₀_row]
  exact triple_restated (sound_bodyF m c t) rfl .rfl fun _ => .rfl

/-- The buffers the lines after the region write. -/
def T1 : Finset (Ref sig .tc) := {main_v32, main_v33, main_v34}

theorem hT1 : ∀ ops ∈ ([hostOps1] : List (List (HloOp τ sig (Elt F)))), ∀ op ∈ ops, ∀ b : Ref sig .tc, Proc.devRef .tc b ∈ op.writes → b ∈ T1 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, StableHlo.unary_writes, Finset.mem_singleton] at hb
    have := Proc.devRef_injective _ hb
    subst this
    decide

set_option backward.isDefEq.respectTransparency.types false in
set_option maxHeartbeats 800000 in
theorem run_mainF (m : (ℓ : Loc nD τ sig) → Buf (Elt F) ℓ) (ρ : Dev nD → PrngReg) : θ_run defs (onTc (τ := τ) (main (F := F))) (s₀ m ρ)
    (fun r => Pipeline.RDat.FramePostR (cfgs 0) (fun c => (datsF m 0 c).toRForget forgets0) T1 (V m) r ∧ r.2.sem = fun _ => 0) :=
  Pipeline.θ_run_frame_around_T_forget (Q' := _) cfgs (datsF m) (0 : Fin 1) launch0 defs₀ Variants.none forgets0 T1 m ρ main
    (hbody := fun c => (body_obligationF m c).loose) (hshare := fun c => (datsF m 0 c).share_full fun _ => rfl)
    (howed := fun _ _ => rfl) (V₀ := V0 m) (opss := [hostOps1]) (hsub := sfx_sub) (hfresh := sfx_fresh) (hkeep := sfx_keeps)
    (hT := hT1)
    (hmain := hmain m Variants.none) (hA := A_eqF m) (hΦ := fun _ _ => rfl)

/-- The frame, at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((congrFun (Pipeline.RDat.ArrAt_in ((datsF m 0 c).toRForget forgets0) 0 rfl (cfgs 0).N) _).mp ((h.1 c).1 0)).trans ((A_eqF m c 0).trans (V_main_arg0 m c)),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c)⟩, h.2⟩) (run_mainF m ρ)

end Cert.Down.Hand

end
-- ==== Proof.DBodyIdeal.lean ====
/- The kernel's body, run once by the symbolic executor over its five counted loops: from the staging memrefs and the
   scratch at any contents it returns with the inputs unchanged and each output overwritten by a list of pieces, a function
   of the contents the body began with. -/
module

public import proofs.«01_k».proof.Proof.Gen.DownIdeal.Frame
public import proofs.«01_k».proof.Proof.Gen.DownIdeal.Loops
public import Idealize.ShloMosaic.Lib.Claim

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 4000000 in
/-- The body's run: the pieces it leaves in each output (last first) with its triple, for any continuation. -/
@[irreducible] def kernelRun (c : Dev nD) (i : grid0.Coords) (arg2 : Memref sig .tc .vmem S1x128x7168 .i32) (harg2 : arg2.IsWhole) (arg3 : Memref sig .tc .vmem S256x256 .bf16) (harg3 : arg3.IsWhole) (arg4 : Memref sig .tc .vmem S56x192 .bf16) (harg4 : arg4.IsWhole) (arg5 : Memref sig .tc .vmem S32x112 .bf16) (harg5 : arg5.IsWhole) (arg6 : Memref sig .tc .vmem S1x1x1x256 .i32) (harg6 : arg6.IsWhole) (arg7 : Memref sig .tc .vmem S1x256x896 .i32) (harg7 : arg7.IsWhole) (arg8 : Memref sig .tc .vmem S1x1x1x256 .f32) (harg8 : arg8.IsWhole) (arg9 : Memref sig .tc .vmem S1x1x8x256 .f32) (harg9 : arg9.IsWhole) (arg10 : Memref sig .tc .vmem S2x8448x128 .f32) (harg10 : arg10.IsWhole) (arg11 : Memref sig .tc .vmem S64x112x256 .bf16) (harg11 : arg11.IsWhole) (arg12 : Memref sig .tc .vmem S2x1280x128 .i32) (harg12 : arg12.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty) :
    Σ' (L7 : List (View.Piece (Elt F) S1x256x896 .i32)) (C8 : BufTy.Contents (Elt F) arg8.view.ty), { C9 : BufTy.Contents (Elt F) arg9.view.ty // ∀ (E : Set ℕ) (f7 : BufTy.Contents (Elt F) arg7.view.ty) (f8 : BufTy.Contents (Elt F) arg8.view.ty) (f9 : BufTy.Contents (Elt F) arg9.view.ty) (K : PUnit → sProp 𝕄),
      iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} X10)
        ∗ (arg11.view.loc (c : Thread nD τ) ↦[arg11.view.set]{fullShare} X11)
        ∗ (arg12.view.loc (c : Thread nD τ) ↦[arg12.view.set]{fullShare} X12)
        ∗ (iprop((arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (arg7.view.loc (c : Thread nD τ) ↦[arg7.view.set]{fullShare} arg7.view.writes (Elt F) f7 L7)
            ∗ (arg8.view.loc (c : Thread nD τ) ↦[arg8.view.set]{fullShare} C8)
            ∗ (arg9.view.loc (c : Thread nD τ) ↦[arg9.view.set]{fullShare} C9)
            ∗ (∃ s : BufTy.Contents (Elt F) arg10.view.ty, (arg10.view.loc (c : Thread nD τ) ↦[arg10.view.set]{fullShare} s))
            ∗ (∃ s : BufTy.Contents (Elt F) arg11.view.ty, (arg11.view.loc (c : Thread nD τ) ↦[arg11.view.set]{fullShare} s))
            ∗ (∃ s : BufTy.Contents (Elt F) arg12.view.ty, (arg12.view.loc (c : Thread nD τ) ↦[arg12.view.set]{fullShare} s))) -∗ K ⟨⟩))
      ⊢ wp frame (wpE (defs₀ (F := F)) Variants.none (c : Thread nD τ) none) E (cc0_down_fin i arg2 harg2 arg3 harg3 arg4 harg4 arg5 harg5 arg6 harg6 arg7 harg7 arg8 harg8 arg9 harg9 arg10 harg10 arg11 harg11 arg12 harg12) K } := by
  refine ⟨?_, ?_, ?_, fun E f7 f8 f9 K => ?run⟩
  case run =>
    simp only [cc0_down_fin_eq_skeleton]; unfold cc0_down_fin_skel
    iintro ⟨H2, H3, H4, H5, H6, H7, H8, H9, H10, H11, H12, Hk⟩
    sl_exec
    sl_step
    iapply Hk
    sl_close

end Cert.DownIdeal.Hand

end
-- ==== Proof.DFrameIdeal.lean ====
/- The frame: every run of the whole program ends, nothing faulting, with the argument arrays unchanged and every
   semaphore counter at zero. The body's triple is `kernelRun`; what the body leaves in the three outputs is not named here. -/
module

public import proofs.«01_k».proof.Proof.DBodyIdeal

@[expose] public section

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three outputs are not named. -/
def forgets0 : Fin 8 → Bool
  | ⟨5, _⟩ => true
  | ⟨6, _⟩ => true
  | ⟨7, _⟩ => true
  | _ => false

/-- The proof data: the arrays as the region finds them; each input's buffer at its block after the body. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
  Φ _ := Pipeline.ΦA spec0 c
  q _ := fullShare
  owed _ := 0

theorem A_eqF (c : Dev nD) (w : Fin cfg0.W) : (datsF m 0 c).A w = V m c (Pipeline.arrRef spec0 w) := by
  dsimp only [datsF]
theorem afterF_0 (c : Dev nD) (t : Fin cfg0.N) : (datsF m 0 c).after 0 t = iblk m c 0 t := by dsimp only [datsF]
theorem beforeF_0 (c : Dev nD) (t : Fin cfg0.N) (d) : (datsF m 0 c).before 0 t d = iblk m c 0 t :=
  before0_0_of m (datsF m 0 c) (A_eqF m c 0) (afterF_0 m c) t d
theorem afterF_1 (c : Dev nD) (t : Fin cfg0.N) : (datsF m 0 c).after 1 t = iblk m c 1 t := by dsimp only [datsF]
theorem beforeF_1 (c : Dev nD) (t : Fin cfg0.N) (d) : (datsF m 0 c).before 1 t d = iblk m c 1 t :=
  before0_1_of m (datsF m 0 c) (A_eqF m c 1) (afterF_1 m c) t d
theorem afterF_2 (c : Dev nD) (t : Fin cfg0.N) : (datsF m 0 c).after 2 t = iblk m c 2 t := by dsimp only [datsF]
theorem beforeF_2 (c : Dev nD) (t : Fin cfg0.N) (d) : (datsF m 0 c).before 2 t d = iblk m c 2 t :=
  before0_2_of m (datsF m 0 c) (A_eqF m c 2) (afterF_2 m c) t d
theorem afterF_3 (c : Dev nD) (t : Fin cfg0.N) : (datsF m 0 c).after 3 t = iblk m c 3 t := by dsimp only [datsF]
theorem beforeF_3 (c : Dev nD) (t : Fin cfg0.N) (d) : (datsF m 0 c).before 3 t d = iblk m c 3 t :=
  before0_3_of m (datsF m 0 c) (A_eqF m c 3) (afterF_3 m c) t d
theorem afterF_4 (c : Dev nD) (t : Fin cfg0.N) : (datsF m 0 c).after 4 t = iblk m c 4 t := by dsimp only [datsF]
theorem beforeF_4 (c : Dev nD) (t : Fin cfg0.N) (d) : (datsF m 0 c).before 4 t d = iblk m c 4 t :=
  before0_4_of m (datsF m 0 c) (A_eqF m c 4) (afterF_4 m c) t d

/-- The class's invariant, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ (∃ r, prngReg c r)) := by
  unfold Pipeline.ΦA; rw [scopedRest0_eq]; simp only [owns_whole]; try rfl

/-- What the body is called with at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

/-- What the body returns. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

set_option maxHeartbeats 1000000 in
theorem sound_bodyF (c : Dev nD) (t : Fin cfg0.N) :
    bodyPreF m c t ⊢ wp frame (wpE (defs₀ (F := F)) Variants.none (c : Thread nD τ) none) Set.univ (bodyAt0 t) (fun _ => bodyPostF m c t) := by
  unfold bodyPreF bodyPostF bodyAt0
  simp only [beforeF_0, beforeF_1, beforeF_2, beforeF_3, beforeF_4]
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq, afterF_0, afterF_1, afterF_2, afterF_3, afterF_4]
  unfold owns
  iintro ⟨⟨⟨⟨%e0, %s0, %hs0, S0⟩, ⟨%e1, %s1, %hs1, S1⟩, ⟨%e2, %s2, %hs2, S2⟩⟩, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  iapply ((kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) f0 f1 f2 f3 f4 s0 s1 s2).2.2.2 Set.univ f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  iintro ⟨H0, H1, H2, H3, H4, H5, H6, H7, ⟨%z0, S0⟩, ⟨%z1, S1⟩, ⟨%z2, S2⟩⟩
  isplitl [S0 S1 S2 Hp]
  · isplitl [S0 S1 S2]
    · isplitl [S0]
      · iexists _, z0; isplitr; swap; · iexact S0
        ipureintro; rfl
      isplitl [S1]
      · iexists _, z1; isplitr; swap; · iexact S1
        ipureintro; rfl
      iexists _, z2; isplitr; swap; · iexact S2
      ipureintro; rfl
    iexact Hp
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) : BodyObligation (datsF (F := F) m 0 c) (defs₀ (F := F)) Variants.none () Set.univ forgets0 := fun t => by
  rw [bigSep_W0, bigSep_W0, defs₀_row]
  exact triple_restated (sound_bodyF m c t) rfl .rfl fun _ => .rfl

/-- The buffers the lines after the region write. -/
def T1 : Finset (Ref sig .tc) := {main_v32, main_v33, main_v34}

theorem hT1 : ∀ ops ∈ ([hostOps1] : List (List (HloOp τ sig (Elt F)))), ∀ op ∈ ops, ∀ b : Ref sig .tc, Proc.devRef .tc b ∈ op.writes → b ∈ T1 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, StableHlo.unary_writes, Finset.mem_singleton] at hb
    have := Proc.devRef_injective _ hb
    subst this
    decide

set_option backward.isDefEq.respectTransparency.types false in
set_option maxHeartbeats 800000 in
theorem run_mainF (m : (ℓ : Loc nD τ sig) → Buf (Elt F) ℓ) (ρ : Dev nD → PrngReg) : θ_run defs (onTc (τ := τ) (main (F := F))) (s₀ m ρ)
    (fun r => Pipeline.RDat.FramePostR (cfgs 0) (fun c => (datsF m 0 c).toRForget forgets0) T1 (V m) r ∧ r.2.sem = fun _ => 0) :=
  Pipeline.θ_run_frame_around_T_forget (Q' := _) cfgs (datsF m) (0 : Fin 1) launch0 defs₀ Variants.none forgets0 T1 m ρ main
    (hbody := fun c => (body_obligationF m c).loose) (hshare := fun c => (datsF m 0 c).share_full fun _ => rfl)
    (howed := fun _ _ => rfl) (V₀ := V0 m) (opss := [hostOps1]) (hsub := sfx_sub) (hfresh := sfx_fresh) (hkeep := sfx_keeps)
    (hT := hT1)
    (hmain := hmain m Variants.none) (hA := A_eqF m) (hΦ := fun _ _ => rfl)

/-- The frame, at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((congrFun (Pipeline.RDat.ArrAt_in ((datsF m 0 c).toRForget forgets0) 0 rfl (cfgs 0).N) _).mp ((h.1 c).1 0)).trans ((A_eqF m c 0).trans (V_main_arg0 m c)),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c)⟩, h.2⟩) (run_mainF m ρ)

end Cert.DownIdeal.Hand

end
-- ==== Proof.ValA.lean ====
module
public import proofs.«01_k».proof.Proof.BodyIdeal
public import Idealize.ShloMosaic.Lib.Pointwise
/-! What the first loop of the kernel leaves in its scratch array. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI

/-- The weight of row `r`, column `c` of a block: code times tile scale times column scale. -/
def bW (x2 x3 : ℕ → ℕ → EReal) (x4 : ℕ → EReal) (r c : ℕ) : EReal := x2 r c * x3 (r / 128) c * x4 c

/-- The first rotation: entry `j` of the `a`-th group of 64 columns of row `r`, from the four-fold block
    diagonal matrix `x5`. -/
def bT (x2 x3 : ℕ → ℕ → EReal) (x4 : ℕ → EReal) (x5 : ℕ → ℕ → EReal) (a j r : ℕ) : EReal :=
  ∑ p : Fin 256, x5 (64 * (a % 4) + j) p.val * bW x2 x3 x4 r (256 * (a / 4) + p.val)

theorem off1_eq : ∀ k, k0_off1 k = ![0, 0, 256 * k.val] := by decide
theorem off2_eq : ∀ k, k0_off2 k = ![0, 0, 256 * k.val] := by decide
theorem off3_eq : ∀ k, k0_off3 k = ![0, 0, 0, 256 * k.val] := by decide
theorem off4_eq : ∀ k, k0_off4 k = ![0, 128, 256 * k.val] := by decide
theorem off5_eq : ∀ k, k0_off5 k = ![0, 0, 1, 256 * k.val] := by decide
theorem off6_eq0 : ∀ k, k0_off6 k 0#32 = ![0, 72 * (4 * k.val + 0), 0] := by decide
theorem off6_eq1 : ∀ k, k0_off6 k 1#32 = ![0, 72 * (4 * k.val + 1), 0] := by decide
theorem off6_eq2 : ∀ k, k0_off6 k 2#32 = ![0, 72 * (4 * k.val + 2), 0] := by decide
theorem off6_eq3 : ∀ k, k0_off6 k 3#32 = ![0, 72 * (4 * k.val + 3), 0] := by decide
theorem off7_eq0 : ∀ k, k0_off7 k 0#32 = ![1, 72 * (4 * k.val + 0), 0] := by decide
theorem off7_eq1 : ∀ k, k0_off7 k 1#32 = ![1, 72 * (4 * k.val + 1), 0] := by decide
theorem off7_eq2 : ∀ k, k0_off7 k 2#32 = ![1, 72 * (4 * k.val + 2), 0] := by decide
theorem off7_eq3 : ∀ k, k0_off7 k 3#32 = ![1, 72 * (4 * k.val + 3), 0] := by decide

theorem pay3_apply (v207 : Vec Ideal S1x1x256 .f32) (v210 : Vec Ideal S1x128x256 .fp8e4m3) (v214 : Vec Ideal S1x1x1x256 .f32) (v224 : Vec Ideal S1x128x256 .fp8e4m3) (v228 : Vec Ideal S1x1x1x256 .f32) (v238 : Vec Ideal S256x256 .bf16) (p r : Fin 256) : k0_pay3 v207 v210 v214 v224 v228 v238 (ix2 p r)
    = ∑ x : Fin 256, v238 (ix2 p x) * (if h : r.val < 128 then v210 (ix3 0 ⟨r.val, h⟩ x) * v214 (ix4 0 0 0 x) * v207 (ix3 0 0 x)
        else v224 (ix3 0 ⟨r.val - 128, by omega⟩ x) * v228 (ix4 0 0 0 x) * v207 (ix3 0 0 x)) := by
  pointwise [k0_pay3]

theorem pay5_apply (v : FVec Ideal S256x256 .f32) (p : Fin 64) (l : Fin 128) : k0_pay5 v (ix3 0 p l) = v (ix2 ⟨0 + p.val, by omega⟩ ⟨0 + l.val, by omega⟩) := by
  pointwise [k0_pay5, k0_pay4]

theorem pay6_apply (v : FVec Ideal S256x256 .f32) (p : Fin 64) (l : Fin 128) : k0_pay6 v (ix3 0 p l) = v (ix2 ⟨0 + p.val, by omega⟩ ⟨128 + l.val, by omega⟩) := by
  pointwise [k0_pay6, k0_pay4]

theorem pay8_apply (v : FVec Ideal S256x256 .f32) (p : Fin 64) (l : Fin 128) : k0_pay8 v (ix3 0 p l) = v (ix2 ⟨64 + p.val, by omega⟩ ⟨0 + l.val, by omega⟩) := by
  pointwise [k0_pay8, k0_pay7]

theorem pay9_apply (v : FVec Ideal S256x256 .f32) (p : Fin 64) (l : Fin 128) : k0_pay9 v (ix3 0 p l) = v (ix2 ⟨64 + p.val, by omega⟩ ⟨128 + l.val, by omega⟩) := by
  pointwise [k0_pay9, k0_pay7]

theorem pay11_apply (v : FVec Ideal S256x256 .f32) (p : Fin 64) (l : Fin 128) : k0_pay11 v (ix3 0 p l) = v (ix2 ⟨128 + p.val, by omega⟩ ⟨0 + l.val, by omega⟩) := by
  pointwise [k0_pay11, k0_pay10]

theorem pay111_apply (v : FVec Ideal S256x256 .f32) (p : Fin 64) (l : Fin 128) : k0_pay111 v (ix3 0 p l) = v (ix2 ⟨192 + p.val, by omega⟩ ⟨0 + l.val, by omega⟩) := by
  pointwise [k0_pay111, k0_pay110]

theorem pay112_apply (v : FVec Ideal S256x256 .f32) (p : Fin 64) (l : Fin 128) : k0_pay112 v (ix3 0 p l) = v (ix2 ⟨192 + p.val, by omega⟩ ⟨128 + l.val, by omega⟩) := by
  pointwise [k0_pay112, k0_pay110]

theorem pay109_apply (v : FVec Ideal S256x256 .f32) (p : Fin 64) (l : Fin 128) : k0_pay109 (k0_pay12 v) (ix3 0 p l) = v (ix2 ⟨128 + p.val, by omega⟩ ⟨128 + l.val, by omega⟩) := by
  pointwise [k0_pay109, k0_pay12, k0_pay10]

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X2 : BufTy.Contents (Elt Ideal) arg2.view.ty} {X3 : BufTy.Contents (Elt Ideal) arg3.view.ty} {X4 : BufTy.Contents (Elt Ideal) arg4.view.ty} {X5 : BufTy.Contents (Elt Ideal) arg5.view.ty}
  {x2 x3 : ℕ → ℕ → EReal} {x4 : ℕ → EReal} {x5 : ℕ → ℕ → EReal}
  (h2 : ∀ y, arg2.view.read (Elt Ideal) X2 y = x2 (y 1).val (y 2).val)
  (h3 : ∀ y, arg3.view.read (Elt Ideal) X3 y = x3 (y 2).val (y 3).val)
  (h4 : ∀ y, arg4.view.read (Elt Ideal) X4 y = x4 (y 2).val)
  (h5 : ∀ y, arg5.view.read (Elt Ideal) X5 y = x5 (y 0).val (y 1).val)
  {c : Dev nD} {i : grid0.Coords}

include h2 h3 h4 h5 in
/-- One trip's product: entry `(p, r)` is the first rotation's. -/
theorem t1_prod (k : Fin k0_t1_loop.trips) (p r : Fin 256) :
    trip_k0_t1.sl.r (F := Ideal) arg2 arg3 arg4 arg5 X2 X3 X4 X5 k (ix2 p r)
      = ∑ x : Fin 256, x5 p.val x.val * bW x2 x3 x4 r.val (256 * k.val + x.val) := by
  unfold trip_k0_t1.sl.r
  rw [pay3_apply]
  refine Finset.sum_congr rfl fun x _ => ?_
  simp only [View.readAt_apply, h2, h3, h4, h5]
  simp only [LoadRect.idx, Rect.toLoadRect, Rect.unit, off1_eq, off2_eq, off3_eq, off4_eq, off5_eq, bW]
  have hp := r.isLt
  split
  · next h =>
    have e : r.val / 128 = 0 := by omega
    simp [e]
  · next h =>
    have e : r.val / 128 = 1 := by omega
    have e' : 128 + (r.val - 128) = r.val := by omega
    simp [e, e']

/-- What the first scratch array holds at `(h, ρ, l)`. -/
def G13 (x2 x3 : ℕ → ℕ → EReal) (x4 : ℕ → EReal) (x5 : ℕ → ℕ → EReal) (h ρ l : ℕ) : EReal :=
  bT x2 x3 x4 x5 (ρ / 72) (ρ % 72) (128 * h + l)

include h2 h3 h4 h5 in
theorem t1_entry (k : Fin k0_t1_loop.trips) (s p h l : ℕ) (hs : s < 4) (hp : p < 64) (hh : h < 2) (hl : l < 128) :
    trip_k0_t1.sl.r (F := Ideal) arg2 arg3 arg4 arg5 X2 X3 X4 X5 k (ix2 ⟨64 * s + p, by omega⟩ ⟨128 * h + l, by omega⟩)
      = G13 x2 x3 x4 x5 h (72 * (4 * k.val + s) + p) l := by
  rw [t1_prod h2 h3 h4 h5]
  unfold G13 bT
  have e1 : (72 * (4 * k.val + s) + p) / 72 = 4 * k.val + s := by omega
  have e2 : (72 * (4 * k.val + s) + p) % 72 = p := by omega
  have e3 : (4 * k.val + s) % 4 = s := by omega
  have e4 : (4 * k.val + s) / 4 = k.val := by omega
  rw [e1, e2, e3, e4]

include h2 h3 h4 h5 in
theorem t1_agree (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 k, ∀ x,
      p.2 x = G13 x2 x3 x4 x5 (p.1.emb x 0).val (p.1.emb x 1).val (p.1.emb x 2).val := by
  intro p hp
  unfold tripL_k0_t1 trip_k0_t1 at hp
  simp only [List.mem_cons, List.not_mem_nil, or_false] at hp
  rcases hp with rfl | rfl | rfl | rfl | rfl | rfl | rfl | rfl <;> intro x <;>
    obtain ⟨a, b, d, rfl⟩ : ∃ (a : Fin 1) (b : Fin 64) (d : Fin 128), x = ix3 a b d := ⟨_, _, _, eq_ix3 x⟩ <;>
    obtain rfl : a = 0 := Subsingleton.elim _ _
  · refine Eq.trans (b := G13 x2 x3 x4 x5 1 (72 * (4 * k.val + 3) + b.val) d.val) ?_ ?_
    · exact (pay112_apply _ b d).trans (t1_entry h2 h3 h4 h5 k 3 b.val 1 d.val (by omega) b.isLt (by omega) d.isLt)
    · simp only [Rect.emb_apply, Rect.off_unit, Rect.stride_unit, off7_eq3]; simp
  · refine Eq.trans (b := G13 x2 x3 x4 x5 0 (72 * (4 * k.val + 3) + b.val) d.val) ?_ ?_
    · exact (pay111_apply _ b d).trans (t1_entry h2 h3 h4 h5 k 3 b.val 0 d.val (by omega) b.isLt (by omega) d.isLt)
    · simp only [Rect.emb_apply, Rect.off_unit, Rect.stride_unit, off6_eq3]; simp
  · refine Eq.trans (b := G13 x2 x3 x4 x5 1 (72 * (4 * k.val + 2) + b.val) d.val) ?_ ?_
    · unfold trip_k0_t1.sl.v281; exact (pay109_apply _ b d).trans (t1_entry h2 h3 h4 h5 k 2 b.val 1 d.val (by omega) b.isLt (by omega) d.isLt)
    · simp only [Rect.emb_apply, Rect.off_unit, Rect.stride_unit, off7_eq2]; simp
  · refine Eq.trans (b := G13 x2 x3 x4 x5 0 (72 * (4 * k.val + 2) + b.val) d.val) ?_ ?_
    · unfold trip_k0_t1.sl.v280; exact (pay11_apply _ b d).trans (t1_entry h2 h3 h4 h5 k 2 b.val 0 d.val (by omega) b.isLt (by omega) d.isLt)
    · simp only [Rect.emb_apply, Rect.off_unit, Rect.stride_unit, off6_eq2]; simp
  · refine Eq.trans (b := G13 x2 x3 x4 x5 1 (72 * (4 * k.val + 1) + b.val) d.val) ?_ ?_
    · unfold trip_k0_t1.sl.v270; exact (pay9_apply _ b d).trans (t1_entry h2 h3 h4 h5 k 1 b.val 1 d.val (by omega) b.isLt (by omega) d.isLt)
    · simp only [Rect.emb_apply, Rect.off_unit, Rect.stride_unit, off7_eq1]; simp
  · refine Eq.trans (b := G13 x2 x3 x4 x5 0 (72 * (4 * k.val + 1) + b.val) d.val) ?_ ?_
    · unfold trip_k0_t1.sl.v265; exact (pay8_apply _ b d).trans (t1_entry h2 h3 h4 h5 k 1 b.val 0 d.val (by omega) b.isLt (by omega) d.isLt)
    · simp only [Rect.emb_apply, Rect.off_unit, Rect.stride_unit, off6_eq1]; simp
  · refine Eq.trans (b := G13 x2 x3 x4 x5 1 (72 * (4 * k.val + 0) + b.val) d.val) ?_ ?_
    · unfold trip_k0_t1.sl.v255; exact (pay6_apply _ b d).trans (t1_entry h2 h3 h4 h5 k 0 b.val 1 d.val (by omega) b.isLt (by omega) d.isLt)
    · simp only [Rect.emb_apply, Rect.off_unit, Rect.stride_unit, off7_eq0]; simp
  · refine Eq.trans (b := G13 x2 x3 x4 x5 0 (72 * (4 * k.val + 0) + b.val) d.val) ?_ ?_
    · unfold trip_k0_t1.sl.v250; exact (pay5_apply _ b d).trans (t1_entry h2 h3 h4 h5 k 0 b.val 0 d.val (by omega) b.isLt (by omega) d.isLt)
    · simp only [Rect.emb_apply, Rect.off_unit, Rect.stride_unit, off6_eq0]; simp

theorem mem_pb {α : Type*} {T : ℕ} (pb : ℕ → List α) (L : Fin T → List α) (h0 : pb 0 = []) (hs : ∀ k : Fin T, pb (k.val + 1) = L k ++ pb k.val) :
    ∀ n, n ≤ T → ∀ p, p ∈ pb n ↔ ∃ k : Fin T, k.val < n ∧ p ∈ L k := by
  intro n
  induction n with
  | zero => intro _ p; simp [h0]
  | succ n ih =>
    intro hn p
    rw [hs ⟨n, hn⟩, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases e : k.val = n
      · left; subst e; exact h
      · right; exact ⟨k, by omega, h⟩

end

/-- The contents of the first scratch array after the first loop. -/
abbrev C13 (arg2 : Memref sig .tc .vmem S1x256x4096 .fp8e4m3) (harg2 : arg2.IsWhole) (arg3 : Memref sig .tc .vmem S1x1x2x4096 .f32) (harg3 : arg3.IsWhole) (arg4 : Memref sig .tc .vmem S1x1x4096 .f32) (harg4 : arg4.IsWhole) (arg5 : Memref sig .tc .vmem S256x256 .bf16) (harg5 : arg5.IsWhole) (arg6 : Memref sig .tc .vmem S64x192 .bf16) (harg6 : arg6.IsWhole) (arg7 : Memref sig .tc .vmem S256x256 .bf16) (harg7 : arg7.IsWhole) (arg8 : Memref sig .tc .vmem S64x256 .bf16) (harg8 : arg8.IsWhole) (arg9 : Memref sig .tc .vmem S1x1x1x256 .i32) (harg9 : arg9.IsWhole) (arg10 : Memref sig .tc .vmem S1x256x512 .i32) (harg10 : arg10.IsWhole) (arg11 : Memref sig .tc .vmem S1x1x1x256 .f32) (harg11 : arg11.IsWhole) (arg12 : Memref sig .tc .vmem S1x1x8x256 .f32) (harg12 : arg12.IsWhole) (arg13 : Memref sig .tc .vmem S2x4608x128 .f32) (harg13 : arg13.IsWhole) (arg14 : Memref sig .tc .vmem S64x64x256 .bf16) (harg14 : arg14.IsWhole) (arg15 : Memref sig .tc .vmem S2x576x128 .i32) (harg15 : arg15.IsWhole)
     (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (c : Dev nD) (i : grid0.Coords) (X13 : BufTy.Contents (Elt Ideal) arg13.view.ty) : BufTy.Contents (Elt Ideal) arg13.view.ty :=
  arg13.view.writes (Elt Ideal) X13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 k0_t1_loop.trips)

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X2 : BufTy.Contents (Elt Ideal) arg2.view.ty} {X3 : BufTy.Contents (Elt Ideal) arg3.view.ty} {X4 : BufTy.Contents (Elt Ideal) arg4.view.ty} {X5 : BufTy.Contents (Elt Ideal) arg5.view.ty}
  {x2 x3 : ℕ → ℕ → EReal} {x4 : ℕ → EReal} {x5 : ℕ → ℕ → EReal}
  (h2 : ∀ y, arg2.view.read (Elt Ideal) X2 y = x2 (y 1).val (y 2).val)
  (h3 : ∀ y, arg3.view.read (Elt Ideal) X3 y = x3 (y 2).val (y 3).val)
  (h4 : ∀ y, arg4.view.read (Elt Ideal) X4 y = x4 (y 2).val)
  (h5 : ∀ y, arg5.view.read (Elt Ideal) X5 y = x5 (y 0).val (y 1).val)
  {c : Dev nD} {i : grid0.Coords}

include h2 h3 h4 h5 in
theorem C13_read (X13 : BufTy.Contents (Elt Ideal) arg13.view.ty) (a j : ℕ) (ha : a < 64) (hj : j < 64) (y : S2x4608x128.Idx) (hy : (y 1).val = 72 * a + j) :
    arg13.view.read (Elt Ideal) (C13 arg2 harg2 arg3 harg3 arg4 harg4 arg5 harg5 arg6 harg6 arg7 harg7 arg8 harg8 arg9 harg9 arg10 harg10 arg11 harg11 arg12 harg12 arg13 harg13 arg14 harg14 arg15 harg15 X2 X3 X4 X5 c i X13) y = bT x2 x3 x4 x5 a j (128 * (y 0).val + (y 2).val) := by
  have hT : k0_t1_loop.trips = 16 := by decide
  have key := mem_pb (T := k0_t1_loop.trips) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5)
    (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5) (by first | rfl | (rw [pb_k0_t1.eq_1])) (fun k => pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 k) _ le_rfl
  refine (View.read_writes_apply_of_pieces arg13.view _ (fun y => G13 x2 x3 x4 x5 (y 0).val (y 1).val (y 2).val) _ ?_ y ?_).trans ?_
  · intro p hp
    obtain ⟨k, _, hk⟩ := (key p).1 hp
    exact t1_agree h2 h3 h4 h5 k p hk
  · have h0 : (y 0).val < 2 := (y 0).isLt
    have hl : (y 2).val < 128 := (y 2).isLt
    obtain ⟨s, q, rfl, hs⟩ : ∃ s q, a = 4 * q + s ∧ s < 4 := ⟨a % 4, a / 4, by omega, by omega⟩
    have hq : q < k0_t1_loop.trips := by omega
    have cov : ∃ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 ⟨q, hq⟩, y ∈ p.1.set := by
      unfold tripL_k0_t1 trip_k0_t1
      have h01 : (y 0).val = 0 ∨ (y 0).val = 1 := by omega
      have hs4 : s = 0 ∨ s = 1 ∨ s = 2 ∨ s = 3 := by omega
      simp only [List.exists_mem_cons_iff, List.not_mem_nil, false_and, exists_false, or_false, Rect.mem_set_unit, Fin.forall_fin_succ, off6_eq0, off6_eq1, off6_eq2, off6_eq3, off7_eq0, off7_eq1, off7_eq2, off7_eq3]
      simp
      omega
    obtain ⟨p, hp, hyp⟩ := cov
    exact ⟨p, (key p).2 ⟨⟨q, hq⟩, hq, hp⟩, hyp⟩
  · unfold G13
    rw [hy]
    congr 1 <;> omega
end

end Cert.KernelIdeal.Hand
end
-- ==== Proof.DValA.lean ====
module
public import proofs.«01_k».proof.Proof.DBodyIdeal
public import proofs.«01_k».proof.Proof.ValA
public import Idealize.ShloMosaic.Lib.Pointwise
public import Idealize.ShloMosaic.Lib.BitcastPair
/-! What the first loop of the second kernel leaves in its scratch array. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (mem_pb)

/-- The weight at row `r`, column `c` of a block of word pairs: an even row is the low half of a word. -/
def bW (W : ℕ → ℕ → BitVec 32) (r c : ℕ) : EReal := Ideal.ofBits FTy.bf16 ((W (r / 2) c).extractLsb' (16 * (r % 2)) 16)

/-- The first rotation: entry `j` of the `a`-th group of 256 columns of row `r`; past the 28 groups, zero. -/
def bT (W : ℕ → ℕ → BitVec 32) (x3 : ℕ → ℕ → EReal) (a j r : ℕ) : EReal :=
  if a < 28 then ∑ p : Fin 256, x3 j p.val * bW W r (256 * a + p.val) else 0

theorem off1_eq : ∀ k, k0_off1 k = ![0, 0, 256 * k.val] := by decide
theorem off2_eq : ∀ k, k0_off2 k = ![0, 264 * k.val, 0] := by decide
theorem off3_eq : ∀ k, k0_off3 k = ![1, 264 * k.val, 0] := by decide

theorem unpack_apply (v : IVec S128x256 32) (h : S128x256.Bitcasts 32 S256x256 16) (r x : Fin 256) :
    (bitcastToFloat (F := Ideal) .bf16 (bitcast S256x256 16 v h) : FVec Ideal S256x256 .bf16) (ix2 r x)
      = Ideal.ofBits FTy.bf16 ((v (ix2 ⟨r.val / 2, by omega⟩ x)).extractLsb' (16 * (r.val % 2)) 16) := by
  show Ideal.ofBits FTy.bf16 (bitcast S256x256 16 v h (ix2 r x)) = _
  rw [bitcast_32_16]
  have e : S256x256.row (ix2 r x) = r.val := rfl
  congr 3
  · funext a
    have ha : a = 0 ∨ a = 1 := by fin_cases a <;> simp
    rcases ha with rfl | rfl
    · apply Fin.ext
      rw [Shape.Bitcasts.srcIdx_row _ _ _ _ _ rfl]; exact congrArg (· / 2) e
    · apply Fin.ext
      rw [Shape.Bitcasts.srcIdx_other _ _ _ _ _ (by decide)]; rfl

theorem pay120_apply (v215 : Vec Ideal S1x128x256 .i32) (v218 : Vec Ideal S256x256 .bf16) (p r : Fin 256) :
    k0_pay120 v215 v218 (ix2 p r)
      = ∑ x : Fin 256, v218 (ix2 p x) * Ideal.ofBits FTy.bf16 ((v215 (ix3 0 ⟨r.val / 2, by omega⟩ x) : BitVec 32).extractLsb' (16 * (r.val % 2)) 16) := by
  pointwise [k0_pay120, unpack_apply]

theorem pay121_apply (v215 : Vec Ideal S1x128x256 .i32) (v218 : Vec Ideal S256x256 .bf16) (p : Fin 256) (l : Fin 128) : k0_pay121 v215 v218 (ix3 0 p l) = k0_pay120 v215 v218 (ix2 p ⟨0 + l.val, by omega⟩) := by
  pointwise [k0_pay121]

theorem pay122_apply (v215 : Vec Ideal S1x128x256 .i32) (v218 : Vec Ideal S256x256 .bf16) (p : Fin 256) (l : Fin 128) : k0_pay122 v215 v218 (ix3 0 p l) = k0_pay120 v215 v218 (ix2 p ⟨128 + l.val, by omega⟩) := by
  pointwise [k0_pay122]

theorem pay118_apply (p : Fin 1056) (l : Fin 128) : k0_pay118 (F := Ideal) (ix3 0 p l) = 0 := by
  pointwise [k0_pay118]

theorem pay119_apply (p : Fin 1056) (l : Fin 128) : k0_pay119 (F := Ideal) (ix3 0 p l) = 0 := by
  pointwise [k0_pay119]

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X2 : BufTy.Contents (Elt Ideal) arg2.view.ty} {X3 : BufTy.Contents (Elt Ideal) arg3.view.ty}
  {W : ℕ → ℕ → BitVec 32} {x3 : ℕ → ℕ → EReal}
  (h2 : ∀ y, (arg2.view.read (Elt Ideal) X2 y : BitVec 32) = W (y 1).val (y 2).val)
  (h3 : ∀ y, arg3.view.read (Elt Ideal) X3 y = x3 (y 0).val (y 1).val)
  {c : Dev nD} {i : grid0.Coords}

/-- What the first scratch array holds at `(h, ρ, l)`. -/
def G10 (W : ℕ → ℕ → BitVec 32) (x3 : ℕ → ℕ → EReal) (h ρ l : ℕ) : EReal :=
  bT W x3 (ρ / 264) (ρ % 264) (128 * h + l)

include h2 h3 in
theorem t1_entry (k : Fin k0_t1_loop.trips) (h : ℕ) (hh : h < 2) (p : Fin 256) (l : Fin 128) :
    k0_pay120 (F := Ideal) (View.readAt (Elt Ideal) arg2.view (Rect.unit (s := S1x128x7168) (k0_off1 k) S1x128x256.size (k0_off1_inb k)).toLoadRect X2)
          (View.readAt (Elt Ideal) arg3.view (Rect.unit (s := S256x256) ![0, 0] S256x256.size inb_S256x256_S256x256_0_0).toLoadRect
            X3) (ix2 p ⟨128 * h + l.val, by omega⟩)
      = G10 W x3 h (264 * k.val + p.val) l.val := by
  have hk : k.val < 28 := k.isLt
  have hp := p.isLt
  rw [pay120_apply]
  unfold G10 bT
  have e1 : (264 * k.val + p.val) / 264 = k.val := by omega
  have e2 : (264 * k.val + p.val) % 264 = p.val := by omega
  rw [e1, e2, if_pos hk]
  refine Finset.sum_congr rfl fun x _ => ?_
  have a3 : View.readAt (Elt Ideal) arg3.view (Rect.unit (s := S256x256) ![0, 0] S256x256.size inb_S256x256_S256x256_0_0).toLoadRect X3 (ix2 p x) = x3 p.val x.val := by
    rw [View.readAt_apply, h3]; simp [LoadRect.idx, Rect.toLoadRect, Rect.unit]
  have a2 : (View.readAt (Elt Ideal) arg2.view (Rect.unit (s := S1x128x7168) (k0_off1 k) S1x128x256.size (k0_off1_inb k)).toLoadRect X2 (ix3 0 ⟨(128 * h + l.val) / 2, by omega⟩ x) : BitVec 32) = W ((128 * h + l.val) / 2) (256 * k.val + x.val) := by
    rw [View.readAt_apply, h2]; simp [LoadRect.idx, Rect.toLoadRect, Rect.unit, off1_eq]
  rw [a3, a2]
  rfl

include h2 h3 in
theorem t1_agree (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 arg11 harg11 arg12 harg12 X2 X3 k, ∀ x,
      p.2 x = G10 W x3 (p.1.emb x 0).val (p.1.emb x 1).val (p.1.emb x 2).val := by
  intro p hp
  unfold tripL_k0_t1 trip_k0_t1 at hp
  simp only [List.mem_cons, List.not_mem_nil, or_false] at hp
  rcases hp with rfl | rfl <;> intro x <;>
    obtain ⟨a, b, d, rfl⟩ : ∃ (a : Fin 1) (b : Fin 256) (d : Fin 128), x = ix3 a b d := ⟨_, _, _, eq_ix3 x⟩ <;>
    obtain rfl : a = 0 := Subsingleton.elim _ _
  · refine Eq.trans (b := G10 W x3 1 (264 * k.val + b.val) d.val) ?_ ?_
    · exact (pay122_apply _ _ b d).trans (t1_entry h2 h3 k 1 (by omega) b d)
    · simp only [Rect.emb_apply, Rect.off_unit, Rect.stride_unit, off3_eq]; simp
  · refine Eq.trans (b := G10 W x3 0 (264 * k.val + b.val) d.val) ?_ ?_
    · exact (pay121_apply _ _ b d).trans (t1_entry h2 h3 k 0 (by omega) b d)
    · simp only [Rect.emb_apply, Rect.off_unit, Rect.stride_unit, off2_eq]; simp

end

/-- The pieces that clear the rows past the 28 groups. -/
abbrev Z10 : List (View.Piece (Elt Ideal) S2x8448x128 .f32) :=
  [⟨Rect.unit (s := S2x8448x128) ![1, 7392, 0] S1x1056x128.size inb_S2x8448x128_S1x1056x128_1_7392_0, k0_pay119 (F := Ideal)⟩,
   ⟨Rect.unit (s := S2x8448x128) ![0, 7392, 0] S1x1056x128.size inb_S2x8448x128_S1x1056x128_0_7392_0, k0_pay118 (F := Ideal)⟩]

theorem z10_agree (W : ℕ → ℕ → BitVec 32) (x3 : ℕ → ℕ → EReal) : ∀ p ∈ Z10, ∀ x, p.2 x = G10 W x3 (p.1.emb x 0).val (p.1.emb x 1).val (p.1.emb x 2).val := by
  intro p hp
  unfold Z10 at hp
  simp only [List.mem_cons, List.not_mem_nil, or_false] at hp
  rcases hp with rfl | rfl <;> intro x <;>
    obtain ⟨a, b, d, rfl⟩ : ∃ (a : Fin 1) (b : Fin 1056) (d : Fin 128), x = ix3 a b d := ⟨_, _, _, eq_ix3 x⟩ <;>
    obtain rfl : a = 0 := Subsingleton.elim _ _
  · refine (pay119_apply b d).trans ?_
    simp only [Rect.emb_apply, Rect.off_unit, Rect.stride_unit]
    unfold G10 bT
    rw [if_neg]; simp; omega
  · refine (pay118_apply b d).trans ?_
    simp only [Rect.emb_apply, Rect.off_unit, Rect.stride_unit]
    unfold G10 bT
    rw [if_neg]; simp; omega

/-- The contents of the first scratch array after the first loop. -/
abbrev C10 (arg2 : Memref sig .tc .vmem S1x128x7168 .i32) (harg2 : arg2.IsWhole) (arg3 : Memref sig .tc .vmem S256x256 .bf16) (harg3 : arg3.IsWhole) (arg4 : Memref sig .tc .vmem S56x192 .bf16) (harg4 : arg4.IsWhole) (arg5 : Memref sig .tc .vmem S32x112 .bf16) (harg5 : arg5.IsWhole) (arg6 : Memref sig .tc .vmem S1x1x1x256 .i32) (harg6 : arg6.IsWhole) (arg7 : Memref sig .tc .vmem S1x256x896 .i32) (harg7 : arg7.IsWhole) (arg8 : Memref sig .tc .vmem S1x1x1x256 .f32) (harg8 : arg8.IsWhole) (arg9 : Memref sig .tc .vmem S1x1x8x256 .f32) (harg9 : arg9.IsWhole) (arg10 : Memref sig .tc .vmem S2x8448x128 .f32) (harg10 : arg10.IsWhole) (arg11 : Memref sig .tc .vmem S64x112x256 .bf16) (harg11 : arg11.IsWhole) (arg12 : Memref sig .tc .vmem S2x1280x128 .i32) (harg12 : arg12.IsWhole)
     (X2 : BufTy.Contents (Elt Ideal) arg2.view.ty) (X3 : BufTy.Contents (Elt Ideal) arg3.view.ty) (c : Dev nD) (i : grid0.Coords) (X10 : BufTy.Contents (Elt Ideal) arg10.view.ty) : BufTy.Contents (Elt Ideal) arg10.view.ty :=
  arg10.view.writes (Elt Ideal) X10 (pb_k0_t1 (F := Ideal) Variants.none c none i arg2 harg2 arg3 harg3 arg4 harg4 arg5 harg5 arg6 harg6 arg7 harg7 arg8 harg8 arg9 harg9 arg10 harg10 arg11 harg11 arg12 harg12 X2 X3 k0_t1_loop.trips ++ Z10)

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X2 : BufTy.Contents (Elt Ideal) arg2.view.ty} {X3 : BufTy.Contents (Elt Ideal) arg3.view.ty}
  {W : ℕ → ℕ → BitVec 32} {x3 : ℕ → ℕ → EReal}
  (h2 : ∀ y, (arg2.view.read (Elt Ideal) X2 y : BitVec 32) = W (y 1).val (y 2).val)
  (h3 : ∀ y, arg3.view.read (Elt Ideal) X3 y = x3 (y 0).val (y 1).val)
  {c : Dev nD} {i : grid0.Coords}

include h2 h3 in
theorem C10_read (X10 : BufTy.Contents (Elt Ideal) arg10.view.ty) (a j : ℕ) (ha : a < 32) (hj : j < 256) (y : S2x8448x128.Idx) (hy : (y 1).val = 264 * a + j) :
    arg10.view.read (Elt Ideal) (C10 arg2 harg2 arg3 harg3 arg4 harg4 arg5 harg5 arg6 harg6 arg7 harg7 arg8 harg8 arg9 harg9 arg10 harg10 arg11 harg11 arg12 harg12 X2 X3 c i X10) y = bT W x3 a j (128 * (y 0).val + (y 2).val) := by
  have hT : k0_t1_loop.trips = 28 := by decide
  have key := mem_pb (T := k0_t1_loop.trips) (pb_k0_t1 (F := Ideal) Variants.none c none i arg2 harg2 arg3 harg3 arg4 harg4 arg5 harg5 arg6 harg6 arg7 harg7 arg8 harg8 arg9 harg9 arg10 harg10 arg11 harg11 arg12 harg12 X2 X3)
    (tripL_k0_t1 (F := Ideal) Variants.none c none i arg2 harg2 arg3 harg3 arg4 harg4 arg5 harg5 arg6 harg6 arg7 harg7 arg8 harg8 arg9 harg9 arg10 harg10 arg11 harg11 arg12 harg12 X2 X3) (by first | rfl | (rw [pb_k0_t1.eq_1])) (fun k => pb_k0_t1_succ (F := Ideal) Variants.none c none i arg2 harg2 arg3 harg3 arg4 harg4 arg5 harg5 arg6 harg6 arg7 harg7 arg8 harg8 arg9 harg9 arg10 harg10 arg11 harg11 arg12 harg12 X2 X3 k) _ le_rfl
  unfold C10
  refine (View.read_writes_apply_of_pieces arg10.view _ (fun y => G10 W x3 (y 0).val (y 1).val (y 2).val) _ ?_ y ?_).trans ?_
  · intro p hp
    rcases List.mem_append.1 hp with hp | hp
    · obtain ⟨k, _, hk⟩ := (key p).1 hp
      exact t1_agree h2 h3 k p hk
    · exact z10_agree W x3 p hp
  · have h0 : (y 0).val < 2 := (y 0).isLt
    have hl : (y 2).val < 128 := (y 2).isLt
    have h01 : (y 0).val = 0 ∨ (y 0).val = 1 := by omega
    by_cases hq : a < k0_t1_loop.trips
    · have cov : ∃ p ∈ tripL_k0_t1 (F := Ideal) Variants.none c none i arg2 harg2 arg3 harg3 arg4 harg4 arg5 harg5 arg6 harg6 arg7 harg7 arg8 harg8 arg9 harg9 arg10 harg10 arg11 harg11 arg12 harg12 X2 X3 ⟨a, hq⟩, y ∈ p.1.set := by
        unfold tripL_k0_t1 trip_k0_t1
        simp only [List.exists_mem_cons_iff, List.not_mem_nil, false_and, exists_false, or_false, Rect.mem_set_unit, Fin.forall_fin_succ, off2_eq, off3_eq]
        simp
        omega
      obtain ⟨p, hp, hyp⟩ := cov
      exact ⟨p, List.mem_append_left _ ((key p).2 ⟨⟨a, hq⟩, hq, hp⟩), hyp⟩
    · have cov : ∃ p ∈ Z10, y ∈ p.1.set := by
        unfold Z10
        simp only [List.exists_mem_cons_iff, List.not_mem_nil, false_and, exists_false, or_false, Rect.mem_set_unit, Fin.forall_fin_succ]
        simp
        omega
      obtain ⟨p, hp, hyp⟩ := cov
      exact ⟨p, List.mem_append_right _ hp, hyp⟩
  · unfold G10
    rw [hy]
    congr 1 <;> omega
end

end Cert.DownIdeal.Hand
end
-- ==== Proof.ValB.lean ====
module
public import proofs.«01_k».proof.Proof.ValA
/-! What the second loop of the kernel leaves in its scratch array, and the largest magnitudes it carries. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI

theorem off8_eq0 : ∀ k, k0_off8 k 0#32 = ![0, 4 * k.val + 0, 0] := by decide
theorem off8_eq1 : ∀ k, k0_off8 k 1#32 = ![0, 4 * k.val + 1, 0] := by decide
theorem off8_eq2 : ∀ k, k0_off8 k 2#32 = ![0, 4 * k.val + 2, 0] := by decide
theorem off8_eq3 : ∀ k, k0_off8 k 3#32 = ![0, 4 * k.val + 3, 0] := by decide
theorem off9_eq0 : ∀ k, k0_off9 k 0#32 = ![1, 4 * k.val + 0, 0] := by decide
theorem off9_eq1 : ∀ k, k0_off9 k 1#32 = ![1, 4 * k.val + 1, 0] := by decide
theorem off9_eq2 : ∀ k, k0_off9 k 2#32 = ![1, 4 * k.val + 2, 0] := by decide
theorem off9_eq3 : ∀ k, k0_off9 k 3#32 = ![1, 4 * k.val + 3, 0] := by decide
theorem off10_eq0 : ∀ k, k0_off10 k 0#32 = ![4 * k.val + 0, 0, 0] := by decide
theorem off10_eq1 : ∀ k, k0_off10 k 1#32 = ![4 * k.val + 1, 0, 0] := by decide
theorem off10_eq2 : ∀ k, k0_off10 k 2#32 = ![4 * k.val + 2, 0, 0] := by decide
theorem off10_eq3 : ∀ k, k0_off10 k 3#32 = ![4 * k.val + 3, 0, 0] := by decide

/-- The magnitude. -/
def eabs (x : EReal) : EReal := max x (-x)

/-- The factor `1/64` of the second rotation. -/
def c64 : EReal := Ideal.ofBits FTy.f32 1015021568#32

/-- The second rotation at one column `j` of the groups: entry `i` of row `r`, from the values `T a r`. -/
def rot (x6 : ℕ → ℕ → EReal) (T : ℕ → ℕ → EReal) (i r : ℕ) : EReal := (∑ q : Fin 64, x6 i q.val * T q.val r) * c64

theorem sum_split (x6 : ℕ → ℕ → EReal) (i : ℕ) (g : Fin 192 → EReal) (T : ℕ → EReal) (hg : ∀ x : Fin 192, g x = if x.val < 64 then T x.val else 0) :
    ∑ x : Fin 192, x6 i x.val * g x = ∑ q : Fin 64, x6 i q.val * T q.val := by
  have e := Fin.sum_univ_add (a := 64) (b := 128) (fun x : Fin (64 + 128) => x6 i x.val * g x)
  refine Eq.trans e ?_
  have e2 : ∑ x : Fin 128, x6 i (Fin.natAdd 64 x).val * g (Fin.natAdd 64 x) = 0 := by
    refine Finset.sum_eq_zero fun x _ => ?_
    rw [hg]
    have : ¬ (Fin.natAdd 64 x).val < 64 := by simp
    rw [if_neg this, mul_zero]
  refine (congrArg₂ (· + ·) rfl e2).trans ?_
  rw [add_zero]
  refine Finset.sum_congr rfl fun x _ => ?_
  rw [hg, if_pos (by simp)]
  rfl

theorem payR0_apply (u w : Vec Ideal S1x64x128 .f32) (m : Vec Ideal S64x192 .bf16) (x6 T : ℕ → ℕ → EReal)
    (hu : ∀ (a : Fin 64) (l : Fin 128), u (ix3 0 a l) = T a.val l.val) (hw : ∀ (a : Fin 64) (l : Fin 128), w (ix3 0 a l) = T a.val (128 + l.val))
    (hm : ∀ (a : Fin 64) (q : Fin 192), m (ix2 a q) = x6 a.val q.val) (hT : ∀ a r, a < 64 → r < 256 → T a r ≠ ⊤ ∧ T a r ≠ ⊥) (i : Fin 64) (r : Fin 256) :
    k0_pay13 u w m (ix2 i r) = rot x6 T i.val r.val := by
  pointwise [k0_pay13]
  simp only [hu, hw, hm]
  unfold rot c64
  congr 1
  refine sum_split x6 i.val _ (fun q => T q r.val) fun x => ?_
  have hr := r.isLt
  have hx := x.isLt
  have e : ¬ r.val < 128 → 128 + (r.val - 128) = r.val := by omega
  have hz : ∀ a, a < 64 → T a r.val - T a r.val = 0 := fun a ha => EReal.sub_self (hT a _ ha hr).1 (hT a _ ha hr).2
  by_cases h : r.val < 128
  · by_cases h1 : x.val < 64
    · simp [h, h1]
    · by_cases h2 : x.val - 64 < 64
      · simp [h, h1, h2, hz _ h2]
      · simp [h, h1, h2, hz (x.val - 64 - 64) (by omega)]
  · by_cases h1 : x.val < 64
    · simp [h, h1, e h]
    · by_cases h2 : x.val - 64 < 64
      · simp [h, h1, h2, e h, hz _ h2]
      · simp [h, h1, h2, e h, hz (x.val - 64 - 64) (by omega)]

theorem payR1_apply (u w : Vec Ideal S1x64x128 .f32) (m : Vec Ideal S64x192 .bf16) (x6 T : ℕ → ℕ → EReal)
    (hu : ∀ (a : Fin 64) (l : Fin 128), u (ix3 0 a l) = T a.val l.val) (hw : ∀ (a : Fin 64) (l : Fin 128), w (ix3 0 a l) = T a.val (128 + l.val))
    (hm : ∀ (a : Fin 64) (q : Fin 192), m (ix2 a q) = x6 a.val q.val) (hT : ∀ a r, a < 64 → r < 256 → T a r ≠ ⊤ ∧ T a r ≠ ⊥) (i : Fin 64) (r : Fin 256) :
    k0_pay17 (k0_pay16 u) w m (ix2 i r) = rot x6 T i.val r.val := by
  pointwise [k0_pay17, k0_pay16]
  simp only [hu, hw, hm]
  unfold rot c64
  congr 1
  refine sum_split x6 i.val _ (fun q => T q r.val) fun x => ?_
  have hr := r.isLt
  have hx := x.isLt
  have e : ¬ r.val < 128 → 128 + (r.val - 128) = r.val := by omega
  have hz : ∀ a, a < 64 → T a r.val - T a r.val = 0 := fun a ha => EReal.sub_self (hT a _ ha hr).1 (hT a _ ha hr).2
  by_cases h : r.val < 128
  · by_cases h1 : x.val < 64
    · simp [h, h1]
    · by_cases h2 : x.val - 64 < 64
      · simp [h, h1, h2, hz _ h2]
      · simp [h, h1, h2, hz (x.val - 64 - 64) (by omega)]
  · by_cases h1 : x.val < 64
    · simp [h, h1, e h]
    · by_cases h2 : x.val - 64 < 64
      · simp [h, h1, h2, e h, hz _ h2]
      · simp [h, h1, h2, e h, hz (x.val - 64 - 64) (by omega)]

theorem payR2_apply (u w : Vec Ideal S1x64x128 .f32) (m : Vec Ideal S64x192 .bf16) (x6 T : ℕ → ℕ → EReal)
    (hu : ∀ (a : Fin 64) (l : Fin 128), u (ix3 0 a l) = T a.val l.val) (hw : ∀ (a : Fin 64) (l : Fin 128), w (ix3 0 a l) = T a.val (128 + l.val))
    (hm : ∀ (a : Fin 64) (q : Fin 192), m (ix2 a q) = x6 a.val q.val) (hT : ∀ a r, a < 64 → r < 256 → T a r ≠ ⊤ ∧ T a r ≠ ⊥) (i : Fin 64) (r : Fin 256) :
    k0_pay23 (k0_pay21 u w) (k0_pay22 u w) m (ix2 i r) = rot x6 T i.val r.val := by
  pointwise [k0_pay23, k0_pay22, k0_pay21, k0_pay20]
  simp only [hu, hw, hm]
  unfold rot c64
  congr 1
  refine sum_split x6 i.val _ (fun q => T q r.val) fun x => ?_
  have hr := r.isLt
  have hx := x.isLt
  have e : ¬ r.val < 128 → 128 + (r.val - 128) = r.val := by omega
  have hz : ∀ a, a < 64 → T a r.val - T a r.val = 0 := fun a ha => EReal.sub_self (hT a _ ha hr).1 (hT a _ ha hr).2
  by_cases h : r.val < 128
  · by_cases h1 : x.val < 64
    · simp [h, h1]
    · by_cases h2 : x.val - 64 < 64
      · simp [h, h1, h2, hz _ h2]
      · simp [h, h1, h2, hz (x.val - 64 - 64) (by omega)]
  · by_cases h1 : x.val < 64
    · simp [h, h1, e h]
    · by_cases h2 : x.val - 64 < 64
      · simp [h, h1, h2, e h, hz _ h2]
      · simp [h, h1, h2, e h, hz (x.val - 64 - 64) (by omega)]

theorem payR3_apply (u w : Vec Ideal S1x64x128 .f32) (m : Vec Ideal S64x192 .bf16) (x6 T : ℕ → ℕ → EReal)
    (hu : ∀ (a : Fin 64) (l : Fin 128), u (ix3 0 a l) = T a.val l.val) (hw : ∀ (a : Fin 64) (l : Fin 128), w (ix3 0 a l) = T a.val (128 + l.val))
    (hm : ∀ (a : Fin 64) (q : Fin 192), m (ix2 a q) = x6 a.val q.val) (hT : ∀ a r, a < 64 → r < 256 → T a r ≠ ⊤ ∧ T a r ≠ ⊥) (i : Fin 64) (r : Fin 256) :
    k0_pay114 (k0_pay26 u w) (k0_pay27 m) (constant S64x256 .f32 0x00000000#32) (ix2 i r) = rot x6 T i.val r.val := by
  pointwise [k0_pay114, k0_pay26, k0_pay27]
  simp only [hu, hw, hm]
  unfold rot c64
  congr 1
  refine sum_split x6 i.val _ (fun q => T q r.val) fun x => ?_
  have hr := r.isLt
  have hx := x.isLt
  have e : ¬ r.val < 128 → 128 + (r.val - 128) = r.val := by omega
  have hz : ∀ a, a < 64 → T a r.val - T a r.val = 0 := fun a ha => EReal.sub_self (hT a _ ha hr).1 (hT a _ ha hr).2
  by_cases h : r.val < 128
  · by_cases h1 : x.val < 64
    · simp [h, h1]
    · by_cases h2 : x.val - 64 < 64
      · simp [h, h1, h2, hz _ h2]
      · simp [h, h1, h2, hz (x.val - 64 - 64) (by omega)]
  · by_cases h1 : x.val < 64
    · simp [h, h1, e h]
    · by_cases h2 : x.val - 64 < 64
      · simp [h, h1, h2, e h, hz _ h2]
      · simp [h, h1, h2, e h, hz (x.val - 64 - 64) (by omega)]

theorem payS0_apply (u w : Vec Ideal S1x64x128 .f32) (m : Vec Ideal S64x192 .bf16) (i : Fin 64) (r : Fin 256) :
    k0_pay14 u w m (ix3 0 i r) = k0_pay13 u w m (ix2 i r) := by
  pointwise [k0_pay14]

theorem payY0_apply (acc : FVec Ideal S16x256 .bf16) (u w : Vec Ideal S1x64x128 .f32) (m : Vec Ideal S64x192 .bf16) (s : Fin 16) (r : Fin 256) :
    k0_pay15 acc u w m (ix2 s r) = max (max (max (max (acc (ix2 s r)) (eabs (k0_pay13 u w m (ix2 ⟨s.val, by omega⟩ r)))) (eabs (k0_pay13 u w m (ix2 ⟨16 + s.val, by omega⟩ r)))) (eabs (k0_pay13 u w m (ix2 ⟨32 + s.val, by omega⟩ r)))) (eabs (k0_pay13 u w m (ix2 ⟨48 + s.val, by omega⟩ r))) := by
  pointwise [k0_pay15]
  rfl

theorem payS1_apply (u w : Vec Ideal S1x64x128 .f32) (m : Vec Ideal S64x192 .bf16) (i : Fin 64) (r : Fin 256) :
    k0_pay18 (k0_pay16 u) w m (ix3 0 i r) = k0_pay17 (k0_pay16 u) w m (ix2 i r) := by
  pointwise [k0_pay18]

theorem payY1_apply (acc : FVec Ideal S16x256 .bf16) (u w : Vec Ideal S1x64x128 .f32) (m : Vec Ideal S64x192 .bf16) (s : Fin 16) (r : Fin 256) :
    k0_pay19 acc (k0_pay16 u) w m (ix2 s r) = max (max (max (max (acc (ix2 s r)) (eabs (k0_pay17 (k0_pay16 u) w m (ix2 ⟨s.val, by omega⟩ r)))) (eabs (k0_pay17 (k0_pay16 u) w m (ix2 ⟨16 + s.val, by omega⟩ r)))) (eabs (k0_pay17 (k0_pay16 u) w m (ix2 ⟨32 + s.val, by omega⟩ r)))) (eabs (k0_pay17 (k0_pay16 u) w m (ix2 ⟨48 + s.val, by omega⟩ r))) := by
  pointwise [k0_pay19]
  rfl

theorem payS2_apply (u w : Vec Ideal S1x64x128 .f32) (m : Vec Ideal S64x192 .bf16) (i : Fin 64) (r : Fin 256) :
    k0_pay24 (k0_pay21 u w) (k0_pay22 u w) m (ix3 0 i r) = k0_pay23 (k0_pay21 u w) (k0_pay22 u w) m (ix2 i r) := by
  pointwise [k0_pay24]

theorem payY2_apply (acc : FVec Ideal S16x256 .bf16) (u w : Vec Ideal S1x64x128 .f32) (m : Vec Ideal S64x192 .bf16) (s : Fin 16) (r : Fin 256) :
    k0_pay25 acc (k0_pay21 u w) (k0_pay22 u w) m (ix2 s r) = max (max (max (max (acc (ix2 s r)) (eabs (k0_pay23 (k0_pay21 u w) (k0_pay22 u w) m (ix2 ⟨s.val, by omega⟩ r)))) (eabs (k0_pay23 (k0_pay21 u w) (k0_pay22 u w) m (ix2 ⟨16 + s.val, by omega⟩ r)))) (eabs (k0_pay23 (k0_pay21 u w) (k0_pay22 u w) m (ix2 ⟨32 + s.val, by omega⟩ r)))) (eabs (k0_pay23 (k0_pay21 u w) (k0_pay22 u w) m (ix2 ⟨48 + s.val, by omega⟩ r))) := by
  pointwise [k0_pay25]
  rfl

theorem payS3_apply (u w : Vec Ideal S1x64x128 .f32) (m : Vec Ideal S64x192 .bf16) (i : Fin 64) (r : Fin 256) :
    k0_pay115 (k0_pay26 u w) (k0_pay27 m) (constant S64x256 .f32 0x00000000#32) (ix3 0 i r) = k0_pay114 (k0_pay26 u w) (k0_pay27 m) (constant S64x256 .f32 0x00000000#32) (ix2 i r) := by
  pointwise [k0_pay115]

theorem payY3_apply (acc : FVec Ideal S16x256 .bf16) (u w : Vec Ideal S1x64x128 .f32) (m : Vec Ideal S64x192 .bf16) (s : Fin 16) (r : Fin 256) :
    k0_pay116 acc (k0_pay26 u w) (k0_pay27 m) (constant S64x256 .f32 0x00000000#32) (ix2 s r) = max (max (max (max (acc (ix2 s r)) (eabs (k0_pay114 (k0_pay26 u w) (k0_pay27 m) (constant S64x256 .f32 0x00000000#32) (ix2 ⟨s.val, by omega⟩ r)))) (eabs (k0_pay114 (k0_pay26 u w) (k0_pay27 m) (constant S64x256 .f32 0x00000000#32) (ix2 ⟨16 + s.val, by omega⟩ r)))) (eabs (k0_pay114 (k0_pay26 u w) (k0_pay27 m) (constant S64x256 .f32 0x00000000#32) (ix2 ⟨32 + s.val, by omega⟩ r)))) (eabs (k0_pay114 (k0_pay26 u w) (k0_pay27 m) (constant S64x256 .f32 0x00000000#32) (ix2 ⟨48 + s.val, by omega⟩ r))) := by
  pointwise [k0_pay116]
  rfl

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X6 : BufTy.Contents (Elt Ideal) arg6.view.ty} {X13 : BufTy.Contents (Elt Ideal) arg13.view.ty}
  {x6 : ℕ → ℕ → EReal} {T : ℕ → ℕ → ℕ → EReal}
  (h6 : ∀ y, arg6.view.read (Elt Ideal) X6 y = x6 (y 0).val (y 1).val)
  (h13 : ∀ a j, a < 64 → j < 64 → ∀ y : S2x4608x128.Idx, (y 1).val = 72 * a + j → arg13.view.read (Elt Ideal) X13 y = T a j (128 * (y 0).val + (y 2).val))
  (hT : ∀ a j r, a < 64 → j < 64 → r < 256 → T a j r ≠ ⊤ ∧ T a j r ≠ ⊥)
  {c : Dev nD} {i : grid0.Coords}

/-- The second rotation of the values `T`: entry `i`, group column `j`, row `r`. -/
def bR (x6 : ℕ → ℕ → EReal) (T : ℕ → ℕ → ℕ → EReal) (j i r : ℕ) : EReal := rot x6 (fun a r => T a j r) i r

include h6 in
theorem t2_ha (a : Fin 64) (q : Fin 192) : (View.readAt (Elt Ideal) arg6.view (Rect.unit (s := S64x192) ![0, 0] ![64, 192] inb_S64x192_S64x192_0_0).toLoadRect X6 : Vec Ideal S64x192 .bf16) (ix2 a q) = x6 a.val q.val := by
  rw [View.readAt_apply, h6]
  simp [LoadRect.idx, Rect.toLoadRect, Rect.unit]

include h13 in
theorem t2_load8_0 (k : Fin k0_t2_loop.trips) (inb) (a : Fin 64) (l : Fin 128) :
    View.readAt (Elt Ideal) arg13.view { off := k0_off8 k 0#32, size := ![1, 64, 128], stride := ![1, 72, 1], inb := inb } X13 (ix3 0 a l) = T a.val (4 * k.val + 0) (l.val) := by
  have hk : k.val < 16 := k.isLt
  have ha := a.isLt
  rw [View.readAt_apply, h13 a.val (4 * k.val + 0) ha (by omega)]
  · simp only [LoadRect.idx, off8_eq0]; simp
  · simp only [LoadRect.idx, off8_eq0]; simp; omega

include h13 in
theorem t2_load9_0 (k : Fin k0_t2_loop.trips) (inb) (a : Fin 64) (l : Fin 128) :
    View.readAt (Elt Ideal) arg13.view { off := k0_off9 k 0#32, size := ![1, 64, 128], stride := ![1, 72, 1], inb := inb } X13 (ix3 0 a l) = T a.val (4 * k.val + 0) (128 + l.val) := by
  have hk : k.val < 16 := k.isLt
  have ha := a.isLt
  rw [View.readAt_apply, h13 a.val (4 * k.val + 0) ha (by omega)]
  · simp only [LoadRect.idx, off9_eq0]; simp
  · simp only [LoadRect.idx, off9_eq0]; simp; omega

include h13 in
theorem t2_load8_1 (k : Fin k0_t2_loop.trips) (inb) (a : Fin 64) (l : Fin 128) :
    View.readAt (Elt Ideal) arg13.view { off := k0_off8 k 1#32, size := ![1, 64, 128], stride := ![1, 72, 1], inb := inb } X13 (ix3 0 a l) = T a.val (4 * k.val + 1) (l.val) := by
  have hk : k.val < 16 := k.isLt
  have ha := a.isLt
  rw [View.readAt_apply, h13 a.val (4 * k.val + 1) ha (by omega)]
  · simp only [LoadRect.idx, off8_eq1]; simp
  · simp only [LoadRect.idx, off8_eq1]; simp; omega

include h13 in
theorem t2_load9_1 (k : Fin k0_t2_loop.trips) (inb) (a : Fin 64) (l : Fin 128) :
    View.readAt (Elt Ideal) arg13.view { off := k0_off9 k 1#32, size := ![1, 64, 128], stride := ![1, 72, 1], inb := inb } X13 (ix3 0 a l) = T a.val (4 * k.val + 1) (128 + l.val) := by
  have hk : k.val < 16 := k.isLt
  have ha := a.isLt
  rw [View.readAt_apply, h13 a.val (4 * k.val + 1) ha (by omega)]
  · simp only [LoadRect.idx, off9_eq1]; simp
  · simp only [LoadRect.idx, off9_eq1]; simp; omega

include h13 in
theorem t2_load8_2 (k : Fin k0_t2_loop.trips) (inb) (a : Fin 64) (l : Fin 128) :
    View.readAt (Elt Ideal) arg13.view { off := k0_off8 k 2#32, size := ![1, 64, 128], stride := ![1, 72, 1], inb := inb } X13 (ix3 0 a l) = T a.val (4 * k.val + 2) (l.val) := by
  have hk : k.val < 16 := k.isLt
  have ha := a.isLt
  rw [View.readAt_apply, h13 a.val (4 * k.val + 2) ha (by omega)]
  · simp only [LoadRect.idx, off8_eq2]; simp
  · simp only [LoadRect.idx, off8_eq2]; simp; omega

include h13 in
theorem t2_load9_2 (k : Fin k0_t2_loop.trips) (inb) (a : Fin 64) (l : Fin 128) :
    View.readAt (Elt Ideal) arg13.view { off := k0_off9 k 2#32, size := ![1, 64, 128], stride := ![1, 72, 1], inb := inb } X13 (ix3 0 a l) = T a.val (4 * k.val + 2) (128 + l.val) := by
  have hk : k.val < 16 := k.isLt
  have ha := a.isLt
  rw [View.readAt_apply, h13 a.val (4 * k.val + 2) ha (by omega)]
  · simp only [LoadRect.idx, off9_eq2]; simp
  · simp only [LoadRect.idx, off9_eq2]; simp; omega

include h13 in
theorem t2_load8_3 (k : Fin k0_t2_loop.trips) (inb) (a : Fin 64) (l : Fin 128) :
    View.readAt (Elt Ideal) arg13.view { off := k0_off8 k 3#32, size := ![1, 64, 128], stride := ![1, 72, 1], inb := inb } X13 (ix3 0 a l) = T a.val (4 * k.val + 3) (l.val) := by
  have hk : k.val < 16 := k.isLt
  have ha := a.isLt
  rw [View.readAt_apply, h13 a.val (4 * k.val + 3) ha (by omega)]
  · simp only [LoadRect.idx, off8_eq3]; simp
  · simp only [LoadRect.idx, off8_eq3]; simp; omega

include h13 in
theorem t2_load9_3 (k : Fin k0_t2_loop.trips) (inb) (a : Fin 64) (l : Fin 128) :
    View.readAt (Elt Ideal) arg13.view { off := k0_off9 k 3#32, size := ![1, 64, 128], stride := ![1, 72, 1], inb := inb } X13 (ix3 0 a l) = T a.val (4 * k.val + 3) (128 + l.val) := by
  have hk : k.val < 16 := k.isLt
  have ha := a.isLt
  rw [View.readAt_apply, h13 a.val (4 * k.val + 3) ha (by omega)]
  · simp only [LoadRect.idx, off9_eq3]; simp
  · simp only [LoadRect.idx, off9_eq3]; simp; omega

include h6 h13 hT in
theorem t2_agree (k : Fin k0_t2_loop.trips) (acc : FVec Ideal S16x256 .bf16) :
    ∀ p ∈ tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 k acc, ∀ x,
      p.2 x = bR x6 T (p.1.emb x 0).val (p.1.emb x 1).val (p.1.emb x 2).val := by
  have hk : k.val < 16 := k.isLt
  intro p hp
  unfold tripL_k0_t2 trip_k0_t2 at hp
  simp only [List.mem_cons, List.not_mem_nil, or_false] at hp
  rcases hp with rfl | rfl | rfl | rfl <;> intro x <;>
    obtain ⟨a, b, d, rfl⟩ : ∃ (a : Fin 1) (b : Fin 64) (d : Fin 256), x = ix3 a b d := ⟨_, _, _, eq_ix3 x⟩ <;>
    obtain rfl : a = 0 := Subsingleton.elim _ _
  · refine Eq.trans (b := bR x6 T (4 * k.val + 3) b.val d.val) ?_ ?_
    · unfold trip_k0_t2.sl.r_6 trip_k0_t2.sl.r_7 trip_k0_t2.sl.cst_179; exact (payS3_apply _ _ _ b d).trans (payR3_apply _ _ _ x6 (fun a r => T a (4 * k.val + 3) r) (t2_load8_3 h13 k _) (t2_load9_3 h13 k _) (t2_ha h6) (fun a r ha hr => hT a _ r ha (by omega) hr) b d)
    · simp only [Rect.emb_apply, Rect.off_unit, Rect.stride_unit, off10_eq3]; simp
  · refine Eq.trans (b := bR x6 T (4 * k.val + 2) b.val d.val) ?_ ?_
    · unfold trip_k0_t2.sl.r_3 trip_k0_t2.sl.r_4; exact (payS2_apply _ _ _ b d).trans (payR2_apply _ _ _ x6 (fun a r => T a (4 * k.val + 2) r) (t2_load8_2 h13 k _) (t2_load9_2 h13 k _) (t2_ha h6) (fun a r ha hr => hT a _ r ha (by omega) hr) b d)
    · simp only [Rect.emb_apply, Rect.off_unit, Rect.stride_unit, off10_eq2]; simp
  · refine Eq.trans (b := bR x6 T (4 * k.val + 1) b.val d.val) ?_ ?_
    · unfold trip_k0_t2.sl.r_1; exact (payS1_apply _ _ _ b d).trans (payR1_apply _ _ _ x6 (fun a r => T a (4 * k.val + 1) r) (t2_load8_1 h13 k _) (t2_load9_1 h13 k _) (t2_ha h6) (fun a r ha hr => hT a _ r ha (by omega) hr) b d)
    · simp only [Rect.emb_apply, Rect.off_unit, Rect.stride_unit, off10_eq1]; simp
  · refine Eq.trans (b := bR x6 T (4 * k.val + 0) b.val d.val) ?_ ?_
    · exact (payS0_apply _ _ _ b d).trans (payR0_apply _ _ _ x6 (fun a r => T a (4 * k.val + 0) r) (t2_load8_0 h13 k _) (t2_load9_0 h13 k _) (t2_ha h6) (fun a r ha hr => hT a _ r ha (by omega) hr) b d)
    · simp only [Rect.emb_apply, Rect.off_unit, Rect.stride_unit, off10_eq0]; simp

include h6 h13 hT in
theorem t2_yield (k : Fin k0_t2_loop.trips) (acc : FVec Ideal S16x256 .bf16) (s : Fin 16) (r : Fin 256) (z : EReal) :
    tripR_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 k acc (ix2 s r) ≤ z
      ↔ acc (ix2 s r) ≤ z ∧ ∀ j < 4, ∀ q < 4, eabs (bR x6 T (4 * k.val + j) (16 * q + s.val) r.val) ≤ z := by
  have hk : k.val < 16 := k.isLt
  unfold tripR_k0_t2 trip_k0_t2
  dsimp only
  unfold trip_k0_t2.sl.r_5 trip_k0_t2.sl.r_3 trip_k0_t2.sl.r_4 trip_k0_t2.sl.r_6 trip_k0_t2.sl.r_7 trip_k0_t2.sl.cst_179
  unfold trip_k0_t2.sl.r_2
  unfold trip_k0_t2.sl.r_1
  try unfold trip_k0_t2.sl.r
  have e0 := fun b : Fin 64 => payR0_apply (View.readAt (Elt Ideal) arg13.view { off := k0_off8 k 0#32, size := S1x64x128.size, stride := ![1, 72, 1], inb := k0_off8_inb k 0 } X13) (View.readAt (Elt Ideal) arg13.view { off := k0_off9 k 0#32, size := S1x64x128.size, stride := ![1, 72, 1], inb := k0_off9_inb k 0 } X13) (View.readAt (Elt Ideal) arg6.view (Rect.unit (s := S64x192) ![0, 0] S64x192.size inb_S64x192_S64x192_0_0).toLoadRect X6) x6 (fun a r => T a (4 * k.val + 0) r) (t2_load8_0 h13 k _) (t2_load9_0 h13 k _) (t2_ha h6) (fun a r ha hr => hT a _ r ha (by omega) hr) b r
  have e1 := fun b : Fin 64 => payR1_apply (View.readAt (Elt Ideal) arg13.view { off := k0_off8 k 1#32, size := S1x64x128.size, stride := ![1, 72, 1], inb := k0_off8_inb k 1 } X13) (View.readAt (Elt Ideal) arg13.view { off := k0_off9 k 1#32, size := S1x64x128.size, stride := ![1, 72, 1], inb := k0_off9_inb k 1 } X13) (View.readAt (Elt Ideal) arg6.view (Rect.unit (s := S64x192) ![0, 0] S64x192.size inb_S64x192_S64x192_0_0).toLoadRect X6) x6 (fun a r => T a (4 * k.val + 1) r) (t2_load8_1 h13 k _) (t2_load9_1 h13 k _) (t2_ha h6) (fun a r ha hr => hT a _ r ha (by omega) hr) b r
  have e2 := fun b : Fin 64 => payR2_apply (View.readAt (Elt Ideal) arg13.view { off := k0_off8 k 2#32, size := S1x64x128.size, stride := ![1, 72, 1], inb := k0_off8_inb k 2 } X13) (View.readAt (Elt Ideal) arg13.view { off := k0_off9 k 2#32, size := S1x64x128.size, stride := ![1, 72, 1], inb := k0_off9_inb k 2 } X13) (View.readAt (Elt Ideal) arg6.view (Rect.unit (s := S64x192) ![0, 0] S64x192.size inb_S64x192_S64x192_0_0).toLoadRect X6) x6 (fun a r => T a (4 * k.val + 2) r) (t2_load8_2 h13 k _) (t2_load9_2 h13 k _) (t2_ha h6) (fun a r ha hr => hT a _ r ha (by omega) hr) b r
  have e3 := fun b : Fin 64 => payR3_apply (View.readAt (Elt Ideal) arg13.view { off := k0_off8 k 3#32, size := S1x64x128.size, stride := ![1, 72, 1], inb := k0_off8_inb k 3 } X13) (View.readAt (Elt Ideal) arg13.view { off := k0_off9 k 3#32, size := S1x64x128.size, stride := ![1, 72, 1], inb := k0_off9_inb k 3 } X13) (View.readAt (Elt Ideal) arg6.view (Rect.unit (s := S64x192) ![0, 0] S64x192.size inb_S64x192_S64x192_0_0).toLoadRect X6) x6 (fun a r => T a (4 * k.val + 3) r) (t2_load8_3 h13 k _) (t2_load9_3 h13 k _) (t2_ha h6) (fun a r ha hr => hT a _ r ha (by omega) hr) b r
  rw [payY3_apply, payY2_apply, payY1_apply, payY0_apply]
  have hq : ∀ P : ℕ → Prop, (∀ q < 4, P q) ↔ P 0 ∧ P 1 ∧ P 2 ∧ P 3 := fun P =>
    ⟨fun h => ⟨h 0 (by omega), h 1 (by omega), h 2 (by omega), h 3 (by omega)⟩, fun ⟨a, b, c, d⟩ q hq => by
      have : q = 0 ∨ q = 1 ∨ q = 2 ∨ q = 3 := by omega
      rcases this with rfl | rfl | rfl | rfl <;> assumption⟩
  rw [e0, e1, e2, e3, e0, e1, e2, e3, e0, e1, e2, e3, e0, e1, e2, e3]
  simp only [max_le_iff, hq, bR]
  simp only [Nat.mul_zero, Nat.zero_add, Nat.mul_one, Nat.add_zero, Nat.reduceMul, and_assoc]

include h6 h13 hT in
/-- The carried magnitudes after `n` trips. -/
theorem t2_carried (n : ℕ) (hn : n ≤ k0_t2_loop.trips) (init : FVec Ideal S16x256 .bf16) (s : Fin 16) (r : Fin 256) (z : EReal) :
    (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init n).1 (ix2 s r) ≤ z
      ↔ init (ix2 s r) ≤ z ∧ ∀ j < 4 * n, ∀ q < 4, eabs (bR x6 T j (16 * q + s.val) r.val) ≤ z := by
  induction n with
  | zero => rw [st_k0_t2_zero]; simp
  | succ n ih =>
    have e := st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init ⟨n, hn⟩
    rw [show (⟨n, hn⟩ : Fin k0_t2_loop.trips).val = n from rfl] at e
    rw [e]
    refine (t2_yield h6 h13 hT ⟨n, hn⟩ _ s r z).trans ?_
    rw [ih (by omega), and_assoc]
    refine and_congr_right fun _ => ⟨fun ⟨h1, h2⟩ j hj q hq => ?_, fun h => ⟨fun j hj => h j (by omega), fun j hj => h _ (by show 4 * n + j < _; omega)⟩⟩
    by_cases hjn : j < 4 * n
    · exact h1 j hjn q hq
    · have := h2 (j - 4 * n) (by omega) q hq
      rwa [show 4 * (⟨n, hn⟩ : Fin k0_t2_loop.trips).val + (j - 4 * n) = j by show 4 * n + (j - 4 * n) = j; omega] at this

include h6 h13 hT in
/-- The second scratch array after the loop holds the rotated values. -/
theorem C14_read (init : FVec Ideal S16x256 .bf16) (X14 : BufTy.Contents (Elt Ideal) arg14.view.ty) (y : S64x64x256.Idx) :
    arg14.view.read (Elt Ideal) (arg14.view.writes (Elt Ideal) X14 (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init k0_t2_loop.trips).2) y
      = bR x6 T (y 0).val (y 1).val (y 2).val := by
  have hT' : k0_t2_loop.trips = 16 := by decide
  have key := mem_pb (T := k0_t2_loop.trips) (fun n => (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init n).2)
    (fun k => tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 k (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init k.val).1) (by first | rfl | (rw [st_k0_t2.eq_1])) (fun k => congrArg Prod.snd (st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init k)) _ le_rfl
  refine View.read_writes_apply_of_pieces (Val := Elt Ideal) arg14.view _ (fun y => bR x6 T (y 0).val (y 1).val (y 2).val) _ ?_ y ?_
  · intro p hp
    obtain ⟨k, _, hk⟩ := (key p).1 hp
    exact t2_agree h6 h13 hT k _ p hk
  · have h0 : (y 0).val < 64 := (y 0).isLt
    have h1 : (y 1).val < 64 := (y 1).isLt
    have hl : (y 2).val < 256 := (y 2).isLt
    have hq : (y 0).val / 4 < k0_t2_loop.trips := by omega
    have cov : ∃ p ∈ tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 ⟨_, hq⟩ (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init ((y 0).val / 4)).1, y ∈ p.1.set := by
      unfold tripL_k0_t2 trip_k0_t2
      simp only [List.exists_mem_cons_iff, List.not_mem_nil, false_and, exists_false, or_false, Rect.mem_set_unit, Fin.forall_fin_succ, off10_eq0, off10_eq1, off10_eq2, off10_eq3]
      simp
      omega
    obtain ⟨p, hp, hyp⟩ := cov
    exact ⟨p, (key p).2 ⟨⟨_, hq⟩, hq, hp⟩, hyp⟩

/-- The largest magnitude of row `r`. -/
def bA (x6 : ℕ → ℕ → EReal) (T : ℕ → ℕ → ℕ → EReal) (r : ℕ) : EReal :=
  (Finset.univ : Finset (Fin 64 × Fin 64)).sup fun ji => eabs (bR x6 T ji.1.val ji.2.val r)

theorem ofBits_neg_inf : Ideal.ofBits FTy.f32 4286578688#32 = ⊥ := by simp [Ideal.ofBits, Ideal.ieee]

include h6 h13 hT in
theorem t2_amax (init : FVec Ideal S16x256 .bf16) (hi : ∀ s r, init (ix2 s r) = 0) (r : Fin 256) :
    k0_pay117 (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 X13 init k0_t2_loop.trips).1 (ix2 0 r) = bA x6 T r.val := by
  have hT' : k0_t2_loop.trips = 16 := by decide
  have e : ∀ v3 : FVec Ideal S16x256 .bf16, k0_pay117 v3 (ix2 0 r) = Finset.fold max (Ideal.ofBits FTy.f32 4286578688#32) (fun x => v3 (ix2 x r)) Finset.univ := by
    intro v3
    pointwise [k0_pay117]
  rw [e, ofBits_neg_inf]
  refine eq_of_forall_ge_iff fun z => ?_
  rw [Finset.fold_max_le]
  unfold bA
  rw [Finset.sup_le_iff]
  simp only [Finset.mem_univ, true_implies, bot_le, true_and, t2_carried h6 h13 hT _ le_rfl, hi]
  constructor
  · rintro h ⟨j, q⟩
    have := (h ⟨q.val % 16, by omega⟩).2 j.val (by have := j.isLt; omega) (q.val / 16) (by have := q.isLt; omega)
    have e : 16 * (q.val / 16) + (q.val % 16) = q.val := by omega
    simp only [e] at this
    exact this
  · intro h s
    refine ⟨le_trans ?_ (h (0, 0)), fun j hj q hq => h (⟨j, by omega⟩, ⟨16 * q + s.val, by have := s.isLt; omega⟩)⟩
    unfold eabs
    rcases le_total 0 (bR x6 T (0 : Fin 64).val (0 : Fin 64).val r.val) with h0 | h0
    · exact le_max_of_le_left h0
    · exact le_max_of_le_right (by rw [EReal.le_neg]; simpa using h0)
end

end Cert.KernelIdeal.Hand
end
-- ==== Proof.DValB.lean ====
module
public import proofs.«01_k».proof.Proof.DValA
public import proofs.«01_k».proof.Proof.ValB
/-! What the second loop of the second kernel leaves in its scratch array, and the largest magnitudes it carries. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (mem_pb eabs ofBits_neg_inf)

theorem off4_eq (s t : ℕ) (hs : s < 2) (ht : t < 2) : ∀ k, k0_off4 k (BitVec.ofNat 32 (2 * s)) (BitVec.ofNat 32 t) = ![0, 4 * k.val + (2 * s + t), 0] := by
  obtain rfl | rfl : s = 0 ∨ s = 1 := by omega
  all_goals obtain rfl | rfl : t = 0 ∨ t = 1 := by omega
  all_goals decide
theorem off5_eq (s t : ℕ) (hs : s < 2) (ht : t < 2) : ∀ k, k0_off5 k (BitVec.ofNat 32 (2 * s)) (BitVec.ofNat 32 t) = ![1, 4 * k.val + (2 * s + t), 0] := by
  obtain rfl | rfl : s = 0 ∨ s = 1 := by omega
  all_goals obtain rfl | rfl : t = 0 ∨ t = 1 := by omega
  all_goals decide
theorem off6_eq : ∀ k, k0_off6 k = ![k.val, 0, 0] := by decide

/-- The factor of the second rotation. -/
def c84 : EReal := Ideal.ofBits FTy.f32 1010926735#32

/-- Two products with the two halves of the row `i` of the matrix. -/
def two (x4 : ℕ → ℕ → EReal) (T0 T1 : ℕ → EReal) (i : ℕ) : EReal :=
  (∑ b : Fin 32, x4 i b.val * T0 b.val) + ∑ b : Fin 32, x4 i (96 + b.val) * T1 b.val

theorem sum_split6 (x4 : ℕ → ℕ → EReal) (i : ℕ) (g : Fin 192 → EReal) (T0 T1 : ℕ → EReal)
    (hg : ∀ x : Fin 192, g x = if x.val < 32 then T0 x.val else if 96 ≤ x.val ∧ x.val < 128 then T1 (x.val - 96) else 0) :
    ∑ x : Fin 192, x4 i x.val * g x = two x4 T0 T1 i := by
  have e := Fin.sum_univ_add (a := 32) (b := 160) (fun x : Fin (32 + 160) => x4 i x.val * g x)
  refine Eq.trans e ?_
  have e1 := Fin.sum_univ_add (a := 64) (b := 96) (fun x : Fin (64 + 96) => x4 i (Fin.natAdd 32 x).val * g (Fin.natAdd 32 x))
  have e2 := Fin.sum_univ_add (a := 32) (b := 64) (fun x : Fin (32 + 64) => x4 i (Fin.natAdd 32 (Fin.natAdd 64 x)).val * g (Fin.natAdd 32 (Fin.natAdd 64 x)))
  have z1 : ∑ x : Fin 64, x4 i (Fin.natAdd 32 (Fin.castAdd 96 x)).val * g (Fin.natAdd 32 (Fin.castAdd 96 x)) = 0 := by
    refine Finset.sum_eq_zero fun x _ => ?_
    rw [hg, if_neg (by simp), if_neg (by simp; omega), mul_zero]
  have z2 : ∑ x : Fin 64, x4 i (Fin.natAdd 32 (Fin.natAdd 64 (Fin.natAdd 32 x))).val * g (Fin.natAdd 32 (Fin.natAdd 64 (Fin.natAdd 32 x))) = 0 := by
    refine Finset.sum_eq_zero fun x _ => ?_
    rw [hg, if_neg (by simp), if_neg (by simp; omega), mul_zero]
  unfold two
  refine congrArg₂ (· + ·) (Finset.sum_congr rfl fun x _ => ?_) (e1.trans ((congrArg₂ (· + ·) z1 (e2.trans (congrArg₂ (· + ·) rfl z2))).trans ?_))
  · rw [hg, if_pos (by simp)]; rfl
  · rw [zero_add, add_zero]
    refine Finset.sum_congr rfl fun x _ => ?_
    rw [hg, if_neg (by simp), if_pos (by simp; omega)]
    have e3 : (Fin.natAdd 32 (Fin.natAdd 64 (Fin.castAdd 64 x))).val = 96 + x.val := by simp; omega
    rw [e3]
    congr 2; omega

/-- What is asked of the four strided loads of one product. -/
structure Ld (u w u' w' : Vec Ideal S1x32x128 .f32) (T0 T1 : ℕ → ℕ → EReal) : Prop where
  a : ∀ (a : Fin 32) (l : Fin 128), u (ix3 0 a l) = T0 a.val l.val
  b : ∀ (a : Fin 32) (l : Fin 128), w (ix3 0 a l) = T0 a.val (128 + l.val)
  a' : ∀ (a : Fin 32) (l : Fin 128), u' (ix3 0 a l) = T1 a.val l.val
  b' : ∀ (a : Fin 32) (l : Fin 128), w' (ix3 0 a l) = T1 a.val (128 + l.val)
  f : ∀ a r, a < 32 → r < 256 → T0 a r ≠ ⊤ ∧ T0 a r ≠ ⊥
  f' : ∀ a r, a < 32 → r < 256 → T1 a r ≠ ⊤ ∧ T1 a r ≠ ⊥

theorem pay9_apply (u w u' w' : Vec Ideal S1x32x128 .f32) (m : Vec Ideal S56x192 .bf16) (x4 T0 T1 : ℕ → ℕ → EReal)
    (L : Ld u w u' w' T0 T1) (hm : ∀ (a : Fin 56) (q : Fin 192), m (ix2 a q) = x4 a.val q.val) (i : Fin 56) (r : Fin 256) :
    k0_pay9 u w u' w' m (ix2 i r) = two x4 (fun a => T0 a r.val) (fun a => T1 a r.val) i.val := by
  pointwise [k0_pay9]
  simp only [L.a, L.b, L.a', L.b', hm]
  refine sum_split6 x4 i.val _ (fun q => T0 q r.val) (fun q => T1 q r.val) fun x => ?_
  have hr := r.isLt
  have hx := x.isLt
  have hz : ∀ a, a < 32 → T0 a r.val - T0 a r.val = 0 := fun a ha => EReal.sub_self (L.f a _ ha hr).1 (L.f a _ ha hr).2
  have hz' : ∀ a, a < 32 → T1 a r.val - T1 a r.val = 0 := fun a ha => EReal.sub_self (L.f' a _ ha hr).1 (L.f' a _ ha hr).2
  have e : ¬ r.val < 128 → 128 + (r.val - 128) = r.val := by omega
  by_cases h : r.val < 128
  · simp only [h, dite_true, if_true]
    split_ifs <;> first | omega | rfl | (rw [hz _ (by omega)]; done) | (rw [hz' _ (by omega)]; done) | (rw [hz _ (by omega)]; simp; done) | (rw [hz' _ (by omega)]; simp; done) | (congr 1; omega)
  · simp only [h, dite_false, if_false, e h]
    split_ifs <;> first | omega | rfl | (rw [hz _ (by omega)]; done) | (rw [hz' _ (by omega)]; done) | (rw [hz _ (by omega)]; simp; done) | (rw [hz' _ (by omega)]; simp; done) | (congr 1; omega)

theorem pay10_apply (v255 : FVec Ideal S56x256 .f32) (u w u' w' : Vec Ideal S1x32x128 .f32) (m : Vec Ideal S56x192 .bf16) (i : Fin 112) (r : Fin 256) :
    k0_pay10 v255 u w u' w' m (ix2 i r) = (if h : i.val < 56 then v255 (ix2 ⟨i.val, h⟩ r) else k0_pay9 u w u' w' m (ix2 ⟨i.val - 56, by omega⟩ r)) * c84 := by
  have e : k0_pay10 v255 u w u' w' m = truncf .bf16 (mulf (concatenate S112x256 0 [⟨S56x256, v255⟩, ⟨S56x256, k0_pay9 u w u' w' m⟩] concatenates_S56x256_S56x256_S112x256_d0) (broadcast S112x256 (Scalar.ofBits .f32 0x3C41848F#32))) bitsLt_bf16_f32 := rfl
  rw [e]
  generalize k0_pay9 u w u' w' m = Z
  pointwise []
  rfl

theorem pay124_apply (v : FVec Ideal S112x256 .bf16) (i : Fin 112) (r : Fin 256) : k0_pay124 v (ix3 0 i r) = v (ix2 i r) := by
  pointwise [k0_pay124]

theorem pay125_apply (acc : FVec Ideal S16x256 .bf16) (v : FVec Ideal S112x256 .bf16) (s : Fin 16) (r : Fin 256) :
    k0_pay125 acc v (ix2 s r) = max (max (max (max (max (max (max (acc (ix2 s r)) (eabs (v (ix2 ⟨s.val, by omega⟩ r)))) (eabs (v (ix2 ⟨16 + s.val, by omega⟩ r)))) (eabs (v (ix2 ⟨32 + s.val, by omega⟩ r)))) (eabs (v (ix2 ⟨48 + s.val, by omega⟩ r)))) (eabs (v (ix2 ⟨64 + s.val, by omega⟩ r)))) (eabs (v (ix2 ⟨80 + s.val, by omega⟩ r)))) (eabs (v (ix2 ⟨96 + s.val, by omega⟩ r))) := by
  pointwise [k0_pay125]
  rfl

theorem init_apply (s : Fin 16) (r : Fin 256) : (k0_pay123 : FVec Ideal S16x256 .bf16) (ix2 s r) = 0 := by
  pointwise [k0_pay123]

/-- The second rotation of the values `T`: four output groups to a trip, 28 rows each, trip `k`, row `m` of 112. -/
def bR (x4 : ℕ → ℕ → EReal) (T : ℕ → ℕ → ℕ → EReal) (k m r : ℕ) : EReal :=
  two x4 (fun a => T a (4 * k + (2 * (m / 56) + 0)) r) (fun a => T a (4 * k + (2 * (m / 56) + 1)) r) (m % 56) * c84

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X4 : BufTy.Contents (Elt Ideal) arg4.view.ty} {X10 : BufTy.Contents (Elt Ideal) arg10.view.ty}
  {x4 : ℕ → ℕ → EReal} {T : ℕ → ℕ → ℕ → EReal}
  (h4 : ∀ y, arg4.view.read (Elt Ideal) X4 y = x4 (y 0).val (y 1).val)
  (h10 : ∀ a j, a < 32 → j < 256 → ∀ y : S2x8448x128.Idx, (y 1).val = 264 * a + j → arg10.view.read (Elt Ideal) X10 y = T a j (128 * (y 0).val + (y 2).val))
  (hT : ∀ a j r, a < 32 → j < 256 → r < 256 → T a j r ≠ ⊤ ∧ T a j r ≠ ⊥)
  {c : Dev nD} {i : grid0.Coords}

include h4 in
theorem t2_hm (a : Fin 56) (q : Fin 192) : (View.readAt (Elt Ideal) arg4.view (Rect.unit (s := S56x192) ![0, 0] S56x192.size inb_S56x192_S56x192_0_0).toLoadRect X4 : Vec Ideal S56x192 .bf16) (ix2 a q) = x4 a.val q.val := by
  rw [View.readAt_apply, h4]; simp [LoadRect.idx, Rect.toLoadRect, Rect.unit]

include h10 in
theorem t2_load (k : Fin k0_t2_loop.trips) (s t h : ℕ) (hs : s < 2) (ht : t < 2) (off : Fin 3 → ℕ) (ho : off = ![h, 4 * k.val + (2 * s + t), 0]) (inb) (a : Fin 32) (l : Fin 128) :
    (View.readAt (Elt Ideal) arg10.view { off := off, size := S1x32x128.size, stride := ![1, 264, 1], inb := inb } X10 : Vec Ideal S1x32x128 .f32) (ix3 0 a l) = T a.val (4 * k.val + (2 * s + t)) (128 * h + l.val) := by
  have hk : k.val < 64 := k.isLt
  have ha := a.isLt
  subst ho
  rw [View.readAt_apply, h10 a.val (4 * k.val + (2 * s + t)) ha (by omega)]
  · simp only [LoadRect.idx]; simp
  · simp only [LoadRect.idx]; simp; omega

include h10 hT in
theorem t2_ld (k : Fin k0_t2_loop.trips) (s : ℕ) (hs : s < 2) (o1 o2 o3 o4 : Fin 3 → ℕ) (h1 : o1 = ![0, 4 * k.val + (2 * s + 0), 0]) (h2 : o2 = ![1, 4 * k.val + (2 * s + 0), 0])
    (h3 : o3 = ![0, 4 * k.val + (2 * s + 1), 0]) (h4 : o4 = ![1, 4 * k.val + (2 * s + 1), 0]) (i1) (i2) (i3) (i4) :
    Ld (View.readAt (Elt Ideal) arg10.view { off := o1, size := S1x32x128.size, stride := ![1, 264, 1], inb := i1 } X10)
      (View.readAt (Elt Ideal) arg10.view { off := o2, size := S1x32x128.size, stride := ![1, 264, 1], inb := i2 } X10)
      (View.readAt (Elt Ideal) arg10.view { off := o3, size := S1x32x128.size, stride := ![1, 264, 1], inb := i3 } X10)
      (View.readAt (Elt Ideal) arg10.view { off := o4, size := S1x32x128.size, stride := ![1, 264, 1], inb := i4 } X10)
      (fun a r => T a (4 * k.val + (2 * s + 0)) r) (fun a r => T a (4 * k.val + (2 * s + 1)) r) where
  a := fun a l => (t2_load h10 k s 0 0 hs (by omega) o1 h1 i1 a l).trans (by simp)
  b := fun a l => (t2_load h10 k s 0 1 hs (by omega) o2 h2 i2 a l).trans (by simp)
  a' := fun a l => (t2_load h10 k s 1 0 hs (by omega) o3 h3 i3 a l).trans (by simp)
  b' := fun a l => (t2_load h10 k s 1 1 hs (by omega) o4 h4 i4 a l).trans (by simp)
  f := fun a r ha hr => hT a _ r ha (by have : k.val < 64 := k.isLt; omega) hr
  f' := fun a r ha hr => hT a _ r ha (by have : k.val < 64 := k.isLt; omega) hr

include h4 h10 hT in
theorem t2_val (k : Fin k0_t2_loop.trips) (m : Fin 112) (r : Fin 256) :
    trip_k0_t2.sl.r_1 (F := Ideal) arg4 arg10 X4 X10 k (ix2 m r) = bR x4 T k.val m.val r.val := by
  unfold trip_k0_t2.sl.r_1 trip_k0_t2.sl.r
  rw [pay10_apply]
  unfold bR
  congr 1
  split
  · rename_i h
    refine (pay9_apply _ _ _ _ _ x4 _ _ (t2_ld h10 hT k 0 (by omega) _ _ _ _ (off4_eq 0 0 (by omega) (by omega) k) (off5_eq 0 0 (by omega) (by omega) k) (off4_eq 0 1 (by omega) (by omega) k) (off5_eq 0 1 (by omega) (by omega) k) _ _ _ _) (t2_hm h4) _ r).trans ?_
    have e1 : m.val / 56 = 0 := by omega
    have e2 : m.val % 56 = m.val := by omega
    rw [e1, e2]
  · rename_i h
    refine (pay9_apply _ _ _ _ _ x4 _ _ (t2_ld h10 hT k 1 (by omega) _ _ _ _ (off4_eq 1 0 (by omega) (by omega) k) (off5_eq 1 0 (by omega) (by omega) k) (off4_eq 1 1 (by omega) (by omega) k) (off5_eq 1 1 (by omega) (by omega) k) _ _ _ _) (t2_hm h4) _ r).trans ?_
    have e1 : m.val / 56 = 1 := by omega
    have e2 : m.val % 56 = m.val - 56 := by omega
    rw [e1, e2]

include h4 h10 hT in
theorem t2_agree (k : Fin k0_t2_loop.trips) (acc : FVec Ideal S16x256 .bf16) :
    ∀ p ∈ tripL_k0_t2 (F := Ideal) Variants.none c none i arg2 harg2 arg3 harg3 arg4 harg4 arg5 harg5 arg6 harg6 arg7 harg7 arg8 harg8 arg9 harg9 arg10 harg10 arg11 harg11 arg12 harg12 X4 X10 k acc, ∀ x,
      p.2 x = bR x4 T (p.1.emb x 0).val (p.1.emb x 1).val (p.1.emb x 2).val := by
  intro p hp
  unfold tripL_k0_t2 trip_k0_t2 at hp
  simp only [List.mem_cons, List.not_mem_nil, or_false] at hp
  rcases hp with rfl
  intro x
  obtain ⟨a, b, d, rfl⟩ : ∃ (a : Fin 1) (b : Fin 112) (d : Fin 256), x = ix3 a b d := ⟨_, _, _, eq_ix3 x⟩
  obtain rfl : a = 0 := Subsingleton.elim _ _
  refine Eq.trans (b := bR x4 T k.val b.val d.val) ?_ ?_
  · exact (pay124_apply _ b d).trans (t2_val h4 h10 hT k b d)
  · simp only [Rect.emb_apply, Rect.off_unit, Rect.stride_unit, off6_eq]; simp

include h4 h10 hT in
theorem t2_yield (k : Fin k0_t2_loop.trips) (acc : FVec Ideal S16x256 .bf16) (s : Fin 16) (r : Fin 256) (z : EReal) :
    tripR_k0_t2 (F := Ideal) Variants.none c none i arg2 harg2 arg3 harg3 arg4 harg4 arg5 harg5 arg6 harg6 arg7 harg7 arg8 harg8 arg9 harg9 arg10 harg10 arg11 harg11 arg12 harg12 X4 X10 k acc (ix2 s r) ≤ z
      ↔ acc (ix2 s r) ≤ z ∧ ∀ q < 7, eabs (bR x4 T k.val (16 * q + s.val) r.val) ≤ z := by
  unfold tripR_k0_t2 trip_k0_t2
  dsimp only
  rw [pay125_apply]
  simp only [t2_val h4 h10 hT]
  have hq : ∀ P : ℕ → Prop, (∀ q < 7, P q) ↔ P 0 ∧ P 1 ∧ P 2 ∧ P 3 ∧ P 4 ∧ P 5 ∧ P 6 := fun P =>
    ⟨fun h => ⟨h 0 (by omega), h 1 (by omega), h 2 (by omega), h 3 (by omega), h 4 (by omega), h 5 (by omega), h 6 (by omega)⟩, fun ⟨a, b, c, d, e, f, g⟩ q hq => by
      have : q = 0 ∨ q = 1 ∨ q = 2 ∨ q = 3 ∨ q = 4 ∨ q = 5 ∨ q = 6 := by omega
      rcases this with rfl | rfl | rfl | rfl | rfl | rfl | rfl <;> assumption⟩
  simp only [max_le_iff, hq]
  simp only [Nat.mul_zero, Nat.zero_add, Nat.mul_one, Nat.add_zero, Nat.reduceMul, and_assoc]

include h4 h10 hT in
/-- The carried magnitudes after `n` trips. -/
theorem t2_carried (n : ℕ) (hn : n ≤ k0_t2_loop.trips) (init : FVec Ideal S16x256 .bf16) (s : Fin 16) (r : Fin 256) (z : EReal) :
    (st_k0_t2 (F := Ideal) Variants.none c none i arg2 harg2 arg3 harg3 arg4 harg4 arg5 harg5 arg6 harg6 arg7 harg7 arg8 harg8 arg9 harg9 arg10 harg10 arg11 harg11 arg12 harg12 X4 X10 init n).1 (ix2 s r) ≤ z
      ↔ init (ix2 s r) ≤ z ∧ ∀ j < n, ∀ q < 7, eabs (bR x4 T j (16 * q + s.val) r.val) ≤ z := by
  induction n with
  | zero => rw [st_k0_t2_zero]; simp
  | succ n ih =>
    have e := st_k0_t2_succ (F := Ideal) Variants.none c none i arg2 harg2 arg3 harg3 arg4 harg4 arg5 harg5 arg6 harg6 arg7 harg7 arg8 harg8 arg9 harg9 arg10 harg10 arg11 harg11 arg12 harg12 X4 X10 init ⟨n, hn⟩
    rw [show (⟨n, hn⟩ : Fin k0_t2_loop.trips).val = n from rfl] at e
    rw [e]
    refine (t2_yield h4 h10 hT ⟨n, hn⟩ _ s r z).trans ?_
    rw [ih (by omega), and_assoc]
    refine and_congr_right fun _ => ⟨fun ⟨h1, h2⟩ j hj q hq => ?_, fun h => ⟨fun j hj => h j (by omega), h n (by omega)⟩⟩
    by_cases hjn : j < n
    · exact h1 j hjn q hq
    · obtain rfl : j = n := by omega
      exact h2 q hq

include h4 h10 hT in
/-- The second scratch array after the loop holds the rotated values. -/
theorem C11_read (init : FVec Ideal S16x256 .bf16) (X11 : BufTy.Contents (Elt Ideal) arg11.view.ty) (y : S64x112x256.Idx) :
    arg11.view.read (Elt Ideal) (arg11.view.writes (Elt Ideal) X11 (st_k0_t2 (F := Ideal) Variants.none c none i arg2 harg2 arg3 harg3 arg4 harg4 arg5 harg5 arg6 harg6 arg7 harg7 arg8 harg8 arg9 harg9 arg10 harg10 arg11 harg11 arg12 harg12 X4 X10 init k0_t2_loop.trips).2) y
      = bR x4 T (y 0).val (y 1).val (y 2).val := by
  have hT' : k0_t2_loop.trips = 64 := by decide
  have key := mem_pb (T := k0_t2_loop.trips) (fun n => (st_k0_t2 (F := Ideal) Variants.none c none i arg2 harg2 arg3 harg3 arg4 harg4 arg5 harg5 arg6 harg6 arg7 harg7 arg8 harg8 arg9 harg9 arg10 harg10 arg11 harg11 arg12 harg12 X4 X10 init n).2)
    (fun k => tripL_k0_t2 (F := Ideal) Variants.none c none i arg2 harg2 arg3 harg3 arg4 harg4 arg5 harg5 arg6 harg6 arg7 harg7 arg8 harg8 arg9 harg9 arg10 harg10 arg11 harg11 arg12 harg12 X4 X10 k (st_k0_t2 (F := Ideal) Variants.none c none i arg2 harg2 arg3 harg3 arg4 harg4 arg5 harg5 arg6 harg6 arg7 harg7 arg8 harg8 arg9 harg9 arg10 harg10 arg11 harg11 arg12 harg12 X4 X10 init k.val).1) (by first | rfl | (rw [st_k0_t2.eq_1])) (fun k => congrArg Prod.snd (st_k0_t2_succ (F := Ideal) Variants.none c none i arg2 harg2 arg3 harg3 arg4 harg4 arg5 harg5 arg6 harg6 arg7 harg7 arg8 harg8 arg9 harg9 arg10 harg10 arg11 harg11 arg12 harg12 X4 X10 init k)) _ le_rfl
  refine View.read_writes_apply_of_pieces (Val := Elt Ideal) arg11.view _ (fun y => bR x4 T (y 0).val (y 1).val (y 2).val) _ ?_ y ?_
  · intro p hp
    obtain ⟨k, _, hk⟩ := (key p).1 hp
    exact t2_agree h4 h10 hT k _ p hk
  · have h0 : (y 0).val < 64 := (y 0).isLt
    have h1 : (y 1).val < 112 := (y 1).isLt
    have hl : (y 2).val < 256 := (y 2).isLt
    have hq : (y 0).val < k0_t2_loop.trips := by omega
    have cov : ∃ p ∈ tripL_k0_t2 (F := Ideal) Variants.none c none i arg2 harg2 arg3 harg3 arg4 harg4 arg5 harg5 arg6 harg6 arg7 harg7 arg8 harg8 arg9 harg9 arg10 harg10 arg11 harg11 arg12 harg12 X4 X10 ⟨_, hq⟩ (st_k0_t2 (F := Ideal) Variants.none c none i arg2 harg2 arg3 harg3 arg4 harg4 arg5 harg5 arg6 harg6 arg7 harg7 arg8 harg8 arg9 harg9 arg10 harg10 arg11 harg11 arg12 harg12 X4 X10 init (y 0).val).1, y ∈ p.1.set := by
      unfold tripL_k0_t2 trip_k0_t2
      simp only [List.exists_mem_cons_iff, List.not_mem_nil, false_and, exists_false, or_false, Rect.mem_set_unit, Fin.forall_fin_succ, off6_eq]
      simp
      omega
    obtain ⟨p, hp, hyp⟩ := cov
    exact ⟨p, (key p).2 ⟨⟨_, hq⟩, hq, hp⟩, hyp⟩

/-- The largest magnitude of row `r`. -/
def bA (x4 : ℕ → ℕ → EReal) (T : ℕ → ℕ → ℕ → EReal) (r : ℕ) : EReal :=
  (Finset.univ : Finset (Fin 64 × Fin 112)).sup fun ji => eabs (bR x4 T ji.1.val ji.2.val r)

include h4 h10 hT in
theorem t2_amax (init : FVec Ideal S16x256 .bf16) (hi : ∀ s r, init (ix2 s r) = 0) (r : Fin 256) :
    k0_pay126 (st_k0_t2 (F := Ideal) Variants.none c none i arg2 harg2 arg3 harg3 arg4 harg4 arg5 harg5 arg6 harg6 arg7 harg7 arg8 harg8 arg9 harg9 arg10 harg10 arg11 harg11 arg12 harg12 X4 X10 init k0_t2_loop.trips).1 (ix2 0 r) = bA x4 T r.val := by
  have hT' : k0_t2_loop.trips = 64 := by decide
  have e : ∀ v3 : FVec Ideal S16x256 .bf16, k0_pay126 v3 (ix2 0 r) = Finset.fold max (Ideal.ofBits FTy.f32 4286578688#32) (fun x => v3 (ix2 x r)) Finset.univ := by
    intro v3
    pointwise [k0_pay126]
  rw [e, ofBits_neg_inf]
  refine eq_of_forall_ge_iff fun z => ?_
  rw [Finset.fold_max_le]
  unfold bA
  rw [Finset.sup_le_iff]
  simp only [Finset.mem_univ, true_implies, bot_le, true_and, t2_carried h4 h10 hT _ le_rfl, hi]
  constructor
  · rintro h ⟨j, q⟩
    have := (h ⟨q.val % 16, by omega⟩).2 j.val (by have := j.isLt; omega) (q.val / 16) (by have := q.isLt; omega)
    have e : 16 * (q.val / 16) + (q.val % 16) = q.val := by omega
    simp only [e] at this
    exact this
  · intro h s
    refine ⟨le_trans ?_ (h (0, 0)), fun j hj q hq => h (⟨j, by omega⟩, ⟨16 * q + s.val, by have := s.isLt; omega⟩)⟩
    unfold eabs
    rcases le_total 0 (bR x4 T (0 : Fin 64).val (0 : Fin 112).val r.val) with h0 | h0
    · exact le_max_of_le_left h0
    · exact le_max_of_le_right (by rw [EReal.le_neg]; simpa using h0)
end

end Cert.DownIdeal.Hand
end
-- ==== Proof.ValC.lean ====
module
public import proofs.«01_k».proof.Proof.ValB
/-! The sums of squared errors the third loop of the kernel carries. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI

/-- One squared quantisation error: value, inverse scale, scale. -/
def errT (x inv s : EReal) : EReal :=
  (x - min (Ideal.ofBits FTy.f32 1088421888#32) (max (Ideal.ofBits FTy.f32 3235905536#32) (Ideal.liftRound Ideal.roundHalfEven (x * inv))) * s)
    * (x - min (Ideal.ofBits FTy.f32 1088421888#32) (max (Ideal.ofBits FTy.f32 3235905536#32) (Ideal.liftRound Ideal.roundHalfEven (x * inv))) * s)

theorem off11_eq : ∀ k, k0_off11 k = ![k.val, 0, 0] := by decide
theorem off12_eq : ∀ k, k0_off12 k = ![k.val, 16, 0] := by decide
theorem off13_eq : ∀ k, k0_off13 k = ![k.val, 32, 0] := by decide
theorem off14_eq : ∀ k, k0_off14 k = ![k.val, 48, 0] := by decide

/-- The squared errors one trip adds to row `s` of the running sums. -/
def errSum (R : ℕ → ℕ → ℕ → EReal) (inv sc : EReal) (k s r : ℕ) (a : EReal) : EReal :=
  a + errT (R k s r) inv sc + errT (R k (8 + s) r) inv sc + errT (R k (16 + s) r) inv sc + errT (R k (16 + (8 + s)) r) inv sc
    + errT (R k (32 + s) r) inv sc + errT (R k (32 + (8 + s)) r) inv sc + errT (R k (48 + s) r) inv sc + errT (R k (48 + (8 + s)) r) inv sc

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X14 : BufTy.Contents (Elt Ideal) arg14.view.ty}
  {R : ℕ → ℕ → ℕ → EReal}
  (h14 : ∀ y, arg14.view.read (Elt Ideal) X14 y = R (y 0).val (y 1).val (y 2).val)
  {c : Dev nD} {i : grid0.Coords}
  {v16 v26 v36 v46 v56 v66 v76 v86 v88 v90 v92 v94 v96 v98 v100 v102 : FVec Ideal S1x256 .f32} {w103 w104 w105 w106 w107 w108 w109 w110 : FVec Ideal S8x256 .f32}

set_option maxHeartbeats 1600000 in
include h14 in
theorem t3_comp0 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).1 (ix2 s r)
      = errSum R (v88 (ix2 0 r)) (v16 (ix2 0 r)) k.val s.val r.val (acc.1 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

set_option maxHeartbeats 1600000 in
include h14 in
theorem t3_comp1 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).2.1 (ix2 s r)
      = errSum R (v90 (ix2 0 r)) (v26 (ix2 0 r)) k.val s.val r.val (acc.2.1 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

set_option maxHeartbeats 1600000 in
include h14 in
theorem t3_comp2 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).2.2.1 (ix2 s r)
      = errSum R (v92 (ix2 0 r)) (v36 (ix2 0 r)) k.val s.val r.val (acc.2.2.1 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

set_option maxHeartbeats 1600000 in
include h14 in
theorem t3_comp3 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).2.2.2.1 (ix2 s r)
      = errSum R (v94 (ix2 0 r)) (v46 (ix2 0 r)) k.val s.val r.val (acc.2.2.2.1 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

set_option maxHeartbeats 1600000 in
include h14 in
theorem t3_comp4 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).2.2.2.2.1 (ix2 s r)
      = errSum R (v96 (ix2 0 r)) (v56 (ix2 0 r)) k.val s.val r.val (acc.2.2.2.2.1 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

set_option maxHeartbeats 1600000 in
include h14 in
theorem t3_comp5 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).2.2.2.2.2.1 (ix2 s r)
      = errSum R (v98 (ix2 0 r)) (v66 (ix2 0 r)) k.val s.val r.val (acc.2.2.2.2.2.1 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

set_option maxHeartbeats 1600000 in
include h14 in
theorem t3_comp6 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).2.2.2.2.2.2.1 (ix2 s r)
      = errSum R (v100 (ix2 0 r)) (v76 (ix2 0 r)) k.val s.val r.val (acc.2.2.2.2.2.2.1 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

set_option maxHeartbeats 1600000 in
include h14 in
theorem t3_comp7 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 k acc).2.2.2.2.2.2.2 (ix2 s r)
      = errSum R (v102 (ix2 0 r)) (v86 (ix2 0 r)) k.val s.val r.val (acc.2.2.2.2.2.2.2 (ix2 s r)) := by
  obtain ⟨a0, a1, a2, a3, a4, a5, a6, a7⟩ := acc
  unfold tripR_k0_t3 trip_k0_t3
  dsimp only
  simp only [trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r, trip_k0_t3.sl.cst_193, trip_k0_t3.sl.cst_158]
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay146, k0_pay147]
  simp only [View.readAt_apply, h14, errSum, errT]
  simp only [LoadRect.idx, Rect.toLoadRect, Rect.unit, off11_eq, off12_eq, off13_eq, off14_eq]
  simp

end

end Cert.KernelIdeal.Hand
end
-- ==== Proof.DValC.lean ====
module
public import proofs.«01_k».proof.Proof.DValB
public import proofs.«01_k».proof.Proof.ValC
/-! The sums of squared errors the third loop of the second kernel carries. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (mem_pb eabs errT)

theorem off7_eq : ∀ k, k0_off7 k = ![k.val, 0, 0] := by decide
theorem off8_eq : ∀ k, k0_off8 k = ![k.val, 16, 0] := by decide
theorem off9_eq : ∀ k, k0_off9 k = ![k.val, 32, 0] := by decide
theorem off10_eq : ∀ k, k0_off10 k = ![k.val, 48, 0] := by decide
theorem off11_eq : ∀ k, k0_off11 k = ![k.val, 64, 0] := by decide
theorem off12_eq : ∀ k, k0_off12 k = ![k.val, 80, 0] := by decide
theorem off13_eq : ∀ k, k0_off13 k = ![k.val, 96, 0] := by decide

/-- The squared errors one trip adds to row `s` of the running sums. -/
def errSum (R : ℕ → ℕ → ℕ → EReal) (inv sc : EReal) (k s r : ℕ) (a : EReal) : EReal :=
  a + errT (R k s r) inv sc + errT (R k (8 + s) r) inv sc + errT (R k (16 + s) r) inv sc + errT (R k (16 + (8 + s)) r) inv sc + errT (R k (32 + s) r) inv sc + errT (R k (32 + (8 + s)) r) inv sc + errT (R k (48 + s) r) inv sc + errT (R k (48 + (8 + s)) r) inv sc + errT (R k (64 + s) r) inv sc + errT (R k (64 + (8 + s)) r) inv sc + errT (R k (80 + s) r) inv sc + errT (R k (80 + (8 + s)) r) inv sc + errT (R k (96 + s) r) inv sc + errT (R k (96 + (8 + s)) r) inv sc

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X11 : BufTy.Contents (Elt Ideal) arg11.view.ty}
  {R : ℕ → ℕ → ℕ → EReal}
  (h11 : ∀ y, arg11.view.read (Elt Ideal) X11 y = R (y 0).val (y 1).val (y 2).val)
  {c : Dev nD} {i : grid0.Coords}
  {v24 v34 v44 v54 v64 v74 v84 v94 v96 v98 v100 v102 v104 v106 v108 : FVec Ideal S1x256 .f32} {cst_57 : Ideal .f32}

set_option maxHeartbeats 3200000 in
include h11 in
theorem t3_comp0 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).1 (ix2 s r)
      = errSum R (v96 (ix2 0 r)) (v24 (ix2 0 r)) k.val s.val r.val (acc.1 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))

set_option maxHeartbeats 3200000 in
include h11 in
theorem t3_comp1 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).2.1 (ix2 s r)
      = errSum R (v98 (ix2 0 r)) (v34 (ix2 0 r)) k.val s.val r.val (acc.2.1 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))

set_option maxHeartbeats 3200000 in
include h11 in
theorem t3_comp2 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).2.2.1 (ix2 s r)
      = errSum R (v100 (ix2 0 r)) (v44 (ix2 0 r)) k.val s.val r.val (acc.2.2.1 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))

set_option maxHeartbeats 3200000 in
include h11 in
theorem t3_comp3 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).2.2.2.1 (ix2 s r)
      = errSum R (v102 (ix2 0 r)) (v54 (ix2 0 r)) k.val s.val r.val (acc.2.2.2.1 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))
end

end Cert.DownIdeal.Hand
end
-- ==== Proof.DValC2.lean ====
module
public import proofs.«01_k».proof.Proof.DValC
/-! The sums of squared errors the third loop of the second kernel carries, the other four. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (mem_pb eabs errT)

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X11 : BufTy.Contents (Elt Ideal) arg11.view.ty}
  {R : ℕ → ℕ → ℕ → EReal}
  (h11 : ∀ y, arg11.view.read (Elt Ideal) X11 y = R (y 0).val (y 1).val (y 2).val)
  {c : Dev nD} {i : grid0.Coords}
  {v24 v34 v44 v54 v64 v74 v84 v94 v96 v98 v100 v102 v104 v106 v108 : FVec Ideal S1x256 .f32} {cst_57 : Ideal .f32}

set_option maxHeartbeats 3200000 in
include h11 in
theorem t3_comp4 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).2.2.2.2.1 (ix2 s r)
      = errSum R (v104 (ix2 0 r)) (v64 (ix2 0 r)) k.val s.val r.val (acc.2.2.2.2.1 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))

set_option maxHeartbeats 3200000 in
include h11 in
theorem t3_comp5 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).2.2.2.2.2.1 (ix2 s r)
      = errSum R (v106 (ix2 0 r)) (v74 (ix2 0 r)) k.val s.val r.val (acc.2.2.2.2.2.1 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))

set_option maxHeartbeats 3200000 in
include h11 in
theorem t3_comp6 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).2.2.2.2.2.2.1 (ix2 s r)
      = errSum R (v108 (ix2 0 r)) (v84 (ix2 0 r)) k.val s.val r.val (acc.2.2.2.2.2.2.1 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))

set_option maxHeartbeats 3200000 in
include h11 in
theorem t3_comp7 (k : Fin k0_t3_loop.trips) (acc) (s : Fin 8) (r : Fin 256) :
    (tripR_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 k acc).2.2.2.2.2.2.2 (ix2 s r)
      = errSum R (Ideal.div cst_57 (v94 (ix2 0 r))) (v94 (ix2 0 r)) k.val s.val r.val (acc.2.2.2.2.2.2.2 (ix2 s r)) := by
  obtain ⟨a0, a1, a2, a3, a4, a5, a6, a7⟩ := acc
  unfold tripR_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, trip_k0_t3.sl.r_33, trip_k0_t3.sl.r_34, trip_k0_t3.sl.r_35, trip_k0_t3.sl.r_36, trip_k0_t3.sl.r_37, trip_k0_t3.sl.r_38, trip_k0_t3.sl.r_39, trip_k0_t3.sl.r_40, trip_k0_t3.sl.r_41, trip_k0_t3.sl.r_42, trip_k0_t3.sl.r_43, trip_k0_t3.sl.r_44, trip_k0_t3.sl.r_45, trip_k0_t3.sl.r_46, trip_k0_t3.sl.r_47, trip_k0_t3.sl.r_48, trip_k0_t3.sl.r_49, trip_k0_t3.sl.r_50, trip_k0_t3.sl.r_51, trip_k0_t3.sl.r_52, trip_k0_t3.sl.r_53, trip_k0_t3.sl.r_54, trip_k0_t3.sl.r_55, trip_k0_t3.sl.r_56, trip_k0_t3.sl.r_57, trip_k0_t3.sl.r_58, trip_k0_t3.sl.r_59, trip_k0_t3.sl.r_60, trip_k0_t3.sl.r_61, trip_k0_t3.sl.r_62, trip_k0_t3.sl.r_63, trip_k0_t3.sl.r_64, trip_k0_t3.sl.r_65, trip_k0_t3.sl.r_66, trip_k0_t3.sl.r_67, trip_k0_t3.sl.r_68, trip_k0_t3.sl.r_69, trip_k0_t3.sl.r_70, trip_k0_t3.sl.r_71, trip_k0_t3.sl.r_72, trip_k0_t3.sl.r_73, trip_k0_t3.sl.r_74, trip_k0_t3.sl.r_75]
  pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay155, k0_pay156, k0_pay157]
  simp only [View.readAt_apply, h11, errSum, errT]
  simp only [LoadRect.idx, Rect.toLoadRect, Rect.unit, off7_eq, off8_eq, off9_eq, off10_eq, off11_eq, off12_eq, off13_eq]
  simp
  all_goals (repeat' (first | rfl | refine congrArg₂ (· + ·) ?_ ?_))
end

end Cert.DownIdeal.Hand
end
-- ==== Proof.ValD.lean ====
module
public import proofs.«01_k».proof.Proof.ValC
/-! The scales, their inverses and the sums of squared errors over the columns. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI

/-- The scale of a row whose largest magnitude is `a`, at the ratio `ρ`. -/
def bSc (a ρ : EReal) : EReal :=
  if a = 0 then 1 else Ideal.div (ρ * a * Ideal.ofBits FTy.f32 1065355264#32) (Ideal.ofBits FTy.f32 1088421888#32)

/-- The eight ratios tried. -/
def rat : ℕ → EReal
  | 0 => 1
  | 1 => Ideal.ofBits FTy.f32 1064514355#32
  | 2 => Ideal.ofBits FTy.f32 1063675494#32
  | 3 => Ideal.ofBits FTy.f32 1062836634#32
  | 4 => Ideal.ofBits FTy.f32 1061997773#32
  | 5 => Ideal.ofBits FTy.f32 1061158912#32
  | 6 => Ideal.ofBits FTy.f32 1060320051#32
  | _ => Ideal.ofBits FTy.f32 1059481190#32

/-- The ratio the index word `b` selects. -/
def ratSel (b : BitVec 32) : EReal :=
  Scalar.select (IntOp.cmpi CmpIPredicate.eq b 7#32) (Ideal.ofBits FTy.f32 1059481190#32) (Scalar.select (IntOp.cmpi CmpIPredicate.eq b 6#32) (Ideal.ofBits FTy.f32 1060320051#32) (Scalar.select (IntOp.cmpi CmpIPredicate.eq b 5#32) (Ideal.ofBits FTy.f32 1061158912#32) (Scalar.select (IntOp.cmpi CmpIPredicate.eq b 4#32) (Ideal.ofBits FTy.f32 1061997773#32) (Scalar.select (IntOp.cmpi CmpIPredicate.eq b 3#32) (Ideal.ofBits FTy.f32 1062836634#32) (Scalar.select (IntOp.cmpi CmpIPredicate.eq b 2#32) (Ideal.ofBits FTy.f32 1063675494#32) (Scalar.select (IntOp.cmpi CmpIPredicate.eq b 1#32) (Ideal.ofBits FTy.f32 1064514355#32) (Scalar.select (IntOp.cmpi CmpIPredicate.eq b 0#32) 1 0)))))))

theorem sc0_apply (v3 : FVec Ideal S16x256 .bf16) (r : Fin 256) : k0_pay118 v3 (ix2 0 r) = bSc (k0_pay117 v3 (ix2 0 r)) (rat 0) := by
  pointwise [k0_pay118]
  simp only [bSc, rat, one_mul]

theorem inv0_apply (v3 : FVec Ideal S16x256 .bf16) (r : Fin 256) : k0_pay130 (k0_pay118 v3) (ix2 0 r) = Ideal.div 1 (bSc (k0_pay117 v3 (ix2 0 r)) (rat 0)) := by
  rw [← sc0_apply]
  pointwise [k0_pay130]

theorem sc1_apply (v3 : FVec Ideal S16x256 .bf16) (r : Fin 256) : k0_pay119 v3 (ix2 0 r) = bSc (k0_pay117 v3 (ix2 0 r)) (rat 1) := by
  pointwise [k0_pay119]
  rfl

theorem inv1_apply (v3 : FVec Ideal S16x256 .bf16) (r : Fin 256) : k0_pay131 (k0_pay119 v3) (ix2 0 r) = Ideal.div 1 (bSc (k0_pay117 v3 (ix2 0 r)) (rat 1)) := by
  rw [← sc1_apply]
  pointwise [k0_pay131]

theorem sc2_apply (v3 : FVec Ideal S16x256 .bf16) (r : Fin 256) : k0_pay122 (k0_pay120 v3) (k0_pay121 v3) (Scalar.ofBits .f32 0x40E00000#32) (ix2 0 r) = bSc (k0_pay117 v3 (ix2 0 r)) (rat 2) := by
  pointwise [k0_pay120, k0_pay121, k0_pay122]
  rfl

theorem inv2_apply (v3 : FVec Ideal S16x256 .bf16) (r : Fin 256) : k0_pay132 (k0_pay122 (k0_pay120 v3) (k0_pay121 v3) (Scalar.ofBits .f32 0x40E00000#32)) (ix2 0 r) = Ideal.div 1 (bSc (k0_pay117 v3 (ix2 0 r)) (rat 2)) := by
  rw [← sc2_apply]
  pointwise [k0_pay132]

theorem sc3_apply (v3 : FVec Ideal S16x256 .bf16) (r : Fin 256) : k0_pay123 (k0_pay117 v3) (ix2 0 r) = bSc (k0_pay117 v3 (ix2 0 r)) (rat 3) := by
  pointwise [k0_pay123]
  rfl

theorem inv3_apply (v3 : FVec Ideal S16x256 .bf16) (r : Fin 256) : k0_pay133 (k0_pay123 (k0_pay117 v3)) (ix2 0 r) = Ideal.div 1 (bSc (k0_pay117 v3 (ix2 0 r)) (rat 3)) := by
  rw [← sc3_apply]
  pointwise [k0_pay133]

theorem sc4_apply (v3 : FVec Ideal S16x256 .bf16) (r : Fin 256) : k0_pay124 (k0_pay117 v3) (ix2 0 r) = bSc (k0_pay117 v3 (ix2 0 r)) (rat 4) := by
  pointwise [k0_pay124]
  rfl

theorem inv4_apply (v3 : FVec Ideal S16x256 .bf16) (r : Fin 256) : k0_pay134 (k0_pay124 (k0_pay117 v3)) (ix2 0 r) = Ideal.div 1 (bSc (k0_pay117 v3 (ix2 0 r)) (rat 4)) := by
  rw [← sc4_apply]
  pointwise [k0_pay134]

theorem sc5_apply (v3 : FVec Ideal S16x256 .bf16) (r : Fin 256) : k0_pay125 (k0_pay117 v3) (ix2 0 r) = bSc (k0_pay117 v3 (ix2 0 r)) (rat 5) := by
  pointwise [k0_pay125]
  rfl

theorem inv5_apply (v3 : FVec Ideal S16x256 .bf16) (r : Fin 256) : k0_pay135 (k0_pay125 (k0_pay117 v3)) (ix2 0 r) = Ideal.div 1 (bSc (k0_pay117 v3 (ix2 0 r)) (rat 5)) := by
  rw [← sc5_apply]
  pointwise [k0_pay135]

theorem sc6_apply (v3 : FVec Ideal S16x256 .bf16) (r : Fin 256) : k0_pay128 (k0_pay126 (k0_pay117 v3)) (k0_pay127 (k0_pay117 v3)) (Scalar.ofBits .f32 0x40E00000#32) (ix2 0 r) = bSc (k0_pay117 v3 (ix2 0 r)) (rat 6) := by
  pointwise [k0_pay126, k0_pay127, k0_pay128]
  rfl

theorem inv6_apply (v3 : FVec Ideal S16x256 .bf16) (r : Fin 256) : k0_pay136 (k0_pay126 (k0_pay117 v3)) (k0_pay127 (k0_pay117 v3)) (Scalar.ofBits .f32 0x40E00000#32) (ix2 0 r) = Ideal.div 1 (bSc (k0_pay117 v3 (ix2 0 r)) (rat 6)) := by
  rw [← sc6_apply]
  pointwise [k0_pay136]

theorem sc7_apply (v3 : FVec Ideal S16x256 .bf16) (r : Fin 256) : k0_pay129 (k0_pay117 v3) (ix2 0 r) = bSc (k0_pay117 v3 (ix2 0 r)) (rat 7) := by
  pointwise [k0_pay129]
  rfl

theorem inv7_apply (v3 : FVec Ideal S16x256 .bf16) (r : Fin 256) : k0_pay137 (k0_pay117 v3) (ix2 0 r) = Ideal.div 1 (bSc (k0_pay117 v3 (ix2 0 r)) (rat 7)) := by
  rw [← sc7_apply]
  pointwise [k0_pay137]

theorem selScale_apply (v6 : FVec Ideal S1x256 .f32) (v153 : Vec Ideal S1x1x1x256 .i32) (r : Fin 256) :
    k0_pay158 v6 (k0_pay156 v153) (k0_pay157 v153) (ix2 0 r) = bSc (v6 (ix2 0 r)) (ratSel (v153 (ix4 0 0 0 r))) := by
  pointwise [k0_pay158, k0_pay157, k0_pay156]
  rfl

theorem selScale_store (v6 : FVec Ideal S1x256 .f32) (v153 : Vec Ideal S1x1x1x256 .i32) (r : Fin 256) :
    k0_pay159 v6 (k0_pay156 v153) (k0_pay157 v153) (ix4 0 0 0 r) = bSc (v6 (ix2 0 r)) (ratSel (v153 (ix4 0 0 0 r))) := by
  rw [← selScale_apply]
  pointwise [k0_pay159]

theorem selInv_apply (v6 : FVec Ideal S1x256 .f32) (v153 : Vec Ideal S1x1x1x256 .i32) (r : Fin 256) :
    k0_pay160 v6 (k0_pay156 v153) (k0_pay157 v153) (ix2 0 r) = Ideal.div 1 (bSc (v6 (ix2 0 r)) (ratSel (v153 (ix4 0 0 0 r)))) := by
  rw [← selScale_apply]
  pointwise [k0_pay160]

/-- The running sum of squared errors of row `s` after `n` trips. -/
def errAcc (R : ℕ → ℕ → ℕ → EReal) (inv sc : EReal) (s r : ℕ) : ℕ → EReal
  | 0 => 0
  | n + 1 => errSum R inv sc n s r (errAcc R inv sc s r n)

theorem errAcc_eq (R : ℕ → ℕ → ℕ → EReal) (inv sc : EReal) (s r n : ℕ) :
    errAcc R inv sc s r n = ∑ k ∈ Finset.range n, ∑ g ∈ Finset.range 8, errT (R k (8 * g + s) r) inv sc := by
  induction n with
  | zero => simp [errAcc]
  | succ n ih =>
    rw [Finset.sum_range_succ, ← ih]
    simp only [errAcc, errSum, Finset.sum_range_succ, Finset.sum_range_zero, zero_add]
    rw [show 16 + (8 + s) = 8 * 3 + s by omega, show 32 + (8 + s) = 8 * 5 + s by omega, show 48 + (8 + s) = 8 * 7 + s by omega, show 16 + s = 8 * 2 + s by omega, show 32 + s = 8 * 4 + s by omega, show 48 + s = 8 * 6 + s by omega, show 8 * 0 + s = s by omega, show 8 * 1 + s = 8 + s by omega]
    simp only [add_assoc]

/-- The sum of squared errors of row `r`. -/
def bErr (R : ℕ → ℕ → ℕ → EReal) (inv sc : EReal) (r : ℕ) : EReal :=
  ∑ j : Fin 64, ∑ q : Fin 64, errT (R j.val q.val r) inv sc

theorem err_total (R : ℕ → ℕ → ℕ → EReal) (inv sc : EReal) (r : ℕ) :
    ∑ s : Fin 8, errAcc R inv sc s.val r 64 = bErr R inv sc r := by
  simp only [errAcc_eq, bErr]
  rw [Finset.sum_comm, Finset.sum_range]
  refine Finset.sum_congr rfl fun k _ => ?_
  have e : ∑ p : Fin 8 × Fin 8, errT (R k.val (8 * p.1.val + p.2.val) r) inv sc = ∑ q : Fin 64, errT (R k.val q.val r) inv sc :=
    Fintype.sum_equiv (finProdFinEquiv (m := 8) (n := 8)) _ _
      (fun p => by
        have : ((finProdFinEquiv (m := 8) (n := 8) p : Fin (8 * 8)) : ℕ) = 8 * p.1.val + p.2.val := by simp [finProdFinEquiv]; omega
        rw [← this])
  rw [← e, Fintype.sum_prod_type, Finset.sum_comm, Finset.sum_range]

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X14 : BufTy.Contents (Elt Ideal) arg14.view.ty}
  {R : ℕ → ℕ → ℕ → EReal}
  (h14 : ∀ y, arg14.view.read (Elt Ideal) X14 y = R (y 0).val (y 1).val (y 2).val)
  {c : Dev nD} {i : grid0.Coords}
  {v16 v26 v36 v46 v56 v66 v76 v86 v88 v90 v92 v94 v96 v98 v100 v102 : FVec Ideal S1x256 .f32} {w103 w104 w105 w106 w107 w108 w109 w110 : FVec Ideal S8x256 .f32}

include h14 in
theorem t3_acc0 (init) (s : Fin 8) (r : Fin 256) (hi : init.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).1 (ix2 s r)
      = errAcc R (v88 (ix2 0 r)) (v16 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp0 h14 ⟨n, hn⟩ _ s r).trans ?_
    rw [ih (by omega)]
    rfl

theorem rowSum0_apply (v : FVec Ideal S8x256 .f32) (r : Fin 256) : k0_pay148 v (ix4 0 0 0 r) = ∑ s : Fin 8, v (ix2 s r) := by
  pointwise [k0_pay148]

theorem zero0_apply (s : Fin 8) (r : Fin 256) : (k0_pay138 : FVec Ideal S8x256 .f32) (ix2 s r) = 0 := by
  pointwise [k0_pay138]

include h14 in
theorem t3_acc1 (init) (s : Fin 8) (r : Fin 256) (hi : init.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).2.1 (ix2 s r)
      = errAcc R (v90 (ix2 0 r)) (v26 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp1 h14 ⟨n, hn⟩ _ s r).trans ?_
    rw [ih (by omega)]
    rfl

theorem rowSum1_apply (v : FVec Ideal S8x256 .f32) (r : Fin 256) : k0_pay149 v (ix4 0 0 0 r) = ∑ s : Fin 8, v (ix2 s r) := by
  pointwise [k0_pay149]

theorem zero1_apply (s : Fin 8) (r : Fin 256) : (k0_pay139 : FVec Ideal S8x256 .f32) (ix2 s r) = 0 := by
  pointwise [k0_pay139]

include h14 in
theorem t3_acc2 (init) (s : Fin 8) (r : Fin 256) (hi : init.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).2.2.1 (ix2 s r)
      = errAcc R (v92 (ix2 0 r)) (v36 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp2 h14 ⟨n, hn⟩ _ s r).trans ?_
    rw [ih (by omega)]
    rfl

theorem rowSum2_apply (v : FVec Ideal S8x256 .f32) (r : Fin 256) : k0_pay150 v (ix4 0 0 0 r) = ∑ s : Fin 8, v (ix2 s r) := by
  pointwise [k0_pay150]

theorem zero2_apply (s : Fin 8) (r : Fin 256) : (k0_pay140 : FVec Ideal S8x256 .f32) (ix2 s r) = 0 := by
  pointwise [k0_pay140]

include h14 in
theorem t3_acc3 (init) (s : Fin 8) (r : Fin 256) (hi : init.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).2.2.2.1 (ix2 s r)
      = errAcc R (v94 (ix2 0 r)) (v46 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp3 h14 ⟨n, hn⟩ _ s r).trans ?_
    rw [ih (by omega)]
    rfl

theorem rowSum3_apply (v : FVec Ideal S8x256 .f32) (r : Fin 256) : k0_pay151 v (ix4 0 0 0 r) = ∑ s : Fin 8, v (ix2 s r) := by
  pointwise [k0_pay151]

theorem zero3_apply (s : Fin 8) (r : Fin 256) : (k0_pay141 : FVec Ideal S8x256 .f32) (ix2 s r) = 0 := by
  pointwise [k0_pay141]

include h14 in
theorem t3_acc4 (init) (s : Fin 8) (r : Fin 256) (hi : init.2.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).2.2.2.2.1 (ix2 s r)
      = errAcc R (v96 (ix2 0 r)) (v56 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp4 h14 ⟨n, hn⟩ _ s r).trans ?_
    rw [ih (by omega)]
    rfl

theorem rowSum4_apply (v : FVec Ideal S8x256 .f32) (r : Fin 256) : k0_pay152 v (ix4 0 0 0 r) = ∑ s : Fin 8, v (ix2 s r) := by
  pointwise [k0_pay152]

theorem zero4_apply (s : Fin 8) (r : Fin 256) : (k0_pay142 : FVec Ideal S8x256 .f32) (ix2 s r) = 0 := by
  pointwise [k0_pay142]

include h14 in
theorem t3_acc5 (init) (s : Fin 8) (r : Fin 256) (hi : init.2.2.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).2.2.2.2.2.1 (ix2 s r)
      = errAcc R (v98 (ix2 0 r)) (v66 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp5 h14 ⟨n, hn⟩ _ s r).trans ?_
    rw [ih (by omega)]
    rfl

theorem rowSum5_apply (v : FVec Ideal S8x256 .f32) (r : Fin 256) : k0_pay153 v (ix4 0 0 0 r) = ∑ s : Fin 8, v (ix2 s r) := by
  pointwise [k0_pay153]

theorem zero5_apply (s : Fin 8) (r : Fin 256) : (k0_pay143 : FVec Ideal S8x256 .f32) (ix2 s r) = 0 := by
  pointwise [k0_pay143]

include h14 in
theorem t3_acc6 (init) (s : Fin 8) (r : Fin 256) (hi : init.2.2.2.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).2.2.2.2.2.2.1 (ix2 s r)
      = errAcc R (v100 (ix2 0 r)) (v76 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp6 h14 ⟨n, hn⟩ _ s r).trans ?_
    rw [ih (by omega)]
    rfl

theorem rowSum6_apply (v : FVec Ideal S8x256 .f32) (r : Fin 256) : k0_pay154 v (ix4 0 0 0 r) = ∑ s : Fin 8, v (ix2 s r) := by
  pointwise [k0_pay154]

theorem zero6_apply (s : Fin 8) (r : Fin 256) : (k0_pay144 : FVec Ideal S8x256 .f32) (ix2 s r) = 0 := by
  pointwise [k0_pay144]

include h14 in
theorem t3_acc7 (init) (s : Fin 8) (r : Fin 256) (hi : init.2.2.2.2.2.2.2 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init n).2.2.2.2.2.2.2 (ix2 s r)
      = errAcc R (v102 (ix2 0 r)) (v86 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v16 v26 v36 v46 v56 v66 v76 v86 v88 v90 v92 v94 v96 v98 v100 v102 w103 w104 w105 w106 w107 w108 w109 w110 X14 init ⟨n, hn⟩
    rw [show (⟨n, hn⟩ : Fin k0_t3_loop.trips).val = n from rfl] at e
    rw [e]
    refine (t3_comp7 h14 ⟨n, hn⟩ _ s r).trans ?_
    rw [ih (by omega)]
    rfl

theorem rowSum7_apply (v : FVec Ideal S8x256 .f32) (r : Fin 256) : k0_pay155 v (ix4 0 0 0 r) = ∑ s : Fin 8, v (ix2 s r) := by
  pointwise [k0_pay155]

theorem zero7_apply (s : Fin 8) (r : Fin 256) : (k0_pay145 : FVec Ideal S8x256 .f32) (ix2 s r) = 0 := by
  pointwise [k0_pay145]

end

theorem init_apply (s : Fin 16) (r : Fin 256) : (k0_pay113 : FVec Ideal S16x256 .bf16) (ix2 s r) = 0 := by
  pointwise [k0_pay113]

end Cert.KernelIdeal.Hand
end
-- ==== Proof.DValD.lean ====
module
public import proofs.«01_k».proof.Proof.DValC2
public import proofs.«01_k».proof.Proof.ValD
/-! The scales of the second kernel, their inverses and the sums of squared errors over the columns. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (mem_pb eabs errT bSc rat ratSel)

theorem sc0_apply (v3 : FVec Ideal S16x256 .bf16) (r : Fin 256) : k0_pay127 v3 (ix2 0 r) = bSc (k0_pay126 v3 (ix2 0 r)) (rat 0) := by
  pointwise [k0_pay127]
  simp only [bSc, rat, one_mul]

theorem inv0_apply (v3 : FVec Ideal S16x256 .bf16) (r : Fin 256) : k0_pay139 (k0_pay127 v3) (ix2 0 r) = Ideal.div 1 (bSc (k0_pay126 v3 (ix2 0 r)) (rat 0)) := by
  rw [← sc0_apply]
  pointwise [k0_pay139]

theorem sc1_apply (v3 : FVec Ideal S16x256 .bf16) (r : Fin 256) : k0_pay130 (k0_pay128 v3) (k0_pay129 v3) (Scalar.ofBits .f32 0x3F800800#32) (ix2 0 r) = bSc (k0_pay126 v3 (ix2 0 r)) (rat 1) := by
  pointwise [k0_pay130, k0_pay128, k0_pay129]
  rfl

theorem inv1_apply (v3 : FVec Ideal S16x256 .bf16) (r : Fin 256) : k0_pay140 (k0_pay130 (k0_pay128 v3) (k0_pay129 v3) (Scalar.ofBits .f32 0x3F800800#32)) (ix2 0 r) = Ideal.div 1 (bSc (k0_pay126 v3 (ix2 0 r)) (rat 1)) := by
  rw [← sc1_apply]
  pointwise [k0_pay140]

theorem sc2_apply (v3 : FVec Ideal S16x256 .bf16) (r : Fin 256) : k0_pay131 (k0_pay126 v3) (ix2 0 r) = bSc (k0_pay126 v3 (ix2 0 r)) (rat 2) := by
  pointwise [k0_pay131]
  rfl

theorem inv2_apply (v3 : FVec Ideal S16x256 .bf16) (r : Fin 256) : k0_pay141 (k0_pay131 (k0_pay126 v3)) (ix2 0 r) = Ideal.div 1 (bSc (k0_pay126 v3 (ix2 0 r)) (rat 2)) := by
  rw [← sc2_apply]
  pointwise [k0_pay141]

theorem sc3_apply (v3 : FVec Ideal S16x256 .bf16) (r : Fin 256) : k0_pay132 (k0_pay126 v3) (ix2 0 r) = bSc (k0_pay126 v3 (ix2 0 r)) (rat 3) := by
  pointwise [k0_pay132]
  rfl

theorem inv3_apply (v3 : FVec Ideal S16x256 .bf16) (r : Fin 256) : k0_pay142 (k0_pay132 (k0_pay126 v3)) (ix2 0 r) = Ideal.div 1 (bSc (k0_pay126 v3 (ix2 0 r)) (rat 3)) := by
  rw [← sc3_apply]
  pointwise [k0_pay142]

theorem sc4_apply (v3 : FVec Ideal S16x256 .bf16) (r : Fin 256) : k0_pay133 (k0_pay126 v3) (ix2 0 r) = bSc (k0_pay126 v3 (ix2 0 r)) (rat 4) := by
  pointwise [k0_pay133]
  rfl

theorem inv4_apply (v3 : FVec Ideal S16x256 .bf16) (r : Fin 256) : k0_pay143 (k0_pay133 (k0_pay126 v3)) (ix2 0 r) = Ideal.div 1 (bSc (k0_pay126 v3 (ix2 0 r)) (rat 4)) := by
  rw [← sc4_apply]
  pointwise [k0_pay143]

theorem sc5_apply (v3 : FVec Ideal S16x256 .bf16) (r : Fin 256) : k0_pay136 (k0_pay134 (k0_pay126 v3)) (k0_pay135 (k0_pay126 v3)) (Scalar.ofBits .f32 0x3F800800#32) (ix2 0 r) = bSc (k0_pay126 v3 (ix2 0 r)) (rat 5) := by
  pointwise [k0_pay136, k0_pay134, k0_pay135]
  rfl

theorem inv5_apply (v3 : FVec Ideal S16x256 .bf16) (r : Fin 256) : k0_pay144 (k0_pay134 (k0_pay126 v3)) (k0_pay135 (k0_pay126 v3)) (Scalar.ofBits .f32 0x3F800800#32) (ix2 0 r) = Ideal.div 1 (bSc (k0_pay126 v3 (ix2 0 r)) (rat 5)) := by
  rw [← sc5_apply]
  pointwise [k0_pay144]

theorem sc6_apply (v3 : FVec Ideal S16x256 .bf16) (r : Fin 256) : k0_pay137 (k0_pay126 v3) (ix2 0 r) = bSc (k0_pay126 v3 (ix2 0 r)) (rat 6) := by
  pointwise [k0_pay137]
  rfl

theorem inv6_apply (v3 : FVec Ideal S16x256 .bf16) (r : Fin 256) : k0_pay145 (k0_pay126 v3) (ix2 0 r) = Ideal.div 1 (bSc (k0_pay126 v3 (ix2 0 r)) (rat 6)) := by
  rw [← sc6_apply]
  pointwise [k0_pay145]

theorem sc7_apply (v3 : FVec Ideal S16x256 .bf16) (r : Fin 256) : k0_pay138 (k0_pay126 v3) (ix2 0 r) = bSc (k0_pay126 v3 (ix2 0 r)) (rat 7) := by
  pointwise [k0_pay138]
  rfl

theorem inv7_apply (v3 : FVec Ideal S16x256 .bf16) (r : Fin 256) : Ideal.div (Scalar.ofBits (F := Ideal) .f32 0x3F800000#32) (k0_pay138 (k0_pay126 v3) (ix2 0 r)) = Ideal.div 1 (bSc (k0_pay126 v3 (ix2 0 r)) (rat 7)) := by
  rw [← sc7_apply]
  pointwise []

/-- The selected scale, as the kernel picks it. -/
abbrev selS (v14 : FVec Ideal S1x256 .f32) (v161 : Vec Ideal S1x1x1x256 .i32) : FVec Ideal S1x256 .f32 := k0_pay170 v14 (k0_pay167 v161) k0_pay168

theorem selScale_apply (v14 : FVec Ideal S1x256 .f32) (v161 : Vec Ideal S1x1x1x256 .i32) (r : Fin 256) :
    k0_pay1 (k0_pay169 v14) (selS v14 v161) k0_pay171 (ix2 0 r) = bSc (v14 (ix2 0 r)) (ratSel (v161 (ix4 0 0 0 r))) := by
  pointwise [k0_pay1, k0_pay169, k0_pay170, k0_pay167, k0_pay168, k0_pay171]
  rfl

theorem selScale_store (v14 : FVec Ideal S1x256 .f32) (v161 : Vec Ideal S1x1x1x256 .i32) (r : Fin 256) :
    k0_pay2 (k0_pay169 v14) (selS v14 v161) k0_pay171 (ix4 0 0 0 r) = bSc (v14 (ix2 0 r)) (ratSel (v161 (ix4 0 0 0 r))) := by
  rw [← selScale_apply]
  pointwise [k0_pay2]

theorem selInv_apply (v14 : FVec Ideal S1x256 .f32) (v161 : Vec Ideal S1x1x1x256 .i32) (r : Fin 256) :
    k0_pay3 (k0_pay169 v14) (selS v14 v161) k0_pay171 (ix2 0 r) = Ideal.div 1 (bSc (v14 (ix2 0 r)) (ratSel (v161 (ix4 0 0 0 r)))) := by
  rw [← selScale_apply]
  pointwise [k0_pay3]

/-- The running sum of squared errors of row `s` after `n` trips. -/
def errAcc (R : ℕ → ℕ → ℕ → EReal) (inv sc : EReal) (s r : ℕ) : ℕ → EReal
  | 0 => 0
  | n + 1 => errSum R inv sc n s r (errAcc R inv sc s r n)

theorem errAcc_eq (R : ℕ → ℕ → ℕ → EReal) (inv sc : EReal) (s r n : ℕ) :
    errAcc R inv sc s r n = ∑ k ∈ Finset.range n, ∑ g ∈ Finset.range 14, errT (R k (8 * g + s) r) inv sc := by
  induction n with
  | zero => simp [errAcc]
  | succ n ih =>
    rw [Finset.sum_range_succ, ← ih]
    simp only [errAcc, errSum, Finset.sum_range_succ, Finset.sum_range_zero, zero_add]
    rw [show 16 + (8 + s) = 8 * 3 + s by omega, show 32 + (8 + s) = 8 * 5 + s by omega, show 48 + (8 + s) = 8 * 7 + s by omega, show 64 + (8 + s) = 8 * 9 + s by omega, show 80 + (8 + s) = 8 * 11 + s by omega, show 96 + (8 + s) = 8 * 13 + s by omega, show 16 + s = 8 * 2 + s by omega, show 32 + s = 8 * 4 + s by omega, show 48 + s = 8 * 6 + s by omega, show 64 + s = 8 * 8 + s by omega, show 80 + s = 8 * 10 + s by omega, show 96 + s = 8 * 12 + s by omega, show 8 * 0 + s = s by omega, show 8 * 1 + s = 8 + s by omega]
    simp only [add_assoc]

/-- The sum of squared errors of row `r`. -/
def bErr (R : ℕ → ℕ → ℕ → EReal) (inv sc : EReal) (r : ℕ) : EReal :=
  ∑ j : Fin 64, ∑ q : Fin 112, errT (R j.val q.val r) inv sc

theorem err_total (R : ℕ → ℕ → ℕ → EReal) (inv sc : EReal) (r : ℕ) :
    ∑ s : Fin 8, errAcc R inv sc s.val r 64 = bErr R inv sc r := by
  simp only [errAcc_eq, bErr]
  rw [Finset.sum_comm, Finset.sum_range]
  refine Finset.sum_congr rfl fun k _ => ?_
  have e : ∑ p : Fin 14 × Fin 8, errT (R k.val (8 * p.1.val + p.2.val) r) inv sc = ∑ q : Fin 112, errT (R k.val q.val r) inv sc :=
    Fintype.sum_equiv (finProdFinEquiv (m := 14) (n := 8)) _ _
      (fun p => by
        have : ((finProdFinEquiv (m := 14) (n := 8) p : Fin (14 * 8)) : ℕ) = 8 * p.1.val + p.2.val := by simp [finProdFinEquiv]; omega
        rw [← this])
  rw [← e, Fintype.sum_prod_type, Finset.sum_comm, Finset.sum_range]

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X11 : BufTy.Contents (Elt Ideal) arg11.view.ty}
  {R : ℕ → ℕ → ℕ → EReal}
  (h11 : ∀ y, arg11.view.read (Elt Ideal) X11 y = R (y 0).val (y 1).val (y 2).val)
  {c : Dev nD} {i : grid0.Coords}
  {v24 v34 v44 v54 v64 v74 v84 v94 v96 v98 v100 v102 v104 v106 v108 : FVec Ideal S1x256 .f32} {cst_57 : Ideal .f32}

include h11 in
theorem t3_acc0 (init) (s : Fin 8) (r : Fin 256) (hi : init.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).1 (ix2 s r)
      = errAcc R (v96 (ix2 0 r)) (v24 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp0 h11 ⟨n, hn⟩ _ s r).trans ?_
    rw [ih (by omega)]
    rfl

theorem rowSum0_apply (v : FVec Ideal S8x256 .f32) (r : Fin 256) : k0_pay158 v (ix4 0 0 0 r) = ∑ s : Fin 8, v (ix2 s r) := by
  pointwise [k0_pay158]

theorem zero0_apply (s : Fin 8) (r : Fin 256) : (k0_pay147 : FVec Ideal S8x256 .f32) (ix2 s r) = 0 := by
  pointwise [k0_pay147]

include h11 in
theorem t3_acc1 (init) (s : Fin 8) (r : Fin 256) (hi : init.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).2.1 (ix2 s r)
      = errAcc R (v98 (ix2 0 r)) (v34 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp1 h11 ⟨n, hn⟩ _ s r).trans ?_
    rw [ih (by omega)]
    rfl

theorem rowSum1_apply (v : FVec Ideal S8x256 .f32) (r : Fin 256) : k0_pay159 v (ix4 0 0 0 r) = ∑ s : Fin 8, v (ix2 s r) := by
  pointwise [k0_pay159]

theorem zero1_apply (s : Fin 8) (r : Fin 256) : (k0_pay148 : FVec Ideal S8x256 .f32) (ix2 s r) = 0 := by
  pointwise [k0_pay148]

include h11 in
theorem t3_acc2 (init) (s : Fin 8) (r : Fin 256) (hi : init.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).2.2.1 (ix2 s r)
      = errAcc R (v100 (ix2 0 r)) (v44 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp2 h11 ⟨n, hn⟩ _ s r).trans ?_
    rw [ih (by omega)]
    rfl

theorem rowSum2_apply (v : FVec Ideal S8x256 .f32) (r : Fin 256) : k0_pay160 v (ix4 0 0 0 r) = ∑ s : Fin 8, v (ix2 s r) := by
  pointwise [k0_pay160]

theorem zero2_apply (s : Fin 8) (r : Fin 256) : (k0_pay149 : FVec Ideal S8x256 .f32) (ix2 s r) = 0 := by
  pointwise [k0_pay149]

include h11 in
theorem t3_acc3 (init) (s : Fin 8) (r : Fin 256) (hi : init.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).2.2.2.1 (ix2 s r)
      = errAcc R (v102 (ix2 0 r)) (v54 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp3 h11 ⟨n, hn⟩ _ s r).trans ?_
    rw [ih (by omega)]
    rfl

theorem rowSum3_apply (v : FVec Ideal S8x256 .f32) (r : Fin 256) : k0_pay162 (k0_pay161 v) (ix4 0 0 0 r) = ∑ s : Fin 8, v (ix2 s r) := by
  pointwise [k0_pay162, k0_pay161]

theorem zero3_apply (s : Fin 8) (r : Fin 256) : (k0_pay150 : FVec Ideal S8x256 .f32) (ix2 s r) = 0 := by
  pointwise [k0_pay150]

include h11 in
theorem t3_acc4 (init) (s : Fin 8) (r : Fin 256) (hi : init.2.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).2.2.2.2.1 (ix2 s r)
      = errAcc R (v104 (ix2 0 r)) (v64 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp4 h11 ⟨n, hn⟩ _ s r).trans ?_
    rw [ih (by omega)]
    rfl

theorem rowSum4_apply (v : FVec Ideal S8x256 .f32) (r : Fin 256) : k0_pay163 v (ix4 0 0 0 r) = ∑ s : Fin 8, v (ix2 s r) := by
  pointwise [k0_pay163]

theorem zero4_apply (s : Fin 8) (r : Fin 256) : (k0_pay151 : FVec Ideal S8x256 .f32) (ix2 s r) = 0 := by
  pointwise [k0_pay151]

include h11 in
theorem t3_acc5 (init) (s : Fin 8) (r : Fin 256) (hi : init.2.2.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).2.2.2.2.2.1 (ix2 s r)
      = errAcc R (v106 (ix2 0 r)) (v74 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp5 h11 ⟨n, hn⟩ _ s r).trans ?_
    rw [ih (by omega)]
    rfl

theorem rowSum5_apply (v : FVec Ideal S8x256 .f32) (r : Fin 256) : k0_pay164 v (ix4 0 0 0 r) = ∑ s : Fin 8, v (ix2 s r) := by
  pointwise [k0_pay164]

theorem zero5_apply (s : Fin 8) (r : Fin 256) : (k0_pay152 : FVec Ideal S8x256 .f32) (ix2 s r) = 0 := by
  pointwise [k0_pay152]

include h11 in
theorem t3_acc6 (init) (s : Fin 8) (r : Fin 256) (hi : init.2.2.2.2.2.2.1 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).2.2.2.2.2.2.1 (ix2 s r)
      = errAcc R (v108 (ix2 0 r)) (v84 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp6 h11 ⟨n, hn⟩ _ s r).trans ?_
    rw [ih (by omega)]
    rfl

theorem rowSum6_apply (v : FVec Ideal S8x256 .f32) (r : Fin 256) : k0_pay165 v (ix4 0 0 0 r) = ∑ s : Fin 8, v (ix2 s r) := by
  pointwise [k0_pay165]

theorem zero6_apply (s : Fin 8) (r : Fin 256) : (k0_pay153 : FVec Ideal S8x256 .f32) (ix2 s r) = 0 := by
  pointwise [k0_pay153]

include h11 in
theorem t3_acc7 (init) (s : Fin 8) (r : Fin 256) (hi : init.2.2.2.2.2.2.2 (ix2 s r) = 0) (n : ℕ) (hn : n ≤ k0_t3_loop.trips) :
    (st_k0_t3 (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init n).2.2.2.2.2.2.2 (ix2 s r)
      = errAcc R (Ideal.div cst_57 (v94 (ix2 0 r))) (v94 (ix2 0 r)) s.val r.val n := by
  induction n with
  | zero => exact hi
  | succ n ih =>
    have e := st_k0_t3_succ (F := Ideal) Variants.none c none i arg2 harg2 arg3 harg3 arg4 harg4 arg5 harg5 arg6 harg6 arg7 harg7 arg8 harg8 arg9 harg9 arg10 harg10 arg11 harg11 arg12 harg12 v24 v34 v44 v54 v64 v74 v84 v94 v96 v98 v100 v102 v104 v106 v108 cst_57 X11 init ⟨n, hn⟩
    rw [show (⟨n, hn⟩ : Fin k0_t3_loop.trips).val = n from rfl] at e
    rw [e]
    refine (t3_comp7 h11 ⟨n, hn⟩ _ s r).trans ?_
    rw [ih (by omega)]
    rfl

theorem rowSum7_apply (v : FVec Ideal S8x256 .f32) (r : Fin 256) : k0_pay166 v (ix4 0 0 0 r) = ∑ s : Fin 8, v (ix2 s r) := by
  pointwise [k0_pay166]

theorem zero7_apply (s : Fin 8) (r : Fin 256) : (k0_pay154 : FVec Ideal S8x256 .f32) (ix2 s r) = 0 := by
  pointwise [k0_pay154]
end

end Cert.DownIdeal.Hand
end
-- ==== Proof.ValE.lean ====
module
public import proofs.«01_k».proof.Proof.ValD
/-! The packed words of the fourth loop, and the rows the fifth loop gathers. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI

/-- A value rounded to the nearest whole number and clipped to the code range. -/
def qz (z : EReal) : EReal :=
  min (Ideal.ofBits FTy.bf16 16608#16) (max (Ideal.ofBits FTy.bf16 49376#16) (Ideal.liftRound Ideal.roundHalfEven z))

/-- Four codes of one word half, summed at their digit weights. -/
def halfE (P : ℕ → ℕ → EReal) (R : ℕ → ℕ → ℕ → EReal) (inv : EReal) (b i r : ℕ) : EReal :=
  ∑ p : Fin 256, P i p.val * qz (R (b + p.val / 64) (p.val % 64) r * inv)

/-- The word made of its two halves. -/
def mkWord (lo hi : BitVec 32) : BitVec 32 :=
  IntOp.xori (IntOp.ori (IntOp.addi lo 34952#32) (IntOp.shli ArithUnit.vector (IntOp.addi hi 34952#32) 16#32)) 2290649224#32

/-- The packed word of group `k`, row `i` and column `r`. -/
def wordE (P : ℕ → ℕ → EReal) (R : ℕ → ℕ → ℕ → EReal) (inv : ℕ → EReal) (k i r : ℕ) : BitVec 32 :=
  mkWord (FloatOps.fptosi (F := Ideal) (φ := .f32) 32 (halfE P R (inv r) (8 * k) i r)) (FloatOps.fptosi (F := Ideal) (φ := .f32) 32 (halfE P R (inv r) (8 * k + 4) i r))

theorem off15_eq0 : ∀ k, k0_off15 k 0#32 = ![8 * k.val + 0, 0, 0] := by decide
theorem off15_eq1 : ∀ k, k0_off15 k 1#32 = ![8 * k.val + 1, 0, 0] := by decide
theorem off15_eq2 : ∀ k, k0_off15 k 2#32 = ![8 * k.val + 2, 0, 0] := by decide
theorem off15_eq3 : ∀ k, k0_off15 k 3#32 = ![8 * k.val + 3, 0, 0] := by decide
theorem off15_eq4 : ∀ k, k0_off15 k 4#32 = ![8 * k.val + 4, 0, 0] := by decide
theorem off15_eq5 : ∀ k, k0_off15 k 5#32 = ![8 * k.val + 5, 0, 0] := by decide
theorem off15_eq6 : ∀ k, k0_off15 k 6#32 = ![8 * k.val + 6, 0, 0] := by decide
theorem off15_eq7 : ∀ k, k0_off15 k 7#32 = ![8 * k.val + 7, 0, 0] := by decide
theorem off16_eq : ∀ k, k0_off16 k = ![0, 72 * k.val, 0] := by decide
theorem off17_eq : ∀ k, k0_off17 k = ![1, 72 * k.val, 0] := by decide
theorem off20_eq : ∀ k, k0_off20 k = ![0, 0, 128 * k.val] := by decide
theorem off21_eq : ∀ k, k0_off21 k = ![0, 128, 128 * k.val] := by decide
theorem off18_eq0 : ∀ k, k0_off18 k 0#32 = ![0, 16 * k.val + 0, 0] := by decide
theorem off19_eq0 : ∀ k, k0_off19 k 0#32 = ![1, 16 * k.val + 0, 0] := by decide
theorem off18_eq1 : ∀ k, k0_off18 k 1#32 = ![0, 16 * k.val + 1, 0] := by decide
theorem off19_eq1 : ∀ k, k0_off19 k 1#32 = ![1, 16 * k.val + 1, 0] := by decide
theorem off18_eq2 : ∀ k, k0_off18 k 2#32 = ![0, 16 * k.val + 2, 0] := by decide
theorem off19_eq2 : ∀ k, k0_off19 k 2#32 = ![1, 16 * k.val + 2, 0] := by decide
theorem off18_eq3 : ∀ k, k0_off18 k 3#32 = ![0, 16 * k.val + 3, 0] := by decide
theorem off19_eq3 : ∀ k, k0_off19 k 3#32 = ![1, 16 * k.val + 3, 0] := by decide
theorem off18_eq4 : ∀ k, k0_off18 k 4#32 = ![0, 16 * k.val + 4, 0] := by decide
theorem off19_eq4 : ∀ k, k0_off19 k 4#32 = ![1, 16 * k.val + 4, 0] := by decide
theorem off18_eq5 : ∀ k, k0_off18 k 5#32 = ![0, 16 * k.val + 5, 0] := by decide
theorem off19_eq5 : ∀ k, k0_off19 k 5#32 = ![1, 16 * k.val + 5, 0] := by decide
theorem off18_eq6 : ∀ k, k0_off18 k 6#32 = ![0, 16 * k.val + 6, 0] := by decide
theorem off19_eq6 : ∀ k, k0_off19 k 6#32 = ![1, 16 * k.val + 6, 0] := by decide
theorem off18_eq7 : ∀ k, k0_off18 k 7#32 = ![0, 16 * k.val + 7, 0] := by decide
theorem off19_eq7 : ∀ k, k0_off19 k 7#32 = ![1, 16 * k.val + 7, 0] := by decide
theorem off18_eq8 : ∀ k, k0_off18 k 8#32 = ![0, 16 * k.val + 8, 0] := by decide
theorem off19_eq8 : ∀ k, k0_off19 k 8#32 = ![1, 16 * k.val + 8, 0] := by decide
theorem off18_eq9 : ∀ k, k0_off18 k 9#32 = ![0, 16 * k.val + 9, 0] := by decide
theorem off19_eq9 : ∀ k, k0_off19 k 9#32 = ![1, 16 * k.val + 9, 0] := by decide
theorem off18_eq10 : ∀ k, k0_off18 k 10#32 = ![0, 16 * k.val + 10, 0] := by decide
theorem off19_eq10 : ∀ k, k0_off19 k 10#32 = ![1, 16 * k.val + 10, 0] := by decide
theorem off18_eq11 : ∀ k, k0_off18 k 11#32 = ![0, 16 * k.val + 11, 0] := by decide
theorem off19_eq11 : ∀ k, k0_off19 k 11#32 = ![1, 16 * k.val + 11, 0] := by decide
theorem off18_eq12 : ∀ k, k0_off18 k 12#32 = ![0, 16 * k.val + 12, 0] := by decide
theorem off19_eq12 : ∀ k, k0_off19 k 12#32 = ![1, 16 * k.val + 12, 0] := by decide
theorem off18_eq13 : ∀ k, k0_off18 k 13#32 = ![0, 16 * k.val + 13, 0] := by decide
theorem off19_eq13 : ∀ k, k0_off19 k 13#32 = ![1, 16 * k.val + 13, 0] := by decide
theorem off18_eq14 : ∀ k, k0_off18 k 14#32 = ![0, 16 * k.val + 14, 0] := by decide
theorem off19_eq14 : ∀ k, k0_off19 k 14#32 = ![1, 16 * k.val + 14, 0] := by decide
theorem off18_eq15 : ∀ k, k0_off18 k 15#32 = ![0, 16 * k.val + 15, 0] := by decide
theorem off19_eq15 : ∀ k, k0_off19 k 15#32 = ![1, 16 * k.val + 15, 0] := by decide

theorem shapeCast_drop (v : Vec Ideal S1x8x128 .i32) (h) (t : Fin 8) (r : Fin 128) : (shapeCast S8x128 v h : IVec S8x128 32) (ix2 t r) = v (ix3 0 t r) := by
  pointwise

set_option maxHeartbeats 4000000 in
theorem concat16_apply {v0 v1 v2 v3 v4 v5 v6 v7 v8 v9 v10 v11 v12 v13 v14 v15 : IVec S8x128 32} (h) (x r : Fin 128) (G : ℕ → ℕ → BitVec 32)
    (h0 : ∀ t, v0 (ix2 t r) = G 0 t.val)
    (h1 : ∀ t, v1 (ix2 t r) = G 1 t.val)
    (h2 : ∀ t, v2 (ix2 t r) = G 2 t.val)
    (h3 : ∀ t, v3 (ix2 t r) = G 3 t.val)
    (h4 : ∀ t, v4 (ix2 t r) = G 4 t.val)
    (h5 : ∀ t, v5 (ix2 t r) = G 5 t.val)
    (h6 : ∀ t, v6 (ix2 t r) = G 6 t.val)
    (h7 : ∀ t, v7 (ix2 t r) = G 7 t.val)
    (h8 : ∀ t, v8 (ix2 t r) = G 8 t.val)
    (h9 : ∀ t, v9 (ix2 t r) = G 9 t.val)
    (h10 : ∀ t, v10 (ix2 t r) = G 10 t.val)
    (h11 : ∀ t, v11 (ix2 t r) = G 11 t.val)
    (h12 : ∀ t, v12 (ix2 t r) = G 12 t.val)
    (h13 : ∀ t, v13 (ix2 t r) = G 13 t.val)
    (h14 : ∀ t, v14 (ix2 t r) = G 14 t.val)
    (h15 : ∀ t, v15 (ix2 t r) = G 15 t.val)
    : (concatenate S128x128 0 [⟨S8x128, v0⟩, ⟨S8x128, v1⟩, ⟨S8x128, v2⟩, ⟨S8x128, v3⟩, ⟨S8x128, v4⟩, ⟨S8x128, v5⟩, ⟨S8x128, v6⟩, ⟨S8x128, v7⟩, ⟨S8x128, v8⟩, ⟨S8x128, v9⟩, ⟨S8x128, v10⟩, ⟨S8x128, v11⟩, ⟨S8x128, v12⟩, ⟨S8x128, v13⟩, ⟨S8x128, v14⟩, ⟨S8x128, v15⟩] h : IVec S128x128 32) (ix2 x r) = G (x.val / 8) (x.val % 8) := by
  have hx := x.isLt
  have key : ∀ (n : Fin 16) (t : Fin 8), (![v0, v1, v2, v3, v4, v5, v6, v7, v8, v9, v10, v11, v12, v13, v14, v15] : Fin 16 → IVec S8x128 32) n (ix2 t r) = G n.val t.val := by
    intro n t
    fin_cases n
    · exact h0 t
    · exact h1 t
    · exact h2 t
    · exact h3 t
    · exact h4 t
    · exact h5 t
    · exact h6 t
    · exact h7 t
    · exact h8 t
    · exact h9 t
    · exact h10 t
    · exact h11 t
    · exact h12 t
    · exact h13 t
    · exact h14 t
    · exact h15 t
  refine Eq.trans ?_ (key ⟨x.val / 8, by omega⟩ ⟨x.val % 8, by omega⟩)
  refine concatenate_ofFn_apply (t := S128x128) 0 ![v0, v1, v2, v3, v4, v5, v6, v7, v8, v9, v10, v11, v12, v13, v14, v15] h rfl 8 rfl (ix2 x r) ⟨x.val / 8, by omega⟩ rfl (ix2 ⟨x.val % 8, by omega⟩ r) rfl ?_
  intro b hb
  fin_cases b
  · exact absurd rfl hb
  · rfl

theorem pay78_apply (v201 : FVec Ideal S1x256 .f32) (v205 v219 v233 v243 : FVec Ideal S64x256 .bf16) (v251 : Vec Ideal S1x64x256 .bf16) (i : Fin 64) (r : Fin 256) : k0_pay78 v201 v205 v219 v233 v243 (Scalar.ofBits .bf16 0xC0E0#16) v251 (ix2 i r) =
    ∑ x : Fin 256, v205 (ix2 i x) * (if h : x.val < 64 then v219 (ix2 ⟨x.val, by omega⟩ r) else if h : x.val - 64 < 64 then v233 (ix2 ⟨x.val - 64, by omega⟩ r)
      else if h : x.val - 64 - 64 < 64 then min (Ideal.ofBits FTy.bf16 16608#16) (max (Ideal.ofBits FTy.bf16 49376#16) (v243 (ix2 ⟨x.val - 64 - 64, by omega⟩ r)))
      else min (Ideal.ofBits FTy.bf16 16608#16) (max (Ideal.ofBits FTy.bf16 49376#16) (Ideal.liftRound Ideal.roundHalfEven (v251 (ix3 0 ⟨x.val - 64 - 64 - 64, by omega⟩ r) * v201 (ix2 0 r))))) := by
  pointwise [k0_pay78]

theorem pay81_apply (v201 : FVec Ideal S1x256 .f32) (v205 v219 : FVec Ideal S64x256 .bf16) (v233 v243 v251 : Vec Ideal S1x64x256 .bf16) (i : Fin 64) (r : Fin 256) : k0_pay81 v201 v205 v219 v233 v243 v251 (ix2 i r) =
    ∑ x : Fin 256, v205 (ix2 i x) * (if h : x.val < 64 then v219 (ix2 ⟨x.val, by omega⟩ r)
      else if h : x.val - 64 < 64 then min (Ideal.ofBits FTy.bf16 16608#16) (max (Ideal.ofBits FTy.bf16 49376#16) (Ideal.liftRound Ideal.roundHalfEven (v233 (ix3 0 ⟨x.val - 64, by omega⟩ r) * v201 (ix2 0 r))))
      else if h : x.val - 64 - 64 < 64 then min (Ideal.ofBits FTy.bf16 16608#16) (max (Ideal.ofBits FTy.bf16 49376#16) (Ideal.liftRound Ideal.roundHalfEven (v243 (ix3 0 ⟨x.val - 64 - 64, by omega⟩ r) * v201 (ix2 0 r))))
      else min (Ideal.ofBits FTy.bf16 16608#16) (max (Ideal.ofBits FTy.bf16 49376#16) (Ideal.liftRound Ideal.roundHalfEven (v251 (ix3 0 ⟨x.val - 64 - 64 - 64, by omega⟩ r) * v201 (ix2 0 r))))) := by
  pointwise [k0_pay81]

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X8 : BufTy.Contents (Elt Ideal) arg8.view.ty} {X14 : BufTy.Contents (Elt Ideal) arg14.view.ty}
  {R : ℕ → ℕ → ℕ → EReal} {P : ℕ → ℕ → EReal} {inv : ℕ → EReal}
  (h8 : ∀ y, arg8.view.read (Elt Ideal) X8 y = P (y 0).val (y 1).val)
  (h14 : ∀ y, arg14.view.read (Elt Ideal) X14 y = R (y 0).val (y 1).val (y 2).val)
  {c : Dev nD} {i : grid0.Coords}
  {v6 : FVec Ideal S1x256 .f32} {v154 : IVec S1x256 32} {v167 : FVec Ideal S1x256 .f32}
  (hinv : ∀ r : Fin 256, k0_pay160 v6 v154 v167 (ix2 0 r) = inv r.val)

include h14 hinv in
theorem t4_r1 (k : Fin k0_t4_loop.trips) (p : Fin 64) (r : Fin 256) :
    trip_k0_t4.sl.r_1 (F := Ideal) arg14 v6 v154 v167 X14 k (ix2 p r) = qz (R (8 * k.val + 0) p.val r.val * inv r.val) := by
  unfold trip_k0_t4.sl.r_1
  pointwise [k0_pay75]
  rw [hinv]
  simp only [View.readAt_apply, h14, qz]
  simp only [LoadRect.idx, Rect.toLoadRect, Rect.unit, off15_eq0, off15_eq1, off15_eq2, off15_eq3, off15_eq4, off15_eq5, off15_eq6, off15_eq7]
  simp

include h14 hinv in
theorem t4_r2 (k : Fin k0_t4_loop.trips) (p : Fin 64) (r : Fin 256) :
    trip_k0_t4.sl.r_2 (F := Ideal) arg14 v6 v154 v167 X14 k (ix2 p r) = qz (R (8 * k.val + 1) p.val r.val * inv r.val) := by
  unfold trip_k0_t4.sl.r_2
  pointwise [k0_pay76]
  rw [hinv]
  simp only [View.readAt_apply, h14, qz]
  simp only [LoadRect.idx, Rect.toLoadRect, Rect.unit, off15_eq0, off15_eq1, off15_eq2, off15_eq3, off15_eq4, off15_eq5, off15_eq6, off15_eq7]
  simp

include h14 hinv in
theorem t4_r6 (k : Fin k0_t4_loop.trips) (p : Fin 64) (r : Fin 256) :
    trip_k0_t4.sl.r_6 (F := Ideal) arg14 v6 v154 v167 X14 k (ix2 p r) = qz (R (8 * k.val + 4) p.val r.val * inv r.val) := by
  unfold trip_k0_t4.sl.r_6
  pointwise [k0_pay80]
  rw [hinv]
  simp only [View.readAt_apply, h14, qz]
  simp only [LoadRect.idx, Rect.toLoadRect, Rect.unit, off15_eq0, off15_eq1, off15_eq2, off15_eq3, off15_eq4, off15_eq5, off15_eq6, off15_eq7]
  simp

include h14 hinv in
theorem t4_r3 (k : Fin k0_t4_loop.trips) (p : Fin 64) (r : Fin 256) :
    min (Ideal.ofBits FTy.bf16 16608#16) (max (Ideal.ofBits FTy.bf16 49376#16) (trip_k0_t4.sl.r_3 (F := Ideal) arg14 v6 v154 v167 X14 k (ix2 p r))) = qz (R (8 * k.val + 2) p.val r.val * inv r.val) := by
  unfold trip_k0_t4.sl.r_3
  pointwise [k0_pay77]
  rw [hinv]
  simp only [View.readAt_apply, h14, qz]
  simp only [LoadRect.idx, Rect.toLoadRect, Rect.unit, off15_eq0, off15_eq1, off15_eq2, off15_eq3, off15_eq4, off15_eq5, off15_eq6, off15_eq7]
  simp

include h14 in
theorem t4_load (k : Fin k0_t4_loop.trips) (s : ℕ) (w : BitVec 32) (hw : k0_off15 k w = ![8 * k.val + s, 0, 0]) (hb) (p : Fin 64) (r : Fin 256) :
    View.readAt (Elt Ideal) arg14.view (Rect.unit (s := S64x64x256) (k0_off15 k w) S1x64x256.size hb).toLoadRect X14 (ix3 0 p r) = R (8 * k.val + s) p.val r.val := by
  simp only [View.readAt_apply, h14]
  simp only [LoadRect.idx, Rect.toLoadRect, Rect.unit, hw]
  simp

include h8 in
theorem t4_p (i : Fin 64) (x : Fin 256) : trip_k0_t4.sl.r (F := Ideal) arg8 X8 (ix2 i x) = P i.val x.val := by
  unfold trip_k0_t4.sl.r
  pointwise [k0_pay74]
  simp only [View.readAt_apply, h8]
  simp [LoadRect.idx, Rect.toLoadRect, Rect.unit]

include h8 in
theorem t4_p' (i : Fin 64) (x : Fin 256) : trip_k0_t4.sl.r_5 (F := Ideal) arg8 X8 (ix2 i x) = P i.val x.val := by
  unfold trip_k0_t4.sl.r_5
  pointwise [k0_pay79]
  simp only [View.readAt_apply, h8]
  simp [LoadRect.idx, Rect.toLoadRect, Rect.unit]

include h8 h14 hinv in
theorem t4_lo (k : Fin k0_t4_loop.trips) (a : Fin 64) (r : Fin 256) :
    trip_k0_t4.sl.r_4 (F := Ideal) arg8 arg14 v6 v154 v167 X8 X14 k (ix2 a r) = halfE P R (inv r.val) (8 * k.val) a.val r.val := by
  unfold trip_k0_t4.sl.r_4 trip_k0_t4.sl.cst_146
  refine (pay78_apply _ _ _ _ _ _ a r).trans ?_
  unfold halfE
  refine Finset.sum_congr rfl fun x _ => ?_
  rw [t4_p h8]
  congr 1
  have hx := x.isLt
  by_cases h1 : x.val < 64
  · rw [dif_pos h1, t4_r1 h14 hinv, show x.val / 64 = 0 by omega, show x.val % 64 = x.val by omega]
  rw [dif_neg h1]
  by_cases h2 : x.val - 64 < 64
  · rw [dif_pos h2, t4_r2 h14 hinv, show x.val / 64 = 1 by omega, show x.val % 64 = x.val - 64 by omega]
  rw [dif_neg h2]
  by_cases h3 : x.val - 64 - 64 < 64
  · rw [dif_pos h3, t4_r3 h14 hinv, show x.val / 64 = 2 by omega, show x.val % 64 = x.val - 64 - 64 by omega]
  · rw [dif_neg h3, t4_load h14 k 3 _ (off15_eq3 k), hinv, show x.val / 64 = 3 by omega, show x.val % 64 = x.val - 64 - 64 - 64 by omega, qz]

include h8 h14 hinv in
theorem t4_hi (k : Fin k0_t4_loop.trips) (a : Fin 64) (r : Fin 256) :
    trip_k0_t4.sl.r_8 (F := Ideal) arg8 arg14 v6 v154 v167 X8 X14 k (ix2 a r) = halfE P R (inv r.val) (8 * k.val + 4) a.val r.val := by
  unfold trip_k0_t4.sl.r_8 trip_k0_t4.sl.r_7
  refine (pay81_apply _ _ _ _ _ _ a r).trans ?_
  unfold halfE
  refine Finset.sum_congr rfl fun x _ => ?_
  rw [t4_p' h8]
  congr 1
  have hx := x.isLt
  by_cases h1 : x.val < 64
  · rw [dif_pos h1, t4_r6 h14 hinv, show x.val / 64 = 0 by omega, show x.val % 64 = x.val by omega]
  rw [dif_neg h1]
  by_cases h2 : x.val - 64 < 64
  · rw [dif_pos h2, t4_load h14 k 5 _ (off15_eq5 k), hinv, show x.val / 64 = 1 by omega, show x.val % 64 = x.val - 64 by omega]; simp only [qz]
  rw [dif_neg h2]
  by_cases h3 : x.val - 64 - 64 < 64
  · rw [dif_pos h3, t4_load h14 k 6 _ (off15_eq6 k), hinv, show x.val / 64 = 2 by omega, show x.val % 64 = x.val - 64 - 64 by omega]; simp only [qz]
  · rw [dif_neg h3, t4_load h14 k 7 _ (off15_eq7 k), hinv, show x.val / 64 = 3 by omega, show x.val % 64 = x.val - 64 - 64 - 64 by omega]; simp only [qz]

theorem pay162_apply (v w : FVec Ideal S64x256 .f32) (a : Fin 64) (r : Fin 128) :
    k0_pay162 v (k0_pay82 w) 34952#32 (ix3 0 a r) = mkWord (FloatOps.fptosi (F := Ideal) (φ := .f32) 32 (w (ix2 a ⟨128 * 0 + r.val, by omega⟩))) (FloatOps.fptosi (F := Ideal) (φ := .f32) 32 (v (ix2 a ⟨128 * 0 + r.val, by omega⟩))) := by
  pointwise [k0_pay162, k0_pay161, k0_pay82]
  simp only [mkWord, Nat.mul_zero, Nat.zero_add]

theorem pay163_apply (v w : FVec Ideal S64x256 .f32) (a : Fin 64) (r : Fin 128) :
    k0_pay163 v (k0_pay82 w) 34952#32 (ix3 0 a r) = mkWord (FloatOps.fptosi (F := Ideal) (φ := .f32) 32 (w (ix2 a ⟨128 * 1 + r.val, by omega⟩))) (FloatOps.fptosi (F := Ideal) (φ := .f32) 32 (v (ix2 a ⟨128 * 1 + r.val, by omega⟩))) := by
  pointwise [k0_pay163, k0_pay161, k0_pay82]
  simp only [mkWord, Nat.mul_one]

/-- The packed scratch array as a function of its coordinates. -/
def G15 (P : ℕ → ℕ → EReal) (R : ℕ → ℕ → ℕ → EReal) (inv : ℕ → EReal) (h x l : ℕ) : BitVec 32 := wordE P R inv (x / 72) (x % 72) (128 * h + l)

include h8 h14 hinv in
theorem t4_agree (k : Fin k0_t4_loop.trips) :
    ∀ p ∈ tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v6 v154 v167 X8 X14 k, ∀ x,
      p.2 x = G15 P R inv (p.1.emb x 0).val (p.1.emb x 1).val (p.1.emb x 2).val := by
  intro p hp
  unfold tripL_k0_t4 trip_k0_t4 at hp
  simp only [List.mem_cons, List.not_mem_nil, or_false] at hp
  rcases hp with rfl | rfl <;> intro x <;>
    obtain ⟨a, b, d, rfl⟩ : ∃ (a : Fin 1) (b : Fin 64) (d : Fin 128), x = ix3 a b d := ⟨_, _, _, eq_ix3 x⟩ <;>
    obtain rfl : a = 0 := Subsingleton.elim _ _
  · refine Eq.trans (b := G15 P R inv 1 (72 * k.val + b.val) d.val) ?_ ?_
    · unfold trip_k0_t4.sl.r_9
      refine (pay163_apply _ _ b d).trans ?_
      rw [t4_lo h8 h14 hinv, t4_hi h8 h14 hinv]
      unfold G15 wordE
      rw [show (72 * k.val + b.val) / 72 = k.val by omega, show (72 * k.val + b.val) % 72 = b.val by omega]
    · simp only [Rect.emb_apply, Rect.off_unit, Rect.stride_unit, off17_eq]; simp
  · refine Eq.trans (b := G15 P R inv 0 (72 * k.val + b.val) d.val) ?_ ?_
    · unfold trip_k0_t4.sl.r_9
      refine (pay162_apply _ _ b d).trans ?_
      rw [t4_lo h8 h14 hinv, t4_hi h8 h14 hinv]
      unfold G15 wordE
      rw [show (72 * k.val + b.val) / 72 = k.val by omega, show (72 * k.val + b.val) % 72 = b.val by omega]
    · simp only [Rect.emb_apply, Rect.off_unit, Rect.stride_unit, off16_eq]; simp

include h8 h14 hinv in
theorem C15_read (X15 : BufTy.Contents (Elt Ideal) arg15.view.ty) (a j : ℕ) (ha : a < 8) (hj : j < 64) (y : S2x576x128.Idx) (hy : (y 1).val = 72 * a + j) :
    arg15.view.read (Elt Ideal) (arg15.view.writes (Elt Ideal) X15 (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v6 v154 v167 X8 X14 k0_t4_loop.trips)) y
      = wordE P R inv a j (128 * (y 0).val + (y 2).val) := by
  have hT : k0_t4_loop.trips = 8 := by decide
  have key := mem_pb (T := k0_t4_loop.trips) (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v6 v154 v167 X8 X14)
    (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v6 v154 v167 X8 X14) rfl
    (fun k => pb_k0_t4_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v6 v154 v167 X8 X14 k) _ le_rfl
  refine (View.read_writes_apply_of_pieces (Val := Elt Ideal) arg15.view _ (fun y : S2x576x128.Idx => G15 P R inv (y 0).val (y 1).val (y 2).val) _ ?_ y ?_).trans ?_
  · intro p hp
    obtain ⟨k, _, hk⟩ := (key p).1 hp
    exact t4_agree h8 h14 hinv k p hk
  · have h0 : (y 0).val < 2 := (y 0).isLt
    have hl : (y 2).val < 128 := (y 2).isLt
    have hq : a < k0_t4_loop.trips := by omega
    have cov : ∃ p ∈ tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v6 v154 v167 X8 X14 ⟨a, hq⟩, y ∈ p.1.set := by
      unfold tripL_k0_t4 trip_k0_t4
      have h01 : (y 0).val = 0 ∨ (y 0).val = 1 := by omega
      simp only [List.exists_mem_cons_iff, List.not_mem_nil, false_and, exists_false, or_false, Rect.mem_set_unit, Fin.forall_fin_succ, off16_eq, off17_eq]
      simp
      omega
    obtain ⟨p, hp, hyp⟩ := cov
    exact ⟨p, (key p).2 ⟨⟨a, hq⟩, hq, hp⟩, hyp⟩
  · unfold G15
    rw [hy]
    congr 1 <;> omega
end

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X15 : BufTy.Contents (Elt Ideal) arg15.view.ty} {w : ℕ → ℕ → ℕ → BitVec 32}
  (h15 : ∀ a j, a < 8 → j < 64 → ∀ y : S2x576x128.Idx, (y 1).val = 72 * a + j →
    arg15.view.read (Elt Ideal) X15 y = w a j (128 * (y 0).val + (y 2).val))
  {c : Dev nD} {i : grid0.Coords}

include h15 in
theorem t5_load (k : Fin k0_t5_loop.trips) (h s : ℕ) (hs : s < 16) (off : Fin 3 → ℕ) (hw : off = ![h, 16 * k.val + s, 0]) (hb) (t : Fin 8) (r : Fin 128) :
    View.readAt (Elt Ideal) arg15.view (⟨off, S1x8x128.size, ![1, 72, 1], hb⟩ : LoadRect S2x576x128) X15 (ix3 0 t r) = w t.val (16 * k.val + s) (128 * h + r.val) := by
  have hT : k0_t5_loop.trips = 4 := by decide
  have hk := k.isLt
  subst hw
  rw [View.readAt_apply, h15 t.val (16 * k.val + s) t.isLt (by omega)]
  · simp [LoadRect.idx]
  · simp [LoadRect.idx]; omega

include h15 in
theorem t5_v208 (k : Fin k0_t5_loop.trips) (t : Fin 8) (r : Fin 128) :
    trip_k0_t5.sl.v208 (F := Ideal) arg15 X15 k (ix2 t r) = w t.val (16 * k.val + 0) (128 * 0 + r.val) := by
  unfold trip_k0_t5.sl.v208
  refine Eq.trans (shapeCast_drop _ _ t r) ?_
  exact t5_load h15 k 0 0 (by omega) _ (off18_eq0 k) _ t r

include h15 in
theorem t5_v213 (k : Fin k0_t5_loop.trips) (t : Fin 8) (r : Fin 128) :
    trip_k0_t5.sl.v213 (F := Ideal) arg15 X15 k (ix2 t r) = w t.val (16 * k.val + 1) (128 * 0 + r.val) := by
  unfold trip_k0_t5.sl.v213
  refine Eq.trans (shapeCast_drop _ _ t r) ?_
  exact t5_load h15 k 0 1 (by omega) _ (off18_eq1 k) _ t r

include h15 in
theorem t5_v218 (k : Fin k0_t5_loop.trips) (t : Fin 8) (r : Fin 128) :
    trip_k0_t5.sl.v218 (F := Ideal) arg15 X15 k (ix2 t r) = w t.val (16 * k.val + 2) (128 * 0 + r.val) := by
  unfold trip_k0_t5.sl.v218
  refine Eq.trans (shapeCast_drop _ _ t r) ?_
  exact t5_load h15 k 0 2 (by omega) _ (off18_eq2 k) _ t r

include h15 in
theorem t5_v223 (k : Fin k0_t5_loop.trips) (t : Fin 8) (r : Fin 128) :
    trip_k0_t5.sl.v223 (F := Ideal) arg15 X15 k (ix2 t r) = w t.val (16 * k.val + 3) (128 * 0 + r.val) := by
  unfold trip_k0_t5.sl.v223
  refine Eq.trans (shapeCast_drop _ _ t r) ?_
  exact t5_load h15 k 0 3 (by omega) _ (off18_eq3 k) _ t r

include h15 in
theorem t5_v228 (k : Fin k0_t5_loop.trips) (t : Fin 8) (r : Fin 128) :
    trip_k0_t5.sl.v228 (F := Ideal) arg15 X15 k (ix2 t r) = w t.val (16 * k.val + 4) (128 * 0 + r.val) := by
  unfold trip_k0_t5.sl.v228
  refine Eq.trans (shapeCast_drop _ _ t r) ?_
  exact t5_load h15 k 0 4 (by omega) _ (off18_eq4 k) _ t r

include h15 in
theorem t5_v233 (k : Fin k0_t5_loop.trips) (t : Fin 8) (r : Fin 128) :
    trip_k0_t5.sl.v233 (F := Ideal) arg15 X15 k (ix2 t r) = w t.val (16 * k.val + 5) (128 * 0 + r.val) := by
  unfold trip_k0_t5.sl.v233
  refine Eq.trans (shapeCast_drop _ _ t r) ?_
  exact t5_load h15 k 0 5 (by omega) _ (off18_eq5 k) _ t r

include h15 in
theorem t5_v238 (k : Fin k0_t5_loop.trips) (t : Fin 8) (r : Fin 128) :
    trip_k0_t5.sl.v238 (F := Ideal) arg15 X15 k (ix2 t r) = w t.val (16 * k.val + 6) (128 * 0 + r.val) := by
  unfold trip_k0_t5.sl.v238
  refine Eq.trans (shapeCast_drop _ _ t r) ?_
  exact t5_load h15 k 0 6 (by omega) _ (off18_eq6 k) _ t r

include h15 in
theorem t5_v243 (k : Fin k0_t5_loop.trips) (t : Fin 8) (r : Fin 128) :
    trip_k0_t5.sl.v243 (F := Ideal) arg15 X15 k (ix2 t r) = w t.val (16 * k.val + 7) (128 * 0 + r.val) := by
  unfold trip_k0_t5.sl.v243
  refine Eq.trans (shapeCast_drop _ _ t r) ?_
  exact t5_load h15 k 0 7 (by omega) _ (off18_eq7 k) _ t r

include h15 in
theorem t5_v248 (k : Fin k0_t5_loop.trips) (t : Fin 8) (r : Fin 128) :
    trip_k0_t5.sl.v248 (F := Ideal) arg15 X15 k (ix2 t r) = w t.val (16 * k.val + 8) (128 * 0 + r.val) := by
  unfold trip_k0_t5.sl.v248
  refine Eq.trans (shapeCast_drop _ _ t r) ?_
  exact t5_load h15 k 0 8 (by omega) _ (off18_eq8 k) _ t r

include h15 in
theorem t5_v253 (k : Fin k0_t5_loop.trips) (t : Fin 8) (r : Fin 128) :
    trip_k0_t5.sl.v253 (F := Ideal) arg15 X15 k (ix2 t r) = w t.val (16 * k.val + 9) (128 * 0 + r.val) := by
  unfold trip_k0_t5.sl.v253
  refine Eq.trans (shapeCast_drop _ _ t r) ?_
  exact t5_load h15 k 0 9 (by omega) _ (off18_eq9 k) _ t r

include h15 in
theorem t5_v258 (k : Fin k0_t5_loop.trips) (t : Fin 8) (r : Fin 128) :
    trip_k0_t5.sl.v258 (F := Ideal) arg15 X15 k (ix2 t r) = w t.val (16 * k.val + 10) (128 * 0 + r.val) := by
  unfold trip_k0_t5.sl.v258
  refine Eq.trans (shapeCast_drop _ _ t r) ?_
  exact t5_load h15 k 0 10 (by omega) _ (off18_eq10 k) _ t r

include h15 in
theorem t5_v263 (k : Fin k0_t5_loop.trips) (t : Fin 8) (r : Fin 128) :
    trip_k0_t5.sl.v263 (F := Ideal) arg15 X15 k (ix2 t r) = w t.val (16 * k.val + 11) (128 * 0 + r.val) := by
  unfold trip_k0_t5.sl.v263
  refine Eq.trans (shapeCast_drop _ _ t r) ?_
  exact t5_load h15 k 0 11 (by omega) _ (off18_eq11 k) _ t r

include h15 in
theorem t5_v268 (k : Fin k0_t5_loop.trips) (t : Fin 8) (r : Fin 128) :
    trip_k0_t5.sl.v268 (F := Ideal) arg15 X15 k (ix2 t r) = w t.val (16 * k.val + 12) (128 * 0 + r.val) := by
  unfold trip_k0_t5.sl.v268
  refine Eq.trans (shapeCast_drop _ _ t r) ?_
  exact t5_load h15 k 0 12 (by omega) _ (off18_eq12 k) _ t r

include h15 in
theorem t5_v273 (k : Fin k0_t5_loop.trips) (t : Fin 8) (r : Fin 128) :
    trip_k0_t5.sl.v273 (F := Ideal) arg15 X15 k (ix2 t r) = w t.val (16 * k.val + 13) (128 * 0 + r.val) := by
  unfold trip_k0_t5.sl.v273
  refine Eq.trans (shapeCast_drop _ _ t r) ?_
  exact t5_load h15 k 0 13 (by omega) _ (off18_eq13 k) _ t r

include h15 in
theorem t5_v278 (k : Fin k0_t5_loop.trips) (t : Fin 8) (r : Fin 128) :
    trip_k0_t5.sl.v278 (F := Ideal) arg15 X15 k (ix2 t r) = w t.val (16 * k.val + 14) (128 * 0 + r.val) := by
  unfold trip_k0_t5.sl.v278
  refine Eq.trans (shapeCast_drop _ _ t r) ?_
  exact t5_load h15 k 0 14 (by omega) _ (off18_eq14 k) _ t r

include h15 in
theorem t5_v283 (k : Fin k0_t5_loop.trips) (t : Fin 8) (r : Fin 128) :
    trip_k0_t5.sl.v283 (F := Ideal) arg15 X15 k (ix2 t r) = w t.val (16 * k.val + 15) (128 * 0 + r.val) := by
  unfold trip_k0_t5.sl.v283
  refine Eq.trans (shapeCast_drop _ _ t r) ?_
  exact t5_load h15 k 0 15 (by omega) _ (off18_eq15 k) _ t r

include h15 in
theorem t5_v284 (k : Fin k0_t5_loop.trips) (x : Fin 128) (r : Fin 128) :
    trip_k0_t5.sl.v284 (F := Ideal) arg15 X15 k (ix2 x r) = w (x.val % 8) (16 * k.val + x.val / 8) (128 * 0 + r.val) := by
  unfold trip_k0_t5.sl.v284
  exact concat16_apply _ x r (fun s t => w t (16 * k.val + s) (128 * 0 + r.val))
    (fun t => t5_v208 h15 k t r)
    (fun t => t5_v213 h15 k t r)
    (fun t => t5_v218 h15 k t r)
    (fun t => t5_v223 h15 k t r)
    (fun t => t5_v228 h15 k t r)
    (fun t => t5_v233 h15 k t r)
    (fun t => t5_v238 h15 k t r)
    (fun t => t5_v243 h15 k t r)
    (fun t => t5_v248 h15 k t r)
    (fun t => t5_v253 h15 k t r)
    (fun t => t5_v258 h15 k t r)
    (fun t => t5_v263 h15 k t r)
    (fun t => t5_v268 h15 k t r)
    (fun t => t5_v273 h15 k t r)
    (fun t => t5_v278 h15 k t r)
    (fun t => t5_v283 h15 k t r)

include h15 in
theorem t5_v289 (k : Fin k0_t5_loop.trips) (t : Fin 8) (r : Fin 128) :
    trip_k0_t5.sl.v289 (F := Ideal) arg15 X15 k (ix2 t r) = w t.val (16 * k.val + 0) (128 * 1 + r.val) := by
  unfold trip_k0_t5.sl.v289
  refine Eq.trans (shapeCast_drop _ _ t r) ?_
  exact t5_load h15 k 1 0 (by omega) _ (off19_eq0 k) _ t r

include h15 in
theorem t5_v294 (k : Fin k0_t5_loop.trips) (t : Fin 8) (r : Fin 128) :
    trip_k0_t5.sl.v294 (F := Ideal) arg15 X15 k (ix2 t r) = w t.val (16 * k.val + 1) (128 * 1 + r.val) := by
  unfold trip_k0_t5.sl.v294
  refine Eq.trans (shapeCast_drop _ _ t r) ?_
  exact t5_load h15 k 1 1 (by omega) _ (off19_eq1 k) _ t r

include h15 in
theorem t5_v299 (k : Fin k0_t5_loop.trips) (t : Fin 8) (r : Fin 128) :
    trip_k0_t5.sl.v299 (F := Ideal) arg15 X15 k (ix2 t r) = w t.val (16 * k.val + 2) (128 * 1 + r.val) := by
  unfold trip_k0_t5.sl.v299
  refine Eq.trans (shapeCast_drop _ _ t r) ?_
  exact t5_load h15 k 1 2 (by omega) _ (off19_eq2 k) _ t r

include h15 in
theorem t5_v304 (k : Fin k0_t5_loop.trips) (t : Fin 8) (r : Fin 128) :
    trip_k0_t5.sl.v304 (F := Ideal) arg15 X15 k (ix2 t r) = w t.val (16 * k.val + 3) (128 * 1 + r.val) := by
  unfold trip_k0_t5.sl.v304
  refine Eq.trans (shapeCast_drop _ _ t r) ?_
  exact t5_load h15 k 1 3 (by omega) _ (off19_eq3 k) _ t r

include h15 in
theorem t5_v309 (k : Fin k0_t5_loop.trips) (t : Fin 8) (r : Fin 128) :
    trip_k0_t5.sl.v309 (F := Ideal) arg15 X15 k (ix2 t r) = w t.val (16 * k.val + 4) (128 * 1 + r.val) := by
  unfold trip_k0_t5.sl.v309
  refine Eq.trans (shapeCast_drop _ _ t r) ?_
  exact t5_load h15 k 1 4 (by omega) _ (off19_eq4 k) _ t r

include h15 in
theorem t5_v314 (k : Fin k0_t5_loop.trips) (t : Fin 8) (r : Fin 128) :
    trip_k0_t5.sl.v314 (F := Ideal) arg15 X15 k (ix2 t r) = w t.val (16 * k.val + 5) (128 * 1 + r.val) := by
  unfold trip_k0_t5.sl.v314
  refine Eq.trans (shapeCast_drop _ _ t r) ?_
  exact t5_load h15 k 1 5 (by omega) _ (off19_eq5 k) _ t r

include h15 in
theorem t5_v319 (k : Fin k0_t5_loop.trips) (t : Fin 8) (r : Fin 128) :
    trip_k0_t5.sl.v319 (F := Ideal) arg15 X15 k (ix2 t r) = w t.val (16 * k.val + 6) (128 * 1 + r.val) := by
  unfold trip_k0_t5.sl.v319
  refine Eq.trans (shapeCast_drop _ _ t r) ?_
  exact t5_load h15 k 1 6 (by omega) _ (off19_eq6 k) _ t r

include h15 in
theorem t5_v324 (k : Fin k0_t5_loop.trips) (t : Fin 8) (r : Fin 128) :
    trip_k0_t5.sl.v324 (F := Ideal) arg15 X15 k (ix2 t r) = w t.val (16 * k.val + 7) (128 * 1 + r.val) := by
  unfold trip_k0_t5.sl.v324
  refine Eq.trans (shapeCast_drop _ _ t r) ?_
  exact t5_load h15 k 1 7 (by omega) _ (off19_eq7 k) _ t r

include h15 in
theorem t5_v329 (k : Fin k0_t5_loop.trips) (t : Fin 8) (r : Fin 128) :
    trip_k0_t5.sl.v329 (F := Ideal) arg15 X15 k (ix2 t r) = w t.val (16 * k.val + 8) (128 * 1 + r.val) := by
  unfold trip_k0_t5.sl.v329
  refine Eq.trans (shapeCast_drop _ _ t r) ?_
  exact t5_load h15 k 1 8 (by omega) _ (off19_eq8 k) _ t r

include h15 in
theorem t5_v334 (k : Fin k0_t5_loop.trips) (t : Fin 8) (r : Fin 128) :
    trip_k0_t5.sl.v334 (F := Ideal) arg15 X15 k (ix2 t r) = w t.val (16 * k.val + 9) (128 * 1 + r.val) := by
  unfold trip_k0_t5.sl.v334
  refine Eq.trans (shapeCast_drop _ _ t r) ?_
  exact t5_load h15 k 1 9 (by omega) _ (off19_eq9 k) _ t r

include h15 in
theorem t5_v339 (k : Fin k0_t5_loop.trips) (t : Fin 8) (r : Fin 128) :
    trip_k0_t5.sl.v339 (F := Ideal) arg15 X15 k (ix2 t r) = w t.val (16 * k.val + 10) (128 * 1 + r.val) := by
  unfold trip_k0_t5.sl.v339
  refine Eq.trans (shapeCast_drop _ _ t r) ?_
  exact t5_load h15 k 1 10 (by omega) _ (off19_eq10 k) _ t r

include h15 in
theorem t5_v344 (k : Fin k0_t5_loop.trips) (t : Fin 8) (r : Fin 128) :
    trip_k0_t5.sl.v344 (F := Ideal) arg15 X15 k (ix2 t r) = w t.val (16 * k.val + 11) (128 * 1 + r.val) := by
  unfold trip_k0_t5.sl.v344
  refine Eq.trans (shapeCast_drop _ _ t r) ?_
  exact t5_load h15 k 1 11 (by omega) _ (off19_eq11 k) _ t r

include h15 in
theorem t5_v349 (k : Fin k0_t5_loop.trips) (t : Fin 8) (r : Fin 128) :
    trip_k0_t5.sl.v349 (F := Ideal) arg15 X15 k (ix2 t r) = w t.val (16 * k.val + 12) (128 * 1 + r.val) := by
  unfold trip_k0_t5.sl.v349
  refine Eq.trans (shapeCast_drop _ _ t r) ?_
  exact t5_load h15 k 1 12 (by omega) _ (off19_eq12 k) _ t r

include h15 in
theorem t5_v354 (k : Fin k0_t5_loop.trips) (t : Fin 8) (r : Fin 128) :
    trip_k0_t5.sl.v354 (F := Ideal) arg15 X15 k (ix2 t r) = w t.val (16 * k.val + 13) (128 * 1 + r.val) := by
  unfold trip_k0_t5.sl.v354
  refine Eq.trans (shapeCast_drop _ _ t r) ?_
  exact t5_load h15 k 1 13 (by omega) _ (off19_eq13 k) _ t r

include h15 in
theorem t5_v359 (k : Fin k0_t5_loop.trips) (t : Fin 8) (r : Fin 128) :
    trip_k0_t5.sl.v359 (F := Ideal) arg15 X15 k (ix2 t r) = w t.val (16 * k.val + 14) (128 * 1 + r.val) := by
  unfold trip_k0_t5.sl.v359
  refine Eq.trans (shapeCast_drop _ _ t r) ?_
  exact t5_load h15 k 1 14 (by omega) _ (off19_eq14 k) _ t r

include h15 in
theorem t5_v364 (k : Fin k0_t5_loop.trips) (t : Fin 8) (r : Fin 128) :
    trip_k0_t5.sl.v364 (F := Ideal) arg15 X15 k (ix2 t r) = w t.val (16 * k.val + 15) (128 * 1 + r.val) := by
  unfold trip_k0_t5.sl.v364
  refine Eq.trans (shapeCast_drop _ _ t r) ?_
  exact t5_load h15 k 1 15 (by omega) _ (off19_eq15 k) _ t r

include h15 in
theorem t5_v365 (k : Fin k0_t5_loop.trips) (x : Fin 128) (r : Fin 128) :
    trip_k0_t5.sl.v365 (F := Ideal) arg15 X15 k (ix2 x r) = w (x.val % 8) (16 * k.val + x.val / 8) (128 * 1 + r.val) := by
  unfold trip_k0_t5.sl.v365
  exact concat16_apply _ x r (fun s t => w t (16 * k.val + s) (128 * 1 + r.val))
    (fun t => t5_v289 h15 k t r)
    (fun t => t5_v294 h15 k t r)
    (fun t => t5_v299 h15 k t r)
    (fun t => t5_v304 h15 k t r)
    (fun t => t5_v309 h15 k t r)
    (fun t => t5_v314 h15 k t r)
    (fun t => t5_v319 h15 k t r)
    (fun t => t5_v324 h15 k t r)
    (fun t => t5_v329 h15 k t r)
    (fun t => t5_v334 h15 k t r)
    (fun t => t5_v339 h15 k t r)
    (fun t => t5_v344 h15 k t r)
    (fun t => t5_v349 h15 k t r)
    (fun t => t5_v354 h15 k t r)
    (fun t => t5_v359 h15 k t r)
    (fun t => t5_v364 h15 k t r)
end

end Cert.KernelIdeal.Hand
end
-- ==== Proof.DValE.lean ====
module
public import proofs.«01_k».proof.Proof.DValD
public import proofs.«01_k».proof.Proof.ValE
/-! The packing loop of the second kernel and the words it emits. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (mem_pb qz mkWord concat16_apply)

/-- The codes of one group of columns, four of them summed at their digit weights. -/
def halfE (P : ℕ → ℕ → EReal) (R : ℕ → ℕ → ℕ → EReal) (inv : EReal) (b i r : ℕ) : EReal :=
  ∑ p : Fin 112, P i p.val * qz (R b p.val r * inv)

/-- The packed word of group `k`, row `i` and column `r`. -/
def wordE (P : ℕ → ℕ → EReal) (R : ℕ → ℕ → ℕ → EReal) (inv : ℕ → EReal) (k i r : ℕ) : BitVec 32 :=
  mkWord (FloatOps.fptosi (F := Ideal) (φ := .f32) 32 (halfE P R (inv r) (2 * k) i r)) (FloatOps.fptosi (F := Ideal) (φ := .f32) 32 (halfE P R (inv r) (2 * k + 1) i r))

theorem off14_eq : ∀ k, k0_off14 k = ![2 * k.val + 0, 0, 0] := by decide
theorem off15_eq : ∀ k, k0_off15 k = ![2 * k.val + 1, 0, 0] := by decide
theorem off16_eq : ∀ k, k0_off16 k = ![0, 40 * k.val, 0] := by decide
theorem off17_eq : ∀ k, k0_off17 k = ![1, 40 * k.val, 0] := by decide
theorem off20_eq : ∀ k, k0_off20 k = ![0, 0, 128 * k.val] := by decide
theorem off21_eq : ∀ k, k0_off21 k = ![0, 128, 128 * k.val] := by decide
theorem off18_eq0 : ∀ k, k0_off18 k 0#32 0#32 = ![0, 0 + (4 * k.val + 0), 0] := by decide
theorem off19_eq0 : ∀ k, k0_off19 k 0#32 0#32 = ![1, 0 + (4 * k.val + 0), 0] := by decide
theorem off18_eq4 : ∀ k, k0_off18 k 0#32 1#32 = ![0, 0 + (4 * k.val + 1), 0] := by decide
theorem off19_eq4 : ∀ k, k0_off19 k 0#32 1#32 = ![1, 0 + (4 * k.val + 1), 0] := by decide
theorem off18_eq8 : ∀ k, k0_off18 k 0#32 2#32 = ![0, 0 + (4 * k.val + 2), 0] := by decide
theorem off19_eq8 : ∀ k, k0_off19 k 0#32 2#32 = ![1, 0 + (4 * k.val + 2), 0] := by decide
theorem off18_eq12 : ∀ k, k0_off18 k 0#32 3#32 = ![0, 0 + (4 * k.val + 3), 0] := by decide
theorem off19_eq12 : ∀ k, k0_off19 k 0#32 3#32 = ![1, 0 + (4 * k.val + 3), 0] := by decide
theorem off18_eq1 : ∀ k, k0_off18 k 320#32 0#32 = ![0, 320 + (4 * k.val + 0), 0] := by decide
theorem off19_eq1 : ∀ k, k0_off19 k 320#32 0#32 = ![1, 320 + (4 * k.val + 0), 0] := by decide
theorem off18_eq5 : ∀ k, k0_off18 k 320#32 1#32 = ![0, 320 + (4 * k.val + 1), 0] := by decide
theorem off19_eq5 : ∀ k, k0_off19 k 320#32 1#32 = ![1, 320 + (4 * k.val + 1), 0] := by decide
theorem off18_eq9 : ∀ k, k0_off18 k 320#32 2#32 = ![0, 320 + (4 * k.val + 2), 0] := by decide
theorem off19_eq9 : ∀ k, k0_off19 k 320#32 2#32 = ![1, 320 + (4 * k.val + 2), 0] := by decide
theorem off18_eq13 : ∀ k, k0_off18 k 320#32 3#32 = ![0, 320 + (4 * k.val + 3), 0] := by decide
theorem off19_eq13 : ∀ k, k0_off19 k 320#32 3#32 = ![1, 320 + (4 * k.val + 3), 0] := by decide
theorem off18_eq2 : ∀ k, k0_off18 k 640#32 0#32 = ![0, 640 + (4 * k.val + 0), 0] := by decide
theorem off19_eq2 : ∀ k, k0_off19 k 640#32 0#32 = ![1, 640 + (4 * k.val + 0), 0] := by decide
theorem off18_eq6 : ∀ k, k0_off18 k 640#32 1#32 = ![0, 640 + (4 * k.val + 1), 0] := by decide
theorem off19_eq6 : ∀ k, k0_off19 k 640#32 1#32 = ![1, 640 + (4 * k.val + 1), 0] := by decide
theorem off18_eq10 : ∀ k, k0_off18 k 640#32 2#32 = ![0, 640 + (4 * k.val + 2), 0] := by decide
theorem off19_eq10 : ∀ k, k0_off19 k 640#32 2#32 = ![1, 640 + (4 * k.val + 2), 0] := by decide
theorem off18_eq14 : ∀ k, k0_off18 k 640#32 3#32 = ![0, 640 + (4 * k.val + 3), 0] := by decide
theorem off19_eq14 : ∀ k, k0_off19 k 640#32 3#32 = ![1, 640 + (4 * k.val + 3), 0] := by decide
theorem off18_eq3 : ∀ k, k0_off18 k 960#32 0#32 = ![0, 960 + (4 * k.val + 0), 0] := by decide
theorem off19_eq3 : ∀ k, k0_off19 k 960#32 0#32 = ![1, 960 + (4 * k.val + 0), 0] := by decide
theorem off18_eq7 : ∀ k, k0_off18 k 960#32 1#32 = ![0, 960 + (4 * k.val + 1), 0] := by decide
theorem off19_eq7 : ∀ k, k0_off19 k 960#32 1#32 = ![1, 960 + (4 * k.val + 1), 0] := by decide
theorem off18_eq11 : ∀ k, k0_off18 k 960#32 2#32 = ![0, 960 + (4 * k.val + 2), 0] := by decide
theorem off19_eq11 : ∀ k, k0_off19 k 960#32 2#32 = ![1, 960 + (4 * k.val + 2), 0] := by decide
theorem off18_eq15 : ∀ k, k0_off18 k 960#32 3#32 = ![0, 960 + (4 * k.val + 3), 0] := by decide
theorem off19_eq15 : ∀ k, k0_off19 k 960#32 3#32 = ![1, 960 + (4 * k.val + 3), 0] := by decide

theorem shapeCast_drop (v : Vec Ideal S1x8x128 .i32) (h) (t : Fin 8) (r : Fin 128) : (shapeCast S8x128 v h : IVec S8x128 32) (ix2 t r) = v (ix3 0 t r) := by
  pointwise

theorem pay92_apply (v : FVec Ideal S1x256 .f32) (p : Vec Ideal S32x112 .bf16) (w : Vec Ideal S1x112x256 .bf16) (i : Fin 32) (r : Fin 256) :
    k0_pay92 v p w (ix2 i r) = IntOp.addi (FloatOps.fptosi (F := Ideal) (φ := .f32) 32 (∑ x : Fin 112, p (ix2 i x) * qz (w (ix3 0 x r) * v (ix2 0 r)))) 34952#32 := by
  pointwise [k0_pay92]
  rfl

theorem pay93_apply (v : FVec Ideal S1x256 .f32) (p : Vec Ideal S32x112 .bf16) (w : Vec Ideal S1x112x256 .bf16) (i : Fin 32) (r : Fin 256) :
    k0_pay93 v p w (ix2 i r) = FloatOps.fptosi (F := Ideal) (φ := .f32) 32 (∑ x : Fin 112, p (ix2 i x) * qz (w (ix3 0 x r) * v (ix2 0 r))) := by
  pointwise [k0_pay93]
  rfl

theorem pay5_apply (v w : IVec S32x256 32) (a : Fin 32) (r : Fin 128) :
    k0_pay5 v w 34952#32 (ix3 0 a r) = IntOp.xori (IntOp.ori (v (ix2 a ⟨128 * 0 + r.val, by omega⟩)) (IntOp.shli ArithUnit.vector (IntOp.addi (w (ix2 a ⟨128 * 0 + r.val, by omega⟩)) 34952#32) 16#32)) 2290649224#32 := by
  pointwise [k0_pay5, k0_pay4]
  all_goals simp only [Nat.mul_zero, Nat.zero_add]

theorem pay6_apply (v w : IVec S32x256 32) (a : Fin 32) (r : Fin 128) :
    k0_pay6 v w 34952#32 (ix3 0 a r) = IntOp.xori (IntOp.ori (v (ix2 a ⟨128 * 1 + r.val, by omega⟩)) (IntOp.shli ArithUnit.vector (IntOp.addi (w (ix2 a ⟨128 * 1 + r.val, by omega⟩)) 34952#32) 16#32)) 2290649224#32 := by
  pointwise [k0_pay6, k0_pay4]
  all_goals simp only [Nat.mul_one]

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X5 : BufTy.Contents (Elt Ideal) arg5.view.ty} {X11 : BufTy.Contents (Elt Ideal) arg11.view.ty}
  {P : ℕ → ℕ → EReal} {R : ℕ → ℕ → ℕ → EReal} {inv : ℕ → EReal}
  {v197 : IVec S1x256 1} {v202 v203 : FVec Ideal S1x256 .f32}
  (h5 : ∀ y, arg5.view.read (Elt Ideal) X5 y = P (y 0).val (y 1).val)
  (h11 : ∀ y, arg11.view.read (Elt Ideal) X11 y = R (y 0).val (y 1).val (y 2).val)
  (hinv : ∀ r : Fin 256, k0_pay3 v197 v202 v203 (ix2 0 r) = inv r.val)
  {c : Dev nD} {i : grid0.Coords}

include h11 in
theorem t4_load (k : Fin k0_t4_loop.trips) (s : ℕ) (w : Fin 3 → ℕ) (hw : w = ![2 * k.val + s, 0, 0]) (hb) (p : Fin 112) (r : Fin 256) :
    (View.readAt (Elt Ideal) arg11.view (Rect.unit (s := S64x112x256) w S1x112x256.size hb).toLoadRect X11 : Vec Ideal S1x112x256 .bf16) (ix3 0 p r) = R (2 * k.val + s) p.val r.val := by
  subst hw
  simp only [View.readAt_apply, h11]
  simp only [LoadRect.idx, Rect.toLoadRect, Rect.unit]
  simp

include h5 in
theorem t4_p (i : Fin 32) (x : Fin 112) : (View.readAt (Elt Ideal) arg5.view (Rect.unit (s := S32x112) ![0, 0] S32x112.size inb_S32x112_S32x112_0_0).toLoadRect X5 : Vec Ideal S32x112 .bf16) (ix2 i x) = P i.val x.val := by
  simp only [View.readAt_apply, h5]
  simp [LoadRect.idx, Rect.toLoadRect, Rect.unit]

include h5 h11 hinv in
theorem t4_lo (k : Fin k0_t4_loop.trips) (a : Fin 32) (r : Fin 256) :
    trip_k0_t4.sl.r (F := Ideal) arg5 arg11 v197 v202 v203 X5 X11 k (ix2 a r) = IntOp.addi (FloatOps.fptosi (F := Ideal) (φ := .f32) 32 (halfE P R (inv r.val) (2 * k.val) a.val r.val)) 34952#32 := by
  unfold trip_k0_t4.sl.r
  refine (pay92_apply _ _ _ a r).trans ?_
  unfold halfE
  congr 2
  refine Finset.sum_congr rfl fun x _ => ?_
  rw [t4_p h5, t4_load h11 k 0 _ (off14_eq k), hinv, Nat.add_zero]

include h5 h11 hinv in
theorem t4_hi (k : Fin k0_t4_loop.trips) (a : Fin 32) (r : Fin 256) :
    trip_k0_t4.sl.r_1 (F := Ideal) arg5 arg11 v197 v202 v203 X5 X11 k (ix2 a r) = FloatOps.fptosi (F := Ideal) (φ := .f32) 32 (halfE P R (inv r.val) (2 * k.val + 1) a.val r.val) := by
  unfold trip_k0_t4.sl.r_1
  refine (pay93_apply _ _ _ a r).trans ?_
  unfold halfE
  congr 1
  refine Finset.sum_congr rfl fun x _ => ?_
  rw [t4_p h5, t4_load h11 k 1 _ (off15_eq k), hinv]

/-- The packed scratch array as a function of its coordinates. -/
def G12 (P : ℕ → ℕ → EReal) (R : ℕ → ℕ → ℕ → EReal) (inv : ℕ → EReal) (h x l : ℕ) : BitVec 32 := wordE P R inv (x / 40) (x % 40) (128 * h + l)

include h5 h11 hinv in
theorem t4_agree (k : Fin k0_t4_loop.trips) :
    ∀ p ∈ tripL_k0_t4 (F := Ideal) Variants.none c none i arg2 harg2 arg3 harg3 arg4 harg4 arg5 harg5 arg6 harg6 arg7 harg7 arg8 harg8 arg9 harg9 arg10 harg10 arg11 harg11 arg12 harg12 v197 v202 v203 X5 X11 k, ∀ x,
      p.2 x = G12 P R inv (p.1.emb x 0).val (p.1.emb x 1).val (p.1.emb x 2).val := by
  intro p hp
  unfold tripL_k0_t4 trip_k0_t4 at hp
  simp only [List.mem_cons, List.not_mem_nil, or_false] at hp
  rcases hp with rfl | rfl <;> intro x <;>
    obtain ⟨a, b, d, rfl⟩ : ∃ (a : Fin 1) (b : Fin 32) (d : Fin 128), x = ix3 a b d := ⟨_, _, _, eq_ix3 x⟩ <;>
    obtain rfl : a = 0 := Subsingleton.elim _ _
  · refine Eq.trans (b := G12 P R inv 1 (40 * k.val + b.val) d.val) ?_ ?_
    · refine (pay6_apply _ _ b d).trans ?_
      rw [t4_lo h5 h11 hinv, t4_hi h5 h11 hinv]
      unfold G12 wordE
      rw [show (40 * k.val + b.val) / 40 = k.val by omega, show (40 * k.val + b.val) % 40 = b.val by omega]
      rfl
    · simp only [Rect.emb_apply, Rect.off_unit, Rect.stride_unit, off17_eq]; simp
  · refine Eq.trans (b := G12 P R inv 0 (40 * k.val + b.val) d.val) ?_ ?_
    · refine (pay5_apply _ _ b d).trans ?_
      rw [t4_lo h5 h11 hinv, t4_hi h5 h11 hinv]
      unfold G12 wordE
      rw [show (40 * k.val + b.val) / 40 = k.val by omega, show (40 * k.val + b.val) % 40 = b.val by omega]
      rfl
    · simp only [Rect.emb_apply, Rect.off_unit, Rect.stride_unit, off16_eq]; simp

include h5 h11 hinv in
theorem C12_read (X12 : BufTy.Contents (Elt Ideal) arg12.view.ty) (a j : ℕ) (ha : a < 32) (hj : j < 32) (y : S2x1280x128.Idx) (hy : (y 1).val = 40 * a + j) :
    arg12.view.read (Elt Ideal) (arg12.view.writes (Elt Ideal) X12 (pb_k0_t4 (F := Ideal) Variants.none c none i arg2 harg2 arg3 harg3 arg4 harg4 arg5 harg5 arg6 harg6 arg7 harg7 arg8 harg8 arg9 harg9 arg10 harg10 arg11 harg11 arg12 harg12 v197 v202 v203 X5 X11 k0_t4_loop.trips)) y
      = wordE P R inv a j (128 * (y 0).val + (y 2).val) := by
  have hT : k0_t4_loop.trips = 32 := by decide
  have key := mem_pb (T := k0_t4_loop.trips) (pb_k0_t4 (F := Ideal) Variants.none c none i arg2 harg2 arg3 harg3 arg4 harg4 arg5 harg5 arg6 harg6 arg7 harg7 arg8 harg8 arg9 harg9 arg10 harg10 arg11 harg11 arg12 harg12 v197 v202 v203 X5 X11)
    (tripL_k0_t4 (F := Ideal) Variants.none c none i arg2 harg2 arg3 harg3 arg4 harg4 arg5 harg5 arg6 harg6 arg7 harg7 arg8 harg8 arg9 harg9 arg10 harg10 arg11 harg11 arg12 harg12 v197 v202 v203 X5 X11) (by first | rfl | (rw [pb_k0_t4.eq_1]))
    (fun k => pb_k0_t4_succ (F := Ideal) Variants.none c none i arg2 harg2 arg3 harg3 arg4 harg4 arg5 harg5 arg6 harg6 arg7 harg7 arg8 harg8 arg9 harg9 arg10 harg10 arg11 harg11 arg12 harg12 v197 v202 v203 X5 X11 k) _ le_rfl
  refine (View.read_writes_apply_of_pieces (Val := Elt Ideal) arg12.view _ (fun y : S2x1280x128.Idx => G12 P R inv (y 0).val (y 1).val (y 2).val) _ ?_ y ?_).trans ?_
  · intro p hp
    obtain ⟨k, _, hk⟩ := (key p).1 hp
    exact t4_agree h5 h11 hinv k p hk
  · have h0 : (y 0).val < 2 := (y 0).isLt
    have hl : (y 2).val < 128 := (y 2).isLt
    have hq : a < k0_t4_loop.trips := by omega
    have cov : ∃ p ∈ tripL_k0_t4 (F := Ideal) Variants.none c none i arg2 harg2 arg3 harg3 arg4 harg4 arg5 harg5 arg6 harg6 arg7 harg7 arg8 harg8 arg9 harg9 arg10 harg10 arg11 harg11 arg12 harg12 v197 v202 v203 X5 X11 ⟨a, hq⟩, y ∈ p.1.set := by
      unfold tripL_k0_t4 trip_k0_t4
      have h01 : (y 0).val = 0 ∨ (y 0).val = 1 := by omega
      simp only [List.exists_mem_cons_iff, List.not_mem_nil, false_and, exists_false, or_false, Rect.mem_set_unit, Fin.forall_fin_succ, off16_eq, off17_eq]
      simp
      omega
    obtain ⟨p, hp, hyp⟩ := cov
    exact ⟨p, (key p).2 ⟨⟨a, hq⟩, hq, hp⟩, hyp⟩
  · unfold G12
    rw [hy]
    congr 1 <;> omega
end

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X12 : BufTy.Contents (Elt Ideal) arg12.view.ty} {w : ℕ → ℕ → ℕ → BitVec 32}
  (h12 : ∀ a j, a < 32 → j < 32 → ∀ y : S2x1280x128.Idx, (y 1).val = 40 * a + j →
    arg12.view.read (Elt Ideal) X12 y = w a j (128 * (y 0).val + (y 2).val))
  {c : Dev nD} {i : grid0.Coords}

include h12 in
theorem t5_load (k : Fin k0_t5_loop.trips) (h g s : ℕ) (hg : g < 4) (hs : s < 4) (off : Fin 3 → ℕ) (hw : off = ![h, 320 * g + (4 * k.val + s), 0]) (hb) (t : Fin 8) (r : Fin 128) :
    View.readAt (Elt Ideal) arg12.view (⟨off, S1x8x128.size, ![1, 40, 1], hb⟩ : LoadRect S2x1280x128) X12 (ix3 0 t r) = w (8 * g + t.val) (4 * k.val + s) (128 * h + r.val) := by
  have hT : k0_t5_loop.trips = 7 := by decide
  have hk := k.isLt
  have ht := t.isLt
  subst hw
  rw [View.readAt_apply, h12 (8 * g + t.val) (4 * k.val + s) (by omega) (by omega)]
  · simp [LoadRect.idx]
  · simp [LoadRect.idx]; omega

include h12 in
theorem t5_v217 (k : Fin k0_t5_loop.trips) (t : Fin 8) (r : Fin 128) :
    trip_k0_t5.sl.v217 (F := Ideal) arg12 X12 k (ix2 t r) = w (8 * 0 + t.val) (4 * k.val + 0) (128 * 0 + r.val) := by
  unfold trip_k0_t5.sl.v217
  refine Eq.trans (shapeCast_drop _ _ t r) ?_
  exact t5_load h12 k 0 0 0 (by omega) (by omega) _ (off18_eq0 k) _ t r

include h12 in
theorem t5_v223 (k : Fin k0_t5_loop.trips) (t : Fin 8) (r : Fin 128) :
    trip_k0_t5.sl.v223 (F := Ideal) arg12 X12 k (ix2 t r) = w (8 * 1 + t.val) (4 * k.val + 0) (128 * 0 + r.val) := by
  unfold trip_k0_t5.sl.v223
  refine Eq.trans (shapeCast_drop _ _ t r) ?_
  exact t5_load h12 k 0 1 0 (by omega) (by omega) _ (off18_eq1 k) _ t r

include h12 in
theorem t5_v229 (k : Fin k0_t5_loop.trips) (t : Fin 8) (r : Fin 128) :
    trip_k0_t5.sl.v229 (F := Ideal) arg12 X12 k (ix2 t r) = w (8 * 2 + t.val) (4 * k.val + 0) (128 * 0 + r.val) := by
  unfold trip_k0_t5.sl.v229
  refine Eq.trans (shapeCast_drop _ _ t r) ?_
  exact t5_load h12 k 0 2 0 (by omega) (by omega) _ (off18_eq2 k) _ t r

include h12 in
theorem t5_v235 (k : Fin k0_t5_loop.trips) (t : Fin 8) (r : Fin 128) :
    trip_k0_t5.sl.v235 (F := Ideal) arg12 X12 k (ix2 t r) = w (8 * 3 + t.val) (4 * k.val + 0) (128 * 0 + r.val) := by
  unfold trip_k0_t5.sl.v235
  refine Eq.trans (shapeCast_drop _ _ t r) ?_
  exact t5_load h12 k 0 3 0 (by omega) (by omega) _ (off18_eq3 k) _ t r

include h12 in
theorem t5_v241 (k : Fin k0_t5_loop.trips) (t : Fin 8) (r : Fin 128) :
    trip_k0_t5.sl.v241 (F := Ideal) arg12 X12 k (ix2 t r) = w (8 * 0 + t.val) (4 * k.val + 1) (128 * 0 + r.val) := by
  unfold trip_k0_t5.sl.v241
  refine Eq.trans (shapeCast_drop _ _ t r) ?_
  exact t5_load h12 k 0 0 1 (by omega) (by omega) _ (off18_eq4 k) _ t r

include h12 in
theorem t5_v247 (k : Fin k0_t5_loop.trips) (t : Fin 8) (r : Fin 128) :
    trip_k0_t5.sl.v247 (F := Ideal) arg12 X12 k (ix2 t r) = w (8 * 1 + t.val) (4 * k.val + 1) (128 * 0 + r.val) := by
  unfold trip_k0_t5.sl.v247
  refine Eq.trans (shapeCast_drop _ _ t r) ?_
  exact t5_load h12 k 0 1 1 (by omega) (by omega) _ (off18_eq5 k) _ t r

include h12 in
theorem t5_v253 (k : Fin k0_t5_loop.trips) (t : Fin 8) (r : Fin 128) :
    trip_k0_t5.sl.v253 (F := Ideal) arg12 X12 k (ix2 t r) = w (8 * 2 + t.val) (4 * k.val + 1) (128 * 0 + r.val) := by
  unfold trip_k0_t5.sl.v253
  refine Eq.trans (shapeCast_drop _ _ t r) ?_
  exact t5_load h12 k 0 2 1 (by omega) (by omega) _ (off18_eq6 k) _ t r

include h12 in
theorem t5_v259 (k : Fin k0_t5_loop.trips) (t : Fin 8) (r : Fin 128) :
    trip_k0_t5.sl.v259 (F := Ideal) arg12 X12 k (ix2 t r) = w (8 * 3 + t.val) (4 * k.val + 1) (128 * 0 + r.val) := by
  unfold trip_k0_t5.sl.v259
  refine Eq.trans (shapeCast_drop _ _ t r) ?_
  exact t5_load h12 k 0 3 1 (by omega) (by omega) _ (off18_eq7 k) _ t r

include h12 in
theorem t5_v265 (k : Fin k0_t5_loop.trips) (t : Fin 8) (r : Fin 128) :
    trip_k0_t5.sl.v265 (F := Ideal) arg12 X12 k (ix2 t r) = w (8 * 0 + t.val) (4 * k.val + 2) (128 * 0 + r.val) := by
  unfold trip_k0_t5.sl.v265
  refine Eq.trans (shapeCast_drop _ _ t r) ?_
  exact t5_load h12 k 0 0 2 (by omega) (by omega) _ (off18_eq8 k) _ t r

include h12 in
theorem t5_v271 (k : Fin k0_t5_loop.trips) (t : Fin 8) (r : Fin 128) :
    trip_k0_t5.sl.v271 (F := Ideal) arg12 X12 k (ix2 t r) = w (8 * 1 + t.val) (4 * k.val + 2) (128 * 0 + r.val) := by
  unfold trip_k0_t5.sl.v271
  refine Eq.trans (shapeCast_drop _ _ t r) ?_
  exact t5_load h12 k 0 1 2 (by omega) (by omega) _ (off18_eq9 k) _ t r

include h12 in
theorem t5_v277 (k : Fin k0_t5_loop.trips) (t : Fin 8) (r : Fin 128) :
    trip_k0_t5.sl.v277 (F := Ideal) arg12 X12 k (ix2 t r) = w (8 * 2 + t.val) (4 * k.val + 2) (128 * 0 + r.val) := by
  unfold trip_k0_t5.sl.v277
  refine Eq.trans (shapeCast_drop _ _ t r) ?_
  exact t5_load h12 k 0 2 2 (by omega) (by omega) _ (off18_eq10 k) _ t r

include h12 in
theorem t5_v283 (k : Fin k0_t5_loop.trips) (t : Fin 8) (r : Fin 128) :
    trip_k0_t5.sl.v283 (F := Ideal) arg12 X12 k (ix2 t r) = w (8 * 3 + t.val) (4 * k.val + 2) (128 * 0 + r.val) := by
  unfold trip_k0_t5.sl.v283
  refine Eq.trans (shapeCast_drop _ _ t r) ?_
  exact t5_load h12 k 0 3 2 (by omega) (by omega) _ (off18_eq11 k) _ t r

include h12 in
theorem t5_v289 (k : Fin k0_t5_loop.trips) (t : Fin 8) (r : Fin 128) :
    trip_k0_t5.sl.v289 (F := Ideal) arg12 X12 k (ix2 t r) = w (8 * 0 + t.val) (4 * k.val + 3) (128 * 0 + r.val) := by
  unfold trip_k0_t5.sl.v289
  refine Eq.trans (shapeCast_drop _ _ t r) ?_
  exact t5_load h12 k 0 0 3 (by omega) (by omega) _ (off18_eq12 k) _ t r

include h12 in
theorem t5_v295 (k : Fin k0_t5_loop.trips) (t : Fin 8) (r : Fin 128) :
    trip_k0_t5.sl.v295 (F := Ideal) arg12 X12 k (ix2 t r) = w (8 * 1 + t.val) (4 * k.val + 3) (128 * 0 + r.val) := by
  unfold trip_k0_t5.sl.v295
  refine Eq.trans (shapeCast_drop _ _ t r) ?_
  exact t5_load h12 k 0 1 3 (by omega) (by omega) _ (off18_eq13 k) _ t r

include h12 in
theorem t5_v301 (k : Fin k0_t5_loop.trips) (t : Fin 8) (r : Fin 128) :
    trip_k0_t5.sl.v301 (F := Ideal) arg12 X12 k (ix2 t r) = w (8 * 2 + t.val) (4 * k.val + 3) (128 * 0 + r.val) := by
  unfold trip_k0_t5.sl.v301
  refine Eq.trans (shapeCast_drop _ _ t r) ?_
  exact t5_load h12 k 0 2 3 (by omega) (by omega) _ (off18_eq14 k) _ t r

include h12 in
theorem t5_v307 (k : Fin k0_t5_loop.trips) (t : Fin 8) (r : Fin 128) :
    trip_k0_t5.sl.v307 (F := Ideal) arg12 X12 k (ix2 t r) = w (8 * 3 + t.val) (4 * k.val + 3) (128 * 0 + r.val) := by
  unfold trip_k0_t5.sl.v307
  refine Eq.trans (shapeCast_drop _ _ t r) ?_
  exact t5_load h12 k 0 3 3 (by omega) (by omega) _ (off18_eq15 k) _ t r

include h12 in
theorem t5_v308 (k : Fin k0_t5_loop.trips) (x : Fin 128) (r : Fin 128) :
    trip_k0_t5.sl.v308 (F := Ideal) arg12 X12 k (ix2 x r) = w (x.val % 32) (4 * k.val + x.val / 32) (128 * 0 + r.val) := by
  unfold trip_k0_t5.sl.v308
  refine Eq.trans (concat16_apply _ x r (fun s t => w (8 * (s % 4) + t) (4 * k.val + s / 4) (128 * 0 + r.val))
    (fun t => t5_v217 h12 k t r)
    (fun t => t5_v223 h12 k t r)
    (fun t => t5_v229 h12 k t r)
    (fun t => t5_v235 h12 k t r)
    (fun t => t5_v241 h12 k t r)
    (fun t => t5_v247 h12 k t r)
    (fun t => t5_v253 h12 k t r)
    (fun t => t5_v259 h12 k t r)
    (fun t => t5_v265 h12 k t r)
    (fun t => t5_v271 h12 k t r)
    (fun t => t5_v277 h12 k t r)
    (fun t => t5_v283 h12 k t r)
    (fun t => t5_v289 h12 k t r)
    (fun t => t5_v295 h12 k t r)
    (fun t => t5_v301 h12 k t r)
    (fun t => t5_v307 h12 k t r)) ?_
  have hx := x.isLt
  congr 1 <;> omega

include h12 in
theorem t5_v314 (k : Fin k0_t5_loop.trips) (t : Fin 8) (r : Fin 128) :
    trip_k0_t5.sl.v314 (F := Ideal) arg12 X12 k (ix2 t r) = w (8 * 0 + t.val) (4 * k.val + 0) (128 * 1 + r.val) := by
  unfold trip_k0_t5.sl.v314
  refine Eq.trans (shapeCast_drop _ _ t r) ?_
  exact t5_load h12 k 1 0 0 (by omega) (by omega) _ (off19_eq0 k) _ t r

include h12 in
theorem t5_v320 (k : Fin k0_t5_loop.trips) (t : Fin 8) (r : Fin 128) :
    trip_k0_t5.sl.v320 (F := Ideal) arg12 X12 k (ix2 t r) = w (8 * 1 + t.val) (4 * k.val + 0) (128 * 1 + r.val) := by
  unfold trip_k0_t5.sl.v320
  refine Eq.trans (shapeCast_drop _ _ t r) ?_
  exact t5_load h12 k 1 1 0 (by omega) (by omega) _ (off19_eq1 k) _ t r

include h12 in
theorem t5_v326 (k : Fin k0_t5_loop.trips) (t : Fin 8) (r : Fin 128) :
    trip_k0_t5.sl.v326 (F := Ideal) arg12 X12 k (ix2 t r) = w (8 * 2 + t.val) (4 * k.val + 0) (128 * 1 + r.val) := by
  unfold trip_k0_t5.sl.v326
  refine Eq.trans (shapeCast_drop _ _ t r) ?_
  exact t5_load h12 k 1 2 0 (by omega) (by omega) _ (off19_eq2 k) _ t r

include h12 in
theorem t5_v332 (k : Fin k0_t5_loop.trips) (t : Fin 8) (r : Fin 128) :
    trip_k0_t5.sl.v332 (F := Ideal) arg12 X12 k (ix2 t r) = w (8 * 3 + t.val) (4 * k.val + 0) (128 * 1 + r.val) := by
  unfold trip_k0_t5.sl.v332
  refine Eq.trans (shapeCast_drop _ _ t r) ?_
  exact t5_load h12 k 1 3 0 (by omega) (by omega) _ (off19_eq3 k) _ t r

include h12 in
theorem t5_v338 (k : Fin k0_t5_loop.trips) (t : Fin 8) (r : Fin 128) :
    trip_k0_t5.sl.v338 (F := Ideal) arg12 X12 k (ix2 t r) = w (8 * 0 + t.val) (4 * k.val + 1) (128 * 1 + r.val) := by
  unfold trip_k0_t5.sl.v338
  refine Eq.trans (shapeCast_drop _ _ t r) ?_
  exact t5_load h12 k 1 0 1 (by omega) (by omega) _ (off19_eq4 k) _ t r

include h12 in
theorem t5_v344 (k : Fin k0_t5_loop.trips) (t : Fin 8) (r : Fin 128) :
    trip_k0_t5.sl.v344 (F := Ideal) arg12 X12 k (ix2 t r) = w (8 * 1 + t.val) (4 * k.val + 1) (128 * 1 + r.val) := by
  unfold trip_k0_t5.sl.v344
  refine Eq.trans (shapeCast_drop _ _ t r) ?_
  exact t5_load h12 k 1 1 1 (by omega) (by omega) _ (off19_eq5 k) _ t r

include h12 in
theorem t5_v350 (k : Fin k0_t5_loop.trips) (t : Fin 8) (r : Fin 128) :
    trip_k0_t5.sl.v350 (F := Ideal) arg12 X12 k (ix2 t r) = w (8 * 2 + t.val) (4 * k.val + 1) (128 * 1 + r.val) := by
  unfold trip_k0_t5.sl.v350
  refine Eq.trans (shapeCast_drop _ _ t r) ?_
  exact t5_load h12 k 1 2 1 (by omega) (by omega) _ (off19_eq6 k) _ t r

include h12 in
theorem t5_v356 (k : Fin k0_t5_loop.trips) (t : Fin 8) (r : Fin 128) :
    trip_k0_t5.sl.v356 (F := Ideal) arg12 X12 k (ix2 t r) = w (8 * 3 + t.val) (4 * k.val + 1) (128 * 1 + r.val) := by
  unfold trip_k0_t5.sl.v356
  refine Eq.trans (shapeCast_drop _ _ t r) ?_
  exact t5_load h12 k 1 3 1 (by omega) (by omega) _ (off19_eq7 k) _ t r

include h12 in
theorem t5_v362 (k : Fin k0_t5_loop.trips) (t : Fin 8) (r : Fin 128) :
    trip_k0_t5.sl.v362 (F := Ideal) arg12 X12 k (ix2 t r) = w (8 * 0 + t.val) (4 * k.val + 2) (128 * 1 + r.val) := by
  unfold trip_k0_t5.sl.v362
  refine Eq.trans (shapeCast_drop _ _ t r) ?_
  exact t5_load h12 k 1 0 2 (by omega) (by omega) _ (off19_eq8 k) _ t r

include h12 in
theorem t5_v368 (k : Fin k0_t5_loop.trips) (t : Fin 8) (r : Fin 128) :
    trip_k0_t5.sl.v368 (F := Ideal) arg12 X12 k (ix2 t r) = w (8 * 1 + t.val) (4 * k.val + 2) (128 * 1 + r.val) := by
  unfold trip_k0_t5.sl.v368
  refine Eq.trans (shapeCast_drop _ _ t r) ?_
  exact t5_load h12 k 1 1 2 (by omega) (by omega) _ (off19_eq9 k) _ t r

include h12 in
theorem t5_v374 (k : Fin k0_t5_loop.trips) (t : Fin 8) (r : Fin 128) :
    trip_k0_t5.sl.v374 (F := Ideal) arg12 X12 k (ix2 t r) = w (8 * 2 + t.val) (4 * k.val + 2) (128 * 1 + r.val) := by
  unfold trip_k0_t5.sl.v374
  refine Eq.trans (shapeCast_drop _ _ t r) ?_
  exact t5_load h12 k 1 2 2 (by omega) (by omega) _ (off19_eq10 k) _ t r

include h12 in
theorem t5_v380 (k : Fin k0_t5_loop.trips) (t : Fin 8) (r : Fin 128) :
    trip_k0_t5.sl.v380 (F := Ideal) arg12 X12 k (ix2 t r) = w (8 * 3 + t.val) (4 * k.val + 2) (128 * 1 + r.val) := by
  unfold trip_k0_t5.sl.v380
  refine Eq.trans (shapeCast_drop _ _ t r) ?_
  exact t5_load h12 k 1 3 2 (by omega) (by omega) _ (off19_eq11 k) _ t r

include h12 in
theorem t5_v386 (k : Fin k0_t5_loop.trips) (t : Fin 8) (r : Fin 128) :
    trip_k0_t5.sl.v386 (F := Ideal) arg12 X12 k (ix2 t r) = w (8 * 0 + t.val) (4 * k.val + 3) (128 * 1 + r.val) := by
  unfold trip_k0_t5.sl.v386
  refine Eq.trans (shapeCast_drop _ _ t r) ?_
  exact t5_load h12 k 1 0 3 (by omega) (by omega) _ (off19_eq12 k) _ t r

include h12 in
theorem t5_v392 (k : Fin k0_t5_loop.trips) (t : Fin 8) (r : Fin 128) :
    trip_k0_t5.sl.v392 (F := Ideal) arg12 X12 k (ix2 t r) = w (8 * 1 + t.val) (4 * k.val + 3) (128 * 1 + r.val) := by
  unfold trip_k0_t5.sl.v392
  refine Eq.trans (shapeCast_drop _ _ t r) ?_
  exact t5_load h12 k 1 1 3 (by omega) (by omega) _ (off19_eq13 k) _ t r

include h12 in
theorem t5_v398 (k : Fin k0_t5_loop.trips) (t : Fin 8) (r : Fin 128) :
    trip_k0_t5.sl.v398 (F := Ideal) arg12 X12 k (ix2 t r) = w (8 * 2 + t.val) (4 * k.val + 3) (128 * 1 + r.val) := by
  unfold trip_k0_t5.sl.v398
  refine Eq.trans (shapeCast_drop _ _ t r) ?_
  exact t5_load h12 k 1 2 3 (by omega) (by omega) _ (off19_eq14 k) _ t r

include h12 in
theorem t5_v404 (k : Fin k0_t5_loop.trips) (t : Fin 8) (r : Fin 128) :
    trip_k0_t5.sl.v404 (F := Ideal) arg12 X12 k (ix2 t r) = w (8 * 3 + t.val) (4 * k.val + 3) (128 * 1 + r.val) := by
  unfold trip_k0_t5.sl.v404
  refine Eq.trans (shapeCast_drop _ _ t r) ?_
  exact t5_load h12 k 1 3 3 (by omega) (by omega) _ (off19_eq15 k) _ t r

include h12 in
theorem t5_v405 (k : Fin k0_t5_loop.trips) (x : Fin 128) (r : Fin 128) :
    trip_k0_t5.sl.v405 (F := Ideal) arg12 X12 k (ix2 x r) = w (x.val % 32) (4 * k.val + x.val / 32) (128 * 1 + r.val) := by
  unfold trip_k0_t5.sl.v405
  refine Eq.trans (concat16_apply _ x r (fun s t => w (8 * (s % 4) + t) (4 * k.val + s / 4) (128 * 1 + r.val))
    (fun t => t5_v314 h12 k t r)
    (fun t => t5_v320 h12 k t r)
    (fun t => t5_v326 h12 k t r)
    (fun t => t5_v332 h12 k t r)
    (fun t => t5_v338 h12 k t r)
    (fun t => t5_v344 h12 k t r)
    (fun t => t5_v350 h12 k t r)
    (fun t => t5_v356 h12 k t r)
    (fun t => t5_v362 h12 k t r)
    (fun t => t5_v368 h12 k t r)
    (fun t => t5_v374 h12 k t r)
    (fun t => t5_v380 h12 k t r)
    (fun t => t5_v386 h12 k t r)
    (fun t => t5_v392 h12 k t r)
    (fun t => t5_v398 h12 k t r)
    (fun t => t5_v404 h12 k t r)) ?_
  have hx := x.isLt
  congr 1 <;> omega
end

end Cert.DownIdeal.Hand
end
-- ==== Proof.DValF.lean ====
module
public import proofs.«01_k».proof.Proof.DBodyIdeal
public import proofs.«01_k».proof.Proof.DValE
/-! What the body of the second kernel leaves in its three output blocks, as functions of its input blocks. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (mem_pb qz mkWord bSc rat ratSel)

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X12 : BufTy.Contents (Elt Ideal) arg12.view.ty} {w : ℕ → ℕ → ℕ → BitVec 32}
  (h12 : ∀ a j, a < 32 → j < 32 → ∀ y : S2x1280x128.Idx, (y 1).val = 40 * a + j →
    arg12.view.read (Elt Ideal) X12 y = w a j (128 * (y 0).val + (y 2).val))
  {c : Dev nD} {i : grid0.Coords}

theorem pay7_apply (v : IVec S128x128 32) (a b : Fin 128) : k0_pay7 v (ix3 0 a b) = v (ix2 a b) := by
  pointwise [k0_pay7]

theorem pay8_apply (v : IVec S128x128 32) (a b : Fin 128) : k0_pay8 v (ix3 0 a b) = v (ix2 b a) := by
  pointwise [k0_pay8]

theorem transpose_ix2 (v : IVec S128x128 32) (h) (a b : Fin 128) : (transpose S128x128 [1, 0] v h : IVec S128x128 32) (ix2 a b) = v (ix2 b a) := by
  pointwise

/-- The packed output block as a function of its coordinates. -/
def G7 (w : ℕ → ℕ → ℕ → BitVec 32) (r q : ℕ) : BitVec 32 := w (q % 32) (q / 32) r

include h12 in
theorem t5_agree (k : Fin k0_t5_loop.trips) :
    ∀ p ∈ tripL_k0_t5 (F := Ideal) Variants.none c none i arg2 harg2 arg3 harg3 arg4 harg4 arg5 harg5 arg6 harg6 arg7 harg7 arg8 harg8 arg9 harg9 arg10 harg10 arg11 harg11 arg12 harg12 X12 k, ∀ x, p.2 x = G7 w (p.1.emb x 1).val (p.1.emb x 2).val := by
  intro p hp
  unfold tripL_k0_t5 trip_k0_t5 at hp
  simp only [List.mem_cons, List.not_mem_nil, or_false] at hp
  rcases hp with rfl | rfl <;> intro x <;>
    obtain ⟨a, b, d, rfl⟩ : ∃ (a : Fin 1) (b d : Fin 128), x = ix3 a b d := ⟨_, _, _, eq_ix3 x⟩ <;>
    obtain rfl : a = 0 := Subsingleton.elim _ _
  · refine Eq.trans (b := G7 w (128 * 1 + b.val) (128 * k.val + d.val)) ?_ ?_
    · refine (pay8_apply _ b d).trans ((t5_v405 h12 k d b).trans ?_)
      unfold G7
      congr 1 <;> omega
    · simp only [Rect.emb_apply, Rect.off_unit, Rect.stride_unit, off21_eq]; simp
  · refine Eq.trans (b := G7 w (128 * 0 + b.val) (128 * k.val + d.val)) ?_ ?_
    · unfold trip_k0_t5.sl.v406
      refine (pay7_apply _ b d).trans ((transpose_ix2 _ _ b d).trans ((t5_v308 h12 k d b).trans ?_))
      unfold G7
      congr 1 <;> omega
    · simp only [Rect.emb_apply, Rect.off_unit, Rect.stride_unit, off20_eq]; simp

include h12 in
theorem C7_read (X7 : BufTy.Contents (Elt Ideal) arg7.view.ty) (y : S1x256x896.Idx) :
    arg7.view.read (Elt Ideal) (arg7.view.writes (Elt Ideal) X7 (pb_k0_t5 (F := Ideal) Variants.none c none i arg2 harg2 arg3 harg3 arg4 harg4 arg5 harg5 arg6 harg6 arg7 harg7 arg8 harg8 arg9 harg9 arg10 harg10 arg11 harg11 arg12 harg12 X12 k0_t5_loop.trips)) y
      = G7 w (y 1).val (y 2).val := by
  have hT : k0_t5_loop.trips = 7 := by decide
  have key := mem_pb (T := k0_t5_loop.trips) (pb_k0_t5 (F := Ideal) Variants.none c none i arg2 harg2 arg3 harg3 arg4 harg4 arg5 harg5 arg6 harg6 arg7 harg7 arg8 harg8 arg9 harg9 arg10 harg10 arg11 harg11 arg12 harg12 X12)
    (tripL_k0_t5 (F := Ideal) Variants.none c none i arg2 harg2 arg3 harg3 arg4 harg4 arg5 harg5 arg6 harg6 arg7 harg7 arg8 harg8 arg9 harg9 arg10 harg10 arg11 harg11 arg12 harg12 X12) rfl
    (fun k => pb_k0_t5_succ (F := Ideal) Variants.none c none i arg2 harg2 arg3 harg3 arg4 harg4 arg5 harg5 arg6 harg6 arg7 harg7 arg8 harg8 arg9 harg9 arg10 harg10 arg11 harg11 arg12 harg12 X12 k) _ le_rfl
  refine View.read_writes_apply_of_pieces (Val := Elt Ideal) arg7.view _ (fun y : S1x256x896.Idx => G7 w (y 1).val (y 2).val) _ ?_ y ?_
  · intro p hp
    obtain ⟨k, _, hk⟩ := (key p).1 hp
    exact t5_agree h12 k p hk
  · have h0 : (y 0).val < 1 := (y 0).isLt
    have h1 : (y 1).val < 256 := (y 1).isLt
    have h2 : (y 2).val < 896 := (y 2).isLt
    have hq : (y 2).val / 128 < k0_t5_loop.trips := by omega
    have cov : ∃ p ∈ tripL_k0_t5 (F := Ideal) Variants.none c none i arg2 harg2 arg3 harg3 arg4 harg4 arg5 harg5 arg6 harg6 arg7 harg7 arg8 harg8 arg9 harg9 arg10 harg10 arg11 harg11 arg12 harg12 X12 ⟨(y 2).val / 128, hq⟩, y ∈ p.1.set := by
      unfold tripL_k0_t5 trip_k0_t5
      simp only [List.exists_mem_cons_iff, List.not_mem_nil, false_and, exists_false, or_false, Rect.mem_set_unit, Fin.forall_fin_succ, off20_eq, off21_eq]
      simp
      omega
    obtain ⟨p, hp, hyp⟩ := cov
    exact ⟨p, (key p).2 ⟨⟨(y 2).val / 128, hq⟩, hq, hp⟩, hyp⟩
end

section
variable {arg2 : Memref sig .tc .vmem S1x128x7168 .i32} {harg2 : arg2.IsWhole} {arg3 : Memref sig .tc .vmem S256x256 .bf16} {harg3 : arg3.IsWhole} {arg4 : Memref sig .tc .vmem S56x192 .bf16} {harg4 : arg4.IsWhole} {arg5 : Memref sig .tc .vmem S32x112 .bf16} {harg5 : arg5.IsWhole} {arg6 : Memref sig .tc .vmem S1x1x1x256 .i32} {harg6 : arg6.IsWhole} {arg7 : Memref sig .tc .vmem S1x256x896 .i32} {harg7 : arg7.IsWhole} {arg8 : Memref sig .tc .vmem S1x1x1x256 .f32} {harg8 : arg8.IsWhole} {arg9 : Memref sig .tc .vmem S1x1x8x256 .f32} {harg9 : arg9.IsWhole} {arg10 : Memref sig .tc .vmem S2x8448x128 .f32} {harg10 : arg10.IsWhole} {arg11 : Memref sig .tc .vmem S64x112x256 .bf16} {harg11 : arg11.IsWhole} {arg12 : Memref sig .tc .vmem S2x1280x128 .i32} {harg12 : arg12.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X10 : BufTy.Contents (Elt Ideal) arg10.view.ty} {X11 : BufTy.Contents (Elt Ideal) arg11.view.ty} {X12 : BufTy.Contents (Elt Ideal) arg12.view.ty}
  {c : Dev nD} {i : grid0.Coords}
  {W : ℕ → ℕ → BitVec 32} {x3 x4 x5 : ℕ → ℕ → EReal} {x6 : ℕ → BitVec 32}
  (h2 : ∀ y, (arg2.view.read (Elt Ideal) X2 y : BitVec 32) = W (y 1).val (y 2).val)
  (h3 : ∀ y, arg3.view.read (Elt Ideal) X3 y = x3 (y 0).val (y 1).val)
  (h4 : ∀ y, arg4.view.read (Elt Ideal) X4 y = x4 (y 0).val (y 1).val)
  (h5 : ∀ y, arg5.view.read (Elt Ideal) X5 y = x5 (y 0).val (y 1).val)
  (h6 : ∀ y, arg6.view.read (Elt Ideal) X6 y = x6 (y 3).val)
  (hT : ∀ a j r, a < 32 → j < 256 → r < 256 → bT W x3 a j r ≠ ⊤ ∧ bT W x3 a j r ≠ ⊥)

include h2 h3 h4 hT in
theorem run_R (y : S64x112x256.Idx) :
    arg11.view.read (Elt Ideal) (arg11.view.writes (Elt Ideal) X11 (st_k0_t2 (F := Ideal) Variants.none c none i arg2 harg2 arg3 harg3 arg4 harg4 arg5 harg5 arg6 harg6 arg7 harg7 arg8 harg8 arg9 harg9 arg10 harg10 arg11 harg11 arg12 harg12 X4 (C10 arg2 harg2 arg3 harg3 arg4 harg4 arg5 harg5 arg6 harg6 arg7 harg7 arg8 harg8 arg9 harg9 arg10 harg10 arg11 harg11 arg12 harg12 X2 X3 c i X10) k0_pay123 k0_t2_loop.trips).2) y
      = bR x4 (bT W x3) (y 0).val (y 1).val (y 2).val :=
  C11_read h4 (fun a j ha hj y hy => C10_read h2 h3 X10 a j ha hj y hy) hT k0_pay123 X11 y

include h2 h3 h4 hT in
theorem run_amax (r : Fin 256) :
    k0_pay126 (st_k0_t2 (F := Ideal) Variants.none c none i arg2 harg2 arg3 harg3 arg4 harg4 arg5 harg5 arg6 harg6 arg7 harg7 arg8 harg8 arg9 harg9 arg10 harg10 arg11 harg11 arg12 harg12 X4 (C10 arg2 harg2 arg3 harg3 arg4 harg4 arg5 harg5 arg6 harg6 arg7 harg7 arg8 harg8 arg9 harg9 arg10 harg10 arg11 harg11 arg12 harg12 X2 X3 c i X10) k0_pay123 k0_t2_loop.trips).1 (ix2 0 r)
      = bA x4 (bT W x3) r.val :=
  t2_amax h4 (fun a j ha hj y hy => C10_read h2 h3 X10 a j ha hj y hy) hT k0_pay123 init_apply r

include h6 in
theorem run_idx (hb) (r : Fin 256) : View.readAt (Elt Ideal) arg6.view (Rect.unit (s := S1x1x1x256) ![0, 0, 0, 0] S1x1x1x256.size hb).toLoadRect X6 (ix4 0 0 0 r) = x6 r.val := by
  simp only [View.readAt_apply, h6]
  simp [LoadRect.idx, Rect.toLoadRect, Rect.unit]

/-- The inverse of the selected scale of row `r`. -/
def bInv (x4 : ℕ → ℕ → EReal) (T : ℕ → ℕ → ℕ → EReal) (x6 : ℕ → BitVec 32) (r : ℕ) : EReal :=
  Ideal.div 1 (bSc (bA x4 T r) (ratSel (x6 r)))

include h2 h3 h4 h5 h6 hT in
theorem kr7 (X7 : BufTy.Contents (Elt Ideal) arg7.view.ty) (y : S1x256x896.Idx) :
    arg7.view.read (Elt Ideal) (arg7.view.writes (Elt Ideal) X7 (kernelRun (F := Ideal) c i arg2 harg2 arg3 harg3 arg4 harg4 arg5 harg5 arg6 harg6 arg7 harg7 arg8 harg8 arg9 harg9 arg10 harg10 arg11 harg11 arg12 harg12 X2 X3 X4 X5 X6 X10 X11 X12).1) y
      = G7 (wordE x5 (bR x4 (bT W x3)) (bInv x4 (bT W x3) x6)) (y 1).val (y 2).val := by
  unfold kernelRun
  dsimp only
  refine C7_read (w := wordE x5 (bR x4 (bT W x3)) (bInv x4 (bT W x3) x6)) ?_ X7 y
  intro a j ha hj y hy
  refine C12_read h5 (fun y => run_R h2 h3 h4 hT y) ?_ X12 a j ha hj y hy
  intro r
  refine (selInv_apply _ _ r).trans ?_
  exact congrArg₂ (fun a b => Ideal.div 1 (bSc a (ratSel b))) (run_amax h2 h3 h4 hT r) (run_idx h6 _ r)

include h2 h3 h4 h6 hT in
theorem kr8 (y : S1x1x1x256.Idx) :
    arg8.view.read (Elt Ideal) (kernelRun (F := Ideal) c i arg2 harg2 arg3 harg3 arg4 harg4 arg5 harg5 arg6 harg6 arg7 harg7 arg8 harg8 arg9 harg9 arg10 harg10 arg11 harg11 arg12 harg12 X2 X3 X4 X5 X6 X10 X11 X12).2.1 y
      = bSc (bA x4 (bT W x3) (y 3).val) (ratSel (x6 (y 3).val)) := by
  unfold kernelRun
  dsimp only
  refine View.read_writes_apply_of_pieces (Val := Elt Ideal) arg8.view _ (fun y : S1x1x1x256.Idx => bSc (bA x4 (bT W x3) (y 3).val) (ratSel (x6 (y 3).val))) _ ?_ y ?_
  · intro p hp
    unfold kernelRun.sl.H8_1 at hp
    simp only [List.mem_cons, List.not_mem_nil, or_false] at hp
    subst hp
    intro x
    obtain ⟨a, b, d, e, rfl⟩ : ∃ (a b d : Fin 1) (e : Fin 256), x = ix4 a b d e := ⟨_, _, _, _, eq_ix4 x⟩
    obtain rfl : a = 0 := Subsingleton.elim _ _
    obtain rfl : b = 0 := Subsingleton.elim _ _
    obtain rfl : d = 0 := Subsingleton.elim _ _
    refine Eq.trans (b := bSc (bA x4 (bT W x3) e.val) (ratSel (x6 e.val))) ?_ ?_
    · refine (selScale_store _ _ e).trans ?_
      exact congrArg₂ (fun a b => bSc a (ratSel b)) (run_amax h2 h3 h4 hT e) (run_idx h6 _ e)
    · simp only [Rect.emb_apply, Rect.off_unit, Rect.stride_unit]; simp
  · unfold kernelRun.sl.H8_1
    have y0 : (y 0).val < 1 := (y 0).isLt
    have y1 : (y 1).val < 1 := (y 1).isLt
    have y2 : (y 2).val < 1 := (y 2).isLt
    have y3 : (y 3).val < 256 := (y 3).isLt
    simp only [List.exists_mem_cons_iff, List.not_mem_nil, false_and, exists_false, or_false, Rect.mem_set_unit, Fin.forall_fin_succ]
    simp
    omega

/-- The sum of squared errors of row `r` at the `m`-th ratio. -/
def bE (x4 : ℕ → ℕ → EReal) (T : ℕ → ℕ → ℕ → EReal) (m r : ℕ) : EReal :=
  bErr (bR x4 T) (Ideal.div 1 (bSc (bA x4 T r) (rat m))) (bSc (bA x4 T r) (rat m)) r

set_option maxHeartbeats 4000000 in
include h2 h3 h4 hT in
theorem kr9 (y : S1x1x8x256.Idx) :
    arg9.view.read (Elt Ideal) (kernelRun (F := Ideal) c i arg2 harg2 arg3 harg3 arg4 harg4 arg5 harg5 arg6 harg6 arg7 harg7 arg8 harg8 arg9 harg9 arg10 harg10 arg11 harg11 arg12 harg12 X2 X3 X4 X5 X6 X10 X11 X12).2.2.1 y
      = bE x4 (bT W x3) (y 2).val (y 3).val := by
  have h14 := fun y => run_R (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (X10 := X10) (X11 := X11) (c := c) (i := i) h2 h3 h4 hT y
  have hT3 : k0_t3_loop.trips = 64 := by decide
  unfold kernelRun
  dsimp only
  refine View.read_writes_apply_of_pieces (Val := Elt Ideal) arg9.view _ (fun y : S1x1x8x256.Idx => bE x4 (bT W x3) (y 2).val (y 3).val) _ ?_ y ?_
  · intro p hp
    unfold kernelRun.sl.H9_8 at hp
    simp only [List.mem_cons, List.not_mem_nil, or_false] at hp
    rcases hp with rfl | rfl | rfl | rfl | rfl | rfl | rfl | rfl <;> intro x <;>
      obtain ⟨a, b, d, e, rfl⟩ : ∃ (a b d : Fin 1) (e : Fin 256), x = ix4 a b d e := ⟨_, _, _, _, eq_ix4 x⟩ <;>
      obtain rfl : a = 0 := Subsingleton.elim _ _ <;>
      obtain rfl : b = 0 := Subsingleton.elim _ _ <;>
      obtain rfl : d = 0 := Subsingleton.elim _ _
    · refine Eq.trans (b := bE x4 (bT W x3) 7 e.val) ?_ ?_
      · refine (rowSum7_apply _ e).trans ?_
        refine (Finset.sum_congr rfl fun s _ => t3_acc7 h14 _ s e (zero7_apply s e) _ le_rfl).trans ?_
        rw [hT3, err_total]
        exact congrArg₂ (fun a b => bErr (bR x4 (bT W x3)) a b e.val)
          ((inv7_apply _ e).trans (congrArg (fun z => Ideal.div 1 (bSc z (rat 7))) (run_amax h2 h3 h4 hT e)))
          ((sc7_apply _ e).trans (congrArg (fun z => bSc z (rat 7)) (run_amax h2 h3 h4 hT e)))
      · simp only [Rect.emb_apply, Rect.off_unit, Rect.stride_unit]; simp
    · refine Eq.trans (b := bE x4 (bT W x3) 6 e.val) ?_ ?_
      · refine (rowSum6_apply _ e).trans ?_
        refine (Finset.sum_congr rfl fun s _ => t3_acc6 h14 _ s e (zero6_apply s e) _ le_rfl).trans ?_
        rw [hT3, err_total]
        exact congrArg₂ (fun a b => bErr (bR x4 (bT W x3)) a b e.val)
          ((inv6_apply _ e).trans (congrArg (fun z => Ideal.div 1 (bSc z (rat 6))) (run_amax h2 h3 h4 hT e)))
          ((sc6_apply _ e).trans (congrArg (fun z => bSc z (rat 6)) (run_amax h2 h3 h4 hT e)))
      · simp only [Rect.emb_apply, Rect.off_unit, Rect.stride_unit]; simp
    · refine Eq.trans (b := bE x4 (bT W x3) 5 e.val) ?_ ?_
      · refine (rowSum5_apply _ e).trans ?_
        refine (Finset.sum_congr rfl fun s _ => t3_acc5 h14 _ s e (zero5_apply s e) _ le_rfl).trans ?_
        rw [hT3, err_total]
        exact congrArg₂ (fun a b => bErr (bR x4 (bT W x3)) a b e.val)
          ((inv5_apply _ e).trans (congrArg (fun z => Ideal.div 1 (bSc z (rat 5))) (run_amax h2 h3 h4 hT e)))
          ((sc5_apply _ e).trans (congrArg (fun z => bSc z (rat 5)) (run_amax h2 h3 h4 hT e)))
      · simp only [Rect.emb_apply, Rect.off_unit, Rect.stride_unit]; simp
    · refine Eq.trans (b := bE x4 (bT W x3) 4 e.val) ?_ ?_
      · refine (rowSum4_apply _ e).trans ?_
        refine (Finset.sum_congr rfl fun s _ => t3_acc4 h14 _ s e (zero4_apply s e) _ le_rfl).trans ?_
        rw [hT3, err_total]
        exact congrArg₂ (fun a b => bErr (bR x4 (bT W x3)) a b e.val)
          ((inv4_apply _ e).trans (congrArg (fun z => Ideal.div 1 (bSc z (rat 4))) (run_amax h2 h3 h4 hT e)))
          ((sc4_apply _ e).trans (congrArg (fun z => bSc z (rat 4)) (run_amax h2 h3 h4 hT e)))
      · simp only [Rect.emb_apply, Rect.off_unit, Rect.stride_unit]; simp
    · refine Eq.trans (b := bE x4 (bT W x3) 3 e.val) ?_ ?_
      · refine (rowSum3_apply _ e).trans ?_
        refine (Finset.sum_congr rfl fun s _ => t3_acc3 h14 _ s e (zero3_apply s e) _ le_rfl).trans ?_
        rw [hT3, err_total]
        exact congrArg₂ (fun a b => bErr (bR x4 (bT W x3)) a b e.val)
          ((inv3_apply _ e).trans (congrArg (fun z => Ideal.div 1 (bSc z (rat 3))) (run_amax h2 h3 h4 hT e)))
          ((sc3_apply _ e).trans (congrArg (fun z => bSc z (rat 3)) (run_amax h2 h3 h4 hT e)))
      · simp only [Rect.emb_apply, Rect.off_unit, Rect.stride_unit]; simp
    · refine Eq.trans (b := bE x4 (bT W x3) 2 e.val) ?_ ?_
      · refine (rowSum2_apply _ e).trans ?_
        refine (Finset.sum_congr rfl fun s _ => t3_acc2 h14 _ s e (zero2_apply s e) _ le_rfl).trans ?_
        rw [hT3, err_total]
        exact congrArg₂ (fun a b => bErr (bR x4 (bT W x3)) a b e.val)
          ((inv2_apply _ e).trans (congrArg (fun z => Ideal.div 1 (bSc z (rat 2))) (run_amax h2 h3 h4 hT e)))
          ((sc2_apply _ e).trans (congrArg (fun z => bSc z (rat 2)) (run_amax h2 h3 h4 hT e)))
      · simp only [Rect.emb_apply, Rect.off_unit, Rect.stride_unit]; simp
    · refine Eq.trans (b := bE x4 (bT W x3) 1 e.val) ?_ ?_
      · refine (rowSum1_apply _ e).trans ?_
        refine (Finset.sum_congr rfl fun s _ => t3_acc1 h14 _ s e (zero1_apply s e) _ le_rfl).trans ?_
        rw [hT3, err_total]
        exact congrArg₂ (fun a b => bErr (bR x4 (bT W x3)) a b e.val)
          ((inv1_apply _ e).trans (congrArg (fun z => Ideal.div 1 (bSc z (rat 1))) (run_amax h2 h3 h4 hT e)))
          ((sc1_apply _ e).trans (congrArg (fun z => bSc z (rat 1)) (run_amax h2 h3 h4 hT e)))
      · simp only [Rect.emb_apply, Rect.off_unit, Rect.stride_unit]; simp
    · refine Eq.trans (b := bE x4 (bT W x3) 0 e.val) ?_ ?_
      · refine (rowSum0_apply _ e).trans ?_
        refine (Finset.sum_congr rfl fun s _ => t3_acc0 h14 _ s e (zero0_apply s e) _ le_rfl).trans ?_
        rw [hT3, err_total]
        exact congrArg₂ (fun a b => bErr (bR x4 (bT W x3)) a b e.val)
          ((inv0_apply _ e).trans (congrArg (fun z => Ideal.div 1 (bSc z (rat 0))) (run_amax h2 h3 h4 hT e)))
          ((sc0_apply _ e).trans (congrArg (fun z => bSc z (rat 0)) (run_amax h2 h3 h4 hT e)))
      · simp only [Rect.emb_apply, Rect.off_unit, Rect.stride_unit]; simp
  · unfold kernelRun.sl.H9_8
    have y0 : (y 0).val < 1 := (y 0).isLt
    have y1 : (y 1).val < 1 := (y 1).isLt
    have y2 : (y 2).val < 8 := (y 2).isLt
    have y3 : (y 3).val < 256 := (y 3).isLt
    simp only [List.exists_mem_cons_iff, List.not_mem_nil, false_and, exists_false, or_false, Rect.mem_set_unit, Fin.forall_fin_succ]
    simp
    omega
end

end Cert.DownIdeal.Hand
end
-- ==== Proof.DValG.lean ====
module
public import proofs.«01_k».proof.Proof.DFrameIdeal
public import proofs.«01_k».proof.Proof.DValF
public import Idealize.ShloMosaic.Lib.StableHlo.ReadAt
public import Idealize.ShloMosaic.Lib.Claim
public import Idealize.ShloMosaic.Lib.Pipeline.ValueKit
/-! What the second kernel's windows stage, and its results, as functions of the arguments. -/
@[expose] public section
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open Cert.KernelIdeal.Hand (bSc rat ratSel)

/-! What the kernel's windows stage, as functions of the arguments' elements. -/

section Spec
variable (W : S3x2048x7168.Idx → BitVec 32) (A : S256x256.Idx → EReal) (H : S28x28.Idx → EReal) (ri : S3x4096.Idx → BitVec 32)
def kx2 (n s a b : ℕ) : BitVec 32 := W (ix3 (Fin.ofNat 3 n) (Fin.ofNat 2048 (128 * s + a)) (Fin.ofNat 7168 b))
def kx3 (u v : ℕ) : EReal := A (ix2 (Fin.ofNat 256 v) (Fin.ofNat 256 u))
def kx4 (u v : ℕ) : EReal := FloatOps.uitofp (F := Ideal) FTy.f32 (IntOp.cmpi CmpIPredicate.eq (IntOp.addi (BitVec.ofNat 32 (u / 28)) 0#32) (BitVec.ofNat 32 (v / 96)))
  * (if v % 96 % 32 < 28 then H (ix2 (Fin.ofNat 28 (v % 96 % 32)) (Fin.ofNat 28 (u % 28))) else FloatOps.sitofp (F := Ideal) FTy.bf16 0#32)
def kx5 (i p : ℕ) : EReal := Ideal.exp (Ideal.ofBits FTy.f32 1060205080#32 * (Ideal.ofBits FTy.f32 1082130432#32 * FloatOps.sitofp (F := Ideal) FTy.f32 (BitVec.ofNat 32 (p / 28))))
  * FloatOps.uitofp (F := Ideal) FTy.f32 (IntOp.cmpi CmpIPredicate.eq (IntOp.addi (BitVec.ofNat 32 i) 0#32) (BitVec.ofNat 32 (p % 28)))
def kx6 (n s r : ℕ) : BitVec 32 := ri (ix2 (Fin.ofNat 3 n) (Fin.ofNat 4096 (256 * s + r)))
/-- The first rotation, in block `(n, s)`. -/
def kT (n s : ℕ) : ℕ → ℕ → ℕ → EReal := bT (kx2 W n s) (kx3 A)
def kWord (n s : ℕ) : ℕ → ℕ → BitVec 32 := G7 (wordE kx5 (bR (kx4 H) (kT W A n s)) (bInv (kx4 H) (kT W A n s) (kx6 ri n s)))
def kScale (n s r : ℕ) : EReal := bSc (bA (kx4 H) (kT W A n s) r) (ratSel (kx6 ri n s r))
def kErr (n s : ℕ) : ℕ → ℕ → EReal := bE (kx4 H) (kT W A n s)
end Spec

variable (m : (ℓ : Loc nD τ sig) → Buf (Elt Ideal) ℓ) (c : Dev nD)
abbrev gW : S3x2048x7168.Idx → BitVec 32 := m ((c.tc : Thread nD τ).loc main_arg0)
abbrev gA : S256x256.Idx → EReal := m ((c.tc : Thread nD τ).loc main_arg1)
abbrev gH : S28x28.Idx → EReal := m ((c.tc : Thread nD τ).loc main_arg2)
abbrev gR : S3x4096.Idx → BitVec 32 := m ((c.tc : Thread nD τ).loc main_arg3)
abbrev eW (S : Shape) (x : S.Idx → EReal) : S.Idx → EReal := x
abbrev iW (S : Shape) (x : S.Idx → BitVec 32) : S.Idx → BitVec 32 := x

theorem xa (i : S3x2048x7168.Idx) : iW S3x2048x7168 (V m c main_arg0) i = gW m c i := by
  unfold V; after_reads_at; try rfl
theorem x29 (i : S256x256.Idx) : eW S256x256 (V m c main_v29) i = gA m c (ix2 (i 1) (i 0)) := by
  unfold V; after_reads_at; try rfl
theorem kx4_eq (H : S28x28.Idx → EReal) (u v : ℕ) :
    kx4 H u v = FloatOps.uitofp (F := Ideal) FTy.f32 (IntOp.cmpi CmpIPredicate.eq (IntOp.addi (BitVec.ofNat 32 (u / 28)) 0#32) (BitVec.ofNat 32 (v / 96)))
      * (if h : v % 96 % 32 < 28 then H (ix2 ⟨v % 96 % 32, h⟩ ⟨u % 28, Nat.mod_lt _ (by decide)⟩) else FloatOps.sitofp (F := Ideal) FTy.bf16 0#32) := by
  unfold kx4
  by_cases h : v % 96 % 32 < 28
  · rw [if_pos h, dif_pos h]
    have e1 : (Fin.ofNat 28 (v % 96 % 32)) = ⟨v % 96 % 32, h⟩ := Fin.ext (Nat.mod_eq_of_lt h)
    have e2 : (Fin.ofNat 28 (u % 28)) = ⟨u % 28, Nat.mod_lt _ (by decide)⟩ := Fin.ext (Nat.mod_mod _ _)
    rw [e1, e2]
  · rw [if_neg h, dif_neg h]
theorem x13 (i : S56x192.Idx) : eW S56x192 (V m c main_v13) i = kx4 (gH m c) (i 0).val (i 1).val := by
  refine Eq.trans ?_ (kx4_eq (gH m c) (i 0).val (i 1).val).symm
  unfold V; after_reads_at
theorem x28 (i : S32x112.Idx) : eW S32x112 (V m c main_v28) i = kx5 (i 0).val (i 1).val := by
  unfold V kx5; after_reads_at; try rfl
theorem x30 (i : S3x16x1x256.Idx) : iW S3x16x1x256 (V m c main_v30) i = gR m c (ix2 (i 0) ⟨(i 1).val * 256 + (i 3).val, by have := (i 1).isLt; have := (i 3).isLt; simp at *; omega⟩) := by
  unfold V; after_reads_at; try rfl

theorem idx0 : ∀ t : Fin grid0.N, win0_0.index t = ![t.val / 16, t.val % 16, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val / 16, t.val % 16, 0, 0] := by decide +kernel
theorem idx5 : ∀ t : Fin grid0.N, win0_5.index t = ![t.val / 16, t.val % 16, 0] := by decide +kernel
theorem idx6 : ∀ t : Fin grid0.N, win0_6.index t = ![t.val / 16, t.val % 16, 0, 0] := by decide +kernel
theorem idx7 : ∀ t : Fin grid0.N, win0_7.index t = ![t.val / 16, t.val % 16, 0, 0] := by decide +kernel

theorem ib0 (t : Fin cfg0.N) (y : S1x128x7168.Idx) : iW S1x128x7168 (iblk m c 0 t) y = kx2 (gW m c) (t.val / 16) (t.val % 16) (y 1).val (y 2).val := by
  refine (xa m c (((cfg0.win 0).blk t).view.emb y)).trans ?_
  unfold kx2
  congr 1
  blk_ext [idx0 t]
  all_goals simp only [Fin.ofNat]; omega
theorem emb1 (t : Fin cfg0.N) (y : S256x256.Idx) : ((cfg0.win 1).blk t).view.emb y = (y : S256x256.Idx) := by
  blk_ext [idx1 t]
theorem emb2 (t : Fin cfg0.N) (y : S56x192.Idx) : ((cfg0.win 2).blk t).view.emb y = (y : S56x192.Idx) := by
  blk_ext [idx2 t]
theorem emb3 (t : Fin cfg0.N) (y : S32x112.Idx) : ((cfg0.win 3).blk t).view.emb y = (y : S32x112.Idx) := by
  blk_ext [idx3 t]
theorem ib1 (t : Fin cfg0.N) (y : S256x256.Idx) : eW S256x256 (iblk m c 1 t) y = kx3 (gA m c) (y 0).val (y 1).val := by
  refine (x29 m c (((cfg0.win 1).blk t).view.emb y)).trans ?_
  rw [emb1]
  unfold kx3
  congr 1
  have h0 : (y 0).val < 256 := (y 0).isLt
  have h1 : (y 1).val < 256 := (y 1).isLt
  funext a
  refine Fin.cases ?_ (fun a => ?_) a
  · exact Fin.ext (by show _ = (Fin.ofNat 256 _).val; simp only [Fin.ofNat]; show (y 1).val = _; omega)
  · obtain rfl : a = 0 := Subsingleton.elim _ _
    exact Fin.ext (by show _ = (Fin.ofNat 256 _).val; simp only [Fin.ofNat]; show (y 0).val = _; omega)
theorem ib2 (t : Fin cfg0.N) (y : S56x192.Idx) : eW S56x192 (iblk m c 2 t) y = kx4 (gH m c) (y 0).val (y 1).val := by
  refine (x13 m c (((cfg0.win 2).blk t).view.emb y)).trans ?_
  rw [emb2]
theorem ib3 (t : Fin cfg0.N) (y : S32x112.Idx) : eW S32x112 (iblk m c 3 t) y = kx5 (y 0).val (y 1).val := by
  refine (x28 m c (((cfg0.win 3).blk t).view.emb y)).trans ?_
  rw [emb3]
theorem ib4 (t : Fin cfg0.N) (y : S1x1x1x256.Idx) : iW S1x1x1x256 (iblk m c 4 t) y = kx6 (gR m c) (t.val / 16) (t.val % 16) (y 3).val := by
  refine (x30 m c (((cfg0.win 4).blk t).view.emb y)).trans ?_
  unfold kx6
  congr 1
  blk_ext [idx4 t]
  all_goals simp only [Fin.ofNat]; omega

end Cert.DownIdeal.Hand
end
-- ==== Proof.DValH.lean ====
module
public import proofs.«01_k».proof.Proof.DValG
/-! The run of the second kernel's program with every output named. -/
@[expose] public section
noncomputable section
namespace Cert.DownIdeal.HandV
open Cert.DownIdeal Cert.DownIdeal.Gen
open Idealize.ShloMosaic Idealize.ShloMosaic.TcCoe Idealize.ShloMosaic.Tactic
open Idealize.SL Idealize.SL.RA Idealize.SL.BI
open Cert.DownIdeal.Hand hiding frame
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The first rotation is finite in every block. -/
def FinT (c : Dev nD) : Prop := ∀ n s a j r : ℕ, a < 32 → j < 256 → r < 256 →
  kT (gW m c) (gA m c) n s a j r ≠ ⊤ ∧ kT (gW m c) (gA m c) n s a j r ≠ ⊥

def o5 (c : Dev nD) (t : Fin cfg0.N) : Vec Ideal S1x256x896 .i32 := fun y =>
  kWord (gW m c) (gA m c) (gH m c) (gR m c) (t.val / 16) (t.val % 16) (y 1).val (y 2).val
def o6 (c : Dev nD) (t : Fin cfg0.N) : Vec Ideal S1x1x1x256 .f32 := fun y =>
  kScale (gW m c) (gA m c) (gH m c) (gR m c) (t.val / 16) (t.val % 16) (y 3).val
def o7 (c : Dev nD) (t : Fin cfg0.N) : Vec Ideal S1x1x8x256 .f32 := fun y =>
  kErr (gW m c) (gA m c) (gH m c) (t.val / 16) (t.val % 16) (y 2).val (y 3).val

/-- The proof data: the arrays as the region finds them; each input's buffer at its block after the body. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t
    | ⟨6, _⟩ => o6 m c t
    | ⟨7, _⟩ => o7 m c t
  Φ _ := Pipeline.ΦA spec0 c
  q _ := fullShare
  owed _ := 0

theorem A_eqV (c : Dev nD) (w : Fin cfg0.W) : (datsV m 0 c).A w = V m c (Pipeline.arrRef spec0 w) := by
  dsimp only [datsV]
theorem afterV_0 (c : Dev nD) (t : Fin cfg0.N) : (datsV m 0 c).after 0 t = iblk m c 0 t := by dsimp only [datsV]
theorem beforeV_0 (c : Dev nD) (t : Fin cfg0.N) (d) : (datsV m 0 c).before 0 t d = iblk m c 0 t :=
  before0_0_of m (datsV m 0 c) (A_eqV m c 0) (afterV_0 m c) t d
theorem afterV_1 (c : Dev nD) (t : Fin cfg0.N) : (datsV m 0 c).after 1 t = iblk m c 1 t := by dsimp only [datsV]
theorem beforeV_1 (c : Dev nD) (t : Fin cfg0.N) (d) : (datsV m 0 c).before 1 t d = iblk m c 1 t :=
  before0_1_of m (datsV m 0 c) (A_eqV m c 1) (afterV_1 m c) t d
theorem afterV_2 (c : Dev nD) (t : Fin cfg0.N) : (datsV m 0 c).after 2 t = iblk m c 2 t := by dsimp only [datsV]
theorem beforeV_2 (c : Dev nD) (t : Fin cfg0.N) (d) : (datsV m 0 c).before 2 t d = iblk m c 2 t :=
  before0_2_of m (datsV m 0 c) (A_eqV m c 2) (afterV_2 m c) t d
theorem afterV_3 (c : Dev nD) (t : Fin cfg0.N) : (datsV m 0 c).after 3 t = iblk m c 3 t := by dsimp only [datsV]
theorem beforeV_3 (c : Dev nD) (t : Fin cfg0.N) (d) : (datsV m 0 c).before 3 t d = iblk m c 3 t :=
  before0_3_of m (datsV m 0 c) (A_eqV m c 3) (afterV_3 m c) t d
theorem afterV_4 (c : Dev nD) (t : Fin cfg0.N) : (datsV m 0 c).after 4 t = iblk m c 4 t := by dsimp only [datsV]
theorem beforeV_4 (c : Dev nD) (t : Fin cfg0.N) (d) : (datsV m 0 c).before 4 t d = iblk m c 4 t :=
  before0_4_of m (datsV m 0 c) (A_eqV m c 4) (afterV_4 m c) t d
theorem afterV_5 (c : Dev nD) (t : Fin cfg0.N) : (datsV m 0 c).after 5 t = o5 m c t := by dsimp only [datsV]
theorem afterV_6 (c : Dev nD) (t : Fin cfg0.N) : (datsV m 0 c).after 6 t = o6 m c t := by dsimp only [datsV]
theorem afterV_7 (c : Dev nD) (t : Fin cfg0.N) : (datsV m 0 c).after 7 t = o7 m c t := by dsimp only [datsV]

/-- What the body is called with at point `t`. -/
def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d))
    ∗ (∃ d, owns (c : Thread nD τ) (st0_7 t) fullShare ((datsV m 0 c).before 7 t d)))

/-- What the body returns. -/
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ owns (c : Thread nD τ) (st0_5 t) fullShare ((datsV m 0 c).after 5 t)
    ∗ owns (c : Thread nD τ) (st0_6 t) fullShare ((datsV m 0 c).after 6 t)
    ∗ owns (c : Thread nD τ) (st0_7 t) fullShare ((datsV m 0 c).after 7 t))

set_option maxHeartbeats 1000000 in
theorem sound_bodyV (c : Dev nD) (hfin : FinT m c) (t : Fin cfg0.N) :
    bodyPreV m c t ⊢ wp frame (wpE (defs₀ (F := Ideal)) Variants.none (c : Thread nD τ) none) Set.univ (bodyAt0 t) (fun _ => bodyPostV m c t) := by
  unfold bodyPreV bodyPostV bodyAt0
  simp only [beforeV_0, beforeV_1, beforeV_2, beforeV_3, beforeV_4]
  rw [show (datsV m 0 c).Φ t.succ = (datsV m 0 c).Φ t.castSucc from rfl,
    show (datsV m 0 c).owesAt () t.succ = (datsV m 0 c).owesAt () t.castSucc from rfl,
    show (datsV m 0 c).Φ t.castSucc = Pipeline.ΦA spec0 c from rfl, PhiA_eq, afterV_0, afterV_1, afterV_2, afterV_3, afterV_4, afterV_5, afterV_6, afterV_7]
  unfold owns
  iintro ⟨⟨⟨⟨%e0, %s0, %hs0, S0⟩, ⟨%e1, %s1, %hs1, S1⟩, ⟨%e2, %s2, %hs2, S2⟩⟩, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  iapply ((kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) f0 f1 f2 f3 f4 s0 s1 s2).2.2.2 Set.univ f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  iintro ⟨H0, H1, H2, H3, H4, H5, H6, H7, ⟨%z0, S0⟩, ⟨%z1, S1⟩, ⟨%z2, S2⟩⟩
  isplitl [S0 S1 S2 Hp]
  · isplitl [S0 S1 S2]
    · isplitl [S0]
      · iexists _, z0; isplitr; swap; · iexact S0
        ipureintro; rfl
      isplitl [S1]
      · iexists _, z1; isplitr; swap; · iexact S1
        ipureintro; rfl
      iexists _, z2; isplitr; swap; · iexact S2
      ipureintro; rfl
    iexact Hp
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr; swap; · iexact H5
    ipureintro; exact funext fun y => kr7 (fun y => (congrFun hf0 y).trans (ib0 m c t y)) (fun y => (congrFun hf1 y).trans (ib1 m c t y)) (fun y => (congrFun hf2 y).trans (ib2 m c t y)) (fun y => (congrFun hf3 y).trans (ib3 m c t y)) (fun y => (congrFun hf4 y).trans (ib4 m c t y)) (fun a j r ha hj hr => hfin (t.val / 16) (t.val % 16) a j r ha hj hr) f5 y
  isplitl [H6]
  · iexists _; isplitr; swap; · iexact H6
    ipureintro; exact funext fun y => kr8 (fun y => (congrFun hf0 y).trans (ib0 m c t y)) (fun y => (congrFun hf1 y).trans (ib1 m c t y)) (fun y => (congrFun hf2 y).trans (ib2 m c t y)) (fun y => (congrFun hf4 y).trans (ib4 m c t y)) (fun a j r ha hj hr => hfin (t.val / 16) (t.val % 16) a j r ha hj hr) y
  iexists _; isplitr; swap; · iexact H7
  ipureintro; exact funext fun y => kr9 (fun y => (congrFun hf0 y).trans (ib0 m c t y)) (fun y => (congrFun hf1 y).trans (ib1 m c t y)) (fun y => (congrFun hf2 y).trans (ib2 m c t y)) (fun a j r ha hj hr => hfin (t.val / 16) (t.val % 16) a j r ha hj hr) y

theorem body_obligationV (c : Dev nD) (hfin : FinT m c) : BodyObligation (datsV m 0 c) (defs₀ (F := Ideal)) Variants.none () Set.univ := fun t => by
  rw [bigSep_W0, bigSep_W0, defs₀_row]
  exact triple_restated (sound_bodyV m c hfin t) rfl .rfl fun _ => .rfl

set_option backward.isDefEq.respectTransparency.types false in
set_option maxHeartbeats 800000 in
theorem run_mainV (hfin : ∀ c, FinT m c) : θ_run defs (onTc (τ := τ) (main (F := Ideal))) (s₀ m ρ) (fun r => (Pipeline.FramePost cfgs (datsV m) 0 (Pipeline.afterTail₀ cfgs (datsV m) 0 (V0 m) [hostOps1])) r ∧ r.2.sem = fun _ => 0) :=
  Pipeline.θ_run_frame_around (Q' := _) cfgs (datsV m) (0 : Fin 1) launch0 defs₀ Variants.none m ρ main
    (hbody := fun c => (body_obligationV m c (hfin c)).loose) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := A_eqV m) (hΦ := fun _ _ => rfl)

section Arr
variable (c : Dev nD)
/-- The packed words, over the whole array. -/
def W5 : S3x4096x896.Idx → BitVec 32 := fun i =>
  kWord (gW m c) (gA m c) (gH m c) (gR m c) (i 0).val ((i 1).val / 256) ((i 1).val % 256) (i 2).val
def W6 : S3x16x1x256.Idx → EReal := fun i =>
  kScale (gW m c) (gA m c) (gH m c) (gR m c) (i 0).val (i 1).val (i 3).val
def W7 : S3x16x8x256.Idx → EReal := fun i =>
  kErr (gW m c) (gA m c) (gH m c) (i 0).val (i 1).val (i 2).val (i 3).val
theorem arr5 : iW S3x4096x896 ((datsV m 0 c).arrAt 5 cfg0.N) = W5 m c := by
  refine (datsV m 0 c).arrAt_eq_of_covers 5 _ (by decide +kernel) fun t hf y => ?_
  blk_simp [idx5 t]
  rw [afterV_5]
  have e0 : (((win0_5.blk t).view.emb y : S3x4096x896.Idx) 0).val = t.val / 16 := by
    blk_simp [idx5 t]; try omega
  have e1 : (((win0_5.blk t).view.emb y : S3x4096x896.Idx) 1).val = t.val % 16 * 256 + ((y : S1x256x896.Idx) 1).val := by
    blk_simp [idx5 t]; try omega
  have e2 : (((win0_5.blk t).view.emb y : S3x4096x896.Idx) 2).val = ((y : S1x256x896.Idx) 2).val := by
    blk_simp [idx5 t]; try omega
  have b1 : ((y : S1x256x896.Idx) 1).val < 256 := ((y : S1x256x896.Idx) 1).isLt
  have d1 : (((win0_5.blk t).view.emb y : S3x4096x896.Idx) 1).val / 256 = t.val % 16 := by rw [e1]; omega
  have d2 : (((win0_5.blk t).view.emb y : S3x4096x896.Idx) 1).val % 256 = ((y : S1x256x896.Idx) 1).val := by rw [e1]; omega
  unfold o5 W5
  rw [e0, d1, d2, e2]
theorem arr6 : eW S3x16x1x256 ((datsV m 0 c).arrAt 6 cfg0.N) = W6 m c := by
  refine (datsV m 0 c).arrAt_eq_of_covers 6 _ (by decide +kernel) fun t hf y => ?_
  blk_simp [idx6 t]
  rw [afterV_6]
  have e0 : (((win0_6.blk t).view.emb y : S3x16x1x256.Idx) 0).val = t.val / 16 := by
    blk_simp [idx6 t]; try omega
  have e1 : (((win0_6.blk t).view.emb y : S3x16x1x256.Idx) 1).val = t.val % 16 := by
    blk_simp [idx6 t]; try omega
  have e3 : (((win0_6.blk t).view.emb y : S3x16x1x256.Idx) 3).val = ((y : S1x1x1x256.Idx) 3).val := by
    blk_simp [idx6 t]; try omega
  unfold o6 W6
  rw [e0, e1, e3]
theorem arr7 : eW S3x16x8x256 ((datsV m 0 c).arrAt 7 cfg0.N) = W7 m c := by
  refine (datsV m 0 c).arrAt_eq_of_covers 7 _ (by decide +kernel) fun t hf y => ?_
  blk_simp [idx7 t]
  rw [afterV_7]
  have e0 : (((win0_7.blk t).view.emb y : S3x16x8x256.Idx) 0).val = t.val / 16 := by
    blk_simp [idx7 t]; try omega
  have e1 : (((win0_7.blk t).view.emb y : S3x16x8x256.Idx) 1).val = t.val % 16 := by
    blk_simp [idx7 t]; try omega
  have e2 : (((win0_7.blk t).view.emb y : S3x16x8x256.Idx) 2).val = ((y : S1x1x8x256.Idx) 2).val := by
    blk_simp [idx7 t]; try omega
  have e3 : (((win0_7.blk t).view.emb y : S3x16x8x256.Idx) 3).val = ((y : S1x1x8x256.Idx) 3).val := by
    blk_simp [idx7 t]; try omega
  unfold o7 W7
  rw [e0, e1, e2, e3]
end Arr

end Cert.DownIdeal.HandV
end
-- ==== Proof.RefA.lean ====
module

public import proofs.«01_k».proof.Proof.Gen.ReferenceIdeal.Frame
public import Idealize.ShloMosaic.Lib.StableHlo.ReadAt
public import Idealize.ShloMosaic.Lib.Claim
public import Idealize.ShloMosaic.PureOps.Ideal
public import Idealize.ShloMosaic.PureOps.Ideal.Laws
public import Idealize.ShloMosaic.PureOps.Reduce
public import Idealize.ShloMosaic.Lib.Pointwise
public import Idealize.ShloMosaic.Lib.IdealHost
public import Idealize.ShloMosaic.Lib.Pipeline.Value
public import Idealize.ShloMosaic.Lib.Tactic

@[expose] public section

noncomputable section

namespace Cert.ReferenceIdeal.Hand

open Cert.ReferenceIdeal Cert.ReferenceIdeal.Gen
open Idealize.ShloMosaic Idealize.ShloMosaic.TcCoe Idealize.ShloMosaic.Tactic

/-- The reference's host lines after the decode. -/
abbrev tail : List (HloOp τ sig (Elt Ideal)) := List.flatten [hostOps1, hostOps1_1, hostOps1_2, hostOps1_3, hostOps1_4, hostOps1_5, hostOps1_6, hostOps1_7, hostOps1_8, hostOps1_9, hostOps1_10, hostOps1_11, hostOps1_12, hostOps1_13, hostOps1_14]

section
variable {F : FTy → Type} [FloatOps F]

abbrev seg1 : List (HloOp τ sig (Elt F)) :=
  [ StableHlo.reshape main_v1 main_v2 (rfl : (.bf16 : EltTy) = .bf16) shapeCasts_S3x7168x4096_S3x56x128x32x128,
    StableHlo.unary main_arg1 main_v3 ((truncf .bf16 · bitsLt_bf16_f32) : (⟨S3x56x32, .f32⟩ : BufTy).Contents (Elt F) → (⟨S3x56x32, .bf16⟩ : BufTy).Contents (Elt F)),
    StableHlo.unary main_v3 main_v4 (broadcastInDim S3x56x1x32x1 ![0, 1, 3] bcast_S3x56x32_S3x56x1x32x1_0_1_3 : (⟨S3x56x32, .bf16⟩ : BufTy).Contents (Elt F) → (⟨S3x56x1x32x1, .bf16⟩ : BufTy).Contents (Elt F)),
    StableHlo.unary main_v4 main_v5 (broadcastInDim S3x56x128x32x128 ![0, 1, 2, 3, 4] bcast_S3x56x1x32x1_S3x56x128x32x128_0_1_2_3_4 : (⟨S3x56x1x32x1, .bf16⟩ : BufTy).Contents (Elt F) → (⟨S3x56x128x32x128, .bf16⟩ : BufTy).Contents (Elt F)),
    StableHlo.binary main_v2 main_v5 main_v6 (mulf : (⟨S3x56x128x32x128, .bf16⟩ : BufTy).Contents (Elt F) → (⟨S3x56x128x32x128, .bf16⟩ : BufTy).Contents (Elt F) → (⟨S3x56x128x32x128, .bf16⟩ : BufTy).Contents (Elt F)),
    StableHlo.reshape main_v6 main_v7 (rfl : (.bf16 : EltTy) = .bf16) shapeCasts_S3x56x128x32x128_S3x7168x4096,
    StableHlo.unary main_arg3 main_v8 (broadcastInDim S1x4096 ![1] bcast_S4096_S1x4096_1 : (⟨S4096, .f32⟩ : BufTy).Contents (Elt F) → (⟨S1x4096, .f32⟩ : BufTy).Contents (Elt F)),
    StableHlo.unary main_v8 main_v9 (broadcastInDim S3x4096 ![0, 1] bcast_S1x4096_S3x4096_0_1 : (⟨S1x4096, .f32⟩ : BufTy).Contents (Elt F) → (⟨S3x4096, .f32⟩ : BufTy).Contents (Elt F)),
    StableHlo.binary main_arg2 main_v9 main_v10 (mulf : (⟨S3x4096, .f32⟩ : BufTy).Contents (Elt F) → (⟨S3x4096, .f32⟩ : BufTy).Contents (Elt F) → (⟨S3x4096, .f32⟩ : BufTy).Contents (Elt F)),
    StableHlo.unary main_v7 main_v11 ((extf .f32 · bitsLt_bf16_f32) : (⟨S3x7168x4096, .bf16⟩ : BufTy).Contents (Elt F) → (⟨S3x7168x4096, .f32⟩ : BufTy).Contents (Elt F)),
    StableHlo.unary main_v10 main_v12 (broadcastInDim S3x1x4096 ![0, 2] bcast_S3x4096_S3x1x4096_0_2 : (⟨S3x4096, .f32⟩ : BufTy).Contents (Elt F) → (⟨S3x1x4096, .f32⟩ : BufTy).Contents (Elt F)),
    StableHlo.unary main_v12 main_v13 (broadcastInDim S3x7168x4096 ![0, 1, 2] bcast_S3x1x4096_S3x7168x4096_0_1_2 : (⟨S3x1x4096, .f32⟩ : BufTy).Contents (Elt F) → (⟨S3x7168x4096, .f32⟩ : BufTy).Contents (Elt F)),
    StableHlo.binary main_v11 main_v13 main_v14 (mulf : (⟨S3x7168x4096, .f32⟩ : BufTy).Contents (Elt F) → (⟨S3x7168x4096, .f32⟩ : BufTy).Contents (Elt F) → (⟨S3x7168x4096, .f32⟩ : BufTy).Contents (Elt F)),
    StableHlo.unary main_v14 main_v15 ((truncf .bf16 · bitsLt_bf16_f32) : (⟨S3x7168x4096, .f32⟩ : BufTy).Contents (Elt F) → (⟨S3x7168x4096, .bf16⟩ : BufTy).Contents (Elt F)),
    StableHlo.reshape main_v15 main_v16 (rfl : (.bf16 : EltTy) = .bf16) shapeCasts_S3x7168x4096_S3x7168x64x64 ]

abbrev seg2 : List (HloOp τ sig (Elt F)) :=
  [ StableHlo.binary main_v16 main_arg5 main_v17 ((fun l r => Host.dotGeneral dot_S3x7168x64x64_S64x64_S3x7168x64x64_3_0_012_1_n_n none l r) : (⟨S3x7168x64x64, .bf16⟩ : BufTy).Contents (Elt F) → (⟨S64x64, .bf16⟩ : BufTy).Contents (Elt F) → (⟨S3x7168x64x64, .f32⟩ : BufTy).Contents (Elt F)) ]

abbrev seg3 : List (HloOp τ sig (Elt F)) :=
  [ StableHlo.unary main_arg4 main_v18 ((extf .f32 · bitsLt_bf16_f32) : (⟨S64x64, .bf16⟩ : BufTy).Contents (Elt F) → (⟨S64x64, .f32⟩ : BufTy).Contents (Elt F)),
    StableHlo.binary main_v18 main_v17 main_v19 ((fun l r => Host.dotGeneral dot_S64x64_S3x7168x64x64_S64x3x7168x64_0_2_1_013_n_n (some .fp32) l r) : (⟨S64x64, .f32⟩ : BufTy).Contents (Elt F) → (⟨S3x7168x64x64, .f32⟩ : BufTy).Contents (Elt F) → (⟨S64x3x7168x64, .f32⟩ : BufTy).Contents (Elt F)),
    StableHlo.unary main_v19 main_v20 ((transpose S3x7168x64x64 [1, 2, 0, 3] · transposes_S64x3x7168x64_S3x7168x64x64_1_2_0_3) : (⟨S64x3x7168x64, .f32⟩ : BufTy).Contents (Elt F) → (⟨S3x7168x64x64, .f32⟩ : BufTy).Contents (Elt F)),
    StableHlo.nullary main_cst_0 (constant S_ .f32 0x3C800000#32),
    StableHlo.unary main_cst_0 main_v21 (broadcastInDim S3x7168x64x64 ![] bcast_S_S3x7168x64x64 : (⟨S_, .f32⟩ : BufTy).Contents (Elt F) → (⟨S3x7168x64x64, .f32⟩ : BufTy).Contents (Elt F)),
    StableHlo.binary main_v20 main_v21 main_v22 (mulf : (⟨S3x7168x64x64, .f32⟩ : BufTy).Contents (Elt F) → (⟨S3x7168x64x64, .f32⟩ : BufTy).Contents (Elt F) → (⟨S3x7168x64x64, .f32⟩ : BufTy).Contents (Elt F)),
    StableHlo.unary main_v22 main_v23 ((truncf .bf16 · bitsLt_bf16_f32) : (⟨S3x7168x64x64, .f32⟩ : BufTy).Contents (Elt F) → (⟨S3x7168x64x64, .bf16⟩ : BufTy).Contents (Elt F)),
    StableHlo.reshape main_v23 main_v24 (rfl : (.bf16 : EltTy) = .bf16) shapeCasts_S3x7168x64x64_S3x7168x4096,
    StableHlo.unary main_v24 main_v25 ((extf .f32 · bitsLt_bf16_f32) : (⟨S3x7168x4096, .bf16⟩ : BufTy).Contents (Elt F) → (⟨S3x7168x4096, .f32⟩ : BufTy).Contents (Elt F)) ]

abbrev seg4 : List (HloOp τ sig (Elt F)) :=
  [ StableHlo.unary main_v25 main_v26 (Host.absf : (⟨S3x7168x4096, .f32⟩ : BufTy).Contents (Elt F) → (⟨S3x7168x4096, .f32⟩ : BufTy).Contents (Elt F)),
    StableHlo.nullary main_cst_1 (constant S_ .f32 0xFF800000#32),
    StableHlo.binary main_v26 main_cst_1 main_v27 ((fun x v => Host.reduce FloatOps.maximumf x v reducesTo_S3x7168x4096_S3x7168_d2 h_S_) : (⟨S3x7168x4096, .f32⟩ : BufTy).Contents (Elt F) → (⟨S_, .f32⟩ : BufTy).Contents (Elt F) → (⟨S3x7168, .f32⟩ : BufTy).Contents (Elt F)) ]

abbrev seg5 : List (HloOp τ sig (Elt F)) :=
  [ StableHlo.unary main_v27 main_v28 (broadcastInDim S3x7168x1 ![0, 1] bcast_S3x7168_S3x7168x1_0_1 : (⟨S3x7168, .f32⟩ : BufTy).Contents (Elt F) → (⟨S3x7168x1, .f32⟩ : BufTy).Contents (Elt F)),
    StableHlo.nullary main_cst_2 (constant S_ .f32 0x00000000#32),
    StableHlo.unary main_cst_2 main_v29 (broadcastInDim S3x7168x1 ![] bcast_S_S3x7168x1 : (⟨S_, .f32⟩ : BufTy).Contents (Elt F) → (⟨S3x7168x1, .f32⟩ : BufTy).Contents (Elt F)),
    StableHlo.binary main_v28 main_v29 main_v30 (cmpf .oeq : (⟨S3x7168x1, .f32⟩ : BufTy).Contents (Elt F) → (⟨S3x7168x1, .f32⟩ : BufTy).Contents (Elt F) → (⟨S3x7168x1, .i1⟩ : BufTy).Contents (Elt F)),
    StableHlo.unary main_cst main_v31 (broadcastInDim S1x1x8 ![2] bcast_S8_S1x1x8_2 : (⟨S8, .f32⟩ : BufTy).Contents (Elt F) → (⟨S1x1x8, .f32⟩ : BufTy).Contents (Elt F)),
    StableHlo.unary main_v31 main_v32 (broadcastInDim S3x7168x8 ![0, 1, 2] bcast_S1x1x8_S3x7168x8_0_1_2 : (⟨S1x1x8, .f32⟩ : BufTy).Contents (Elt F) → (⟨S3x7168x8, .f32⟩ : BufTy).Contents (Elt F)),
    StableHlo.unary main_v28 main_v33 (broadcastInDim S3x7168x8 ![0, 1, 2] bcast_S3x7168x1_S3x7168x8_0_1_2 : (⟨S3x7168x1, .f32⟩ : BufTy).Contents (Elt F) → (⟨S3x7168x8, .f32⟩ : BufTy).Contents (Elt F)),
    StableHlo.binary main_v32 main_v33 main_v34 (mulf : (⟨S3x7168x8, .f32⟩ : BufTy).Contents (Elt F) → (⟨S3x7168x8, .f32⟩ : BufTy).Contents (Elt F) → (⟨S3x7168x8, .f32⟩ : BufTy).Contents (Elt F)),
    StableHlo.nullary main_cst_3 (constant S_ .f32 0x3F800800#32),
    StableHlo.unary main_cst_3 main_v35 (broadcastInDim S3x7168x8 ![] bcast_S_S3x7168x8 : (⟨S_, .f32⟩ : BufTy).Contents (Elt F) → (⟨S3x7168x8, .f32⟩ : BufTy).Contents (Elt F)),
    StableHlo.binary main_v34 main_v35 main_v36 (mulf : (⟨S3x7168x8, .f32⟩ : BufTy).Contents (Elt F) → (⟨S3x7168x8, .f32⟩ : BufTy).Contents (Elt F) → (⟨S3x7168x8, .f32⟩ : BufTy).Contents (Elt F)),
    StableHlo.nullary main_cst_4 (constant S_ .f32 0x40E00000#32),
    StableHlo.unary main_cst_4 main_v37 (broadcastInDim S3x7168x8 ![] bcast_S_S3x7168x8 : (⟨S_, .f32⟩ : BufTy).Contents (Elt F) → (⟨S3x7168x8, .f32⟩ : BufTy).Contents (Elt F)),
    StableHlo.binary main_v36 main_v37 main_v38 (Host.divf : (⟨S3x7168x8, .f32⟩ : BufTy).Contents (Elt F) → (⟨S3x7168x8, .f32⟩ : BufTy).Contents (Elt F) → (⟨S3x7168x8, .f32⟩ : BufTy).Contents (Elt F)),
    StableHlo.nullary main_cst_5 (constant S_ .f32 0x3F800000#32),
    StableHlo.TRef.unary (.of main_v30 : StableHlo.TRef sig ⟨S3x7168x1, .i1⟩) (.of main_call0_v0 : StableHlo.TRef sig ⟨S3x7168x8, .i1⟩) (broadcastInDim S3x7168x8 ![0, 1, 2] bcast_S3x7168x1_S3x7168x8_0_1_2),
    StableHlo.TRef.unary (.of main_cst_5 : StableHlo.TRef sig ⟨S_, .f32⟩) (.of main_call0_v1 : StableHlo.TRef sig ⟨S3x7168x8, .f32⟩) (broadcastInDim S3x7168x8 ![] bcast_S_S3x7168x8),
    StableHlo.TRef.ternary (.of main_call0_v0 : StableHlo.TRef sig ⟨S3x7168x8, .i1⟩) (.of main_call0_v1 : StableHlo.TRef sig ⟨S3x7168x8, .f32⟩) (.of main_v38 : StableHlo.TRef sig ⟨S3x7168x8, .f32⟩) (.of main_v39 : StableHlo.TRef sig ⟨S3x7168x8, .f32⟩) select ]

abbrev seg6 : List (HloOp τ sig (Elt F)) :=
  [ StableHlo.unary main_v25 main_v40 (broadcastInDim S3x7168x1x4096 ![0, 1, 3] bcast_S3x7168x4096_S3x7168x1x4096_0_1_3 : (⟨S3x7168x4096, .f32⟩ : BufTy).Contents (Elt F) → (⟨S3x7168x1x4096, .f32⟩ : BufTy).Contents (Elt F)),
    StableHlo.unary main_v39 main_v41 (broadcastInDim S3x7168x8x1 ![0, 1, 2] bcast_S3x7168x8_S3x7168x8x1_0_1_2 : (⟨S3x7168x8, .f32⟩ : BufTy).Contents (Elt F) → (⟨S3x7168x8x1, .f32⟩ : BufTy).Contents (Elt F)),
    StableHlo.unary main_v40 main_v42 (broadcastInDim S3x7168x8x4096 ![0, 1, 2, 3] bcast_S3x7168x1x4096_S3x7168x8x4096_0_1_2_3 : (⟨S3x7168x1x4096, .f32⟩ : BufTy).Contents (Elt F) → (⟨S3x7168x8x4096, .f32⟩ : BufTy).Contents (Elt F)),
    StableHlo.unary main_v41 main_v43 (broadcastInDim S3x7168x8x4096 ![0, 1, 2, 3] bcast_S3x7168x8x1_S3x7168x8x4096_0_1_2_3 : (⟨S3x7168x8x1, .f32⟩ : BufTy).Contents (Elt F) → (⟨S3x7168x8x4096, .f32⟩ : BufTy).Contents (Elt F)),
    StableHlo.binary main_v42 main_v43 main_v44 (Host.divf : (⟨S3x7168x8x4096, .f32⟩ : BufTy).Contents (Elt F) → (⟨S3x7168x8x4096, .f32⟩ : BufTy).Contents (Elt F) → (⟨S3x7168x8x4096, .f32⟩ : BufTy).Contents (Elt F)),
    StableHlo.TRef.unary (.of main_v44 : StableHlo.TRef sig ⟨S3x7168x8x4096, .f32⟩) (.of main_v45 : StableHlo.TRef sig ⟨S3x7168x8x4096, .f32⟩) Host.roundeven,
    StableHlo.nullary main_cst_6 (constant S_ .f32 0xC0E00000#32),
    StableHlo.nullary main_cst_7 (constant S_ .f32 0x40E00000#32),
    StableHlo.TRef.unary (.of main_cst_6 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S3x7168x8x4096, .f32⟩) (broadcastInDim S3x7168x8x4096 ![] bcast_S_S3x7168x8x4096),
    StableHlo.TRef.binary (.of main_call2_v1 : StableHlo.TRef sig ⟨S3x7168x8x4096, .f32⟩) (.of main_v45 : StableHlo.TRef sig ⟨S3x7168x8x4096, .f32⟩) (.of main_call2_v2 : StableHlo.TRef sig ⟨S3x7168x8x4096, .f32⟩) maximumf,
    StableHlo.TRef.unary (.of main_cst_7 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S3x7168x8x4096, .f32⟩) (broadcastInDim S3x7168x8x4096 ![] bcast_S_S3x7168x8x4096),
    StableHlo.TRef.binary (.of main_call2_v4 : StableHlo.TRef sig ⟨S3x7168x8x4096, .f32⟩) (.of main_call2_v2 : StableHlo.TRef sig ⟨S3x7168x8x4096, .f32⟩) (.of main_v46 : StableHlo.TRef sig ⟨S3x7168x8x4096, .f32⟩) minimumf,
    StableHlo.unary main_v46 main_v47 (fptosi 32 : (⟨S3x7168x8x4096, .f32⟩ : BufTy).Contents (Elt F) → (⟨S3x7168x8x4096, .i32⟩ : BufTy).Contents (Elt F)),
    StableHlo.unary main_v25 main_v48 (broadcastInDim S3x7168x1x4096 ![0, 1, 3] bcast_S3x7168x4096_S3x7168x1x4096_0_1_3 : (⟨S3x7168x4096, .f32⟩ : BufTy).Contents (Elt F) → (⟨S3x7168x1x4096, .f32⟩ : BufTy).Contents (Elt F)),
    StableHlo.unary main_v47 main_v49 (sitofp .f32 : (⟨S3x7168x8x4096, .i32⟩ : BufTy).Contents (Elt F) → (⟨S3x7168x8x4096, .f32⟩ : BufTy).Contents (Elt F)),
    StableHlo.unary main_v39 main_v50 (broadcastInDim S3x7168x8x1 ![0, 1, 2] bcast_S3x7168x8_S3x7168x8x1_0_1_2 : (⟨S3x7168x8, .f32⟩ : BufTy).Contents (Elt F) → (⟨S3x7168x8x1, .f32⟩ : BufTy).Contents (Elt F)),
    StableHlo.unary main_v50 main_v51 (broadcastInDim S3x7168x8x4096 ![0, 1, 2, 3] bcast_S3x7168x8x1_S3x7168x8x4096_0_1_2_3 : (⟨S3x7168x8x1, .f32⟩ : BufTy).Contents (Elt F) → (⟨S3x7168x8x4096, .f32⟩ : BufTy).Contents (Elt F)),
    StableHlo.binary main_v49 main_v51 main_v52 (mulf : (⟨S3x7168x8x4096, .f32⟩ : BufTy).Contents (Elt F) → (⟨S3x7168x8x4096, .f32⟩ : BufTy).Contents (Elt F) → (⟨S3x7168x8x4096, .f32⟩ : BufTy).Contents (Elt F)),
    StableHlo.unary main_v48 main_v53 (broadcastInDim S3x7168x8x4096 ![0, 1, 2, 3] bcast_S3x7168x1x4096_S3x7168x8x4096_0_1_2_3 : (⟨S3x7168x1x4096, .f32⟩ : BufTy).Contents (Elt F) → (⟨S3x7168x8x4096, .f32⟩ : BufTy).Contents (Elt F)),
    StableHlo.binary main_v53 main_v52 main_v54 (subf : (⟨S3x7168x8x4096, .f32⟩ : BufTy).Contents (Elt F) → (⟨S3x7168x8x4096, .f32⟩ : BufTy).Contents (Elt F) → (⟨S3x7168x8x4096, .f32⟩ : BufTy).Contents (Elt F)),
    StableHlo.binary main_v54 main_v54 main_v55 (mulf : (⟨S3x7168x8x4096, .f32⟩ : BufTy).Contents (Elt F) → (⟨S3x7168x8x4096, .f32⟩ : BufTy).Contents (Elt F) → (⟨S3x7168x8x4096, .f32⟩ : BufTy).Contents (Elt F)) ]

abbrev seg7 : List (HloOp τ sig (Elt F)) :=
  [ StableHlo.nullary main_cst_8 (constant S_ .f32 0x00000000#32),
    StableHlo.binary main_v55 main_cst_8 main_v56 ((fun x v => Host.reduceAdd x v reducesTo_S3x7168x8x4096_S3x7168x8_d3 h_S_) : (⟨S3x7168x8x4096, .f32⟩ : BufTy).Contents (Elt F) → (⟨S_, .f32⟩ : BufTy).Contents (Elt F) → (⟨S3x7168x8, .f32⟩ : BufTy).Contents (Elt F)) ]

abbrev seg8 : List (HloOp τ sig (Elt F)) :=
  [ StableHlo.unary main_arg7 main_v57 (broadcastInDim S3x7168x1 ![0, 1] bcast_S3x7168_S3x7168x1_0_1 : (⟨S3x7168, .i32⟩ : BufTy).Contents (Elt F) → (⟨S3x7168x1, .i32⟩ : BufTy).Contents (Elt F)),
    StableHlo.nullary main_v58 (iotaInDim S8 32 0),
    StableHlo.unary main_v58 main_v59 (broadcastInDim S1x1x8 ![2] bcast_S8_S1x1x8_2 : (⟨S8, .i32⟩ : BufTy).Contents (Elt F) → (⟨S1x1x8, .i32⟩ : BufTy).Contents (Elt F)),
    StableHlo.unary main_v57 main_v60 (broadcastInDim S3x7168x8 ![0, 1, 2] bcast_S3x7168x1_S3x7168x8_0_1_2 : (⟨S3x7168x1, .i32⟩ : BufTy).Contents (Elt F) → (⟨S3x7168x8, .i32⟩ : BufTy).Contents (Elt F)),
    StableHlo.unary main_v59 main_v61 (broadcastInDim S3x7168x8 ![0, 1, 2] bcast_S1x1x8_S3x7168x8_0_1_2 : (⟨S1x1x8, .i32⟩ : BufTy).Contents (Elt F) → (⟨S3x7168x8, .i32⟩ : BufTy).Contents (Elt F)),
    StableHlo.binary main_v60 main_v61 main_v62 (cmpi .eq : (⟨S3x7168x8, .i32⟩ : BufTy).Contents (Elt F) → (⟨S3x7168x8, .i32⟩ : BufTy).Contents (Elt F) → (⟨S3x7168x8, .i1⟩ : BufTy).Contents (Elt F)),
    StableHlo.nullary main_cst_9 (constant S_ .f32 0x00000000#32),
    StableHlo.TRef.unary (.of main_cst : StableHlo.TRef sig ⟨S8, .f32⟩) (.of main_call3_v0 : StableHlo.TRef sig ⟨S3x7168x8, .f32⟩) (broadcastInDim S3x7168x8 ![2] bcast_S8_S3x7168x8_2),
    StableHlo.TRef.unary (.of main_cst_9 : StableHlo.TRef sig ⟨S_, .f32⟩) (.of main_call3_v1 : StableHlo.TRef sig ⟨S3x7168x8, .f32⟩) (broadcastInDim S3x7168x8 ![] bcast_S_S3x7168x8),
    StableHlo.TRef.ternary (.of main_v62 : StableHlo.TRef sig ⟨S3x7168x8, .i1⟩) (.of main_call3_v0 : StableHlo.TRef sig ⟨S3x7168x8, .f32⟩) (.of main_call3_v1 : StableHlo.TRef sig ⟨S3x7168x8, .f32⟩) (.of main_v63 : StableHlo.TRef sig ⟨S3x7168x8, .f32⟩) select ]

abbrev seg9 : List (HloOp τ sig (Elt F)) :=
  [ StableHlo.nullary main_cst_10 (constant S_ .f32 0x00000000#32),
    StableHlo.binary main_v63 main_cst_10 main_v64 ((fun x v => Host.reduceAdd x v reducesTo_S3x7168x8_S3x7168_d2 h_S_) : (⟨S3x7168x8, .f32⟩ : BufTy).Contents (Elt F) → (⟨S_, .f32⟩ : BufTy).Contents (Elt F) → (⟨S3x7168, .f32⟩ : BufTy).Contents (Elt F)) ]

abbrev seg10 : List (HloOp τ sig (Elt F)) :=
  [ StableHlo.nullary main_cst_11 (constant S_ .f32 0x00000000#32),
    StableHlo.unary main_cst_11 main_v65 (broadcastInDim S3x7168 ![] bcast_S_S3x7168 : (⟨S_, .f32⟩ : BufTy).Contents (Elt F) → (⟨S3x7168, .f32⟩ : BufTy).Contents (Elt F)),
    StableHlo.binary main_v27 main_v65 main_v66 (cmpf .oeq : (⟨S3x7168, .f32⟩ : BufTy).Contents (Elt F) → (⟨S3x7168, .f32⟩ : BufTy).Contents (Elt F) → (⟨S3x7168, .i1⟩ : BufTy).Contents (Elt F)),
    StableHlo.binary main_v64 main_v27 main_v67 (mulf : (⟨S3x7168, .f32⟩ : BufTy).Contents (Elt F) → (⟨S3x7168, .f32⟩ : BufTy).Contents (Elt F) → (⟨S3x7168, .f32⟩ : BufTy).Contents (Elt F)),
    StableHlo.nullary main_cst_12 (constant S_ .f32 0x3F800800#32),
    StableHlo.unary main_cst_12 main_v68 (broadcastInDim S3x7168 ![] bcast_S_S3x7168 : (⟨S_, .f32⟩ : BufTy).Contents (Elt F) → (⟨S3x7168, .f32⟩ : BufTy).Contents (Elt F)),
    StableHlo.binary main_v67 main_v68 main_v69 (mulf : (⟨S3x7168, .f32⟩ : BufTy).Contents (Elt F) → (⟨S3x7168, .f32⟩ : BufTy).Contents (Elt F) → (⟨S3x7168, .f32⟩ : BufTy).Contents (Elt F)),
    StableHlo.nullary main_cst_13 (constant S_ .f32 0x40E00000#32),
    StableHlo.unary main_cst_13 main_v70 (broadcastInDim S3x7168 ![] bcast_S_S3x7168 : (⟨S_, .f32⟩ : BufTy).Contents (Elt F) → (⟨S3x7168, .f32⟩ : BufTy).Contents (Elt F)),
    StableHlo.binary main_v69 main_v70 main_v71 (Host.divf : (⟨S3x7168, .f32⟩ : BufTy).Contents (Elt F) → (⟨S3x7168, .f32⟩ : BufTy).Contents (Elt F) → (⟨S3x7168, .f32⟩ : BufTy).Contents (Elt F)),
    StableHlo.nullary main_cst_14 (constant S_ .f32 0x3F800000#32),
    StableHlo.TRef.unary (.of main_cst_14 : StableHlo.TRef sig ⟨S_, .f32⟩) (.of main_call4_v0 : StableHlo.TRef sig ⟨S3x7168, .f32⟩) (broadcastInDim S3x7168 ![] bcast_S_S3x7168),
    StableHlo.TRef.ternary (.of main_v66 : StableHlo.TRef sig ⟨S3x7168, .i1⟩) (.of main_call4_v0 : StableHlo.TRef sig ⟨S3x7168, .f32⟩) (.of main_v71 : StableHlo.TRef sig ⟨S3x7168, .f32⟩) (.of main_v72 : StableHlo.TRef sig ⟨S3x7168, .f32⟩) select ]

abbrev seg11 : List (HloOp τ sig (Elt F)) :=
  [ StableHlo.unary main_v72 main_v73 (broadcastInDim S3x7168x1 ![0, 1] bcast_S3x7168_S3x7168x1_0_1 : (⟨S3x7168, .f32⟩ : BufTy).Contents (Elt F) → (⟨S3x7168x1, .f32⟩ : BufTy).Contents (Elt F)),
    StableHlo.unary main_v73 main_v74 (broadcastInDim S3x7168x4096 ![0, 1, 2] bcast_S3x7168x1_S3x7168x4096_0_1_2 : (⟨S3x7168x1, .f32⟩ : BufTy).Contents (Elt F) → (⟨S3x7168x4096, .f32⟩ : BufTy).Contents (Elt F)),
    StableHlo.binary main_v25 main_v74 main_v75 (Host.divf : (⟨S3x7168x4096, .f32⟩ : BufTy).Contents (Elt F) → (⟨S3x7168x4096, .f32⟩ : BufTy).Contents (Elt F) → (⟨S3x7168x4096, .f32⟩ : BufTy).Contents (Elt F)),
    StableHlo.TRef.unary (.of main_v75 : StableHlo.TRef sig ⟨S3x7168x4096, .f32⟩) (.of main_v76 : StableHlo.TRef sig ⟨S3x7168x4096, .f32⟩) Host.roundeven,
    StableHlo.nullary main_cst_15 (constant S_ .f32 0xC0E00000#32),
    StableHlo.nullary main_cst_16 (constant S_ .f32 0x40E00000#32),
    StableHlo.TRef.unary (.of main_cst_15 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S3x7168x4096, .f32⟩) (broadcastInDim S3x7168x4096 ![] bcast_S_S3x7168x4096),
    StableHlo.TRef.binary (.of main_call6_v1 : StableHlo.TRef sig ⟨S3x7168x4096, .f32⟩) (.of main_v76 : StableHlo.TRef sig ⟨S3x7168x4096, .f32⟩) (.of main_call6_v2 : StableHlo.TRef sig ⟨S3x7168x4096, .f32⟩) maximumf,
    StableHlo.TRef.unary (.of main_cst_16 : StableHlo.TRef sig ⟨S_, .f32⟩) (.of main_call6_v3 : StableHlo.TRef sig ⟨S_, .f32⟩) id,
    StableHlo.TRef.unary (.of main_call6_v3 : StableHlo.TRef sig ⟨S_, .f32⟩) (.of main_call6_v4 : StableHlo.TRef sig ⟨S3x7168x4096, .f32⟩) (broadcastInDim S3x7168x4096 ![] bcast_S_S3x7168x4096),
    StableHlo.TRef.binary (.of main_call6_v4 : StableHlo.TRef sig ⟨S3x7168x4096, .f32⟩) (.of main_call6_v2 : StableHlo.TRef sig ⟨S3x7168x4096, .f32⟩) (.of main_v77 : StableHlo.TRef sig ⟨S3x7168x4096, .f32⟩) minimumf ]

abbrev seg12 : List (HloOp τ sig (Elt F)) :=
  [ StableHlo.unary main_v77 main_v78 (fptosi 32 : (⟨S3x7168x4096, .f32⟩ : BufTy).Contents (Elt F) → (⟨S3x7168x4096, .i32⟩ : BufTy).Contents (Elt F)),
    StableHlo.nullary main_c (constantI S_ 32 15#32),
    StableHlo.unary main_c main_v79 (broadcastInDim S3x7168x4096 ![] bcast_S_S3x7168x4096 : (⟨S_, .i32⟩ : BufTy).Contents (Elt F) → (⟨S3x7168x4096, .i32⟩ : BufTy).Contents (Elt F)),
    StableHlo.binary main_v78 main_v79 main_v80 (andi : (⟨S3x7168x4096, .i32⟩ : BufTy).Contents (Elt F) → (⟨S3x7168x4096, .i32⟩ : BufTy).Contents (Elt F) → (⟨S3x7168x4096, .i32⟩ : BufTy).Contents (Elt F)),
    StableHlo.unary main_v80 main_v81 (id : (⟨S3x7168x4096, .i32⟩ : BufTy).Contents (Elt F) → (⟨S3x7168x4096, .i32⟩ : BufTy).Contents (Elt F)),
    StableHlo.reshape main_v81 main_v82 (rfl : (.i32 : EltTy) = .i32) shapeCasts_S3x7168x4096_S3x7168x512x8,
    StableHlo.nullary main_v83 (iotaInDim S8 32 0),
    StableHlo.nullary main_c_17 (constantI S_ 32 4#32),
    StableHlo.unary main_c_17 main_v84 (broadcastInDim S8 ![] bcast_S_S8 : (⟨S_, .i32⟩ : BufTy).Contents (Elt F) → (⟨S8, .i32⟩ : BufTy).Contents (Elt F)),
    StableHlo.binary main_v84 main_v83 main_v85 (muli : (⟨S8, .i32⟩ : BufTy).Contents (Elt F) → (⟨S8, .i32⟩ : BufTy).Contents (Elt F) → (⟨S8, .i32⟩ : BufTy).Contents (Elt F)),
    StableHlo.unary main_v85 main_v86 (broadcastInDim S1x1x1x8 ![3] bcast_S8_S1x1x1x8_3 : (⟨S8, .i32⟩ : BufTy).Contents (Elt F) → (⟨S1x1x1x8, .i32⟩ : BufTy).Contents (Elt F)),
    StableHlo.unary main_v86 main_v87 (broadcastInDim S3x7168x512x8 ![0, 1, 2, 3] bcast_S1x1x1x8_S3x7168x512x8_0_1_2_3 : (⟨S1x1x1x8, .i32⟩ : BufTy).Contents (Elt F) → (⟨S3x7168x512x8, .i32⟩ : BufTy).Contents (Elt F)),
    StableHlo.binary main_v82 main_v87 main_v88 (Host.shli : (⟨S3x7168x512x8, .i32⟩ : BufTy).Contents (Elt F) → (⟨S3x7168x512x8, .i32⟩ : BufTy).Contents (Elt F) → (⟨S3x7168x512x8, .i32⟩ : BufTy).Contents (Elt F)) ]

abbrev seg13 : List (HloOp τ sig (Elt F)) :=
  [ StableHlo.nullary main_c_18 (constantI S_ 32 0#32),
    StableHlo.binary main_v88 main_c_18 main_v89 ((fun x v => Host.reduce IntOp.addi x v reducesTo_S3x7168x512x8_S3x7168x512_d3 h_S_) : (⟨S3x7168x512x8, .i32⟩ : BufTy).Contents (Elt F) → (⟨S_, .i32⟩ : BufTy).Contents (Elt F) → (⟨S3x7168x512, .i32⟩ : BufTy).Contents (Elt F)) ]

end

set_option maxRecDepth 8000 in
theorem tail_eq : tail = seg1 ++ (seg2 ++ (seg3 ++ (seg4 ++ (seg5 ++ (seg6 ++ (seg7 ++ (seg8 ++ (seg9 ++ (seg10 ++ (seg11 ++ (seg12 ++ seg13))))))))))) := rfl

theorem after_app (l₁ l₂ : List (HloOp τ sig (Elt Ideal))) (V : Valuation τ sig (Elt Ideal)) : StableHlo.after (l₁ ++ l₂) V = StableHlo.after l₂ (StableHlo.after l₁ V) := by
  induction l₁ generalizing V with
  | nil => rfl
  | cons o l ih => simp only [List.cons_append, StableHlo.after_cons, ih]

/-! The operations that combine many elements, at an index. -/

theorem dg1 (X : FVec Ideal S3x7168x64x64 .bf16) (Y : FVec Ideal S64x64 .bf16) (n : Fin 3) (r : Fin 7168) (a j : Fin 64) :
    (Host.dotGeneral dot_S3x7168x64x64_S64x64_S3x7168x64x64_3_0_012_1_n_n none X Y : FVec Ideal S3x7168x64x64 .f32) (ix4 n r a j) = ∑ k : Fin 64, (X (ix4 n r a k) * Y (ix2 k j) : EReal) := by
  pointwise
theorem dg2 (X : FVec Ideal S64x64 .f32) (Y : FVec Ideal S3x7168x64x64 .f32) (i : Fin 64) (n : Fin 3) (r : Fin 7168) (j : Fin 64) :
    (Host.dotGeneral dot_S64x64_S3x7168x64x64_S64x3x7168x64_0_2_1_013_n_n (some ContractPrecision.fp32) X Y : FVec Ideal S64x3x7168x64 .f32) (ix4 i n r j) = ∑ k : Fin 64, (X (ix2 k i) * Y (ix4 n r k j) : EReal) := by
  pointwise
theorem rmax (X : FVec Ideal S3x7168x4096 .f32) (n : Fin 3) (r : Fin 7168) :
    Host.reduce (FloatOps.maximumf (F := Ideal) (φ := .f32)) X (constant (F := Ideal) S_ FTy.f32 4286578688#32) reducesTo_S3x7168x4096_S3x7168_d2 h_S_ (ix2 n r)
      = (Finset.univ : Finset (Fin 4096)).fold max (Ideal.ofBits FTy.f32 4286578688#32) fun k => X (ix3 n r k) := by
  rw [Host.reduce_eq_fold]
  exact Shape.ReducesTo.fold_fiber_r3_a2 (n0 := 3) (n1 := 7168) (n2 := 4096) reducesTo_S3x7168x4096_S3x7168_d2 (ix2 n r) max _ X
theorem radd1 (X : FVec Ideal S3x7168x8x4096 .f32) (n : Fin 3) (r : Fin 7168) (k : Fin 8) :
    Host.reduceAdd (F := Ideal) X (constant (F := Ideal) S_ FTy.f32 0#32) reducesTo_S3x7168x8x4096_S3x7168x8_d3 h_S_ (ix3 n r k) = ∑ c : Fin 4096, (X (ix4 n r k c) : EReal) := by
  refine (Ideal.hostReduceAdd_r4_a3 (n0 := 3) (n1 := 7168) (n2 := 8) (n3 := 4096) reducesTo_S3x7168x8x4096_S3x7168x8_d3 X (Ideal.ofBits .f32 0#32) (ix3 n r k)).trans ?_
  rw [Ideal.ofBits_zero_f32, zero_add]; rfl
theorem radd2 (X : FVec Ideal S3x7168x8 .f32) (n : Fin 3) (r : Fin 7168) :
    Host.reduceAdd (F := Ideal) X (constant (F := Ideal) S_ FTy.f32 0#32) reducesTo_S3x7168x8_S3x7168_d2 h_S_ (ix2 n r) = ∑ k : Fin 8, (X (ix3 n r k) : EReal) := by
  refine (Ideal.hostReduceAdd_r3_a2 (n0 := 3) (n1 := 7168) (n2 := 8) reducesTo_S3x7168x8_S3x7168_d2 X (Ideal.ofBits .f32 0#32) (ix2 n r)).trans ?_
  rw [Ideal.ofBits_zero_f32, zero_add]; rfl
theorem rint (X : IVec S3x7168x512x8 32) (n : Fin 3) (r : Fin 7168) (q : Fin 512) :
    Host.reduce IntOp.addi X (constantI S_ 32 0#32) reducesTo_S3x7168x512x8_S3x7168x512_d3 h_S_ (ix3 n r q) = (Finset.univ : Finset (Fin 8)).fold IntOp.addi 0#32 fun k => X (ix4 n r q k) := by
  rw [Host.reduce_eq_fold]
  exact Shape.ReducesTo.fold_fiber_r4_a3 (n0 := 3) (n1 := 7168) (n2 := 512) (n3 := 8) reducesTo_S3x7168x512x8_S3x7168x512_d3 (ix3 n r q) IntOp.addi _ X

/-! Each segment, at an index, from any contents. -/

variable (W : Valuation τ sig (Elt Ideal))

/-- Contents read as extended reals. -/
abbrev eW (S : Shape) (x : S.Idx → EReal) : S.Idx → EReal := x
/-- Contents read as words. -/
abbrev bW (S : Shape) (x : S.Idx → BitVec 32) : S.Idx → BitVec 32 := x
/-- The clip to [-7, 7] of the rounded quotient. -/
def rq (x s : EReal) : EReal := min (Ideal.ofBits FTy.f32 1088421888#32) (max (Ideal.ofBits FTy.f32 3235905536#32) (Ideal.liftRound Ideal.roundHalfEven (Ideal.div x s)))
/-- The scale of a row: one where the row is zero. -/
def rsc (a ρ : EReal) : EReal := Scalar.select (FloatOps.cmpf (F := Ideal) (φ := .f32) CmpFPredicate.oeq a 0) (1 : EReal) (Ideal.div (ρ * a * Ideal.ofBits FTy.f32 1065355264#32) (Ideal.ofBits FTy.f32 1088421888#32))

theorem z16 (n : Fin 3) (r : Fin 7168) (a b : Fin 64) : (eW S3x7168x64x64 (StableHlo.after seg1 W (Proc.devRef .tc main_v16))) (ix4 n r a b)
    = ((eW S3x7168x4096 (W (Proc.devRef .tc main_v1))) (ix3 n r ⟨a.val * 64 + b.val, by omega⟩) * (eW S3x56x32 (W (Proc.devRef .tc main_arg1))) (ix3 n ⟨r.val / 128, by omega⟩ ⟨(a.val * 64 + b.val) / 128, by omega⟩))
      * ((eW S3x4096 (W (Proc.devRef .tc main_arg2))) (ix2 n ⟨a.val * 64 + b.val, by omega⟩) * (eW S4096 (W (Proc.devRef .tc main_arg3))) (ix1 ⟨a.val * 64 + b.val, by omega⟩)) := by
  unfold seg1; after_reads_at
  simp only [eW, Nat.div_add_mod']; rfl
theorem z17 (n : Fin 3) (r : Fin 7168) (a j : Fin 64) : (eW S3x7168x64x64 (StableHlo.after seg2 W (Proc.devRef .tc main_v17))) (ix4 n r a j)
    = ∑ k : Fin 64, (eW S3x7168x64x64 (W (Proc.devRef .tc main_v16))) (ix4 n r a k) * (eW S64x64 (W (Proc.devRef .tc main_arg5))) (ix2 k j) := by
  unfold seg2; after_reads_at; all_goals try exact dg1 _ _ n r a j
theorem z25 (n : Fin 3) (r : Fin 7168) (C : Fin 4096) : (eW S3x7168x4096 (StableHlo.after seg3 W (Proc.devRef .tc main_v25))) (ix3 n r C)
    = (∑ k : Fin 64, (eW S64x64 (W (Proc.devRef .tc main_arg4))) (ix2 k ⟨C.val / 64, by omega⟩) * (eW S3x7168x64x64 (W (Proc.devRef .tc main_v17))) (ix4 n r k ⟨C.val % 64, by omega⟩)) * Ideal.ofBits FTy.f32 1015021568#32 := by
  unfold seg3; after_reads_at; all_goals try exact congrArg (· * Ideal.ofBits FTy.f32 1015021568#32) (dg2 _ _ _ n r _)
theorem z27 (n : Fin 3) (r : Fin 7168) : (eW S3x7168 (StableHlo.after seg4 W (Proc.devRef .tc main_v27))) (ix2 n r)
    = (Finset.univ : Finset (Fin 4096)).fold max (Ideal.ofBits FTy.f32 4286578688#32) fun k => (fun x : EReal => max x (-x)) ((eW S3x7168x4096 (W (Proc.devRef .tc main_v25))) (ix3 n r k)) := by
  unfold seg4; after_reads_at; exact congrArg (fun f => Finset.fold max (Ideal.ofBits FTy.f32 4286578688#32) f (Finset.univ : Finset (Fin 4096))) (funext fun x => rfl)
theorem z39 (n : Fin 3) (r : Fin 7168) (k : Fin 8) : (eW S3x7168x8 (StableHlo.after seg5 W (Proc.devRef .tc main_v39))) (ix3 n r k)
    = rsc ((eW S3x7168 (W (Proc.devRef .tc main_v27))) (ix2 n r)) ((eW S8 (W (Proc.devRef .tc main_cst))) (ix1 k)) := by
  unfold rsc; rw [← Ideal.ofBits_zero_f32, ← Ideal.ofBits_one_f32]
  unfold seg5; after_reads_at; all_goals try rfl
theorem z55 (n : Fin 3) (r : Fin 7168) (k : Fin 8) (C : Fin 4096) : (eW S3x7168x8x4096 (StableHlo.after seg6 W (Proc.devRef .tc main_v55))) (ix4 n r k C)
    = ((eW S3x7168x4096 (W (Proc.devRef .tc main_v25))) (ix3 n r C) - (((Ideal.fptosi 32 (rq ((eW S3x7168x4096 (W (Proc.devRef .tc main_v25))) (ix3 n r C)) ((eW S3x7168x8 (W (Proc.devRef .tc main_v39))) (ix3 n r k)))).toInt : ℝ) : EReal) * (eW S3x7168x8 (W (Proc.devRef .tc main_v39))) (ix3 n r k))
      * ((eW S3x7168x4096 (W (Proc.devRef .tc main_v25))) (ix3 n r C) - (((Ideal.fptosi 32 (rq ((eW S3x7168x4096 (W (Proc.devRef .tc main_v25))) (ix3 n r C)) ((eW S3x7168x8 (W (Proc.devRef .tc main_v39))) (ix3 n r k)))).toInt : ℝ) : EReal) * (eW S3x7168x8 (W (Proc.devRef .tc main_v39))) (ix3 n r k)) := by
  unfold seg6; after_reads_at; all_goals try rfl
theorem z56 (n : Fin 3) (r : Fin 7168) (k : Fin 8) : (eW S3x7168x8 (StableHlo.after seg7 W (Proc.devRef .tc main_v56))) (ix3 n r k)
    = ∑ c : Fin 4096, (eW S3x7168x8x4096 (W (Proc.devRef .tc main_v55))) (ix4 n r k c) := by
  unfold seg7; after_reads_at; all_goals try exact radd1 _ n r k
theorem z63 (n : Fin 3) (r : Fin 7168) (k : Fin 8) : (eW S3x7168x8 (StableHlo.after seg8 W (Proc.devRef .tc main_v63))) (ix3 n r k)
    = Scalar.select (IntOp.cmpi CmpIPredicate.eq ((bW S3x7168 (W (Proc.devRef .tc main_arg7))) (ix2 n r)) (BitVec.ofNat 32 k.val)) ((eW S8 (W (Proc.devRef .tc main_cst))) (ix1 k)) (0 : EReal) := by
  rw [← Ideal.ofBits_zero_f32]; unfold seg8; after_reads_at; all_goals try rfl
theorem z64 (n : Fin 3) (r : Fin 7168) : (eW S3x7168 (StableHlo.after seg9 W (Proc.devRef .tc main_v64))) (ix2 n r)
    = ∑ k : Fin 8, (eW S3x7168x8 (W (Proc.devRef .tc main_v63))) (ix3 n r k) := by
  unfold seg9; after_reads_at; all_goals try exact radd2 _ n r
theorem z72 (n : Fin 3) (r : Fin 7168) : (eW S3x7168 (StableHlo.after seg10 W (Proc.devRef .tc main_v72))) (ix2 n r)
    = rsc ((eW S3x7168 (W (Proc.devRef .tc main_v27))) (ix2 n r)) ((eW S3x7168 (W (Proc.devRef .tc main_v64))) (ix2 n r)) := by
  unfold rsc; rw [← Ideal.ofBits_zero_f32, ← Ideal.ofBits_one_f32]
  unfold seg10; after_reads_at; all_goals try rfl
theorem z77 (n : Fin 3) (r : Fin 7168) (C : Fin 4096) : (eW S3x7168x4096 (StableHlo.after seg11 W (Proc.devRef .tc main_v77))) (ix3 n r C)
    = rq ((eW S3x7168x4096 (W (Proc.devRef .tc main_v25))) (ix3 n r C)) ((eW S3x7168 (W (Proc.devRef .tc main_v72))) (ix2 n r)) := by
  unfold seg11; after_reads_at; all_goals try rfl
theorem z88 (n : Fin 3) (r : Fin 7168) (q : Fin 512) (k : Fin 8) : (bW S3x7168x512x8 (StableHlo.after seg12 W (Proc.devRef .tc main_v88))) (ix4 n r q k)
    = IntOp.shli ArithUnit.host (IntOp.andi (Ideal.fptosi 32 ((eW S3x7168x4096 (W (Proc.devRef .tc main_v77))) (ix3 n r ⟨q.val * 8 + k.val, by omega⟩))) 15#32) (IntOp.muli 4#32 (BitVec.ofNat 32 k.val)) := by
  unfold seg12; after_reads_at; all_goals try rfl
theorem z89 (n : Fin 3) (r : Fin 7168) (q : Fin 512) : (bW S3x7168x512 (StableHlo.after seg13 W (Proc.devRef .tc main_v89))) (ix3 n r q)
    = (Finset.univ : Finset (Fin 8)).fold IntOp.addi 0#32 fun k => (bW S3x7168x512x8 (W (Proc.devRef .tc main_v88))) (ix4 n r q k) := by
  unfold seg13; after_reads_at; all_goals try exact rint _ n r q
theorem kp1_arg5 : StableHlo.after seg1 W (Proc.devRef .tc main_arg5) = W (Proc.devRef .tc main_arg5) := by
  unfold seg1; after_reads_simp
theorem kp1_arg4 : StableHlo.after seg1 W (Proc.devRef .tc main_arg4) = W (Proc.devRef .tc main_arg4) := by
  unfold seg1; after_reads_simp
theorem kp2_arg4 : StableHlo.after seg2 W (Proc.devRef .tc main_arg4) = W (Proc.devRef .tc main_arg4) := by
  unfold seg2; after_reads_simp
theorem kp4_v25 : StableHlo.after seg4 W (Proc.devRef .tc main_v25) = W (Proc.devRef .tc main_v25) := by
  unfold seg4; after_reads_simp
theorem kp5_v25 : StableHlo.after seg5 W (Proc.devRef .tc main_v25) = W (Proc.devRef .tc main_v25) := by
  unfold seg5; after_reads_simp
theorem kp6_v25 : StableHlo.after seg6 W (Proc.devRef .tc main_v25) = W (Proc.devRef .tc main_v25) := by
  unfold seg6; after_reads_simp
theorem kp7_v25 : StableHlo.after seg7 W (Proc.devRef .tc main_v25) = W (Proc.devRef .tc main_v25) := by
  unfold seg7; after_reads_simp
theorem kp8_v25 : StableHlo.after seg8 W (Proc.devRef .tc main_v25) = W (Proc.devRef .tc main_v25) := by
  unfold seg8; after_reads_simp
theorem kp9_v25 : StableHlo.after seg9 W (Proc.devRef .tc main_v25) = W (Proc.devRef .tc main_v25) := by
  unfold seg9; after_reads_simp
theorem kp10_v25 : StableHlo.after seg10 W (Proc.devRef .tc main_v25) = W (Proc.devRef .tc main_v25) := by
  unfold seg10; after_reads_simp
theorem kp5_v27 : StableHlo.after seg5 W (Proc.devRef .tc main_v27) = W (Proc.devRef .tc main_v27) := by
  unfold seg5; after_reads_simp
theorem kp6_v27 : StableHlo.after seg6 W (Proc.devRef .tc main_v27) = W (Proc.devRef .tc main_v27) := by
  unfold seg6; after_reads_simp
theorem kp7_v27 : StableHlo.after seg7 W (Proc.devRef .tc main_v27) = W (Proc.devRef .tc main_v27) := by
  unfold seg7; after_reads_simp
theorem kp8_v27 : StableHlo.after seg8 W (Proc.devRef .tc main_v27) = W (Proc.devRef .tc main_v27) := by
  unfold seg8; after_reads_simp
theorem kp9_v27 : StableHlo.after seg9 W (Proc.devRef .tc main_v27) = W (Proc.devRef .tc main_v27) := by
  unfold seg9; after_reads_simp
theorem kp1_cst : StableHlo.after seg1 W (Proc.devRef .tc main_cst) = W (Proc.devRef .tc main_cst) := by
  unfold seg1; after_reads_simp
theorem kp2_cst : StableHlo.after seg2 W (Proc.devRef .tc main_cst) = W (Proc.devRef .tc main_cst) := by
  unfold seg2; after_reads_simp
theorem kp3_cst : StableHlo.after seg3 W (Proc.devRef .tc main_cst) = W (Proc.devRef .tc main_cst) := by
  unfold seg3; after_reads_simp
theorem kp4_cst : StableHlo.after seg4 W (Proc.devRef .tc main_cst) = W (Proc.devRef .tc main_cst) := by
  unfold seg4; after_reads_simp
theorem kp5_cst : StableHlo.after seg5 W (Proc.devRef .tc main_cst) = W (Proc.devRef .tc main_cst) := by
  unfold seg5; after_reads_simp
theorem kp6_cst : StableHlo.after seg6 W (Proc.devRef .tc main_cst) = W (Proc.devRef .tc main_cst) := by
  unfold seg6; after_reads_simp
theorem kp7_cst : StableHlo.after seg7 W (Proc.devRef .tc main_cst) = W (Proc.devRef .tc main_cst) := by
  unfold seg7; after_reads_simp
theorem kp1_arg7 : StableHlo.after seg1 W (Proc.devRef .tc main_arg7) = W (Proc.devRef .tc main_arg7) := by
  unfold seg1; after_reads_simp
theorem kp2_arg7 : StableHlo.after seg2 W (Proc.devRef .tc main_arg7) = W (Proc.devRef .tc main_arg7) := by
  unfold seg2; after_reads_simp
theorem kp3_arg7 : StableHlo.after seg3 W (Proc.devRef .tc main_arg7) = W (Proc.devRef .tc main_arg7) := by
  unfold seg3; after_reads_simp
theorem kp4_arg7 : StableHlo.after seg4 W (Proc.devRef .tc main_arg7) = W (Proc.devRef .tc main_arg7) := by
  unfold seg4; after_reads_simp
theorem kp5_arg7 : StableHlo.after seg5 W (Proc.devRef .tc main_arg7) = W (Proc.devRef .tc main_arg7) := by
  unfold seg5; after_reads_simp
theorem kp6_arg7 : StableHlo.after seg6 W (Proc.devRef .tc main_arg7) = W (Proc.devRef .tc main_arg7) := by
  unfold seg6; after_reads_simp
theorem kp7_arg7 : StableHlo.after seg7 W (Proc.devRef .tc main_arg7) = W (Proc.devRef .tc main_arg7) := by
  unfold seg7; after_reads_simp
theorem kp8_v56 : StableHlo.after seg8 W (Proc.devRef .tc main_v56) = W (Proc.devRef .tc main_v56) := by
  unfold seg8; after_reads_simp
theorem kp9_v56 : StableHlo.after seg9 W (Proc.devRef .tc main_v56) = W (Proc.devRef .tc main_v56) := by
  unfold seg9; after_reads_simp
theorem kp10_v56 : StableHlo.after seg10 W (Proc.devRef .tc main_v56) = W (Proc.devRef .tc main_v56) := by
  unfold seg10; after_reads_simp
theorem kp11_v56 : StableHlo.after seg11 W (Proc.devRef .tc main_v56) = W (Proc.devRef .tc main_v56) := by
  unfold seg11; after_reads_simp
theorem kp12_v56 : StableHlo.after seg12 W (Proc.devRef .tc main_v56) = W (Proc.devRef .tc main_v56) := by
  unfold seg12; after_reads_simp
theorem kp13_v56 : StableHlo.after seg13 W (Proc.devRef .tc main_v56) = W (Proc.devRef .tc main_v56) := by
  unfold seg13; after_reads_simp
theorem kp11_v72 : StableHlo.after seg11 W (Proc.devRef .tc main_v72) = W (Proc.devRef .tc main_v72) := by
  unfold seg11; after_reads_simp
theorem kp12_v72 : StableHlo.after seg12 W (Proc.devRef .tc main_v72) = W (Proc.devRef .tc main_v72) := by
  unfold seg12; after_reads_simp
theorem kp13_v72 : StableHlo.after seg13 W (Proc.devRef .tc main_v72) = W (Proc.devRef .tc main_v72) := by
  unfold seg13; after_reads_simp
def val1 : Valuation τ sig (Elt Ideal) := StableHlo.after seg1 W
def val2 : Valuation τ sig (Elt Ideal) := StableHlo.after seg2 (val1 W)
def val3 : Valuation τ sig (Elt Ideal) := StableHlo.after seg3 (val2 W)
def val4 : Valuation τ sig (Elt Ideal) := StableHlo.after seg4 (val3 W)
def val5 : Valuation τ sig (Elt Ideal) := StableHlo.after seg5 (val4 W)
def val6 : Valuation τ sig (Elt Ideal) := StableHlo.after seg6 (val5 W)
def val7 : Valuation τ sig (Elt Ideal) := StableHlo.after seg7 (val6 W)
def val8 : Valuation τ sig (Elt Ideal) := StableHlo.after seg8 (val7 W)
def val9 : Valuation τ sig (Elt Ideal) := StableHlo.after seg9 (val8 W)
def val10 : Valuation τ sig (Elt Ideal) := StableHlo.after seg10 (val9 W)
def val11 : Valuation τ sig (Elt Ideal) := StableHlo.after seg11 (val10 W)
def val12 : Valuation τ sig (Elt Ideal) := StableHlo.after seg12 (val11 W)
def val13 : Valuation τ sig (Elt Ideal) := StableHlo.after seg13 (val12 W)
theorem val_tail : StableHlo.after tail W = val13 W := by
  rw [tail_eq]; simp only [after_app]; rfl

/-! The reference, value by value, as functions of the arguments' elements. -/
section Spec
variable (D : S3x7168x4096.Idx → EReal) (S : S3x56x32.Idx → EReal) (G : S3x4096.Idx → EReal) (Sg : S4096.Idx → EReal)
  (A B : S64x64.Idx → EReal) (cst : S8.Idx → EReal) (ri : S3x7168.Idx → BitVec 32)
/-- The decoded, scaled weight. -/
def rW (n : Fin 3) (r : Fin 7168) (c : Fin 4096) : EReal :=
  (D (ix3 n r c) * S (ix3 n ⟨r.val / 128, by omega⟩ ⟨c.val / 128, by omega⟩)) * (G (ix2 n c) * Sg (ix1 c))
/-- The rotated weight. -/
def rX (n : Fin 3) (r : Fin 7168) (c : Fin 4096) : EReal :=
  (∑ a : Fin 64, A (ix2 a ⟨c.val / 64, by omega⟩) * ∑ b : Fin 64, rW D S G Sg n r ⟨a.val * 64 + b.val, by omega⟩ * B (ix2 b ⟨c.val % 64, by omega⟩)) * Ideal.ofBits FTy.f32 1015021568#32
/-- The largest magnitude of a row. -/
def rAmax (n : Fin 3) (r : Fin 7168) : EReal :=
  (Finset.univ : Finset (Fin 4096)).fold max (Ideal.ofBits FTy.f32 4286578688#32) fun k => max (rX D S G Sg A B n r k) (-(rX D S G Sg A B n r k))
/-- One squared error. -/
def rTerm (x s : EReal) : EReal := (x - (((Ideal.fptosi 32 (rq x s)).toInt : ℝ) : EReal) * s) * (x - (((Ideal.fptosi 32 (rq x s)).toInt : ℝ) : EReal) * s)
/-- The errors at the eight ratios. -/
def rErr (n : Fin 3) (r : Fin 7168) (k : Fin 8) : EReal :=
  ∑ c : Fin 4096, rTerm (rX D S G Sg A B n r c) (rsc (rAmax D S G Sg A B n r) (cst (ix1 k)))
/-- The ratio chosen. -/
def rRho (n : Fin 3) (r : Fin 7168) : EReal :=
  ∑ k : Fin 8, Scalar.select (IntOp.cmpi CmpIPredicate.eq (ri (ix2 n r)) (BitVec.ofNat 32 k.val)) (cst (ix1 k)) (0 : EReal)
/-- The scale chosen. -/
def rScale (n : Fin 3) (r : Fin 7168) : EReal := rsc (rAmax D S G Sg A B n r) (rRho cst ri n r)
/-- The packed word. -/
def rWord (n : Fin 3) (r : Fin 7168) (q : Fin 512) : BitVec 32 :=
  (Finset.univ : Finset (Fin 8)).fold IntOp.addi 0#32 fun k =>
    IntOp.shli ArithUnit.host (IntOp.andi (Ideal.fptosi 32 (rq (rX D S G Sg A B n r ⟨q.val * 8 + k.val, by omega⟩) (rScale D S G Sg A B cst ri n r))) 15#32) (IntOp.muli 4#32 (BitVec.ofNat 32 k.val))
end Spec

section Fin
abbrev wD : S3x7168x4096.Idx → EReal := W (Proc.devRef .tc main_v1)
abbrev wS : S3x56x32.Idx → EReal := W (Proc.devRef .tc main_arg1)
abbrev wG : S3x4096.Idx → EReal := W (Proc.devRef .tc main_arg2)
abbrev wSg : S4096.Idx → EReal := W (Proc.devRef .tc main_arg3)
abbrev wA : S64x64.Idx → EReal := W (Proc.devRef .tc main_arg4)
abbrev wB : S64x64.Idx → EReal := W (Proc.devRef .tc main_arg5)
abbrev wC : S8.Idx → EReal := W (Proc.devRef .tc main_cst)
abbrev wR : S3x7168.Idx → BitVec 32 := W (Proc.devRef .tc main_arg7)

theorem f25 (n : Fin 3) (r : Fin 7168) (C : Fin 4096) : (val3 W (Proc.devRef .tc main_v25)) (ix3 n r C) = rX (wD W) (wS W) (wG W) (wSg W) (wA W) (wB W) n r C := by
  refine (z25 (val2 W) n r C).trans ?_
  unfold rX
  congr 1
  refine Finset.sum_congr rfl fun a _ => ?_
  have e4 : val2 W (Proc.devRef .tc main_arg4) = W (Proc.devRef .tc main_arg4) := (kp2_arg4 _).trans (kp1_arg4 _)
  have e5 : val1 W (Proc.devRef .tc main_arg5) = W (Proc.devRef .tc main_arg5) := kp1_arg5 _
  have h17 := z17 (val1 W) n r a ⟨C.val % 64, by omega⟩
  unfold eW at *
  refine congrArg₂ (· * ·) (congrFun e4 _) (h17.trans ?_)
  refine Finset.sum_congr rfl fun b _ => congrArg₂ (· * ·) (z16 W n r a b) (congrFun e5 _)
theorem v25_5 : val5 W (Proc.devRef .tc main_v25) = val3 W (Proc.devRef .tc main_v25) := (kp5_v25 _).trans (kp4_v25 _)
theorem v25_10 : val10 W (Proc.devRef .tc main_v25) = val3 W (Proc.devRef .tc main_v25) :=
  (kp10_v25 _).trans <| (kp9_v25 _).trans <| (kp8_v25 _).trans <| (kp7_v25 _).trans <| (kp6_v25 _).trans (v25_5 W)
theorem v27_9 : val9 W (Proc.devRef .tc main_v27) = val4 W (Proc.devRef .tc main_v27) :=
  (kp9_v27 _).trans <| (kp8_v27 _).trans <| (kp7_v27 _).trans <| (kp6_v27 _).trans (kp5_v27 _)
theorem cst_4 : val4 W (Proc.devRef .tc main_cst) = W (Proc.devRef .tc main_cst) :=
  (kp4_cst _).trans <| (kp3_cst _).trans <| (kp2_cst _).trans (kp1_cst _)
theorem cst_7 : val7 W (Proc.devRef .tc main_cst) = W (Proc.devRef .tc main_cst) :=
  (kp7_cst _).trans <| (kp6_cst _).trans <| (kp5_cst _).trans (cst_4 W)
theorem arg7_7 : val7 W (Proc.devRef .tc main_arg7) = W (Proc.devRef .tc main_arg7) :=
  (kp7_arg7 _).trans <| (kp6_arg7 _).trans <| (kp5_arg7 _).trans <| (kp4_arg7 _).trans <| (kp3_arg7 _).trans <| (kp2_arg7 _).trans (kp1_arg7 _)

theorem f27 (n : Fin 3) (r : Fin 7168) : (val4 W (Proc.devRef .tc main_v27)) (ix2 n r) = rAmax (wD W) (wS W) (wG W) (wSg W) (wA W) (wB W) n r := by
  refine (z27 (val3 W) n r).trans ?_
  unfold rAmax
  refine congrArg (fun f => Finset.fold max (Ideal.ofBits FTy.f32 4286578688#32) f (Finset.univ : Finset (Fin 4096))) (funext fun k => ?_)
  have h := f25 W n r k
  unfold eW
  exact congrArg₂ max h (congrArg Neg.neg h)
theorem f39 (n : Fin 3) (r : Fin 7168) (k : Fin 8) : (val5 W (Proc.devRef .tc main_v39)) (ix3 n r k) = rsc (rAmax (wD W) (wS W) (wG W) (wSg W) (wA W) (wB W) n r) (wC W (ix1 k)) :=
  (z39 (val4 W) n r k).trans (congrArg₂ rsc (f27 W n r) (congrFun (cst_4 W) _))
theorem f55 (n : Fin 3) (r : Fin 7168) (k : Fin 8) (C : Fin 4096) : (val6 W (Proc.devRef .tc main_v55)) (ix4 n r k C)
    = rTerm (rX (wD W) (wS W) (wG W) (wSg W) (wA W) (wB W) n r C) (rsc (rAmax (wD W) (wS W) (wG W) (wSg W) (wA W) (wB W) n r) (wC W (ix1 k))) :=
  (z55 (val5 W) n r k C).trans (congrArg₂ rTerm ((congrFun (v25_5 W) _).trans (f25 W n r C)) (f39 W n r k))
theorem f56 (n : Fin 3) (r : Fin 7168) (k : Fin 8) : (val7 W (Proc.devRef .tc main_v56)) (ix3 n r k) = rErr (wD W) (wS W) (wG W) (wSg W) (wA W) (wB W) (wC W) n r k :=
  (z56 (val6 W) n r k).trans (Finset.sum_congr rfl fun C _ => f55 W n r k C)
theorem f64 (n : Fin 3) (r : Fin 7168) : (val9 W (Proc.devRef .tc main_v64)) (ix2 n r) = rRho (wC W) (wR W) n r :=
  (z64 (val8 W) n r).trans (Finset.sum_congr rfl fun k _ => (z63 (val7 W) n r k).trans (by
    have e1 := congrFun (arg7_7 W) (ix2 n r)
    have e2 := congrFun (cst_7 W) (ix1 k)
    unfold bW eW
    rw [e1, e2]))
theorem f72 (n : Fin 3) (r : Fin 7168) : (val10 W (Proc.devRef .tc main_v72)) (ix2 n r) = rScale (wD W) (wS W) (wG W) (wSg W) (wA W) (wB W) (wC W) (wR W) n r :=
  (z72 (val9 W) n r).trans (congrArg₂ rsc ((congrFun (v27_9 W) _).trans (f27 W n r)) (f64 W n r))
theorem f77 (n : Fin 3) (r : Fin 7168) (C : Fin 4096) : (val11 W (Proc.devRef .tc main_v77)) (ix3 n r C)
    = rq (rX (wD W) (wS W) (wG W) (wSg W) (wA W) (wB W) n r C) (rScale (wD W) (wS W) (wG W) (wSg W) (wA W) (wB W) (wC W) (wR W) n r) :=
  (z77 (val10 W) n r C).trans (congrArg₂ rq ((congrFun (v25_10 W) _).trans (f25 W n r C)) (f72 W n r))
theorem f89 (n : Fin 3) (r : Fin 7168) (q : Fin 512) : (val13 W (Proc.devRef .tc main_v89)) (ix3 n r q) = rWord (wD W) (wS W) (wG W) (wSg W) (wA W) (wB W) (wC W) (wR W) n r q := by
  refine (z89 (val12 W) n r q).trans ?_
  refine congrArg (fun f => Finset.fold IntOp.addi 0#32 f (Finset.univ : Finset (Fin 8))) (funext fun k => ?_)
  refine (z88 (val11 W) n r q k).trans ?_
  have h := f77 W n r ⟨q.val * 8 + k.val, by omega⟩
  unfold eW
  exact congrArg (fun z => IntOp.shli ArithUnit.host (IntOp.andi (Ideal.fptosi 32 z) 15#32) (IntOp.muli 4#32 (BitVec.ofNat 32 k.val))) h

theorem g56 (n : Fin 3) (r : Fin 7168) (k : Fin 8) : (StableHlo.after tail W (Proc.devRef .tc main_v56)) (ix3 n r k) = rErr (wD W) (wS W) (wG W) (wSg W) (wA W) (wB W) (wC W) n r k := by
  rw [val_tail]
  refine Eq.trans (congrFun ?_ _) (f56 W n r k)
  exact (kp13_v56 _).trans <| (kp12_v56 _).trans <| (kp11_v56 _).trans <| (kp10_v56 _).trans <| (kp9_v56 _).trans (kp8_v56 _)
theorem g72 (n : Fin 3) (r : Fin 7168) : (StableHlo.after tail W (Proc.devRef .tc main_v72)) (ix2 n r) = rScale (wD W) (wS W) (wG W) (wSg W) (wA W) (wB W) (wC W) (wR W) n r := by
  rw [val_tail]
  refine Eq.trans (congrFun ?_ _) (f72 W n r)
  exact (kp13_v72 _).trans <| (kp12_v72 _).trans (kp11_v72 _)
theorem g89 (n : Fin 3) (r : Fin 7168) (q : Fin 512) : (StableHlo.after tail W (Proc.devRef .tc main_v89)) (ix3 n r q) = rWord (wD W) (wS W) (wG W) (wSg W) (wA W) (wB W) (wC W) (wR W) n r q := by
  rw [val_tail]; exact f89 W n r q
end Fin

end Cert.ReferenceIdeal.Hand
-- ==== Proof.DRefA.lean ====
/- The second reference's lines, value by value. -/
module

public import proofs.«01_k».proof.Proof.Gen.DownReferenceIdeal.Run
public import proofs.«01_k».proof.Proof.RefA
public import Idealize.ShloMosaic.Lib.BitcastConvert
public import Idealize.ShloMosaic.Lib.StableHlo.ReadAt
public import Idealize.ShloMosaic.Lib.Claim
public import Idealize.ShloMosaic.PureOps.Ideal
public import Idealize.ShloMosaic.PureOps.Ideal.Laws
public import Idealize.ShloMosaic.PureOps.Reduce
public import Idealize.ShloMosaic.Lib.Pointwise
public import Idealize.ShloMosaic.Lib.IdealHost
public import Idealize.ShloMosaic.Lib.Pipeline.Value
public import Idealize.ShloMosaic.Lib.Tactic

@[expose] public section

noncomputable section

namespace Cert.DownReferenceIdeal.Hand

open Cert.DownReferenceIdeal Cert.DownReferenceIdeal.Gen
open Idealize.ShloMosaic Idealize.ShloMosaic.TcCoe Idealize.ShloMosaic.Tactic

open Cert.ReferenceIdeal.Hand (rq rsc rTerm)
open Idealize.ShloMosaic.StableHlo

section
variable {F : FTy → Type} [FloatOps F]

abbrev seg0 : List (HloOp τ sig (Elt F)) :=
  [ nullary main_cst (fun i => FloatOps.ofBits .f32 (lit0 (S8.rowMajor i))) ]

abbrev seg1 : List (HloOp τ sig (Elt F)) :=
  [ unary main_arg0 main_v0 ((fun x => bitcastToFloat (F := F) .bf16 (Host.bitcastConvertNarrow S3x2048x7168x2 16 x splits_S3x2048x7168_w32_S3x2048x7168x2_w16)) : (⟨S3x2048x7168, .i32⟩ : BufTy).Contents (Elt F) → (⟨S3x2048x7168x2, .bf16⟩ : BufTy).Contents (Elt F)),
    unary main_v0 main_v1 ((transpose S3x2048x2x7168 [0, 1, 3, 2] · transposes_S3x2048x7168x2_S3x2048x2x7168_0_1_3_2) : (⟨S3x2048x7168x2, .bf16⟩ : BufTy).Contents (Elt F) → (⟨S3x2048x2x7168, .bf16⟩ : BufTy).Contents (Elt F)),
    reshape main_v1 main_v2 (rfl : (.bf16 : EltTy) = .bf16) shapeCasts_S3x2048x2x7168_S3x4096x7168,
    reshape main_v2 main_v3 (rfl : (.bf16 : EltTy) = .bf16) shapeCasts_S3x4096x7168_S3x4096x28x256 ]

abbrev seg2 : List (HloOp τ sig (Elt F)) :=
  [ binary main_v3 main_arg1 main_v4 ((fun l r => Host.dotGeneral dot_S3x4096x28x256_S256x256_S3x4096x28x256_3_0_012_1_n_n none l r) : (⟨S3x4096x28x256, .bf16⟩ : BufTy).Contents (Elt F) → (⟨S256x256, .bf16⟩ : BufTy).Contents (Elt F) → (⟨S3x4096x28x256, .f32⟩ : BufTy).Contents (Elt F)) ]

abbrev seg3 : List (HloOp τ sig (Elt F)) :=
  [ unary main_arg2 main_v5 ((extf .f32 · bitsLt_bf16_f32) : (⟨S28x28, .bf16⟩ : BufTy).Contents (Elt F) → (⟨S28x28, .f32⟩ : BufTy).Contents (Elt F)),
    binary main_v5 main_v4 main_v6 ((fun l r => Host.dotGeneral dot_S28x28_S3x4096x28x256_S28x3x4096x256_0_2_1_013_n_n (some .fp32) l r) : (⟨S28x28, .f32⟩ : BufTy).Contents (Elt F) → (⟨S3x4096x28x256, .f32⟩ : BufTy).Contents (Elt F) → (⟨S28x3x4096x256, .f32⟩ : BufTy).Contents (Elt F)),
    unary main_v6 main_v7 ((transpose S3x4096x28x256 [1, 2, 0, 3] · transposes_S28x3x4096x256_S3x4096x28x256_1_2_0_3) : (⟨S28x3x4096x256, .f32⟩ : BufTy).Contents (Elt F) → (⟨S3x4096x28x256, .f32⟩ : BufTy).Contents (Elt F)),
    nullary main_cst_0 (constant S_ .f32 0x3C41848F#32),
    unary main_cst_0 main_v8 (broadcastInDim S3x4096x28x256 ![] bcast_S_S3x4096x28x256 : (⟨S_, .f32⟩ : BufTy).Contents (Elt F) → (⟨S3x4096x28x256, .f32⟩ : BufTy).Contents (Elt F)),
    binary main_v7 main_v8 main_v9 (mulf : (⟨S3x4096x28x256, .f32⟩ : BufTy).Contents (Elt F) → (⟨S3x4096x28x256, .f32⟩ : BufTy).Contents (Elt F) → (⟨S3x4096x28x256, .f32⟩ : BufTy).Contents (Elt F)),
    unary main_v9 main_v10 ((truncf .bf16 · bitsLt_bf16_f32) : (⟨S3x4096x28x256, .f32⟩ : BufTy).Contents (Elt F) → (⟨S3x4096x28x256, .bf16⟩ : BufTy).Contents (Elt F)),
    reshape main_v10 main_v11 (rfl : (.bf16 : EltTy) = .bf16) shapeCasts_S3x4096x28x256_S3x4096x7168,
    unary main_v11 main_v12 ((extf .f32 · bitsLt_bf16_f32) : (⟨S3x4096x7168, .bf16⟩ : BufTy).Contents (Elt F) → (⟨S3x4096x7168, .f32⟩ : BufTy).Contents (Elt F)) ]

abbrev seg4 : List (HloOp τ sig (Elt F)) :=
  [ unary main_v12 main_v13 (Host.absf : (⟨S3x4096x7168, .f32⟩ : BufTy).Contents (Elt F) → (⟨S3x4096x7168, .f32⟩ : BufTy).Contents (Elt F)),
    nullary main_cst_1 (constant S_ .f32 0xFF800000#32),
    binary main_v13 main_cst_1 main_v14 ((fun x v => Host.reduce FloatOps.maximumf x v reducesTo_S3x4096x7168_S3x4096_d2 h_S_) : (⟨S3x4096x7168, .f32⟩ : BufTy).Contents (Elt F) → (⟨S_, .f32⟩ : BufTy).Contents (Elt F) → (⟨S3x4096, .f32⟩ : BufTy).Contents (Elt F)) ]

abbrev seg5 : List (HloOp τ sig (Elt F)) :=
  [ unary main_v14 main_v15 (broadcastInDim S3x4096x1 ![0, 1] bcast_S3x4096_S3x4096x1_0_1 : (⟨S3x4096, .f32⟩ : BufTy).Contents (Elt F) → (⟨S3x4096x1, .f32⟩ : BufTy).Contents (Elt F)),
    nullary main_cst_2 (constant S_ .f32 0x00000000#32),
    unary main_cst_2 main_v16 (broadcastInDim S3x4096x1 ![] bcast_S_S3x4096x1 : (⟨S_, .f32⟩ : BufTy).Contents (Elt F) → (⟨S3x4096x1, .f32⟩ : BufTy).Contents (Elt F)),
    binary main_v15 main_v16 main_v17 (cmpf .oeq : (⟨S3x4096x1, .f32⟩ : BufTy).Contents (Elt F) → (⟨S3x4096x1, .f32⟩ : BufTy).Contents (Elt F) → (⟨S3x4096x1, .i1⟩ : BufTy).Contents (Elt F)),
    unary main_cst main_v18 (broadcastInDim S1x1x8 ![2] bcast_S8_S1x1x8_2 : (⟨S8, .f32⟩ : BufTy).Contents (Elt F) → (⟨S1x1x8, .f32⟩ : BufTy).Contents (Elt F)),
    unary main_v18 main_v19 (broadcastInDim S3x4096x8 ![0, 1, 2] bcast_S1x1x8_S3x4096x8_0_1_2 : (⟨S1x1x8, .f32⟩ : BufTy).Contents (Elt F) → (⟨S3x4096x8, .f32⟩ : BufTy).Contents (Elt F)),
    unary main_v15 main_v20 (broadcastInDim S3x4096x8 ![0, 1, 2] bcast_S3x4096x1_S3x4096x8_0_1_2 : (⟨S3x4096x1, .f32⟩ : BufTy).Contents (Elt F) → (⟨S3x4096x8, .f32⟩ : BufTy).Contents (Elt F)),
    binary main_v19 main_v20 main_v21 (mulf : (⟨S3x4096x8, .f32⟩ : BufTy).Contents (Elt F) → (⟨S3x4096x8, .f32⟩ : BufTy).Contents (Elt F) → (⟨S3x4096x8, .f32⟩ : BufTy).Contents (Elt F)),
    nullary main_cst_3 (constant S_ .f32 0x3F800800#32),
    unary main_cst_3 main_v22 (broadcastInDim S3x4096x8 ![] bcast_S_S3x4096x8 : (⟨S_, .f32⟩ : BufTy).Contents (Elt F) → (⟨S3x4096x8, .f32⟩ : BufTy).Contents (Elt F)),
    binary main_v21 main_v22 main_v23 (mulf : (⟨S3x4096x8, .f32⟩ : BufTy).Contents (Elt F) → (⟨S3x4096x8, .f32⟩ : BufTy).Contents (Elt F) → (⟨S3x4096x8, .f32⟩ : BufTy).Contents (Elt F)),
    nullary main_cst_4 (constant S_ .f32 0x40E00000#32),
    unary main_cst_4 main_v24 (broadcastInDim S3x4096x8 ![] bcast_S_S3x4096x8 : (⟨S_, .f32⟩ : BufTy).Contents (Elt F) → (⟨S3x4096x8, .f32⟩ : BufTy).Contents (Elt F)),
    binary main_v23 main_v24 main_v25 (Host.divf : (⟨S3x4096x8, .f32⟩ : BufTy).Contents (Elt F) → (⟨S3x4096x8, .f32⟩ : BufTy).Contents (Elt F) → (⟨S3x4096x8, .f32⟩ : BufTy).Contents (Elt F)),
    nullary main_cst_5 (constant S_ .f32 0x3F800000#32),
    TRef.unary (TRef.of (T := ⟨S3x4096x1, .i1⟩) main_v17) (TRef.of (T := ⟨S3x4096x8, .i1⟩) main_call0_v0) (broadcastInDim S3x4096x8 ![0, 1, 2] bcast_S3x4096x1_S3x4096x8_0_1_2),
    TRef.unary (TRef.of (T := ⟨S_, .f32⟩) main_cst_5) (TRef.of (T := ⟨S3x4096x8, .f32⟩) main_call0_v1) (broadcastInDim S3x4096x8 ![] bcast_S_S3x4096x8),
    TRef.ternary (TRef.of (T := ⟨S3x4096x8, .i1⟩) main_call0_v0) (TRef.of (T := ⟨S3x4096x8, .f32⟩) main_call0_v1) (TRef.of (T := ⟨S3x4096x8, .f32⟩) main_v25) (TRef.of (T := ⟨S3x4096x8, .f32⟩) main_v26) select ]

abbrev seg6 : List (HloOp τ sig (Elt F)) :=
  [ unary main_v12 main_v27 (broadcastInDim S3x4096x1x7168 ![0, 1, 3] bcast_S3x4096x7168_S3x4096x1x7168_0_1_3 : (⟨S3x4096x7168, .f32⟩ : BufTy).Contents (Elt F) → (⟨S3x4096x1x7168, .f32⟩ : BufTy).Contents (Elt F)),
    unary main_v26 main_v28 (broadcastInDim S3x4096x8x1 ![0, 1, 2] bcast_S3x4096x8_S3x4096x8x1_0_1_2 : (⟨S3x4096x8, .f32⟩ : BufTy).Contents (Elt F) → (⟨S3x4096x8x1, .f32⟩ : BufTy).Contents (Elt F)),
    unary main_v27 main_v29 (broadcastInDim S3x4096x8x7168 ![0, 1, 2, 3] bcast_S3x4096x1x7168_S3x4096x8x7168_0_1_2_3 : (⟨S3x4096x1x7168, .f32⟩ : BufTy).Contents (Elt F) → (⟨S3x4096x8x7168, .f32⟩ : BufTy).Contents (Elt F)),
    unary main_v28 main_v30 (broadcastInDim S3x4096x8x7168 ![0, 1, 2, 3] bcast_S3x4096x8x1_S3x4096x8x7168_0_1_2_3 : (⟨S3x4096x8x1, .f32⟩ : BufTy).Contents (Elt F) → (⟨S3x4096x8x7168, .f32⟩ : BufTy).Contents (Elt F)),
    binary main_v29 main_v30 main_v31 (Host.divf : (⟨S3x4096x8x7168, .f32⟩ : BufTy).Contents (Elt F) → (⟨S3x4096x8x7168, .f32⟩ : BufTy).Contents (Elt F) → (⟨S3x4096x8x7168, .f32⟩ : BufTy).Contents (Elt F)),
    TRef.unary (TRef.of (T := ⟨S3x4096x8x7168, .f32⟩) main_v31) (TRef.of (T := ⟨S3x4096x8x7168, .f32⟩) main_v32) Host.roundeven,
    nullary main_cst_6 (constant S_ .f32 0xC0E00000#32),
    nullary main_cst_7 (constant S_ .f32 0x40E00000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S3x4096x8x7168, .f32⟩) main_call2_v1) (broadcastInDim S3x4096x8x7168 ![] bcast_S_S3x4096x8x7168),
    TRef.binary (TRef.of (T := ⟨S3x4096x8x7168, .f32⟩) main_call2_v1) (TRef.of (T := ⟨S3x4096x8x7168, .f32⟩) main_v32) (TRef.of (T := ⟨S3x4096x8x7168, .f32⟩) main_call2_v2) maximumf,
    TRef.unary (TRef.of (T := ⟨S_, .f32⟩) main_cst_7) (TRef.of (T := ⟨S_, .f32⟩) main_call2_v3) id,
    TRef.unary (TRef.of (T := ⟨S_, .f32⟩) main_call2_v3) (TRef.of (T := ⟨S3x4096x8x7168, .f32⟩) main_call2_v4) (broadcastInDim S3x4096x8x7168 ![] bcast_S_S3x4096x8x7168),
    TRef.binary (TRef.of (T := ⟨S3x4096x8x7168, .f32⟩) main_call2_v4) (TRef.of (T := ⟨S3x4096x8x7168, .f32⟩) main_call2_v2) (TRef.of (T := ⟨S3x4096x8x7168, .f32⟩) main_v33) minimumf,
    unary main_v33 main_v34 (fptosi 32 : (⟨S3x4096x8x7168, .f32⟩ : BufTy).Contents (Elt F) → (⟨S3x4096x8x7168, .i32⟩ : BufTy).Contents (Elt F)),
    unary main_v12 main_v35 (broadcastInDim S3x4096x1x7168 ![0, 1, 3] bcast_S3x4096x7168_S3x4096x1x7168_0_1_3 : (⟨S3x4096x7168, .f32⟩ : BufTy).Contents (Elt F) → (⟨S3x4096x1x7168, .f32⟩ : BufTy).Contents (Elt F)),
    unary main_v34 main_v36 (sitofp .f32 : (⟨S3x4096x8x7168, .i32⟩ : BufTy).Contents (Elt F) → (⟨S3x4096x8x7168, .f32⟩ : BufTy).Contents (Elt F)),
    unary main_v26 main_v37 (broadcastInDim S3x4096x8x1 ![0, 1, 2] bcast_S3x4096x8_S3x4096x8x1_0_1_2 : (⟨S3x4096x8, .f32⟩ : BufTy).Contents (Elt F) → (⟨S3x4096x8x1, .f32⟩ : BufTy).Contents (Elt F)),
    unary main_v37 main_v38 (broadcastInDim S3x4096x8x7168 ![0, 1, 2, 3] bcast_S3x4096x8x1_S3x4096x8x7168_0_1_2_3 : (⟨S3x4096x8x1, .f32⟩ : BufTy).Contents (Elt F) → (⟨S3x4096x8x7168, .f32⟩ : BufTy).Contents (Elt F)),
    binary main_v36 main_v38 main_v39 (mulf : (⟨S3x4096x8x7168, .f32⟩ : BufTy).Contents (Elt F) → (⟨S3x4096x8x7168, .f32⟩ : BufTy).Contents (Elt F) → (⟨S3x4096x8x7168, .f32⟩ : BufTy).Contents (Elt F)),
    unary main_v35 main_v40 (broadcastInDim S3x4096x8x7168 ![0, 1, 2, 3] bcast_S3x4096x1x7168_S3x4096x8x7168_0_1_2_3 : (⟨S3x4096x1x7168, .f32⟩ : BufTy).Contents (Elt F) → (⟨S3x4096x8x7168, .f32⟩ : BufTy).Contents (Elt F)),
    binary main_v40 main_v39 main_v41 (subf : (⟨S3x4096x8x7168, .f32⟩ : BufTy).Contents (Elt F) → (⟨S3x4096x8x7168, .f32⟩ : BufTy).Contents (Elt F) → (⟨S3x4096x8x7168, .f32⟩ : BufTy).Contents (Elt F)),
    binary main_v41 main_v41 main_v42 (mulf : (⟨S3x4096x8x7168, .f32⟩ : BufTy).Contents (Elt F) → (⟨S3x4096x8x7168, .f32⟩ : BufTy).Contents (Elt F) → (⟨S3x4096x8x7168, .f32⟩ : BufTy).Contents (Elt F)) ]

abbrev seg7 : List (HloOp τ sig (Elt F)) :=
  [ nullary main_cst_8 (constant S_ .f32 0x00000000#32),
    binary main_v42 main_cst_8 main_v43 ((fun x v => Host.reduceAdd x v reducesTo_S3x4096x8x7168_S3x4096x8_d3 h_S_) : (⟨S3x4096x8x7168, .f32⟩ : BufTy).Contents (Elt F) → (⟨S_, .f32⟩ : BufTy).Contents (Elt F) → (⟨S3x4096x8, .f32⟩ : BufTy).Contents (Elt F)) ]

abbrev seg8 : List (HloOp τ sig (Elt F)) :=
  [ unary main_arg3 main_v44 (broadcastInDim S3x4096x1 ![0, 1] bcast_S3x4096_S3x4096x1_0_1 : (⟨S3x4096, .i32⟩ : BufTy).Contents (Elt F) → (⟨S3x4096x1, .i32⟩ : BufTy).Contents (Elt F)),
    nullary main_v45 (iotaInDim S8 32 0),
    unary main_v45 main_v46 (broadcastInDim S1x1x8 ![2] bcast_S8_S1x1x8_2 : (⟨S8, .i32⟩ : BufTy).Contents (Elt F) → (⟨S1x1x8, .i32⟩ : BufTy).Contents (Elt F)),
    unary main_v44 main_v47 (broadcastInDim S3x4096x8 ![0, 1, 2] bcast_S3x4096x1_S3x4096x8_0_1_2 : (⟨S3x4096x1, .i32⟩ : BufTy).Contents (Elt F) → (⟨S3x4096x8, .i32⟩ : BufTy).Contents (Elt F)),
    unary main_v46 main_v48 (broadcastInDim S3x4096x8 ![0, 1, 2] bcast_S1x1x8_S3x4096x8_0_1_2 : (⟨S1x1x8, .i32⟩ : BufTy).Contents (Elt F) → (⟨S3x4096x8, .i32⟩ : BufTy).Contents (Elt F)),
    binary main_v47 main_v48 main_v49 (cmpi .eq : (⟨S3x4096x8, .i32⟩ : BufTy).Contents (Elt F) → (⟨S3x4096x8, .i32⟩ : BufTy).Contents (Elt F) → (⟨S3x4096x8, .i1⟩ : BufTy).Contents (Elt F)),
    nullary main_cst_9 (constant S_ .f32 0x00000000#32),
    TRef.unary (TRef.of (T := ⟨S8, .f32⟩) main_cst) (TRef.of (T := ⟨S3x4096x8, .f32⟩) main_call3_v0) (broadcastInDim S3x4096x8 ![2] bcast_S8_S3x4096x8_2),
    TRef.unary (TRef.of (T := ⟨S_, .f32⟩) main_cst_9) (TRef.of (T := ⟨S3x4096x8, .f32⟩) main_call3_v1) (broadcastInDim S3x4096x8 ![] bcast_S_S3x4096x8),
    TRef.ternary (TRef.of (T := ⟨S3x4096x8, .i1⟩) main_v49) (TRef.of (T := ⟨S3x4096x8, .f32⟩) main_call3_v0) (TRef.of (T := ⟨S3x4096x8, .f32⟩) main_call3_v1) (TRef.of (T := ⟨S3x4096x8, .f32⟩) main_v50) select ]

abbrev seg9 : List (HloOp τ sig (Elt F)) :=
  [ nullary main_cst_10 (constant S_ .f32 0x00000000#32),
    binary main_v50 main_cst_10 main_v51 ((fun x v => Host.reduceAdd x v reducesTo_S3x4096x8_S3x4096_d2 h_S_) : (⟨S3x4096x8, .f32⟩ : BufTy).Contents (Elt F) → (⟨S_, .f32⟩ : BufTy).Contents (Elt F) → (⟨S3x4096, .f32⟩ : BufTy).Contents (Elt F)) ]

abbrev seg10 : List (HloOp τ sig (Elt F)) :=
  [ nullary main_cst_11 (constant S_ .f32 0x00000000#32),
    unary main_cst_11 main_v52 (broadcastInDim S3x4096 ![] bcast_S_S3x4096 : (⟨S_, .f32⟩ : BufTy).Contents (Elt F) → (⟨S3x4096, .f32⟩ : BufTy).Contents (Elt F)),
    binary main_v14 main_v52 main_v53 (cmpf .oeq : (⟨S3x4096, .f32⟩ : BufTy).Contents (Elt F) → (⟨S3x4096, .f32⟩ : BufTy).Contents (Elt F) → (⟨S3x4096, .i1⟩ : BufTy).Contents (Elt F)),
    binary main_v51 main_v14 main_v54 (mulf : (⟨S3x4096, .f32⟩ : BufTy).Contents (Elt F) → (⟨S3x4096, .f32⟩ : BufTy).Contents (Elt F) → (⟨S3x4096, .f32⟩ : BufTy).Contents (Elt F)),
    nullary main_cst_12 (constant S_ .f32 0x3F800800#32),
    unary main_cst_12 main_v55 (broadcastInDim S3x4096 ![] bcast_S_S3x4096 : (⟨S_, .f32⟩ : BufTy).Contents (Elt F) → (⟨S3x4096, .f32⟩ : BufTy).Contents (Elt F)),
    binary main_v54 main_v55 main_v56 (mulf : (⟨S3x4096, .f32⟩ : BufTy).Contents (Elt F) → (⟨S3x4096, .f32⟩ : BufTy).Contents (Elt F) → (⟨S3x4096, .f32⟩ : BufTy).Contents (Elt F)),
    nullary main_cst_13 (constant S_ .f32 0x40E00000#32),
    unary main_cst_13 main_v57 (broadcastInDim S3x4096 ![] bcast_S_S3x4096 : (⟨S_, .f32⟩ : BufTy).Contents (Elt F) → (⟨S3x4096, .f32⟩ : BufTy).Contents (Elt F)),
    binary main_v56 main_v57 main_v58 (Host.divf : (⟨S3x4096, .f32⟩ : BufTy).Contents (Elt F) → (⟨S3x4096, .f32⟩ : BufTy).Contents (Elt F) → (⟨S3x4096, .f32⟩ : BufTy).Contents (Elt F)),
    nullary main_cst_14 (constant S_ .f32 0x3F800000#32),
    TRef.unary (TRef.of (T := ⟨S_, .f32⟩) main_cst_14) (TRef.of (T := ⟨S3x4096, .f32⟩) main_call4_v0) (broadcastInDim S3x4096 ![] bcast_S_S3x4096),
    TRef.ternary (TRef.of (T := ⟨S3x4096, .i1⟩) main_v53) (TRef.of (T := ⟨S3x4096, .f32⟩) main_call4_v0) (TRef.of (T := ⟨S3x4096, .f32⟩) main_v58) (TRef.of (T := ⟨S3x4096, .f32⟩) main_v59) select ]

abbrev seg11 : List (HloOp τ sig (Elt F)) :=
  [ unary main_v59 main_v60 (broadcastInDim S3x4096x1 ![0, 1] bcast_S3x4096_S3x4096x1_0_1 : (⟨S3x4096, .f32⟩ : BufTy).Contents (Elt F) → (⟨S3x4096x1, .f32⟩ : BufTy).Contents (Elt F)),
    unary main_v60 main_v61 (broadcastInDim S3x4096x7168 ![0, 1, 2] bcast_S3x4096x1_S3x4096x7168_0_1_2 : (⟨S3x4096x1, .f32⟩ : BufTy).Contents (Elt F) → (⟨S3x4096x7168, .f32⟩ : BufTy).Contents (Elt F)),
    binary main_v12 main_v61 main_v62 (Host.divf : (⟨S3x4096x7168, .f32⟩ : BufTy).Contents (Elt F) → (⟨S3x4096x7168, .f32⟩ : BufTy).Contents (Elt F) → (⟨S3x4096x7168, .f32⟩ : BufTy).Contents (Elt F)),
    TRef.unary (TRef.of (T := ⟨S3x4096x7168, .f32⟩) main_v62) (TRef.of (T := ⟨S3x4096x7168, .f32⟩) main_v63) Host.roundeven,
    nullary main_cst_15 (constant S_ .f32 0xC0E00000#32),
    nullary main_cst_16 (constant S_ .f32 0x40E00000#32),
    TRef.unary (TRef.of (T := ⟨S_, .f32⟩) main_cst_15) (TRef.of (T := ⟨S_, .f32⟩) main_call6_v0) id,
    TRef.unary (TRef.of (T := ⟨S_, .f32⟩) main_call6_v0) (TRef.of (T := ⟨S3x4096x7168, .f32⟩) main_call6_v1) (broadcastInDim S3x4096x7168 ![] bcast_S_S3x4096x7168),
    TRef.binary (TRef.of (T := ⟨S3x4096x7168, .f32⟩) main_call6_v1) (TRef.of (T := ⟨S3x4096x7168, .f32⟩) main_v63) (TRef.of (T := ⟨S3x4096x7168, .f32⟩) main_call6_v2) maximumf,
    TRef.unary (TRef.of (T := ⟨S_, .f32⟩) main_cst_16) (TRef.of (T := ⟨S_, .f32⟩) main_call6_v3) id,
    TRef.unary (TRef.of (T := ⟨S_, .f32⟩) main_call6_v3) (TRef.of (T := ⟨S3x4096x7168, .f32⟩) main_call6_v4) (broadcastInDim S3x4096x7168 ![] bcast_S_S3x4096x7168),
    TRef.binary (TRef.of (T := ⟨S3x4096x7168, .f32⟩) main_call6_v4) (TRef.of (T := ⟨S3x4096x7168, .f32⟩) main_call6_v2) (TRef.of (T := ⟨S3x4096x7168, .f32⟩) main_v64) minimumf ]

abbrev seg12 : List (HloOp τ sig (Elt F)) :=
  [ unary main_v64 main_v65 (fptosi 32 : (⟨S3x4096x7168, .f32⟩ : BufTy).Contents (Elt F) → (⟨S3x4096x7168, .i32⟩ : BufTy).Contents (Elt F)),
    nullary main_c (constantI S_ 32 15#32),
    unary main_c main_v66 (broadcastInDim S3x4096x7168 ![] bcast_S_S3x4096x7168 : (⟨S_, .i32⟩ : BufTy).Contents (Elt F) → (⟨S3x4096x7168, .i32⟩ : BufTy).Contents (Elt F)),
    binary main_v65 main_v66 main_v67 (andi : (⟨S3x4096x7168, .i32⟩ : BufTy).Contents (Elt F) → (⟨S3x4096x7168, .i32⟩ : BufTy).Contents (Elt F) → (⟨S3x4096x7168, .i32⟩ : BufTy).Contents (Elt F)),
    unary main_v67 main_v68 (id : (⟨S3x4096x7168, .i32⟩ : BufTy).Contents (Elt F) → (⟨S3x4096x7168, .i32⟩ : BufTy).Contents (Elt F)),
    reshape main_v68 main_v69 (rfl : (.i32 : EltTy) = .i32) shapeCasts_S3x4096x7168_S3x4096x896x8,
    nullary main_v70 (iotaInDim S8 32 0),
    nullary main_c_17 (constantI S_ 32 4#32),
    unary main_c_17 main_v71 (broadcastInDim S8 ![] bcast_S_S8 : (⟨S_, .i32⟩ : BufTy).Contents (Elt F) → (⟨S8, .i32⟩ : BufTy).Contents (Elt F)),
    binary main_v71 main_v70 main_v72 (muli : (⟨S8, .i32⟩ : BufTy).Contents (Elt F) → (⟨S8, .i32⟩ : BufTy).Contents (Elt F) → (⟨S8, .i32⟩ : BufTy).Contents (Elt F)),
    unary main_v72 main_v73 (broadcastInDim S1x1x1x8 ![3] bcast_S8_S1x1x1x8_3 : (⟨S8, .i32⟩ : BufTy).Contents (Elt F) → (⟨S1x1x1x8, .i32⟩ : BufTy).Contents (Elt F)),
    unary main_v73 main_v74 (broadcastInDim S3x4096x896x8 ![0, 1, 2, 3] bcast_S1x1x1x8_S3x4096x896x8_0_1_2_3 : (⟨S1x1x1x8, .i32⟩ : BufTy).Contents (Elt F) → (⟨S3x4096x896x8, .i32⟩ : BufTy).Contents (Elt F)),
    binary main_v69 main_v74 main_v75 (Host.shli : (⟨S3x4096x896x8, .i32⟩ : BufTy).Contents (Elt F) → (⟨S3x4096x896x8, .i32⟩ : BufTy).Contents (Elt F) → (⟨S3x4096x896x8, .i32⟩ : BufTy).Contents (Elt F)) ]

abbrev seg13 : List (HloOp τ sig (Elt F)) :=
  [ nullary main_c_18 (constantI S_ 32 0#32),
    binary main_v75 main_c_18 main_v76 ((fun x v => Host.reduce IntOp.addi x v reducesTo_S3x4096x896x8_S3x4096x896_d3 h_S_) : (⟨S3x4096x896x8, .i32⟩ : BufTy).Contents (Elt F) → (⟨S_, .i32⟩ : BufTy).Contents (Elt F) → (⟨S3x4096x896, .i32⟩ : BufTy).Contents (Elt F)) ]

end

/-- The lines after the table of ratios. -/
abbrev tail : List (HloOp τ sig (Elt Ideal)) := seg1 ++ (seg2 ++ (seg3 ++ (seg4 ++ (seg5 ++ (seg6 ++ (seg7 ++ (seg8 ++ (seg9 ++ (seg10 ++ (seg11 ++ (seg12 ++ (seg13))))))))))))

set_option maxRecDepth 8000 in
theorem ops_eq : (Cert.DownReferenceIdeal.Value.ops : List (HloOp τ sig (Elt Ideal))) = seg0 ++ tail := rfl

theorem after_app (l₁ l₂ : List (HloOp τ sig (Elt Ideal))) (V : Valuation τ sig (Elt Ideal)) : StableHlo.after (l₁ ++ l₂) V = StableHlo.after l₂ (StableHlo.after l₁ V) := by
  induction l₁ generalizing V with
  | nil => rfl
  | cons o l ih => simp only [List.cons_append, StableHlo.after_cons, ih]

/-! The operations that combine many elements, at an index. -/

theorem dg1 (X : FVec Ideal S3x4096x28x256 .bf16) (Y : FVec Ideal S256x256 .bf16) (n : Fin 3) (r : Fin 4096) (a : Fin 28) (j : Fin 256) :
    (Host.dotGeneral dot_S3x4096x28x256_S256x256_S3x4096x28x256_3_0_012_1_n_n none X Y : FVec Ideal S3x4096x28x256 .f32) (ix4 n r a j) = ∑ k : Fin 256, (X (ix4 n r a k) * Y (ix2 k j) : EReal) := by
  pointwise
theorem dg2 (X : FVec Ideal S28x28 .f32) (Y : FVec Ideal S3x4096x28x256 .f32) (i : Fin 28) (n : Fin 3) (r : Fin 4096) (j : Fin 256) :
    (Host.dotGeneral dot_S28x28_S3x4096x28x256_S28x3x4096x256_0_2_1_013_n_n (some ContractPrecision.fp32) X Y : FVec Ideal S28x3x4096x256 .f32) (ix4 i n r j) = ∑ k : Fin 28, (X (ix2 k i) * Y (ix4 n r k j) : EReal) := by
  pointwise
theorem rmax (X : FVec Ideal S3x4096x7168 .f32) (n : Fin 3) (r : Fin 4096) :
    Host.reduce (FloatOps.maximumf (F := Ideal) (φ := .f32)) X (constant (F := Ideal) S_ FTy.f32 4286578688#32) reducesTo_S3x4096x7168_S3x4096_d2 h_S_ (ix2 n r)
      = (Finset.univ : Finset (Fin 7168)).fold max (Ideal.ofBits FTy.f32 4286578688#32) fun k => X (ix3 n r k) := by
  rw [Host.reduce_eq_fold]
  exact Shape.ReducesTo.fold_fiber_r3_a2 (n0 := 3) (n1 := 4096) (n2 := 7168) reducesTo_S3x4096x7168_S3x4096_d2 (ix2 n r) max _ X
theorem radd1 (X : FVec Ideal S3x4096x8x7168 .f32) (n : Fin 3) (r : Fin 4096) (k : Fin 8) :
    Host.reduceAdd (F := Ideal) X (constant (F := Ideal) S_ FTy.f32 0#32) reducesTo_S3x4096x8x7168_S3x4096x8_d3 h_S_ (ix3 n r k) = ∑ c : Fin 7168, (X (ix4 n r k c) : EReal) := by
  refine (Ideal.hostReduceAdd_r4_a3 (n0 := 3) (n1 := 4096) (n2 := 8) (n3 := 7168) reducesTo_S3x4096x8x7168_S3x4096x8_d3 X (Ideal.ofBits .f32 0#32) (ix3 n r k)).trans ?_
  rw [Ideal.ofBits_zero_f32, zero_add]; rfl
theorem radd2 (X : FVec Ideal S3x4096x8 .f32) (n : Fin 3) (r : Fin 4096) :
    Host.reduceAdd (F := Ideal) X (constant (F := Ideal) S_ FTy.f32 0#32) reducesTo_S3x4096x8_S3x4096_d2 h_S_ (ix2 n r) = ∑ k : Fin 8, (X (ix3 n r k) : EReal) := by
  refine (Ideal.hostReduceAdd_r3_a2 (n0 := 3) (n1 := 4096) (n2 := 8) reducesTo_S3x4096x8_S3x4096_d2 X (Ideal.ofBits .f32 0#32) (ix2 n r)).trans ?_
  rw [Ideal.ofBits_zero_f32, zero_add]; rfl
theorem rint (X : IVec S3x4096x896x8 32) (n : Fin 3) (r : Fin 4096) (q : Fin 896) :
    Host.reduce IntOp.addi X (constantI S_ 32 0#32) reducesTo_S3x4096x896x8_S3x4096x896_d3 h_S_ (ix3 n r q) = (Finset.univ : Finset (Fin 8)).fold IntOp.addi 0#32 fun k => X (ix4 n r q k) := by
  rw [Host.reduce_eq_fold]
  exact Shape.ReducesTo.fold_fiber_r4_a3 (n0 := 3) (n1 := 4096) (n2 := 896) (n3 := 8) reducesTo_S3x4096x896x8_S3x4096x896_d3 (ix3 n r q) IntOp.addi _ X

theorem drop_eq (n : Fin 3) (a : Fin 2048) (b : Fin 7168) (e : Fin 2) : splits_S3x2048x7168_w32_S3x2048x7168x2_w16.drop (ix4 n a b e) = ix3 n a b := by
  funext k
  apply Fin.ext
  rw [Shape.SplitsWords.drop_apply_val]
  fin_cases k <;> rfl

/-! Each segment, at an index, from any contents. -/

variable (W : Valuation τ sig (Elt Ideal))

/-- Contents read as extended reals. -/
abbrev eW (S : Shape) (x : S.Idx → EReal) : S.Idx → EReal := x
/-- Contents read as words. -/
abbrev bW (S : Shape) (x : S.Idx → BitVec 32) : S.Idx → BitVec 32 := x

theorem z3 (n : Fin 3) (r : Fin 4096) (a : Fin 28) (b : Fin 256) : (eW S3x4096x28x256 (StableHlo.after seg1 W (Proc.devRef .tc main_v3))) (ix4 n r a b)
    = Ideal.ofBits .bf16 (((bW S3x2048x7168 (W (Proc.devRef .tc main_arg0))) (ix3 n ⟨r.val / 2, by omega⟩ ⟨a.val * 256 + b.val, by omega⟩)).extractLsb' (r.val % 2 * 16) 16) := by
  unfold seg1; after_reads_at
  exact congrArg (fun z => Ideal.ofBits .bf16 (((bW S3x2048x7168 (W (Proc.devRef .tc main_arg0))) z).extractLsb' (r.val % 2 * 16) 16)) (drop_eq _ _ _ _)
theorem z4 (n : Fin 3) (r : Fin 4096) (a : Fin 28) (j : Fin 256) : (eW S3x4096x28x256 (StableHlo.after seg2 W (Proc.devRef .tc main_v4))) (ix4 n r a j)
    = ∑ k : Fin 256, (eW S3x4096x28x256 (W (Proc.devRef .tc main_v3))) (ix4 n r a k) * (eW S256x256 (W (Proc.devRef .tc main_arg1))) (ix2 k j) := by
  unfold seg2; after_reads_at; all_goals try exact dg1 _ _ n r a j
theorem z12 (n : Fin 3) (r : Fin 4096) (C : Fin 7168) : (eW S3x4096x7168 (StableHlo.after seg3 W (Proc.devRef .tc main_v12))) (ix3 n r C)
    = (∑ k : Fin 28, (eW S28x28 (W (Proc.devRef .tc main_arg2))) (ix2 k ⟨C.val / 256, by omega⟩) * (eW S3x4096x28x256 (W (Proc.devRef .tc main_v4))) (ix4 n r k ⟨C.val % 256, by omega⟩)) * Ideal.ofBits FTy.f32 1010926735#32 := by
  unfold seg3; after_reads_at; all_goals try exact congrArg (· * Ideal.ofBits FTy.f32 1010926735#32) (dg2 _ _ _ n r _)
theorem z14 (n : Fin 3) (r : Fin 4096) : (eW S3x4096 (StableHlo.after seg4 W (Proc.devRef .tc main_v14))) (ix2 n r)
    = (Finset.univ : Finset (Fin 7168)).fold max (Ideal.ofBits FTy.f32 4286578688#32) fun k => (fun x : EReal => max x (-x)) ((eW S3x4096x7168 (W (Proc.devRef .tc main_v12))) (ix3 n r k)) := by
  unfold seg4; after_reads_at; exact congrArg (fun f => Finset.fold max (Ideal.ofBits FTy.f32 4286578688#32) f (Finset.univ : Finset (Fin 7168))) (funext fun x => rfl)
theorem z26 (n : Fin 3) (r : Fin 4096) (k : Fin 8) : (eW S3x4096x8 (StableHlo.after seg5 W (Proc.devRef .tc main_v26))) (ix3 n r k)
    = rsc ((eW S3x4096 (W (Proc.devRef .tc main_v14))) (ix2 n r)) ((eW S8 (W (Proc.devRef .tc main_cst))) (ix1 k)) := by
  unfold rsc; rw [← Ideal.ofBits_zero_f32, ← Ideal.ofBits_one_f32]
  unfold seg5; after_reads_at; all_goals try rfl
theorem z42 (n : Fin 3) (r : Fin 4096) (k : Fin 8) (C : Fin 7168) : (eW S3x4096x8x7168 (StableHlo.after seg6 W (Proc.devRef .tc main_v42))) (ix4 n r k C)
    = ((eW S3x4096x7168 (W (Proc.devRef .tc main_v12))) (ix3 n r C) - (((Ideal.fptosi 32 (rq ((eW S3x4096x7168 (W (Proc.devRef .tc main_v12))) (ix3 n r C)) ((eW S3x4096x8 (W (Proc.devRef .tc main_v26))) (ix3 n r k)))).toInt : ℝ) : EReal) * (eW S3x4096x8 (W (Proc.devRef .tc main_v26))) (ix3 n r k))
      * ((eW S3x4096x7168 (W (Proc.devRef .tc main_v12))) (ix3 n r C) - (((Ideal.fptosi 32 (rq ((eW S3x4096x7168 (W (Proc.devRef .tc main_v12))) (ix3 n r C)) ((eW S3x4096x8 (W (Proc.devRef .tc main_v26))) (ix3 n r k)))).toInt : ℝ) : EReal) * (eW S3x4096x8 (W (Proc.devRef .tc main_v26))) (ix3 n r k)) := by
  unfold seg6; after_reads_at; all_goals try rfl
theorem z43 (n : Fin 3) (r : Fin 4096) (k : Fin 8) : (eW S3x4096x8 (StableHlo.after seg7 W (Proc.devRef .tc main_v43))) (ix3 n r k)
    = ∑ c : Fin 7168, (eW S3x4096x8x7168 (W (Proc.devRef .tc main_v42))) (ix4 n r k c) := by
  unfold seg7; after_reads_at; all_goals try exact radd1 _ n r k
theorem z50 (n : Fin 3) (r : Fin 4096) (k : Fin 8) : (eW S3x4096x8 (StableHlo.after seg8 W (Proc.devRef .tc main_v50))) (ix3 n r k)
    = Scalar.select (IntOp.cmpi CmpIPredicate.eq ((bW S3x4096 (W (Proc.devRef .tc main_arg3))) (ix2 n r)) (BitVec.ofNat 32 k.val)) ((eW S8 (W (Proc.devRef .tc main_cst))) (ix1 k)) (0 : EReal) := by
  rw [← Ideal.ofBits_zero_f32]; unfold seg8; after_reads_at; all_goals try rfl
theorem z51 (n : Fin 3) (r : Fin 4096) : (eW S3x4096 (StableHlo.after seg9 W (Proc.devRef .tc main_v51))) (ix2 n r)
    = ∑ k : Fin 8, (eW S3x4096x8 (W (Proc.devRef .tc main_v50))) (ix3 n r k) := by
  unfold seg9; after_reads_at; all_goals try exact radd2 _ n r
theorem z59 (n : Fin 3) (r : Fin 4096) : (eW S3x4096 (StableHlo.after seg10 W (Proc.devRef .tc main_v59))) (ix2 n r)
    = rsc ((eW S3x4096 (W (Proc.devRef .tc main_v14))) (ix2 n r)) ((eW S3x4096 (W (Proc.devRef .tc main_v51))) (ix2 n r)) := by
  unfold rsc; rw [← Ideal.ofBits_zero_f32, ← Ideal.ofBits_one_f32]
  unfold seg10; after_reads_at; all_goals try rfl
theorem z64 (n : Fin 3) (r : Fin 4096) (C : Fin 7168) : (eW S3x4096x7168 (StableHlo.after seg11 W (Proc.devRef .tc main_v64))) (ix3 n r C)
    = rq ((eW S3x4096x7168 (W (Proc.devRef .tc main_v12))) (ix3 n r C)) ((eW S3x4096 (W (Proc.devRef .tc main_v59))) (ix2 n r)) := by
  unfold seg11; after_reads_at; all_goals try rfl
theorem z75 (n : Fin 3) (r : Fin 4096) (q : Fin 896) (k : Fin 8) : (bW S3x4096x896x8 (StableHlo.after seg12 W (Proc.devRef .tc main_v75))) (ix4 n r q k)
    = IntOp.shli ArithUnit.host (IntOp.andi (Ideal.fptosi 32 ((eW S3x4096x7168 (W (Proc.devRef .tc main_v64))) (ix3 n r ⟨q.val * 8 + k.val, by omega⟩))) 15#32) (IntOp.muli 4#32 (BitVec.ofNat 32 k.val)) := by
  unfold seg12; after_reads_at; all_goals try rfl
theorem z76 (n : Fin 3) (r : Fin 4096) (q : Fin 896) : (bW S3x4096x896 (StableHlo.after seg13 W (Proc.devRef .tc main_v76))) (ix3 n r q)
    = (Finset.univ : Finset (Fin 8)).fold IntOp.addi 0#32 fun k => (bW S3x4096x896x8 (W (Proc.devRef .tc main_v75))) (ix4 n r q k) := by
  unfold seg13; after_reads_at; all_goals try exact rint _ n r q
theorem kp1_arg1 : StableHlo.after seg1 W (Proc.devRef .tc main_arg1) = W (Proc.devRef .tc main_arg1) := by
  unfold seg1; after_reads_simp
theorem kp1_arg2 : StableHlo.after seg1 W (Proc.devRef .tc main_arg2) = W (Proc.devRef .tc main_arg2) := by
  unfold seg1; after_reads_simp
theorem kp2_arg2 : StableHlo.after seg2 W (Proc.devRef .tc main_arg2) = W (Proc.devRef .tc main_arg2) := by
  unfold seg2; after_reads_simp
theorem kp4_v12 : StableHlo.after seg4 W (Proc.devRef .tc main_v12) = W (Proc.devRef .tc main_v12) := by
  unfold seg4; after_reads_simp
theorem kp5_v12 : StableHlo.after seg5 W (Proc.devRef .tc main_v12) = W (Proc.devRef .tc main_v12) := by
  unfold seg5; after_reads_simp
theorem kp6_v12 : StableHlo.after seg6 W (Proc.devRef .tc main_v12) = W (Proc.devRef .tc main_v12) := by
  unfold seg6; after_reads_simp
theorem kp7_v12 : StableHlo.after seg7 W (Proc.devRef .tc main_v12) = W (Proc.devRef .tc main_v12) := by
  unfold seg7; after_reads_simp
theorem kp8_v12 : StableHlo.after seg8 W (Proc.devRef .tc main_v12) = W (Proc.devRef .tc main_v12) := by
  unfold seg8; after_reads_simp
theorem kp9_v12 : StableHlo.after seg9 W (Proc.devRef .tc main_v12) = W (Proc.devRef .tc main_v12) := by
  unfold seg9; after_reads_simp
theorem kp10_v12 : StableHlo.after seg10 W (Proc.devRef .tc main_v12) = W (Proc.devRef .tc main_v12) := by
  unfold seg10; after_reads_simp
theorem kp5_v14 : StableHlo.after seg5 W (Proc.devRef .tc main_v14) = W (Proc.devRef .tc main_v14) := by
  unfold seg5; after_reads_simp
theorem kp6_v14 : StableHlo.after seg6 W (Proc.devRef .tc main_v14) = W (Proc.devRef .tc main_v14) := by
  unfold seg6; after_reads_simp
theorem kp7_v14 : StableHlo.after seg7 W (Proc.devRef .tc main_v14) = W (Proc.devRef .tc main_v14) := by
  unfold seg7; after_reads_simp
theorem kp8_v14 : StableHlo.after seg8 W (Proc.devRef .tc main_v14) = W (Proc.devRef .tc main_v14) := by
  unfold seg8; after_reads_simp
theorem kp9_v14 : StableHlo.after seg9 W (Proc.devRef .tc main_v14) = W (Proc.devRef .tc main_v14) := by
  unfold seg9; after_reads_simp
theorem kp1_cst : StableHlo.after seg1 W (Proc.devRef .tc main_cst) = W (Proc.devRef .tc main_cst) := by
  unfold seg1; after_reads_simp
theorem kp2_cst : StableHlo.after seg2 W (Proc.devRef .tc main_cst) = W (Proc.devRef .tc main_cst) := by
  unfold seg2; after_reads_simp
theorem kp3_cst : StableHlo.after seg3 W (Proc.devRef .tc main_cst) = W (Proc.devRef .tc main_cst) := by
  unfold seg3; after_reads_simp
theorem kp4_cst : StableHlo.after seg4 W (Proc.devRef .tc main_cst) = W (Proc.devRef .tc main_cst) := by
  unfold seg4; after_reads_simp
theorem kp5_cst : StableHlo.after seg5 W (Proc.devRef .tc main_cst) = W (Proc.devRef .tc main_cst) := by
  unfold seg5; after_reads_simp
theorem kp6_cst : StableHlo.after seg6 W (Proc.devRef .tc main_cst) = W (Proc.devRef .tc main_cst) := by
  unfold seg6; after_reads_simp
theorem kp7_cst : StableHlo.after seg7 W (Proc.devRef .tc main_cst) = W (Proc.devRef .tc main_cst) := by
  unfold seg7; after_reads_simp
theorem kp1_arg3 : StableHlo.after seg1 W (Proc.devRef .tc main_arg3) = W (Proc.devRef .tc main_arg3) := by
  unfold seg1; after_reads_simp
theorem kp2_arg3 : StableHlo.after seg2 W (Proc.devRef .tc main_arg3) = W (Proc.devRef .tc main_arg3) := by
  unfold seg2; after_reads_simp
theorem kp3_arg3 : StableHlo.after seg3 W (Proc.devRef .tc main_arg3) = W (Proc.devRef .tc main_arg3) := by
  unfold seg3; after_reads_simp
theorem kp4_arg3 : StableHlo.after seg4 W (Proc.devRef .tc main_arg3) = W (Proc.devRef .tc main_arg3) := by
  unfold seg4; after_reads_simp
theorem kp5_arg3 : StableHlo.after seg5 W (Proc.devRef .tc main_arg3) = W (Proc.devRef .tc main_arg3) := by
  unfold seg5; after_reads_simp
theorem kp6_arg3 : StableHlo.after seg6 W (Proc.devRef .tc main_arg3) = W (Proc.devRef .tc main_arg3) := by
  unfold seg6; after_reads_simp
theorem kp7_arg3 : StableHlo.after seg7 W (Proc.devRef .tc main_arg3) = W (Proc.devRef .tc main_arg3) := by
  unfold seg7; after_reads_simp
theorem kp8_v43 : StableHlo.after seg8 W (Proc.devRef .tc main_v43) = W (Proc.devRef .tc main_v43) := by
  unfold seg8; after_reads_simp
theorem kp9_v43 : StableHlo.after seg9 W (Proc.devRef .tc main_v43) = W (Proc.devRef .tc main_v43) := by
  unfold seg9; after_reads_simp
theorem kp10_v43 : StableHlo.after seg10 W (Proc.devRef .tc main_v43) = W (Proc.devRef .tc main_v43) := by
  unfold seg10; after_reads_simp
theorem kp11_v43 : StableHlo.after seg11 W (Proc.devRef .tc main_v43) = W (Proc.devRef .tc main_v43) := by
  unfold seg11; after_reads_simp
theorem kp12_v43 : StableHlo.after seg12 W (Proc.devRef .tc main_v43) = W (Proc.devRef .tc main_v43) := by
  unfold seg12; after_reads_simp
theorem kp13_v43 : StableHlo.after seg13 W (Proc.devRef .tc main_v43) = W (Proc.devRef .tc main_v43) := by
  unfold seg13; after_reads_simp
theorem kp11_v59 : StableHlo.after seg11 W (Proc.devRef .tc main_v59) = W (Proc.devRef .tc main_v59) := by
  unfold seg11; after_reads_simp
theorem kp12_v59 : StableHlo.after seg12 W (Proc.devRef .tc main_v59) = W (Proc.devRef .tc main_v59) := by
  unfold seg12; after_reads_simp
theorem kp13_v59 : StableHlo.after seg13 W (Proc.devRef .tc main_v59) = W (Proc.devRef .tc main_v59) := by
  unfold seg13; after_reads_simp
def val1 : Valuation τ sig (Elt Ideal) := StableHlo.after seg1 W
def val2 : Valuation τ sig (Elt Ideal) := StableHlo.after seg2 (val1 W)
def val3 : Valuation τ sig (Elt Ideal) := StableHlo.after seg3 (val2 W)
def val4 : Valuation τ sig (Elt Ideal) := StableHlo.after seg4 (val3 W)
def val5 : Valuation τ sig (Elt Ideal) := StableHlo.after seg5 (val4 W)
def val6 : Valuation τ sig (Elt Ideal) := StableHlo.after seg6 (val5 W)
def val7 : Valuation τ sig (Elt Ideal) := StableHlo.after seg7 (val6 W)
def val8 : Valuation τ sig (Elt Ideal) := StableHlo.after seg8 (val7 W)
def val9 : Valuation τ sig (Elt Ideal) := StableHlo.after seg9 (val8 W)
def val10 : Valuation τ sig (Elt Ideal) := StableHlo.after seg10 (val9 W)
def val11 : Valuation τ sig (Elt Ideal) := StableHlo.after seg11 (val10 W)
def val12 : Valuation τ sig (Elt Ideal) := StableHlo.after seg12 (val11 W)
def val13 : Valuation τ sig (Elt Ideal) := StableHlo.after seg13 (val12 W)
theorem val_tail : StableHlo.after tail W = val13 W := by
  unfold tail; simp only [after_app]; rfl

/-! The reference, value by value, as functions of the arguments' elements. -/
section Spec
variable (U : S3x2048x7168.Idx → BitVec 32) (H : S28x28.Idx → EReal) (A : S256x256.Idx → EReal) (cst : S8.Idx → EReal) (ri : S3x4096.Idx → BitVec 32)
/-- The unpacked weight. -/
def rW (n : Fin 3) (r : Fin 4096) (c : Fin 7168) : EReal :=
  Ideal.ofBits .bf16 ((U (ix3 n ⟨r.val / 2, by omega⟩ c)).extractLsb' (r.val % 2 * 16) 16)
/-- The rotated weight. -/
def rX (n : Fin 3) (r : Fin 4096) (c : Fin 7168) : EReal :=
  (∑ a : Fin 28, H (ix2 a ⟨c.val / 256, by omega⟩) * ∑ b : Fin 256, rW U n r ⟨a.val * 256 + b.val, by omega⟩ * A (ix2 b ⟨c.val % 256, by omega⟩)) * Ideal.ofBits FTy.f32 1010926735#32
/-- The largest magnitude of a row. -/
def rAmax (n : Fin 3) (r : Fin 4096) : EReal :=
  (Finset.univ : Finset (Fin 7168)).fold max (Ideal.ofBits FTy.f32 4286578688#32) fun k => max (rX U H A n r k) (-(rX U H A n r k))
/-- The errors at the eight ratios. -/
def rErr (n : Fin 3) (r : Fin 4096) (k : Fin 8) : EReal :=
  ∑ c : Fin 7168, rTerm (rX U H A n r c) (rsc (rAmax U H A n r) (cst (ix1 k)))
/-- The ratio chosen. -/
def rRho (n : Fin 3) (r : Fin 4096) : EReal :=
  ∑ k : Fin 8, Scalar.select (IntOp.cmpi CmpIPredicate.eq (ri (ix2 n r)) (BitVec.ofNat 32 k.val)) (cst (ix1 k)) (0 : EReal)
/-- The scale chosen. -/
def rScale (n : Fin 3) (r : Fin 4096) : EReal := rsc (rAmax U H A n r) (rRho cst ri n r)
/-- The packed word. -/
def rWord (n : Fin 3) (r : Fin 4096) (q : Fin 896) : BitVec 32 :=
  (Finset.univ : Finset (Fin 8)).fold IntOp.addi 0#32 fun k =>
    IntOp.shli ArithUnit.host (IntOp.andi (Ideal.fptosi 32 (rq (rX U H A n r ⟨q.val * 8 + k.val, by omega⟩) (rScale U H A cst ri n r))) 15#32) (IntOp.muli 4#32 (BitVec.ofNat 32 k.val))
end Spec

section Fin
abbrev wU : S3x2048x7168.Idx → BitVec 32 := W (Proc.devRef .tc main_arg0)
abbrev wA : S256x256.Idx → EReal := W (Proc.devRef .tc main_arg1)
abbrev wH : S28x28.Idx → EReal := W (Proc.devRef .tc main_arg2)
abbrev wC : S8.Idx → EReal := W (Proc.devRef .tc main_cst)
abbrev wR : S3x4096.Idx → BitVec 32 := W (Proc.devRef .tc main_arg3)

theorem f12 (n : Fin 3) (r : Fin 4096) (C : Fin 7168) : (val3 W (Proc.devRef .tc main_v12)) (ix3 n r C) = rX (wU W) (wH W) (wA W) n r C := by
  refine (z12 (val2 W) n r C).trans ?_
  unfold rX
  congr 1
  refine Finset.sum_congr rfl fun a _ => ?_
  have e4 : val2 W (Proc.devRef .tc main_arg2) = W (Proc.devRef .tc main_arg2) := (kp2_arg2 _).trans (kp1_arg2 _)
  have e5 : val1 W (Proc.devRef .tc main_arg1) = W (Proc.devRef .tc main_arg1) := kp1_arg1 _
  have h17 := z4 (val1 W) n r a ⟨C.val % 256, by omega⟩
  unfold eW at *
  refine congrArg₂ (· * ·) (congrFun e4 _) (h17.trans ?_)
  refine Finset.sum_congr rfl fun b _ => congrArg₂ (· * ·) (z3 W n r a b) (congrFun e5 _)
theorem v12_5 : val5 W (Proc.devRef .tc main_v12) = val3 W (Proc.devRef .tc main_v12) := (kp5_v12 _).trans (kp4_v12 _)
theorem v12_10 : val10 W (Proc.devRef .tc main_v12) = val3 W (Proc.devRef .tc main_v12) :=
  (kp10_v12 _).trans <| (kp9_v12 _).trans <| (kp8_v12 _).trans <| (kp7_v12 _).trans <| (kp6_v12 _).trans (v12_5 W)
theorem v14_9 : val9 W (Proc.devRef .tc main_v14) = val4 W (Proc.devRef .tc main_v14) :=
  (kp9_v14 _).trans <| (kp8_v14 _).trans <| (kp7_v14 _).trans <| (kp6_v14 _).trans (kp5_v14 _)
theorem cst_4 : val4 W (Proc.devRef .tc main_cst) = W (Proc.devRef .tc main_cst) :=
  (kp4_cst _).trans <| (kp3_cst _).trans <| (kp2_cst _).trans (kp1_cst _)
theorem cst_7 : val7 W (Proc.devRef .tc main_cst) = W (Proc.devRef .tc main_cst) :=
  (kp7_cst _).trans <| (kp6_cst _).trans <| (kp5_cst _).trans (cst_4 W)
theorem arg3_7 : val7 W (Proc.devRef .tc main_arg3) = W (Proc.devRef .tc main_arg3) :=
  (kp7_arg3 _).trans <| (kp6_arg3 _).trans <| (kp5_arg3 _).trans <| (kp4_arg3 _).trans <| (kp3_arg3 _).trans <| (kp2_arg3 _).trans (kp1_arg3 _)

theorem f14 (n : Fin 3) (r : Fin 4096) : (val4 W (Proc.devRef .tc main_v14)) (ix2 n r) = rAmax (wU W) (wH W) (wA W) n r := by
  refine (z14 (val3 W) n r).trans ?_
  unfold rAmax
  refine congrArg (fun f => Finset.fold max (Ideal.ofBits FTy.f32 4286578688#32) f (Finset.univ : Finset (Fin 7168))) (funext fun k => ?_)
  have h := f12 W n r k
  unfold eW
  exact congrArg₂ max h (congrArg Neg.neg h)
theorem f26 (n : Fin 3) (r : Fin 4096) (k : Fin 8) : (val5 W (Proc.devRef .tc main_v26)) (ix3 n r k) = rsc (rAmax (wU W) (wH W) (wA W) n r) (wC W (ix1 k)) :=
  (z26 (val4 W) n r k).trans (congrArg₂ rsc (f14 W n r) (congrFun (cst_4 W) _))
theorem f42 (n : Fin 3) (r : Fin 4096) (k : Fin 8) (C : Fin 7168) : (val6 W (Proc.devRef .tc main_v42)) (ix4 n r k C)
    = rTerm (rX (wU W) (wH W) (wA W) n r C) (rsc (rAmax (wU W) (wH W) (wA W) n r) (wC W (ix1 k))) :=
  (z42 (val5 W) n r k C).trans (congrArg₂ rTerm ((congrFun (v12_5 W) _).trans (f12 W n r C)) (f26 W n r k))
theorem f43 (n : Fin 3) (r : Fin 4096) (k : Fin 8) : (val7 W (Proc.devRef .tc main_v43)) (ix3 n r k) = rErr (wU W) (wH W) (wA W) (wC W) n r k :=
  (z43 (val6 W) n r k).trans (Finset.sum_congr rfl fun C _ => f42 W n r k C)
theorem f51 (n : Fin 3) (r : Fin 4096) : (val9 W (Proc.devRef .tc main_v51)) (ix2 n r) = rRho (wC W) (wR W) n r :=
  (z51 (val8 W) n r).trans (Finset.sum_congr rfl fun k _ => (z50 (val7 W) n r k).trans (by
    have e1 := congrFun (arg3_7 W) (ix2 n r)
    have e2 := congrFun (cst_7 W) (ix1 k)
    unfold bW eW
    rw [e1, e2]))
theorem f59 (n : Fin 3) (r : Fin 4096) : (val10 W (Proc.devRef .tc main_v59)) (ix2 n r) = rScale (wU W) (wH W) (wA W) (wC W) (wR W) n r :=
  (z59 (val9 W) n r).trans (congrArg₂ rsc ((congrFun (v14_9 W) _).trans (f14 W n r)) (f51 W n r))
theorem f64 (n : Fin 3) (r : Fin 4096) (C : Fin 7168) : (val11 W (Proc.devRef .tc main_v64)) (ix3 n r C)
    = rq (rX (wU W) (wH W) (wA W) n r C) (rScale (wU W) (wH W) (wA W) (wC W) (wR W) n r) :=
  (z64 (val10 W) n r C).trans (congrArg₂ rq ((congrFun (v12_10 W) _).trans (f12 W n r C)) (f59 W n r))
theorem f76 (n : Fin 3) (r : Fin 4096) (q : Fin 896) : (val13 W (Proc.devRef .tc main_v76)) (ix3 n r q) = rWord (wU W) (wH W) (wA W) (wC W) (wR W) n r q := by
  refine (z76 (val12 W) n r q).trans ?_
  refine congrArg (fun f => Finset.fold IntOp.addi 0#32 f (Finset.univ : Finset (Fin 8))) (funext fun k => ?_)
  refine (z75 (val11 W) n r q k).trans ?_
  have h := f64 W n r ⟨q.val * 8 + k.val, by omega⟩
  unfold eW
  exact congrArg (fun z => IntOp.shli ArithUnit.host (IntOp.andi (Ideal.fptosi 32 z) 15#32) (IntOp.muli 4#32 (BitVec.ofNat 32 k.val))) h

theorem g43 (n : Fin 3) (r : Fin 4096) (k : Fin 8) : (StableHlo.after tail W (Proc.devRef .tc main_v43)) (ix3 n r k) = rErr (wU W) (wH W) (wA W) (wC W) n r k := by
  rw [val_tail]
  refine Eq.trans (congrFun ?_ _) (f43 W n r k)
  exact (kp13_v43 _).trans <| (kp12_v43 _).trans <| (kp11_v43 _).trans <| (kp10_v43 _).trans <| (kp9_v43 _).trans (kp8_v43 _)
theorem g59 (n : Fin 3) (r : Fin 4096) : (StableHlo.after tail W (Proc.devRef .tc main_v59)) (ix2 n r) = rScale (wU W) (wH W) (wA W) (wC W) (wR W) n r := by
  rw [val_tail]
  refine Eq.trans (congrFun ?_ _) (f59 W n r)
  exact (kp13_v59 _).trans <| (kp12_v59 _).trans (kp11_v59 _)
theorem g76 (n : Fin 3) (r : Fin 4096) (q : Fin 896) : (StableHlo.after tail W (Proc.devRef .tc main_v76)) (ix3 n r q) = rWord (wU W) (wH W) (wA W) (wC W) (wR W) n r q := by
  rw [val_tail]; exact f76 W n r q
end Fin

end Cert.DownReferenceIdeal.Hand
-- ==== Proof.DRefB.lean ====
/- The second reference's results, as functions of its arguments, and its frame. -/
module

public import proofs.«01_k».proof.Proof.DRefA
public import Idealize.ShloMosaic.Lib.Pipeline.ValueKit
public import Idealize.ShloMosaic.Lib.Quiescent
public import Idealize.ShloMosaic.Lib.Claim

@[expose] public section

noncomputable section

namespace Cert.DownReferenceIdeal.Hand

open Cert.DownReferenceIdeal Cert.DownReferenceIdeal.Gen
open Idealize.ShloMosaic Idealize.ShloMosaic.TcCoe Idealize.ShloMosaic.Tactic Idealize.SL.Sem
open Idealize.ShloMosaic.StableHlo

section
variable (m : (ℓ : Loc nD τ sig) → Buf (Elt Ideal) ℓ) (c : Dev nD)

abbrev hU : S3x2048x7168.Idx → BitVec 32 := m ((c.tc : Thread nD τ).loc main_arg0)
abbrev hA : S256x256.Idx → EReal := m ((c.tc : Thread nD τ).loc main_arg1)
abbrev hH : S28x28.Idx → EReal := m ((c.tc : Thread nD τ).loc main_arg2)
abbrev hR : S3x4096.Idx → BitVec 32 := m ((c.tc : Thread nD τ).loc main_arg3)
/-- The ratios, as the host's constant holds them. -/
def hC : S8.Idx → EReal := fun i => FloatOps.ofBits (F := Ideal) .f32 (lit0 (S8.rowMajor i))

/-- The buffers as the lines after the constant find them. -/
def WR : Valuation τ sig (Elt Ideal) := StableHlo.after seg0 (launchContents m c)

theorem WR_U : wU (WR m c) = hU m c := by
  unfold wU WR seg0; after_reads_simp; try rfl
theorem WR_A : wA (WR m c) = hA m c := by
  unfold wA WR seg0; after_reads_simp; try rfl
theorem WR_H : wH (WR m c) = hH m c := by
  unfold wH WR seg0; after_reads_simp; try rfl
theorem WR_R : wR (WR m c) = hR m c := by
  unfold wR WR seg0; after_reads_simp; try rfl
theorem WR_C : wC (WR m c) = hC := by
  funext i
  unfold wC WR seg0; after_reads_at; try rfl

theorem after_ops : StableHlo.after (Cert.DownReferenceIdeal.Value.ops) (launchContents m c) = StableHlo.after tail (WR m c) := by
  rw [ops_eq, after_app]; rfl

theorem res43 (n : Fin 3) (r : Fin 4096) (k : Fin 8) : (StableHlo.after (Cert.DownReferenceIdeal.Value.ops) (launchContents m c) (Proc.devRef .tc main_v43) : S3x4096x8.Idx → EReal) (ix3 n r k)
    = rErr (hU m c) (hH m c) (hA m c) hC n r k := by
  rw [after_ops]
  refine (g43 (WR m c) n r k).trans ?_
  rw [WR_U, WR_A, WR_H, WR_C]
theorem res59 (n : Fin 3) (r : Fin 4096) : (StableHlo.after (Cert.DownReferenceIdeal.Value.ops) (launchContents m c) (Proc.devRef .tc main_v59) : S3x4096.Idx → EReal) (ix2 n r)
    = rScale (hU m c) (hH m c) (hA m c) hC (hR m c) n r := by
  rw [after_ops]
  refine (g59 (WR m c) n r).trans ?_
  rw [WR_U, WR_A, WR_H, WR_C, WR_R]
theorem res76 (n : Fin 3) (r : Fin 4096) (q : Fin 896) : (StableHlo.after (Cert.DownReferenceIdeal.Value.ops) (launchContents m c) (Proc.devRef .tc main_v76) : S3x4096x896.Idx → BitVec 32) (ix3 n r q)
    = rWord (hU m c) (hH m c) (hA m c) hC (hR m c) n r q := by
  rw [after_ops]
  refine (g76 (WR m c) n r q).trans ?_
  rw [WR_U, WR_A, WR_H, WR_C, WR_R]
end

/-- The reference's run: every buffer at the fold of the operations. -/
theorem run_all (m : (ℓ : Loc nD τ sig) → Buf (Elt Ideal) ℓ) (g : Dev nD → PrngReg) :
    θ_run (defs (F := Ideal)) (onTc (τ := τ) (main (F := Ideal))) ⟨m, fun _ => 0, g⟩ (fun r => ∀ (d : Dev nD) (b : Ref sig .tc),
      r.2.mem ((d.tc : Thread nD τ).loc b) = StableHlo.after (Cert.DownReferenceIdeal.Value.ops) (launchContents m d) (Proc.devRef .tc b)) :=
  StableHlo.run_seq Cert.DownReferenceIdeal.Value.scopedRefs_eq Cert.DownReferenceIdeal.Value.scopedSems_eq defs main (fun _ => Cert.DownReferenceIdeal.Value.ops)
    (fun d => Cert.DownReferenceIdeal.Value.main_eq d) (fun _ => Cert.DownReferenceIdeal.Value.ops_sub) m g

/-- The reference leaves its arguments, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := Ideal)) _ _).mono (fun r h => ⟨fun c => (h c).2.2.2, sem_eq_zero_of_no_sems (by decide) r.2⟩)
    (Cert.DownReferenceIdeal.Value.run (F := Ideal) m g)

end Cert.DownReferenceIdeal.Hand
end
-- ==== Proof.ValF.lean ====
module
public import proofs.«01_k».proof.Proof.BodyIdeal
public import proofs.«01_k».proof.Proof.ValE
/-! What the body leaves in its three output blocks, as functions of its input blocks. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X15 : BufTy.Contents (Elt Ideal) arg15.view.ty} {w : ℕ → ℕ → ℕ → BitVec 32}
  (h15 : ∀ a j, a < 8 → j < 64 → ∀ y : S2x576x128.Idx, (y 1).val = 72 * a + j →
    arg15.view.read (Elt Ideal) X15 y = w a j (128 * (y 0).val + (y 2).val))
  {c : Dev nD} {i : grid0.Coords}

theorem pay1_apply (v : IVec S128x128 32) (a b : Fin 128) : k0_pay1 v (ix3 0 a b) = v (ix2 a b) := by
  pointwise [k0_pay1]

theorem pay2_apply (v : IVec S128x128 32) (a b : Fin 128) : k0_pay2 v (ix3 0 a b) = v (ix2 b a) := by
  pointwise [k0_pay2]

theorem transpose_ix2 (v : IVec S128x128 32) (h) (a b : Fin 128) : (transpose S128x128 [1, 0] v h : IVec S128x128 32) (ix2 a b) = v (ix2 b a) := by
  pointwise

/-- The packed output block as a function of its coordinates. -/
def G10 (w : ℕ → ℕ → ℕ → BitVec 32) (r q : ℕ) : BitVec 32 := w (q % 8) (q / 8) r

include h15 in
theorem t5_agree (k : Fin k0_t5_loop.trips) :
    ∀ p ∈ tripL_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X15 k, ∀ x, p.2 x = G10 w (p.1.emb x 1).val (p.1.emb x 2).val := by
  intro p hp
  unfold tripL_k0_t5 trip_k0_t5 at hp
  simp only [List.mem_cons, List.not_mem_nil, or_false] at hp
  rcases hp with rfl | rfl <;> intro x <;>
    obtain ⟨a, b, d, rfl⟩ : ∃ (a : Fin 1) (b d : Fin 128), x = ix3 a b d := ⟨_, _, _, eq_ix3 x⟩ <;>
    obtain rfl : a = 0 := Subsingleton.elim _ _
  · refine Eq.trans (b := G10 w (128 * 1 + b.val) (128 * k.val + d.val)) ?_ ?_
    · refine (pay2_apply _ b d).trans ((t5_v365 h15 k d b).trans ?_)
      unfold G10
      congr 1 <;> omega
    · simp only [Rect.emb_apply, Rect.off_unit, Rect.stride_unit, off21_eq]; simp
  · refine Eq.trans (b := G10 w (128 * 0 + b.val) (128 * k.val + d.val)) ?_ ?_
    · unfold trip_k0_t5.sl.v366
      refine (pay1_apply _ b d).trans ((transpose_ix2 _ _ b d).trans ((t5_v284 h15 k d b).trans ?_))
      unfold G10
      congr 1 <;> omega
    · simp only [Rect.emb_apply, Rect.off_unit, Rect.stride_unit, off20_eq]; simp

include h15 in
theorem C10_read (X10 : BufTy.Contents (Elt Ideal) arg10.view.ty) (y : S1x256x512.Idx) :
    arg10.view.read (Elt Ideal) (arg10.view.writes (Elt Ideal) X10 (pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X15 k0_t5_loop.trips)) y
      = G10 w (y 1).val (y 2).val := by
  have hT : k0_t5_loop.trips = 4 := by decide
  have key := mem_pb (T := k0_t5_loop.trips) (pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X15)
    (tripL_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X15) rfl
    (fun k => pb_k0_t5_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X15 k) _ le_rfl
  refine View.read_writes_apply_of_pieces (Val := Elt Ideal) arg10.view _ (fun y : S1x256x512.Idx => G10 w (y 1).val (y 2).val) _ ?_ y ?_
  · intro p hp
    obtain ⟨k, _, hk⟩ := (key p).1 hp
    exact t5_agree h15 k p hk
  · have h0 : (y 0).val < 1 := (y 0).isLt
    have h1 : (y 1).val < 256 := (y 1).isLt
    have h2 : (y 2).val < 512 := (y 2).isLt
    have hq : (y 2).val / 128 < k0_t5_loop.trips := by omega
    have cov : ∃ p ∈ tripL_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X15 ⟨(y 2).val / 128, hq⟩, y ∈ p.1.set := by
      unfold tripL_k0_t5 trip_k0_t5
      simp only [List.exists_mem_cons_iff, List.not_mem_nil, false_and, exists_false, or_false, Rect.mem_set_unit, Fin.forall_fin_succ, off20_eq, off21_eq]
      simp
      omega
    obtain ⟨p, hp, hyp⟩ := cov
    exact ⟨p, (key p).2 ⟨⟨(y 2).val / 128, hq⟩, hq, hp⟩, hyp⟩
end

section
variable {arg2 : Memref sig .tc .vmem S1x256x4096 .fp8e4m3} {harg2 : arg2.IsWhole} {arg3 : Memref sig .tc .vmem S1x1x2x4096 .f32} {harg3 : arg3.IsWhole} {arg4 : Memref sig .tc .vmem S1x1x4096 .f32} {harg4 : arg4.IsWhole} {arg5 : Memref sig .tc .vmem S256x256 .bf16} {harg5 : arg5.IsWhole} {arg6 : Memref sig .tc .vmem S64x192 .bf16} {harg6 : arg6.IsWhole} {arg7 : Memref sig .tc .vmem S256x256 .bf16} {harg7 : arg7.IsWhole} {arg8 : Memref sig .tc .vmem S64x256 .bf16} {harg8 : arg8.IsWhole} {arg9 : Memref sig .tc .vmem S1x1x1x256 .i32} {harg9 : arg9.IsWhole} {arg10 : Memref sig .tc .vmem S1x256x512 .i32} {harg10 : arg10.IsWhole} {arg11 : Memref sig .tc .vmem S1x1x1x256 .f32} {harg11 : arg11.IsWhole} {arg12 : Memref sig .tc .vmem S1x1x8x256 .f32} {harg12 : arg12.IsWhole} {arg13 : Memref sig .tc .vmem S2x4608x128 .f32} {harg13 : arg13.IsWhole} {arg14 : Memref sig .tc .vmem S64x64x256 .bf16} {harg14 : arg14.IsWhole} {arg15 : Memref sig .tc .vmem S2x576x128 .i32} {harg15 : arg15.IsWhole}

  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X13 : BufTy.Contents (Elt Ideal) arg13.view.ty} {X14 : BufTy.Contents (Elt Ideal) arg14.view.ty} {X15 : BufTy.Contents (Elt Ideal) arg15.view.ty}
  {c : Dev nD} {i : grid0.Coords}
  {x2 x3 : ℕ → ℕ → EReal} {x4 : ℕ → EReal} {x5 x6 x8 : ℕ → ℕ → EReal} {x9 : ℕ → BitVec 32}
  (h2 : ∀ y, arg2.view.read (Elt Ideal) X2 y = x2 (y 1).val (y 2).val)
  (h3 : ∀ y, arg3.view.read (Elt Ideal) X3 y = x3 (y 2).val (y 3).val)
  (h4 : ∀ y, arg4.view.read (Elt Ideal) X4 y = x4 (y 2).val)
  (h5 : ∀ y, arg5.view.read (Elt Ideal) X5 y = x5 (y 0).val (y 1).val)
  (h6 : ∀ y, arg6.view.read (Elt Ideal) X6 y = x6 (y 0).val (y 1).val)
  (h8 : ∀ y, arg8.view.read (Elt Ideal) X8 y = x8 (y 0).val (y 1).val)
  (h9 : ∀ y, arg9.view.read (Elt Ideal) X9 y = x9 (y 3).val)
  (hT : ∀ a j r, a < 64 → j < 64 → r < 256 → bT x2 x3 x4 x5 a j r ≠ ⊤ ∧ bT x2 x3 x4 x5 a j r ≠ ⊥)

include h2 h3 h4 h5 h6 hT in
theorem run_R (y : S64x64x256.Idx) :
    arg14.view.read (Elt Ideal) (arg14.view.writes (Elt Ideal) X14 (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 (C13 arg2 harg2 arg3 harg3 arg4 harg4 arg5 harg5 arg6 harg6 arg7 harg7 arg8 harg8 arg9 harg9 arg10 harg10 arg11 harg11 arg12 harg12 arg13 harg13 arg14 harg14 arg15 harg15 X2 X3 X4 X5 c i X13) k0_pay113 k0_t2_loop.trips).2) y
      = bR x6 (bT x2 x3 x4 x5) (y 0).val (y 1).val (y 2).val :=
  C14_read h6 (fun a j ha hj y hy => C13_read h2 h3 h4 h5 X13 a j ha hj y hy) hT k0_pay113 X14 y

include h2 h3 h4 h5 h6 hT in
theorem run_amax (r : Fin 256) :
    k0_pay117 (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X6 (C13 arg2 harg2 arg3 harg3 arg4 harg4 arg5 harg5 arg6 harg6 arg7 harg7 arg8 harg8 arg9 harg9 arg10 harg10 arg11 harg11 arg12 harg12 arg13 harg13 arg14 harg14 arg15 harg15 X2 X3 X4 X5 c i X13) k0_pay113 k0_t2_loop.trips).1 (ix2 0 r)
      = bA x6 (bT x2 x3 x4 x5) r.val :=
  t2_amax h6 (fun a j ha hj y hy => C13_read h2 h3 h4 h5 X13 a j ha hj y hy) hT k0_pay113 init_apply r

include h9 in
theorem run_idx (hb) (r : Fin 256) : View.readAt (Elt Ideal) arg9.view (Rect.unit (s := S1x1x1x256) ![0, 0, 0, 0] S1x1x1x256.size hb).toLoadRect X9 (ix4 0 0 0 r) = x9 r.val := by
  simp only [View.readAt_apply, h9]
  simp [LoadRect.idx, Rect.toLoadRect, Rect.unit]

/-- The inverse of the selected scale of row `r`. -/
def bInv (x6 : ℕ → ℕ → EReal) (T : ℕ → ℕ → ℕ → EReal) (x9 : ℕ → BitVec 32) (r : ℕ) : EReal :=
  Ideal.div 1 (bSc (bA x6 T r) (ratSel (x9 r)))

include h2 h3 h4 h5 h6 h8 h9 hT in
theorem kr10 (X10 : BufTy.Contents (Elt Ideal) arg10.view.ty) (y : S1x256x512.Idx) :
    arg10.view.read (Elt Ideal) (arg10.view.writes (Elt Ideal) X10 (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X13 X14 X15).1) y
      = G10 (wordE x8 (bR x6 (bT x2 x3 x4 x5)) (bInv x6 (bT x2 x3 x4 x5) x9)) (y 1).val (y 2).val := by
  unfold kernelRun
  dsimp only
  refine C10_read (w := wordE x8 (bR x6 (bT x2 x3 x4 x5)) (bInv x6 (bT x2 x3 x4 x5) x9)) ?_ X10 y
  intro a j ha hj y hy
  refine C15_read h8 (fun y => run_R h2 h3 h4 h5 h6 hT y) ?_ X15 a j ha hj y hy
  intro r
  refine (selInv_apply _ _ r).trans ?_
  exact congrArg₂ (fun a b => Ideal.div 1 (bSc a (ratSel b))) (run_amax h2 h3 h4 h5 h6 hT r) (run_idx h9 _ r)

include h2 h3 h4 h5 h6 h9 hT in
theorem kr11 (y : S1x1x1x256.Idx) :
    arg11.view.read (Elt Ideal) (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X13 X14 X15).2.1 y
      = bSc (bA x6 (bT x2 x3 x4 x5) (y 3).val) (ratSel (x9 (y 3).val)) := by
  unfold kernelRun
  dsimp only
  refine View.read_writes_apply_of_pieces (Val := Elt Ideal) arg11.view _ (fun y : S1x1x1x256.Idx => bSc (bA x6 (bT x2 x3 x4 x5) (y 3).val) (ratSel (x9 (y 3).val))) _ ?_ y ?_
  · intro p hp
    unfold kernelRun.sl.H11_1 at hp
    simp only [List.mem_cons, List.not_mem_nil, or_false] at hp
    subst hp
    intro x
    obtain ⟨a, b, d, e, rfl⟩ : ∃ (a b d : Fin 1) (e : Fin 256), x = ix4 a b d e := ⟨_, _, _, _, eq_ix4 x⟩
    obtain rfl : a = 0 := Subsingleton.elim _ _
    obtain rfl : b = 0 := Subsingleton.elim _ _
    obtain rfl : d = 0 := Subsingleton.elim _ _
    refine Eq.trans (b := bSc (bA x6 (bT x2 x3 x4 x5) e.val) (ratSel (x9 e.val))) ?_ ?_
    · refine (selScale_store _ _ e).trans ?_
      exact congrArg₂ (fun a b => bSc a (ratSel b)) (run_amax h2 h3 h4 h5 h6 hT e) (run_idx h9 _ e)
    · simp only [Rect.emb_apply, Rect.off_unit, Rect.stride_unit]; simp
  · unfold kernelRun.sl.H11_1
    have y0 : (y 0).val < 1 := (y 0).isLt
    have y1 : (y 1).val < 1 := (y 1).isLt
    have y2 : (y 2).val < 1 := (y 2).isLt
    have y3 : (y 3).val < 256 := (y 3).isLt
    simp only [List.exists_mem_cons_iff, List.not_mem_nil, false_and, exists_false, or_false, Rect.mem_set_unit, Fin.forall_fin_succ]
    simp
    omega

/-- The sum of squared errors of row `r` at the `m`-th ratio. -/
def bE (x6 : ℕ → ℕ → EReal) (T : ℕ → ℕ → ℕ → EReal) (m r : ℕ) : EReal :=
  bErr (bR x6 T) (Ideal.div 1 (bSc (bA x6 T r) (rat m))) (bSc (bA x6 T r) (rat m)) r

set_option maxHeartbeats 4000000 in
include h2 h3 h4 h5 h6 hT in
theorem kr12 (y : S1x1x8x256.Idx) :
    arg12.view.read (Elt Ideal) (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X13 X14 X15).2.2.1 y
      = bE x6 (bT x2 x3 x4 x5) (y 2).val (y 3).val := by
  have h14 := fun y => run_R (harg2 := harg2) (harg3 := harg3) (harg4 := harg4) (harg5 := harg5) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (harg14 := harg14) (arg15 := arg15) (harg15 := harg15) (X13 := X13) (X14 := X14) (c := c) (i := i) h2 h3 h4 h5 h6 hT y
  have hT3 : k0_t3_loop.trips = 64 := by decide
  unfold kernelRun
  dsimp only
  refine View.read_writes_apply_of_pieces (Val := Elt Ideal) arg12.view _ (fun y : S1x1x8x256.Idx => bE x6 (bT x2 x3 x4 x5) (y 2).val (y 3).val) _ ?_ y ?_
  · intro p hp
    unfold kernelRun.sl.H12_8 at hp
    simp only [List.mem_cons, List.not_mem_nil, or_false] at hp
    rcases hp with rfl | rfl | rfl | rfl | rfl | rfl | rfl | rfl <;> intro x <;>
      obtain ⟨a, b, d, e, rfl⟩ : ∃ (a b d : Fin 1) (e : Fin 256), x = ix4 a b d e := ⟨_, _, _, _, eq_ix4 x⟩ <;>
      obtain rfl : a = 0 := Subsingleton.elim _ _ <;>
      obtain rfl : b = 0 := Subsingleton.elim _ _ <;>
      obtain rfl : d = 0 := Subsingleton.elim _ _
    · refine Eq.trans (b := bE x6 (bT x2 x3 x4 x5) 7 e.val) ?_ ?_
      · refine (rowSum7_apply _ e).trans ?_
        refine (Finset.sum_congr rfl fun s _ => t3_acc7 h14 _ s e (zero7_apply s e) _ le_rfl).trans ?_
        rw [hT3, err_total]
        exact congrArg₂ (fun a b => bErr (bR x6 (bT x2 x3 x4 x5)) a b e.val)
          ((inv7_apply _ e).trans (congrArg (fun z => Ideal.div 1 (bSc z (rat 7))) (run_amax h2 h3 h4 h5 h6 hT e)))
          ((sc7_apply _ e).trans (congrArg (fun z => bSc z (rat 7)) (run_amax h2 h3 h4 h5 h6 hT e)))
      · simp only [Rect.emb_apply, Rect.off_unit, Rect.stride_unit]; simp
    · refine Eq.trans (b := bE x6 (bT x2 x3 x4 x5) 6 e.val) ?_ ?_
      · refine (rowSum6_apply _ e).trans ?_
        refine (Finset.sum_congr rfl fun s _ => t3_acc6 h14 _ s e (zero6_apply s e) _ le_rfl).trans ?_
        rw [hT3, err_total]
        exact congrArg₂ (fun a b => bErr (bR x6 (bT x2 x3 x4 x5)) a b e.val)
          ((inv6_apply _ e).trans (congrArg (fun z => Ideal.div 1 (bSc z (rat 6))) (run_amax h2 h3 h4 h5 h6 hT e)))
          ((sc6_apply _ e).trans (congrArg (fun z => bSc z (rat 6)) (run_amax h2 h3 h4 h5 h6 hT e)))
      · simp only [Rect.emb_apply, Rect.off_unit, Rect.stride_unit]; simp
    · refine Eq.trans (b := bE x6 (bT x2 x3 x4 x5) 5 e.val) ?_ ?_
      · refine (rowSum5_apply _ e).trans ?_
        refine (Finset.sum_congr rfl fun s _ => t3_acc5 h14 _ s e (zero5_apply s e) _ le_rfl).trans ?_
        rw [hT3, err_total]
        exact congrArg₂ (fun a b => bErr (bR x6 (bT x2 x3 x4 x5)) a b e.val)
          ((inv5_apply _ e).trans (congrArg (fun z => Ideal.div 1 (bSc z (rat 5))) (run_amax h2 h3 h4 h5 h6 hT e)))
          ((sc5_apply _ e).trans (congrArg (fun z => bSc z (rat 5)) (run_amax h2 h3 h4 h5 h6 hT e)))
      · simp only [Rect.emb_apply, Rect.off_unit, Rect.stride_unit]; simp
    · refine Eq.trans (b := bE x6 (bT x2 x3 x4 x5) 4 e.val) ?_ ?_
      · refine (rowSum4_apply _ e).trans ?_
        refine (Finset.sum_congr rfl fun s _ => t3_acc4 h14 _ s e (zero4_apply s e) _ le_rfl).trans ?_
        rw [hT3, err_total]
        exact congrArg₂ (fun a b => bErr (bR x6 (bT x2 x3 x4 x5)) a b e.val)
          ((inv4_apply _ e).trans (congrArg (fun z => Ideal.div 1 (bSc z (rat 4))) (run_amax h2 h3 h4 h5 h6 hT e)))
          ((sc4_apply _ e).trans (congrArg (fun z => bSc z (rat 4)) (run_amax h2 h3 h4 h5 h6 hT e)))
      · simp only [Rect.emb_apply, Rect.off_unit, Rect.stride_unit]; simp
    · refine Eq.trans (b := bE x6 (bT x2 x3 x4 x5) 3 e.val) ?_ ?_
      · refine (rowSum3_apply _ e).trans ?_
        refine (Finset.sum_congr rfl fun s _ => t3_acc3 h14 _ s e (zero3_apply s e) _ le_rfl).trans ?_
        rw [hT3, err_total]
        exact congrArg₂ (fun a b => bErr (bR x6 (bT x2 x3 x4 x5)) a b e.val)
          ((inv3_apply _ e).trans (congrArg (fun z => Ideal.div 1 (bSc z (rat 3))) (run_amax h2 h3 h4 h5 h6 hT e)))
          ((sc3_apply _ e).trans (congrArg (fun z => bSc z (rat 3)) (run_amax h2 h3 h4 h5 h6 hT e)))
      · simp only [Rect.emb_apply, Rect.off_unit, Rect.stride_unit]; simp
    · refine Eq.trans (b := bE x6 (bT x2 x3 x4 x5) 2 e.val) ?_ ?_
      · refine (rowSum2_apply _ e).trans ?_
        refine (Finset.sum_congr rfl fun s _ => t3_acc2 h14 _ s e (zero2_apply s e) _ le_rfl).trans ?_
        rw [hT3, err_total]
        exact congrArg₂ (fun a b => bErr (bR x6 (bT x2 x3 x4 x5)) a b e.val)
          ((inv2_apply _ e).trans (congrArg (fun z => Ideal.div 1 (bSc z (rat 2))) (run_amax h2 h3 h4 h5 h6 hT e)))
          ((sc2_apply _ e).trans (congrArg (fun z => bSc z (rat 2)) (run_amax h2 h3 h4 h5 h6 hT e)))
      · simp only [Rect.emb_apply, Rect.off_unit, Rect.stride_unit]; simp
    · refine Eq.trans (b := bE x6 (bT x2 x3 x4 x5) 1 e.val) ?_ ?_
      · refine (rowSum1_apply _ e).trans ?_
        refine (Finset.sum_congr rfl fun s _ => t3_acc1 h14 _ s e (zero1_apply s e) _ le_rfl).trans ?_
        rw [hT3, err_total]
        exact congrArg₂ (fun a b => bErr (bR x6 (bT x2 x3 x4 x5)) a b e.val)
          ((inv1_apply _ e).trans (congrArg (fun z => Ideal.div 1 (bSc z (rat 1))) (run_amax h2 h3 h4 h5 h6 hT e)))
          ((sc1_apply _ e).trans (congrArg (fun z => bSc z (rat 1)) (run_amax h2 h3 h4 h5 h6 hT e)))
      · simp only [Rect.emb_apply, Rect.off_unit, Rect.stride_unit]; simp
    · refine Eq.trans (b := bE x6 (bT x2 x3 x4 x5) 0 e.val) ?_ ?_
      · refine (rowSum0_apply _ e).trans ?_
        refine (Finset.sum_congr rfl fun s _ => t3_acc0 h14 _ s e (zero0_apply s e) _ le_rfl).trans ?_
        rw [hT3, err_total]
        exact congrArg₂ (fun a b => bErr (bR x6 (bT x2 x3 x4 x5)) a b e.val)
          ((inv0_apply _ e).trans (congrArg (fun z => Ideal.div 1 (bSc z (rat 0))) (run_amax h2 h3 h4 h5 h6 hT e)))
          ((sc0_apply _ e).trans (congrArg (fun z => bSc z (rat 0)) (run_amax h2 h3 h4 h5 h6 hT e)))
      · simp only [Rect.emb_apply, Rect.off_unit, Rect.stride_unit]; simp
  · unfold kernelRun.sl.H12_8
    have y0 : (y 0).val < 1 := (y 0).isLt
    have y1 : (y 1).val < 1 := (y 1).isLt
    have y2 : (y 2).val < 8 := (y 2).isLt
    have y3 : (y 3).val < 256 := (y 3).isLt
    simp only [List.exists_mem_cons_iff, List.not_mem_nil, false_and, exists_false, or_false, Rect.mem_set_unit, Fin.forall_fin_succ]
    simp
    omega
end

end Cert.KernelIdeal.Hand
end
-- ==== Proof.ValG.lean ====
module

public import proofs.«01_k».proof.Proof.FrameIdeal
public import proofs.«01_k».proof.Proof.ValF
public import Idealize.ShloMosaic.Lib.StableHlo.ReadAt
public import Idealize.ShloMosaic.Lib.Claim
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic

/-! What the kernel's windows stage, as functions of the arguments' elements. -/

section Spec
variable (D : S3x7168x4096.Idx → EReal) (S : S3x56x32.Idx → EReal) (G : S3x4096.Idx → EReal) (Sg : S4096.Idx → EReal)
  (A B : S64x64.Idx → EReal) (ri : S3x7168.Idx → BitVec 32)
def kx2 (n s a b : ℕ) : EReal := D (ix3 (Fin.ofNat 3 n) (Fin.ofNat 7168 (256 * s + a)) (Fin.ofNat 4096 b))
def kx3 (n s h C : ℕ) : EReal := S (ix3 (Fin.ofNat 3 n) (Fin.ofNat 56 (2 * s + h)) (Fin.ofNat 32 (C / 128)))
def kx4 (n C : ℕ) : EReal := G (ix2 (Fin.ofNat 3 n) (Fin.ofNat 4096 C)) * Sg (ix1 (Fin.ofNat 4096 C))
def kx5 (u v : ℕ) : EReal := FloatOps.uitofp (F := Ideal) FTy.f32 (IntOp.cmpi CmpIPredicate.eq (IntOp.addi (BitVec.ofNat 32 (u / 64)) 0#32) (BitVec.ofNat 32 (v / 64)))
  * B (ix2 (Fin.ofNat 64 (v % 64)) (Fin.ofNat 64 (u % 64)))
def kx6 (i q : ℕ) : EReal := A (ix2 (Fin.ofNat 64 (q % 64)) (Fin.ofNat 64 i))
def kx8 (i p : ℕ) : EReal := Ideal.exp (Ideal.ofBits FTy.f32 1060205080#32 * (Ideal.ofBits FTy.f32 1082130432#32 * FloatOps.sitofp (F := Ideal) FTy.f32 (BitVec.ofNat 32 (p / 64))))
  * FloatOps.uitofp (F := Ideal) FTy.f32 (IntOp.cmpi CmpIPredicate.eq (IntOp.addi (BitVec.ofNat 32 i) 0#32) (BitVec.ofNat 32 (p % 64)))
def kx9 (n s r : ℕ) : BitVec 32 := ri (ix2 (Fin.ofNat 3 n) (Fin.ofNat 7168 (256 * s + r)))
/-- The first rotation, in block `(n, s)`. -/
def kT (n s : ℕ) : ℕ → ℕ → ℕ → EReal := bT (kx2 D n s) (kx3 S n s) (kx4 G Sg n) (kx5 B)
def kWord (n s : ℕ) : ℕ → ℕ → BitVec 32 := G10 (wordE kx8 (bR (kx6 A) (kT D S G Sg B n s)) (bInv (kx6 A) (kT D S G Sg B n s) (kx9 ri n s)))
def kScale (n s r : ℕ) : EReal := bSc (bA (kx6 A) (kT D S G Sg B n s) r) (ratSel (kx9 ri n s r))
def kErr (n s : ℕ) : ℕ → ℕ → EReal := bE (kx6 A) (kT D S G Sg B n s)
end Spec

variable (m : (ℓ : Loc nD τ sig) → Buf (Elt Ideal) ℓ) (c : Dev nD)
abbrev gD : S3x7168x4096.Idx → EReal := m ((c.tc : Thread nD τ).loc main_arg0)
abbrev gS : S3x56x32.Idx → EReal := m ((c.tc : Thread nD τ).loc main_arg1)
abbrev gG : S3x4096.Idx → EReal := m ((c.tc : Thread nD τ).loc main_arg2)
abbrev gSg : S4096.Idx → EReal := m ((c.tc : Thread nD τ).loc main_arg3)
abbrev gA : S64x64.Idx → EReal := m ((c.tc : Thread nD τ).loc main_arg4)
abbrev gB : S64x64.Idx → EReal := m ((c.tc : Thread nD τ).loc main_arg5)
abbrev gR : S3x7168.Idx → BitVec 32 := m ((c.tc : Thread nD τ).loc main_arg7)
abbrev eW (S : Shape) (x : S.Idx → EReal) : S.Idx → EReal := x
abbrev iW (S : Shape) (x : S.Idx → BitVec 32) : S.Idx → BitVec 32 := x

theorem x0 (i : S3x7168x4096.Idx) : eW S3x7168x4096 (V m c main_v0) i = gD m c i := by
  unfold V; after_reads_at; try rfl
theorem x45 (i : S3x28x2x4096.Idx) : eW S3x28x2x4096 (V m c main_v45) i = gS m c (ix3 (i 0) ⟨(i 1).val * 2 + (i 2).val, by have := (i 1).isLt; have := (i 2).isLt; simp at *; omega⟩ ⟨(i 3).val / 128, by have := (i 3).isLt; simp at *; omega⟩) := by
  unfold V; after_reads_at; try rfl
theorem x46 (i : S3x1x4096.Idx) : eW S3x1x4096 (V m c main_v46) i = gG m c (ix2 (i 0) (i 2)) * gSg m c (ix1 (i 2)) := by
  unfold V; after_reads_at; try rfl
theorem x13 (i : S256x256.Idx) : eW S256x256 (V m c main_v13) i = FloatOps.uitofp (F := Ideal) FTy.f32 (IntOp.cmpi CmpIPredicate.eq (IntOp.addi (BitVec.ofNat 32 ((i 0).val / 64)) 0#32) (BitVec.ofNat 32 ((i 1).val / 64)))
    * gB m c (ix2 ⟨(i 1).val % 64, by omega⟩ ⟨(i 0).val % 64, by omega⟩) := by
  unfold V; after_reads_at; try rfl
theorem x17 (i : S64x192.Idx) : eW S64x192 (V m c main_v17) i = gA m c (ix2 ⟨(i 1).val % 64, by omega⟩ (i 0)) := by
  unfold V; after_reads_at; try rfl
theorem x41 (i : S64x256.Idx) : eW S64x256 (V m c main_v41) i = kx8 (i 0).val (i 1).val := by
  unfold V kx8; after_reads_at; try rfl
theorem x47 (i : S3x28x1x256.Idx) : iW S3x28x1x256 (V m c main_v47) i = gR m c (ix2 (i 0) ⟨(i 1).val * 256 + (i 3).val, by have := (i 1).isLt; have := (i 3).isLt; simp at *; omega⟩) := by
  unfold V; after_reads_at; try rfl

theorem idx0 : ∀ t : Fin grid0.N, win0_0.index t = ![t.val / 28, t.val % 28, 0] := by decide +kernel
theorem idx1 : ∀ t : Fin grid0.N, win0_1.index t = ![t.val / 28, t.val % 28, 0, 0] := by decide +kernel
theorem idx2 : ∀ t : Fin grid0.N, win0_2.index t = ![t.val / 28, 0, 0] := by decide +kernel
theorem idx3 : ∀ t : Fin grid0.N, win0_3.index t = ![0, 0] := by decide +kernel
theorem idx4 : ∀ t : Fin grid0.N, win0_4.index t = ![0, 0] := by decide +kernel
theorem idx6 : ∀ t : Fin grid0.N, win0_6.index t = ![0, 0] := by decide +kernel
theorem idx7 : ∀ t : Fin grid0.N, win0_7.index t = ![t.val / 28, t.val % 28, 0, 0] := by decide +kernel
theorem idx8 : ∀ t : Fin grid0.N, win0_8.index t = ![t.val / 28, t.val % 28, 0] := by decide +kernel
theorem idx9 : ∀ t : Fin grid0.N, win0_9.index t = ![t.val / 28, t.val % 28, 0, 0] := by decide +kernel
theorem idx10 : ∀ t : Fin grid0.N, win0_10.index t = ![t.val / 28, t.val % 28, 0, 0] := by decide +kernel

theorem ib0 (t : Fin cfg0.N) (y : S1x256x4096.Idx) : eW S1x256x4096 (iblk m c 0 t) y = kx2 (gD m c) (t.val / 28) (t.val % 28) (y 1).val (y 2).val := by
  refine (x0 m c (((cfg0.win 0).blk t).view.emb y)).trans ?_
  unfold kx2
  congr 1
  blk_ext [idx0 t]
  all_goals simp only [Fin.ofNat]; omega
theorem ib1 (t : Fin cfg0.N) (y : S1x1x2x4096.Idx) : eW S1x1x2x4096 (iblk m c 1 t) y = kx3 (gS m c) (t.val / 28) (t.val % 28) (y 2).val (y 3).val := by
  refine (x45 m c (((cfg0.win 1).blk t).view.emb y)).trans ?_
  unfold kx3
  congr 1
  blk_ext [idx1 t]
  all_goals simp only [Fin.ofNat]; omega
theorem ib2 (t : Fin cfg0.N) (y : S1x1x4096.Idx) : eW S1x1x4096 (iblk m c 2 t) y = kx4 (gG m c) (gSg m c) (t.val / 28) (y 2).val := by
  refine (x46 m c (((cfg0.win 2).blk t).view.emb y)).trans ?_
  unfold kx4
  congr 1
  · congr 1
    blk_ext [idx2 t]
    all_goals simp only [Fin.ofNat]; omega
  · congr 1
    blk_ext [idx2 t]
    all_goals simp only [Fin.ofNat]; omega
theorem emb3 (t : Fin cfg0.N) (y : S256x256.Idx) : ((cfg0.win 3).blk t).view.emb y = (y : S256x256.Idx) := by
  blk_ext [idx3 t]
theorem emb4 (t : Fin cfg0.N) (y : S64x192.Idx) : ((cfg0.win 4).blk t).view.emb y = (y : S64x192.Idx) := by
  blk_ext [idx4 t]
theorem emb6 (t : Fin cfg0.N) (y : S64x256.Idx) : ((cfg0.win 6).blk t).view.emb y = (y : S64x256.Idx) := by
  blk_ext [idx6 t]
theorem ib3 (t : Fin cfg0.N) (y : S256x256.Idx) : eW S256x256 (iblk m c 3 t) y = kx5 (gB m c) (y 0).val (y 1).val := by
  refine (x13 m c (((cfg0.win 3).blk t).view.emb y)).trans ?_
  rw [emb3]
  unfold kx5
  congr 2
  have h0 : (y 0).val < 256 := (y 0).isLt
  have h1 : (y 1).val < 256 := (y 1).isLt
  funext a
  refine Fin.cases ?_ (fun a => ?_) a
  · exact Fin.ext (by show _ = (Fin.ofNat 64 _).val; simp only [Fin.ofNat]; show (y 1).val % 64 = _; omega)
  · obtain rfl : a = 0 := Subsingleton.elim _ _
    exact Fin.ext (by show _ = (Fin.ofNat 64 _).val; simp only [Fin.ofNat]; show (y 0).val % 64 = _; omega)
theorem ib4 (t : Fin cfg0.N) (y : S64x192.Idx) : eW S64x192 (iblk m c 4 t) y = kx6 (gA m c) (y 0).val (y 1).val := by
  refine (x17 m c (((cfg0.win 4).blk t).view.emb y)).trans ?_
  rw [emb4]
  unfold kx6
  congr 1
  have h0 : (y 0).val < 64 := (y 0).isLt
  funext a
  refine Fin.cases ?_ (fun a => ?_) a
  · exact Fin.ext (by show _ = (Fin.ofNat 64 _).val; simp only [Fin.ofNat]; show (y 1).val % 64 = _; omega)
  · obtain rfl : a = 0 := Subsingleton.elim _ _
    exact Fin.ext (by show _ = (Fin.ofNat 64 _).val; simp only [Fin.ofNat]; show (y 0).val = _; omega)
theorem ib6 (t : Fin cfg0.N) (y : S64x256.Idx) : eW S64x256 (iblk m c 6 t) y = kx8 (y 0).val (y 1).val := by
  refine (x41 m c (((cfg0.win 6).blk t).view.emb y)).trans ?_
  rw [emb6]
theorem ib7 (t : Fin cfg0.N) (y : S1x1x1x256.Idx) : iW S1x1x1x256 (iblk m c 7 t) y = kx9 (gR m c) (t.val / 28) (t.val % 28) (y 3).val := by
  refine (x47 m c (((cfg0.win 7).blk t).view.emb y)).trans ?_
  unfold kx9
  congr 1
  blk_ext [idx7 t]
  all_goals simp only [Fin.ofNat]; omega

end Cert.KernelIdeal.Hand
-- ==== Proof.PackA.lean ====
/- Packing: four codes weighted by powers of sixteen and summed as a float, truncated, and put together bit by bit,
   give the eight nibbles of a word. -/
module

public import Idealize.ShloMosaic.PureOps.Ideal
public import Idealize.ShloMosaic.PureOps.Ideal.Laws
public import Idealize.ShloMosaic.PureOps.Reduce
public import Idealize.ShloMosaic.Lib.Pointwise
public import Idealize.ShloMosaic.Lib.IdealHost
public import Mathlib.Analysis.Complex.Exponential
public import Mathlib.Tactic.Linarith
public import Mathlib.Tactic.NormNum

@[expose] public section

noncomputable section

namespace Cert.Pack

open Idealize.ShloMosaic

/-! Bits. -/

theorem xor_dig (i a b c e : ℕ) (ha : a < 2 ^ i) (hc : c < 2 ^ i) :
    (2 ^ i * b + a) ^^^ (2 ^ i * e + c) = 2 ^ i * (b ^^^ e) + (a ^^^ c) := by
  apply Nat.eq_of_testBit_eq
  intro j
  rw [Nat.testBit_xor, Nat.testBit_two_pow_mul_add b ha, Nat.testBit_two_pow_mul_add e hc,
    Nat.testBit_two_pow_mul_add _ (Nat.xor_lt_two_pow ha hc)]
  split_ifs <;> simp [Nat.testBit_xor]

theorem nib8 : ∀ d : Fin 16, d.val ^^^ 8 = (d.val + 8) % 16 := by decide

theorem xor_nib (d b e : ℕ) (hd : d < 16) : (16 * b + d) ^^^ (16 * e + 8) = 16 * (b ^^^ e) + (d + 8) % 16 := by
  have := xor_dig 4 d b 8 e (by omega) (by norm_num)
  rw [nib8 ⟨d, hd⟩] at this
  exact this

theorem xor_word (d0 d1 d2 d3 d4 d5 d6 d7 : ℕ) (h0 : d0 < 16) (h1 : d1 < 16) (h2 : d2 < 16) (h3 : d3 < 16) (h4 : d4 < 16) (h5 : d5 < 16) (h6 : d6 < 16) (h7 : d7 < 16) :
    (16 * (16 * (16 * (16 * (16 * (16 * (16 * d7 + d6) + d5) + d4) + d3) + d2) + d1) + d0) ^^^ 2290649224
      = 16 * (16 * (16 * (16 * (16 * (16 * (16 * ((d7 + 8) % 16) + (d6 + 8) % 16) + (d5 + 8) % 16) + (d4 + 8) % 16) + (d3 + 8) % 16) + (d2 + 8) % 16) + (d1 + 8) % 16) + (d0 + 8) % 16 := by
  rw [show (2290649224 : ℕ) = 16 * (16 * (16 * (16 * (16 * (16 * (16 * 8 + 8) + 8) + 8) + 8) + 8) + 8) + 8 by norm_num]
  rw [xor_nib d0 _ _ h0, xor_nib d1 _ _ h1, xor_nib d2 _ _ h2, xor_nib d3 _ _ h3, xor_nib d4 _ _ h4, xor_nib d5 _ _ h5, xor_nib d6 _ _ h6, nib8 ⟨d7, h7⟩]

theorem nib_shl : ∀ (d : Fin 16) (k : Fin 8),
    IntOp.shli ArithUnit.host (IntOp.andi (BitVec.ofInt 32 ((d.val : ℤ) - 8)) 15#32) (IntOp.muli 4#32 (BitVec.ofNat 32 k.val))
      = BitVec.ofNat 32 ((d.val + 8) % 16 * 16 ^ k.val) := by decide +kernel

/-- The word of eight codes: the kernel's two halves against the sum of shifted nibbles. -/
theorem word_eq (c : Fin 8 → ℤ) (hc : ∀ k, -7 ≤ c k ∧ c k ≤ 7) :
    IntOp.xori (IntOp.ori (IntOp.addi (BitVec.ofInt 32 (c 0 + 16 * c 1 + 256 * c 2 + 4096 * c 3)) 34952#32)
        (IntOp.shli ArithUnit.vector (IntOp.addi (BitVec.ofInt 32 (c 4 + 16 * c 5 + 256 * c 6 + 4096 * c 7)) 34952#32) 16#32)) 2290649224#32
      = (Finset.univ : Finset (Fin 8)).fold IntOp.addi 0#32 fun k =>
          IntOp.shli ArithUnit.host (IntOp.andi (BitVec.ofInt 32 (c k)) 15#32) (IntOp.muli 4#32 (BitVec.ofNat 32 k.val)) := by
  obtain ⟨d, hd⟩ : ∃ d : Fin 8 → Fin 16, ∀ k, c k = ((d k).val : ℤ) - 8 := by
    refine ⟨fun k => ⟨(c k + 8).toNat, ?_⟩, fun k => ?_⟩
    · have := hc k; omega
    · have := hc k; simp only; omega
  have half : ∀ a b e f : Fin 16, IntOp.addi (BitVec.ofInt 32 (((a.val : ℤ) - 8) + 16 * ((b.val : ℤ) - 8) + 256 * ((e.val : ℤ) - 8) + 4096 * ((f.val : ℤ) - 8))) 34952#32
      = BitVec.ofNat 32 (a.val + 16 * b.val + 256 * e.val + 4096 * f.val) := by
    intro a b e f
    show _ + _ = _
    rw [show (34952#32 : BitVec 32) = BitVec.ofInt 32 34952 by decide, ← BitVec.ofInt_add,
      show BitVec.ofNat 32 (a.val + 16 * b.val + 256 * e.val + 4096 * f.val) = BitVec.ofInt 32 ((a.val + 16 * b.val + 256 * e.val + 4096 * f.val : ℕ) : ℤ) from (BitVec.ofInt_natCast ..).symm]
    congr 1
    push_cast
    ring
  simp only [hd, half, nib_shl]
  have lt : ∀ k, (d k).val < 16 := fun k => (d k).isLt
  have e1 : (Finset.univ : Finset (Fin 8)) = {0, 1, 2, 3, 4, 5, 6, 7} := by decide
  rw [e1]
  have := lt 0; have := lt 1; have := lt 2; have := lt 3; have := lt 4; have := lt 5; have := lt 6; have := lt 7
  have hs : IntOp.shli ArithUnit.vector (BitVec.ofNat 32 ((d 4).val + 16 * (d 5).val + 256 * (d 6).val + 4096 * (d 7).val)) 16#32
      = BitVec.ofNat 32 (2 ^ 16 * ((d 4).val + 16 * (d 5).val + 256 * (d 6).val + 4096 * (d 7).val)) := by
    show (if (16#32 : BitVec 32).toNat < 32 then (BitVec.ofNat 32 _) <<< (16#32 : BitVec 32) else _) = _
    rw [if_pos (by decide)]
    apply BitVec.eq_of_toNat_eq
    simp [Nat.shiftLeft_eq]
    omega
  rw [hs]
  have hor : IntOp.ori (BitVec.ofNat 32 ((d 0).val + 16 * (d 1).val + 256 * (d 2).val + 4096 * (d 3).val)) (BitVec.ofNat 32 (2 ^ 16 * ((d 4).val + 16 * (d 5).val + 256 * (d 6).val + 4096 * (d 7).val)))
      = BitVec.ofNat 32 (2 ^ 16 * ((d 4).val + 16 * (d 5).val + 256 * (d 6).val + 4096 * (d 7).val) + ((d 0).val + 16 * (d 1).val + 256 * (d 2).val + 4096 * (d 3).val)) := by
    rw [Nat.two_pow_add_eq_or_of_lt (by omega), Nat.or_comm]
    show _ ||| _ = _
    exact (BitVec.ofNat_or ..).symm
  rw [hor]
  have hx := xor_word (d 0).val (d 1).val (d 2).val (d 3).val (d 4).val (d 5).val (d 6).val (d 7).val (by omega) (by omega) (by omega) (by omega) (by omega) (by omega) (by omega) (by omega)
  show BitVec.ofNat 32 _ ^^^ BitVec.ofNat 32 2290649224 = _
  rw [← BitVec.ofNat_xor]
  rw [show 2 ^ 16 * ((d 4).val + 16 * (d 5).val + 256 * (d 6).val + 4096 * (d 7).val) + ((d 0).val + 16 * (d 1).val + 256 * (d 2).val + 4096 * (d 3).val)
    = 16 * (16 * (16 * (16 * (16 * (16 * (16 * (d 7).val + (d 6).val) + (d 5).val) + (d 4).val) + (d 3).val) + (d 2).val) + (d 1).val) + (d 0).val by ring, hx]
  simp (disch := decide) only [Finset.fold_insert, Finset.fold_singleton]
  show _ = BitVec.ofNat 32 _ + (BitVec.ofNat 32 _ + (BitVec.ofNat 32 _ + (BitVec.ofNat 32 _ + (BitVec.ofNat 32 _ + (BitVec.ofNat 32 _ + (BitVec.ofNat 32 _ + (BitVec.ofNat 32 _ + BitVec.ofNat 32 0)))))))
  simp only [← BitVec.ofNat_add]
  congr 1
  norm_num
  ring

/-! The truncated weighted sum. -/

/-- The kernel's digit weight. -/
def wt (n : ℕ) : ℝ := Real.exp (11629080 / 2 ^ 24 * (4 * n))

theorem wt_zero : wt 0 = 1 := by simp [wt]

theorem exp_L : ∃ δ : ℝ, Real.exp (11629080 / 2 ^ 24) = 2 * (1 + δ) ∧ 0 ≤ δ ∧ δ ≤ 1 / 100000000 := by
  have h := Real.exp_bound (x := 11629080 / 2 ^ 24) (by rw [abs_of_nonneg (by positivity)]; norm_num) (n := 12) (by norm_num)
  rw [abs_of_nonneg (a := (11629080 / 2 ^ 24 : ℝ)) (by positivity)] at h
  have h' := abs_le.mp h
  simp only [Finset.sum_range_succ, Finset.sum_range_zero, Nat.factorial] at h'
  norm_num at h'
  refine ⟨Real.exp (11629080 / 2 ^ 24) / 2 - 1, by ring, ?_, ?_⟩
  · norm_num; linarith [h'.1]
  · norm_num; linarith [h'.2]

theorem wt_eq (n : ℕ) : wt n = Real.exp (11629080 / 2 ^ 24) ^ (4 * n) := by
  unfold wt
  rw [← Real.exp_nat_mul]
  congr 1
  push_cast
  ring

theorem wt_bds : ∃ e1 e2 e3 : ℝ, wt 1 = 16 * (1 + e1) ∧ wt 2 = 256 * (1 + e2) ∧ wt 3 = 4096 * (1 + e3)
    ∧ 0 ≤ e1 ∧ e1 ≤ e2 ∧ e2 ≤ e3 ∧ e3 ≤ 1 / 1000000 := by
  obtain ⟨δ, hδ, h0, h1⟩ := exp_L
  have hb : (1 : ℝ) ≤ 1 + δ := by linarith
  refine ⟨(1 + δ) ^ 4 - 1, (1 + δ) ^ 8 - 1, (1 + δ) ^ 12 - 1, ?_, ?_, ?_, ?_, ?_, ?_, ?_⟩
  · rw [wt_eq, hδ]; ring
  · rw [wt_eq, hδ]; ring
  · rw [wt_eq, hδ]; ring
  · have := one_le_pow₀ hb (n := 4); linarith
  · have := pow_le_pow_right₀ hb (by norm_num : 4 ≤ 8); linarith
  · have := pow_le_pow_right₀ hb (by norm_num : 8 ≤ 12); linarith
  · have : (1 + δ) ^ 12 ≤ (1 + 1 / 100000000) ^ 12 := pow_le_pow_left₀ (by linarith) (by linarith) 12
    have h2 : ((1 + 1 / 100000000) ^ 12 : ℝ) ≤ 1 + 1 / 1000000 := by norm_num
    linarith

/-- Truncating the weighted sum of four codes gives the number they are the digits of. -/
theorem trunc_eq (c0 c1 c2 c3 : ℤ) (h0 : -7 ≤ c0 ∧ c0 ≤ 7) (h1 : -7 ≤ c1 ∧ c1 ≤ 7) (h2 : -7 ≤ c2 ∧ c2 ≤ 7) (h3 : -7 ≤ c3 ∧ c3 ≤ 7) :
    Ideal.fptosi 32 (((wt 0 * c0 + wt 1 * c1 + wt 2 * c2 + wt 3 * c3 : ℝ)) : EReal) = BitVec.ofInt 32 (c0 + 16 * c1 + 256 * c2 + 4096 * c3) := by
  obtain ⟨e1, e2, e3, w1, w2, w3, p1, m12, m23, q3⟩ := wt_bds
  have p2 : 0 ≤ e2 := le_trans p1 m12
  have p3 : 0 ≤ e3 := le_trans p2 m23
  unfold Ideal.fptosi
  congr 1
  set v : ℤ := c0 + 16 * c1 + 256 * c2 + 4096 * c3 with hv
  have er : wt 0 * c0 + wt 1 * c1 + wt 2 * c2 + wt 3 * c3 = (v : ℝ) + (16 * e1 * c1 + 256 * e2 * c2 + 4096 * e3 * c3) := by
    rw [wt_zero, w1, w2, w3, hv]; push_cast; ring
  set e : ℝ := 16 * e1 * c1 + 256 * e2 * c2 + 4096 * e3 * c3 with he
  have r1 : (-7 : ℝ) ≤ c1 ∧ (c1 : ℝ) ≤ 7 := ⟨by exact_mod_cast h1.1, by exact_mod_cast h1.2⟩
  have r2 : (-7 : ℝ) ≤ c2 ∧ (c2 : ℝ) ≤ 7 := ⟨by exact_mod_cast h2.1, by exact_mod_cast h2.2⟩
  have r3 : (-7 : ℝ) ≤ c3 ∧ (c3 : ℝ) ≤ 7 := ⟨by exact_mod_cast h3.1, by exact_mod_cast h3.2⟩
  have b1u : e1 * c1 ≤ 7 * e1 := by nlinarith
  have b1l : -(7 * e1) ≤ e1 * c1 := by nlinarith
  have b2u : e2 * c2 ≤ 7 * e2 := by nlinarith
  have b2l : -(7 * e2) ≤ e2 * c2 := by nlinarith
  have b3u : e3 * c3 ≤ 7 * e3 := by nlinarith
  have b3l : -(7 * e3) ≤ e3 * c3 := by nlinarith
  have key : (0 ≤ v ∧ 0 ≤ e) ∨ (v < 0 ∧ e ≤ 0) := by
    rcases lt_trichotomy c3 0 with h | h | h
    · right
      have : (c3 : ℝ) ≤ -1 := by exact_mod_cast (by omega : c3 ≤ -1)
      have : e3 * c3 ≤ -e3 := by nlinarith
      exact ⟨by omega, by linarith⟩
    · have z3 : e3 * (c3 : ℝ) = 0 := by rw [h]; simp
      rcases lt_trichotomy c2 0 with h' | h' | h'
      · right
        have : (c2 : ℝ) ≤ -1 := by exact_mod_cast (by omega : c2 ≤ -1)
        have : e2 * c2 ≤ -e2 := by nlinarith
        exact ⟨by omega, by linarith⟩
      · have z2 : e2 * (c2 : ℝ) = 0 := by rw [h']; simp
        rcases lt_trichotomy c1 0 with h'' | h'' | h''
        · right
          have : (c1 : ℝ) ≤ -1 := by exact_mod_cast (by omega : c1 ≤ -1)
          have : e1 * c1 ≤ -e1 := by nlinarith
          exact ⟨by omega, by linarith⟩
        · have z1 : e1 * (c1 : ℝ) = 0 := by rw [h'']; simp
          rcases le_or_gt 0 v with hh | hh
          · exact Or.inl ⟨hh, by linarith⟩
          · exact Or.inr ⟨hh, by linarith⟩
        · left
          have : (1 : ℝ) ≤ c1 := by exact_mod_cast (by omega : 1 ≤ c1)
          have : e1 ≤ e1 * c1 := by nlinarith
          exact ⟨by omega, by linarith⟩
      · left
        have : (1 : ℝ) ≤ c2 := by exact_mod_cast (by omega : 1 ≤ c2)
        have : e2 ≤ e2 * c2 := by nlinarith
        exact ⟨by omega, by linarith⟩
    · left
      have : (1 : ℝ) ≤ c3 := by exact_mod_cast (by omega : 1 ≤ c3)
      have : e3 ≤ e3 * c3 := by nlinarith
      exact ⟨by omega, by linarith⟩
  have eu : e < 1 := by linarith
  have el : -1 < e := by linarith
  have hvb : -40000 ≤ v ∧ v ≤ 40000 := by omega
  rw [er]
  show max _ (min _ (if 0 ≤ (v : ℝ) + e then ⌊(v : ℝ) + e⌋ else ⌈(v : ℝ) + e⌉)) = v
  have hf : (if 0 ≤ (v : ℝ) + e then ⌊(v : ℝ) + e⌋ else ⌈(v : ℝ) + e⌉) = v := by
    rcases key with ⟨k1, k2⟩ | ⟨k1, k2⟩
    · have : (0 : ℝ) ≤ v := by exact_mod_cast k1
      rw [if_pos (by linarith), Int.floor_eq_iff]
      exact ⟨by linarith, by linarith⟩
    · have : (v : ℝ) ≤ -1 := by exact_mod_cast (by omega : v ≤ -1)
      rw [if_neg (by linarith), Int.ceil_eq_iff]
      exact ⟨by linarith, by linarith⟩
  rw [hf]
  norm_num
  omega

/-! A clipped rounded value is a whole number between −7 and 7. -/

theorem c7 : Ideal.ofBits FTy.f32 1088421888#32 = ((7 : ℝ) : EReal) := by
  simp [Ideal.ofBits, Ideal.ieee, -EReal.coe_mul]; norm_num
theorem cm7 : Ideal.ofBits FTy.f32 3235905536#32 = ((-7 : ℝ) : EReal) := by
  simp [Ideal.ofBits, Ideal.ieee, -EReal.coe_mul]; norm_num
theorem b7 : Ideal.ofBits FTy.bf16 16608#16 = ((7 : ℝ) : EReal) := by
  simp [Ideal.ofBits, Ideal.ieee, -EReal.coe_mul]; norm_num
theorem bm7 : Ideal.ofBits FTy.bf16 49376#16 = ((-7 : ℝ) : EReal) := by
  simp [Ideal.ofBits, Ideal.ieee, -EReal.coe_mul]; norm_num
theorem cL : Ideal.ofBits FTy.f32 1060205080#32 = ((11629080 / 2 ^ 24 : ℝ) : EReal) := by
  simp [Ideal.ofBits, Ideal.ieee, -EReal.coe_mul]; norm_num
theorem c4 : Ideal.ofBits FTy.f32 1082130432#32 = ((4 : ℝ) : EReal) := by
  simp [Ideal.ofBits, Ideal.ieee, -EReal.coe_mul]; norm_num

/-- The code of a value: rounded to the nearest whole number, clipped. -/
def code (z : EReal) : ℤ := match z with
  | ⊥ => -7
  | ⊤ => 7
  | (r : ℝ) => min 7 (max (-7) (Ideal.roundHalfEven r))

theorem code_bot : code ⊥ = -7 := rfl
theorem code_top : code ⊤ = 7 := rfl

theorem code_bd (z : EReal) : -7 ≤ code z ∧ code z ≤ 7 := by
  induction z with
  | bot => rw [code_bot]; norm_num
  | top => rw [code_top]; norm_num
  | coe r => show -7 ≤ min 7 (max (-7) _) ∧ min 7 (max (-7) _) ≤ 7; omega

theorem clip_eq (z : EReal) : min ((7 : ℝ) : EReal) (max ((-7 : ℝ) : EReal) (Ideal.liftRound Ideal.roundHalfEven z)) = (((code z : ℤ) : ℝ) : EReal) := by
  induction z with
  | bot => rw [code_bot, Ideal.liftRound_bot, max_eq_left bot_le, min_eq_right (EReal.coe_le_coe_iff.mpr (by norm_num))]; norm_num
  | top => rw [code_top, Ideal.liftRound_top, max_eq_right le_top, min_eq_left le_top]; norm_num
  | coe r =>
    rw [Ideal.liftRound_coe]
    show _ = (((min 7 (max (-7) (Ideal.roundHalfEven r)) : ℤ) : ℝ) : EReal)
    push_cast
    rfl

theorem fptosi_code (z : EReal) : Ideal.fptosi 32 ((((code z : ℤ) : ℝ)) : EReal) = BitVec.ofInt 32 (code z) := by
  have h := code_bd z
  unfold Ideal.fptosi
  congr 1
  show max _ (min _ (if 0 ≤ ((code z : ℤ) : ℝ) then ⌊((code z : ℤ) : ℝ)⌋ else ⌈((code z : ℤ) : ℝ)⌉)) = _
  simp only [Int.floor_intCast, Int.ceil_intCast, ite_self]
  norm_num
  omega

theorem toInt_code (z : EReal) : (BitVec.ofInt 32 (code z)).toInt = code z := by
  have h := code_bd z
  rw [BitVec.toInt_ofInt, Int.bmod_eq_of_le] <;> norm_num <;> omega

end Cert.Pack

end
-- ==== Proof.EqA.lean ====
/- The kernel's values and the reference's are the same functions of the arguments. -/
module

public import proofs.«01_k».proof.Proof.ValG
public import proofs.«01_k».proof.Proof.RefA
public import proofs.«01_k».proof.Proof.PackA

@[expose] public section

noncomputable section

namespace Cert.Eqn

open Idealize.ShloMosaic Cert.KernelIdeal Cert.KernelIdeal.Hand Cert.Pack
open Cert.ReferenceIdeal.Hand (rW rX rAmax rTerm rErr rRho rScale rWord rq rsc)

/-! Finite values. -/

def fin (x : EReal) : Prop := x ≠ ⊤ ∧ x ≠ ⊥

theorem fin_iff (x : EReal) : fin x ↔ ∃ r : ℝ, x = (r : EReal) := by
  constructor
  · intro h; exact ⟨x.toReal, (EReal.coe_toReal h.1 h.2).symm⟩
  · rintro ⟨r, rfl⟩; exact ⟨EReal.coe_ne_top r, EReal.coe_ne_bot r⟩

theorem fin.mul {x y : EReal} (hx : fin x) (hy : fin y) : fin (x * y) := by
  obtain ⟨a, rfl⟩ := (fin_iff x).1 hx
  obtain ⟨b, rfl⟩ := (fin_iff y).1 hy
  exact (fin_iff _).2 ⟨a * b, by push_cast; rfl⟩

theorem fin_sum {ι : Type} (s : Finset ι) (f : ι → EReal) (h : ∀ i ∈ s, fin (f i)) : fin (∑ i ∈ s, f i) := by
  classical
  induction s using Finset.induction_on with
  | empty => rw [Finset.sum_empty]; exact (fin_iff _).2 ⟨0, rfl⟩
  | insert a s ha ih =>
    rw [Finset.sum_insert ha]
    obtain ⟨x, hx⟩ := (fin_iff _).1 (h a (Finset.mem_insert_self a s))
    obtain ⟨y, hy⟩ := (fin_iff _).1 (ih fun i hi => h i (Finset.mem_insert_of_mem hi))
    rw [hx, hy]
    exact (fin_iff _).2 ⟨x + y, by push_cast; rfl⟩

theorem fin_uitofp (b : BitVec 1) : fin (FloatOps.uitofp (F := Ideal) FTy.f32 b) := (fin_iff _).2 ⟨_, rfl⟩

/-! Sums split. -/

theorem sumProd (m n : ℕ) (f : ℕ → EReal) : ∑ p : Fin (m * n), f p.val = ∑ u : Fin m, ∑ q : Fin n, f (q.val + n * u.val) := by
  rw [← (finProdFinEquiv (m := m) (n := n)).sum_comp, Fintype.sum_prod_type]
  rfl

theorem eye_eq (a b : ℕ) (ha : a < 2 ^ 32) (hb : b < 2 ^ 32) :
    FloatOps.uitofp (F := Ideal) FTy.f32 (IntOp.cmpi CmpIPredicate.eq (IntOp.addi (BitVec.ofNat 32 a) 0#32) (BitVec.ofNat 32 b)) = if a = b then (1 : EReal) else 0 := by
  have e : IntOp.addi (BitVec.ofNat 32 a) 0#32 = BitVec.ofNat 32 a := by show _ + _ = _; simp
  rw [e]
  by_cases h : a = b
  · subst h
    rw [if_pos rfl]
    show (((IntOp.cmpi CmpIPredicate.eq (BitVec.ofNat 32 a) (BitVec.ofNat 32 a)).toNat : ℝ) : EReal) = 1
    simp [IntOp.cmpi]
  · rw [if_neg h]
    have hne : BitVec.ofNat 32 a ≠ BitVec.ofNat 32 b := by
      intro h'
      have := congrArg BitVec.toNat h'
      simp only [BitVec.toNat_ofNat, Nat.mod_eq_of_lt ha, Nat.mod_eq_of_lt hb] at this
      exact h this
    show (((IntOp.cmpi CmpIPredicate.eq (BitVec.ofNat 32 a) (BitVec.ofNat 32 b)).toNat : ℝ) : EReal) = 0
    simp [IntOp.cmpi, hne]

/-! Scale and code. -/

theorem mul_inv_eq (x s : EReal) (hs : s ≠ 0) : x * Ideal.div 1 s = Ideal.div x s := by
  unfold Ideal.div; rw [if_neg hs, if_neg hs, one_mul]

theorem rq_eq (x s : EReal) : rq x s = (((code (Ideal.div x s) : ℤ) : ℝ) : EReal) := by
  unfold rq; rw [c7, cm7, clip_eq]

theorem qz_eq (z : EReal) : qz z = (((code z : ℤ) : ℝ) : EReal) := by
  unfold qz; rw [b7, bm7, clip_eq]

theorem err_eq (x s : EReal) (hs : s ≠ 0) : errT x (Ideal.div 1 s) s = rTerm x s := by
  unfold errT rTerm
  rw [mul_inv_eq x s hs, rq_eq, fptosi_code, toInt_code, c7, cm7, clip_eq]

theorem sc_eq (a ρ : EReal) : bSc a ρ = rsc a ρ := by
  unfold bSc rsc
  by_cases h : a = 0
  · rw [if_pos h, h]; simp [Scalar.select, FloatOps.cmpf, Ideal.cmp]
  · rw [if_neg h]; simp [Scalar.select, FloatOps.cmpf, Ideal.cmp, h]

theorem tie_ne : Ideal.ofBits FTy.f32 1065355264#32 ≠ 0 := by
  simp [Ideal.ofBits, Ideal.ieee, -EReal.coe_mul]

theorem sc_ne (a ρ : EReal) (hρ : ρ ≠ 0) : bSc a ρ ≠ 0 := by
  unfold bSc
  by_cases h : a = 0
  · rw [if_pos h]; exact one_ne_zero
  · rw [if_neg h, c7]
    unfold Ideal.div
    rw [if_neg (by exact_mod_cast (by norm_num : (7 : ℝ) ≠ 0)), ← EReal.coe_inv]
    exact mul_ne_zero (mul_ne_zero (mul_ne_zero hρ h) tie_ne) (by exact_mod_cast (by norm_num : ((7 : ℝ)⁻¹) ≠ 0))

theorem rat_ne (k : ℕ) (hk : k < 8) : rat k ≠ 0 := by
  interval_cases k <;> simp [rat, Ideal.ofBits, Ideal.ieee, -EReal.coe_mul]

theorem ratSel_eq (b : BitVec 32) (k : ℕ) (hk : k < 8) (hb : b = BitVec.ofNat 32 k) : ratSel b = rat k := by
  subst hb
  interval_cases k <;> simp [ratSel, rat, Scalar.select, IntOp.cmpi] <;> try rfl

section
variable (D : S3x7168x4096.Idx → EReal) (S : S3x56x32.Idx → EReal) (G : S3x4096.Idx → EReal) (Sg : S4096.Idx → EReal)
  (A B : S64x64.Idx → EReal) (ri : S3x7168.Idx → BitVec 32) (cst : Cert.ReferenceIdeal.S8.Idx → EReal)

theorem ofNat_eq {k : ℕ} [NeZero k] (x : ℕ) (i : Fin k) (h : x = i.val) : Fin.ofNat k x = i := by
  subst h; exact Fin.ext (Nat.mod_eq_of_lt i.isLt)

theorem rho_eq (n : Fin 3) (r : Fin 7168) (k : ℕ) (hk : k < 8) (hb : ri (ix2 n r) = BitVec.ofNat 32 k) (hc : ∀ k : Fin 8, cst (ix1 k) = rat k.val) :
    rRho cst ri n r = rat k := by
  unfold rRho
  rw [hb]
  simp only [hc]
  rw [Fin.sum_univ_eight]
  interval_cases k <;> simp [Scalar.select, IntOp.cmpi]

variable (n : Fin 3) (s : ℕ) (hs : s < 28) (rr : ℕ) (hrr : rr < 256) (r : Fin 7168) (hr : r.val = 256 * s + rr)

include hs hrr hr in
theorem W_eq (x : ℕ) (c : Fin 4096) (hc : x = c.val) : bW (kx2 D n.val s) (kx3 S n.val s) (kx4 G Sg n.val) rr x = rW D S G Sg n r c := by
  subst hc
  unfold bW rW kx2 kx3 kx4
  rw [ofNat_eq n.val n rfl, ofNat_eq (256 * s + rr) r hr.symm, ofNat_eq c.val c rfl,
    ofNat_eq (2 * s + rr / 128) (⟨r.val / 128, by omega⟩ : Fin 56) (by show _ = r.val / 128; omega), ofNat_eq (c.val / 128) (⟨c.val / 128, by omega⟩ : Fin 32) rfl]

include hs hrr hr in
theorem T_eq (a j : Fin 64) : kT D S G Sg B n.val s a.val j.val rr = ∑ b : Fin 64, rW D S G Sg n r ⟨a.val * 64 + b.val, by omega⟩ * B (ix2 b j) := by
  unfold kT bT
  rw [sumProd 4 64 (fun p => kx5 B (64 * (a.val % 4) + j.val) p * bW (kx2 D n.val s) (kx3 S n.val s) (kx4 G Sg n.val) rr (256 * (a.val / 4) + p))]
  rw [Finset.sum_eq_single (⟨a.val % 4, by omega⟩ : Fin 4)]
  · refine Finset.sum_congr rfl fun q _ => ?_
    unfold kx5
    rw [eye_eq _ _ (by omega) (by simp only; omega), if_pos (by simp only; omega), one_mul, mul_comm,
      ofNat_eq ((q.val + 64 * (a.val % 4)) % 64) q (by omega), ofNat_eq ((64 * (a.val % 4) + j.val) % 64) j (by omega)]
    rw [W_eq D S G Sg n s hs rr hrr r hr (256 * (a.val / 4) + (q.val + 64 * (a.val % 4))) ⟨a.val * 64 + q.val, by omega⟩ (by simp only; omega)]
  · intro u _ hu
    refine Finset.sum_eq_zero fun q _ => ?_
    have : u.val ≠ a.val % 4 := fun h => hu (Fin.ext h)
    unfold kx5
    rw [eye_eq _ _ (by omega) (by omega), if_neg (by omega), zero_mul, zero_mul]
  · intro h; exact absurd (Finset.mem_univ _) h

include hs hrr hr in
theorem R_eq (i j : Fin 64) : bR (kx6 A) (kT D S G Sg B n.val s) j.val i.val rr = rX D S G Sg A B n r ⟨i.val * 64 + j.val, by omega⟩ := by
  unfold bR rot rX c64
  congr 1
  refine Finset.sum_congr rfl fun q _ => ?_
  beta_reduce
  rw [T_eq D S G Sg B n s hs rr hrr r hr q j]
  unfold kx6
  have e1 : (⟨(i.val * 64 + j.val) / 64, by omega⟩ : Fin 64) = i := Fin.ext (by simp only; omega)
  have e2 : (⟨(i.val * 64 + j.val) % 64, by omega⟩ : Fin 64) = j := Fin.ext (by simp only; omega)
  rw [ofNat_eq (q.val % 64) q (by omega), ofNat_eq i.val i rfl]
  simp only [e1, e2]

include hs hrr hr in
theorem A_eq : bA (kx6 A) (kT D S G Sg B n.val s) rr = rAmax D S G Sg A B n r := by
  unfold rAmax
  rw [ofBits_neg_inf]
  show _ = (Finset.univ : Finset (Fin 4096)).sup fun k => max (rX D S G Sg A B n r k) (-(rX D S G Sg A B n r k))
  unfold bA
  apply le_antisymm
  · refine Finset.sup_le fun ji _ => ?_
    rw [R_eq D S G Sg A B n s hs rr hrr r hr ji.2 ji.1]
    exact Finset.le_sup (f := fun k => max (rX D S G Sg A B n r k) (-(rX D S G Sg A B n r k))) (Finset.mem_univ _)
  · refine Finset.sup_le fun c _ => ?_
    have h := R_eq D S G Sg A B n s hs rr hrr r hr ⟨c.val / 64, by omega⟩ ⟨c.val % 64, by omega⟩
    have e : (⟨c.val / 64 * 64 + c.val % 64, by omega⟩ : Fin 4096) = c := Fin.ext (by simp only; omega)
    simp only [e] at h
    have hle := Finset.le_sup (f := fun ji : Fin 64 × Fin 64 => eabs (bR (kx6 A) (kT D S G Sg B n.val s) ji.1.val ji.2.val rr)) (Finset.mem_univ ((⟨c.val % 64, by omega⟩, ⟨c.val / 64, by omega⟩) : Fin 64 × Fin 64))
    dsimp only at hle
    rw [h] at hle
    exact hle

theorem kx9_eq (hr : r.val = 256 * s + rr) : kx9 ri n.val s rr = ri (ix2 n r) := by
  unfold kx9; rw [ofNat_eq n.val n rfl, ofNat_eq (256 * s + rr) r hr.symm]

include hs hrr hr in
theorem scale_eq (k : ℕ) (hk : k < 8) (hb : ri (ix2 n r) = BitVec.ofNat 32 k) (hc : ∀ k : Fin 8, cst (ix1 k) = rat k.val) :
    kScale D S G Sg A B ri n.val s rr = rScale D S G Sg A B cst ri n r := by
  unfold kScale rScale
  rw [A_eq D S G Sg A B n s hs rr hrr r hr, kx9_eq ri n s rr r hr, ratSel_eq _ k hk hb, rho_eq ri cst n r k hk hb hc, sc_eq]

include hs hrr hr in
theorem error_eq (k : Fin 8) (hc : ∀ k : Fin 8, cst (ix1 k) = rat k.val) :
    kErr D S G Sg A B n.val s k.val rr = rErr D S G Sg A B cst n r k := by
  unfold kErr bE bErr rErr
  rw [A_eq D S G Sg A B n s hs rr hrr r hr, hc k, ← sc_eq]
  have e := sumProd 64 64 (fun x => if h : x < 4096 then rTerm (rX D S G Sg A B n r ⟨x, h⟩) (bSc (rAmax D S G Sg A B n r) (rat k.val)) else 0)
  refine Eq.trans ?_ (e.symm.trans ?_)
  · rw [Finset.sum_comm]
    refine Finset.sum_congr rfl fun i _ => Finset.sum_congr rfl fun j _ => ?_
    rw [dif_pos (by omega), R_eq D S G Sg A B n s hs rr hrr r hr i j, err_eq _ _ (sc_ne _ _ (rat_ne k.val k.isLt))]
    congr 2
    exact Fin.ext (by simp only; omega)
  · refine Finset.sum_congr rfl fun x _ => ?_
    rw [dif_pos x.isLt]

/-! The words. -/

theorem kx8_eq (i u q : ℕ) (hi : i < 64) (hu : u < 4) (hq : q < 64) : kx8 i (q + 64 * u) = if i = q then ((wt u : ℝ) : EReal) else 0 := by
  unfold kx8
  rw [eye_eq _ _ (by omega) (by omega), cL, c4, show (q + 64 * u) / 64 = u by omega, show (q + 64 * u) % 64 = q by omega]
  have e : FloatOps.sitofp (F := Ideal) FTy.f32 (BitVec.ofNat 32 u) = ((u : ℝ) : EReal) := by
    show ((((BitVec.ofNat 32 u).toInt : ℤ) : ℝ) : EReal) = _
    have : (BitVec.ofNat 32 u).toInt = (u : ℤ) := by interval_cases u <;> rfl
    rw [this]; push_cast; rfl
  rw [e, ← EReal.coe_mul, ← EReal.coe_mul]
  by_cases h : i = q
  · rw [if_pos h, if_pos h, mul_one]; rfl
  · rw [if_neg h, if_neg h, mul_zero]

theorem half_eq (R : ℕ → ℕ → ℕ → EReal) (inv : EReal) (b i : ℕ) (hi : i < 64) :
    halfE kx8 R inv b i rr = ((wt 0 * code (R b i rr * inv) + wt 1 * code (R (b + 1) i rr * inv) + wt 2 * code (R (b + 2) i rr * inv) + wt 3 * code (R (b + 3) i rr * inv) : ℝ) : EReal) := by
  unfold halfE
  rw [sumProd 4 64 (fun p => kx8 i p * qz (R (b + p / 64) (p % 64) rr * inv))]
  have h : ∀ u : Fin 4, ∑ q : Fin 64, kx8 i (q.val + 64 * u.val) * qz (R (b + (q.val + 64 * u.val) / 64) ((q.val + 64 * u.val) % 64) rr * inv)
      = ((wt u.val * code (R (b + u.val) i rr * inv) : ℝ) : EReal) := by
    intro u
    rw [Finset.sum_eq_single (⟨i, hi⟩ : Fin 64)]
    · rw [kx8_eq i u.val i hi u.isLt hi, if_pos rfl, qz_eq, EReal.coe_mul]
      simp only [show (i + 64 * u.val) / 64 = u.val by omega, show (i + 64 * u.val) % 64 = i by omega]
    · intro q _ hq
      rw [kx8_eq i u.val q.val hi u.isLt q.isLt, if_neg (fun h => hq (Fin.ext h.symm)), zero_mul]
    · intro h; exact absurd (Finset.mem_univ _) h
  simp only [h]
  rw [Fin.sum_univ_four]
  push_cast
  rfl

include hs hrr hr in
theorem word_eq' (q : Fin 512) (k : ℕ) (hk : k < 8) (hb : ri (ix2 n r) = BitVec.ofNat 32 k) (hc : ∀ k : Fin 8, cst (ix1 k) = rat k.val) :
    kWord D S G Sg A B ri n.val s rr q.val = rWord D S G Sg A B cst ri n r q := by
  have hsc := scale_eq D S G Sg A B ri cst n s hs rr hrr r hr k hk hb hc
  have hne : rScale D S G Sg A B cst ri n r ≠ 0 := by
    rw [← hsc]; unfold kScale; rw [kx9_eq ri n s rr r hr, ratSel_eq _ k hk hb]; exact sc_ne _ _ (rat_ne k hk)
  unfold kWord G10 wordE mkWord rWord
  have hi : bInv (kx6 A) (kT D S G Sg B n.val s) (kx9 ri n.val s) rr = Ideal.div 1 (rScale D S G Sg A B cst ri n r) := by
    rw [← hsc]; rfl
  have hcode : ∀ e : Fin 8, bR (kx6 A) (kT D S G Sg B n.val s) (8 * (q.val % 8) + e.val) (q.val / 8) rr * Ideal.div 1 (rScale D S G Sg A B cst ri n r)
      = Ideal.div (rX D S G Sg A B n r ⟨q.val * 8 + e.val, by omega⟩) (rScale D S G Sg A B cst ri n r) := by
    intro e
    rw [mul_inv_eq _ _ hne]
    have h := R_eq D S G Sg A B n s hs rr hrr r hr ⟨q.val / 8, by omega⟩ ⟨8 * (q.val % 8) + e.val, by omega⟩
    simp only at h
    rw [h]
    congr 2
    exact Fin.ext (by simp only; omega)
  rw [hi, half_eq rr _ _ _ _ (by omega), half_eq rr _ _ _ _ (by omega)]
  have h0 := hcode 0; have h1 := hcode 1; have h2 := hcode 2; have h3 := hcode 3
  have h4 := hcode 4; have h5 := hcode 5; have h6 := hcode 6; have h7 := hcode 7
  have hw := word_eq (fun e => code (Ideal.div (rX D S G Sg A B n r ⟨q.val * 8 + e.val, by omega⟩) (rScale D S G Sg A B cst ri n r))) (fun e => code_bd _)
  simp only [rq_eq, fptosi_code]
  refine Eq.trans ?_ hw
  show IntOp.xori (IntOp.ori (IntOp.addi (Ideal.fptosi 32 _) _) (IntOp.shli _ (IntOp.addi (Ideal.fptosi 32 _) _) _)) _ = _
  rw [trunc_eq _ _ _ _ (code_bd _) (code_bd _) (code_bd _) (code_bd _), trunc_eq _ _ _ _ (code_bd _) (code_bd _) (code_bd _) (code_bd _)]
  simp only [← h0, ← h1, ← h2, ← h3, ← h4, ← h5, ← h6, ← h7]
  rfl

/-! Finiteness of the first rotation. -/

theorem finT (hD : ∀ i, fin (D i)) (hS : ∀ i, fin (S i)) (hG : ∀ i, fin (G i)) (hSg : ∀ i, fin (Sg i)) (hB : ∀ i, fin (B i)) (n s a j r : ℕ) :
    fin (kT D S G Sg B n s a j r) := by
  unfold kT bT kx5 bW kx2 kx3 kx4
  exact fin_sum _ _ fun p _ => ((fin_uitofp _).mul (hB _)).mul (((hD _).mul (hS _)).mul ((hG _).mul (hSg _)))

end

end Cert.Eqn

end
-- ==== Proof.DEqA.lean ====
/- The second kernel's values and its reference's are the same functions of the arguments. -/
module

public import proofs.«01_k».proof.Proof.DValG
public import proofs.«01_k».proof.Proof.DRefA
public import proofs.«01_k».proof.Proof.EqA

@[expose] public section

noncomputable section

namespace Cert.DEqn

open Idealize.ShloMosaic Cert.DownIdeal Cert.DownIdeal.Hand Cert.Pack Cert.Eqn
open Cert.KernelIdeal.Hand (bSc rat ratSel mkWord errT eabs qz ofBits_neg_inf)
open Cert.ReferenceIdeal.Hand (rTerm rq rsc)
open Cert.DownReferenceIdeal.Hand (rW rX rAmax rErr rRho rScale rWord)

theorem sum32 (f : ℕ → EReal) (h : ∀ b, 28 ≤ b → b < 32 → f b = 0) : ∑ b : Fin 32, f b.val = ∑ a : Fin 28, f a.val := by
  have e := Fin.sum_univ_add (a := 28) (b := 4) (fun x : Fin (28 + 4) => f x.val)
  refine Eq.trans e ?_
  have z : ∑ i : Fin 4, f (Fin.natAdd 28 i).val = 0 := Finset.sum_eq_zero fun i _ => h _ (by simp) (by simp; omega)
  rw [z, add_zero]
  rfl

theorem col_lt (k : Fin 64) (m : Fin 112) : 256 * (m.val % 28) + 4 * k.val + m.val / 28 < 7168 := by omega

/-- The column held at entry `m` of group `k`. -/
def col (p : Fin 64 × Fin 112) : Fin 7168 := ⟨256 * (p.2.val % 28) + 4 * p.1.val + p.2.val / 28, col_lt p.1 p.2⟩

theorem col_fwd (k m : ℕ) (hk : k < 64) (hm : m < 112) :
    (256 * (m % 28) + 4 * k + m / 28) % 256 / 4 = k
      ∧ 28 * ((256 * (m % 28) + 4 * k + m / 28) % 4) + (256 * (m % 28) + 4 * k + m / 28) / 256 = m := by
  have hd : m / 28 < 4 := by omega
  have he : m % 28 < 28 := by omega
  have hm' : m = 28 * (m / 28) + m % 28 := by omega
  generalize m / 28 = d at *
  generalize m % 28 = e at *
  have a : (256 * e + 4 * k + d) % 256 = 4 * k + d := by omega
  have b : (256 * e + 4 * k + d) / 256 = e := by omega
  have c : (256 * e + 4 * k + d) % 4 = d := by omega
  rw [a, b, c]
  exact ⟨by omega, hm'.symm⟩

theorem col_bwd (C : ℕ) (hC : C < 7168) :
    256 * ((28 * (C % 4) + C / 256) % 28) + 4 * (C % 256 / 4) + (28 * (C % 4) + C / 256) / 28 = C := by
  have h1 : C / 256 < 28 := by omega
  have h2 : C = 256 * (C / 256) + C % 256 := by omega
  have h3 : C % 4 = C % 256 % 4 := by omega
  rw [h3]
  have h4 : C % 256 < 256 := by omega
  generalize C / 256 = a at *
  generalize C % 256 = b at *
  have h5 : b = 4 * (b / 4) + b % 4 := by omega
  have h6 : b % 4 < 4 := by omega
  generalize b / 4 = u at *
  generalize b % 4 = v at *
  have a1 : (28 * v + a) % 28 = a := by omega
  have a2 : (28 * v + a) / 28 = v := by omega
  rw [a1, a2]
  omega

theorem col_bij : Function.Bijective col := by
  refine Function.bijective_iff_has_inverse.2 ⟨fun C => (⟨C.val % 256 / 4, by omega⟩, ⟨28 * (C.val % 4) + C.val / 256, by omega⟩), ?_, ?_⟩
  · rintro ⟨⟨k, hk⟩, ⟨m, hm⟩⟩
    exact Prod.ext (Fin.ext (col_fwd k m hk hm).1) (Fin.ext (col_fwd k m hk hm).2)
  · rintro ⟨C, hC⟩
    exact Fin.ext (col_bwd C hC)

section
variable (U : S3x2048x7168.Idx → BitVec 32) (A : S256x256.Idx → EReal) (H : S28x28.Idx → EReal)
  (ri : S3x4096.Idx → BitVec 32) (cst : Cert.DownReferenceIdeal.S8.Idx → EReal)

theorem half_two (T : ℕ → EReal) (i w : ℕ) (hi : i < 56) (hw : w < 2) :
    ∑ b : Fin 32, kx4 H i (96 * w + b.val) * T b.val
      = if i / 28 = w then ∑ a : Fin 28, H (ix2 a ⟨i % 28, Nat.mod_lt _ (by decide)⟩) * T a.val else 0 := by
  rw [sum32 (fun b => kx4 H i (96 * w + b) * T b)]
  · by_cases h : i / 28 = w
    · rw [if_pos h]
      refine Finset.sum_congr rfl fun a _ => ?_
      unfold kx4
      have e1 : (96 * w + a.val) % 96 % 32 = a.val := by omega
      have e2 : (96 * w + a.val) / 96 = w := by omega
      beta_reduce
      rw [e1, e2, eye_eq _ _ (by omega) (by omega), if_pos h, one_mul, if_pos a.isLt, ofNat_eq a.val a rfl,
        ofNat_eq (i % 28) (⟨i % 28, Nat.mod_lt _ (by decide)⟩ : Fin 28) rfl]
    · rw [if_neg h]
      refine Finset.sum_eq_zero fun a _ => ?_
      unfold kx4
      have e2 : (96 * w + a.val) / 96 = w := by omega
      beta_reduce
      rw [e2, eye_eq _ _ (by omega) (by omega), if_neg h, zero_mul, zero_mul]
  · intro b hb hb'
    unfold kx4
    have e1 : (96 * w + b) % 96 % 32 = b := by omega
    have z : FloatOps.sitofp (F := Ideal) FTy.bf16 0#32 = (0 : EReal) := by
      show ((((0#32 : BitVec 32).toInt : ℤ) : ℝ) : EReal) = 0
      simp
    rw [e1, if_neg (by omega), z, mul_zero, zero_mul]

theorem two_eq (T0 T1 : ℕ → EReal) (i : ℕ) (hi : i < 56) :
    two (kx4 H) T0 T1 i = ∑ a : Fin 28, H (ix2 a ⟨i % 28, Nat.mod_lt _ (by decide)⟩) * (if i / 28 = 0 then T0 a.val else T1 a.val) := by
  unfold two
  have h0 := half_two H T0 i 0 hi (by omega)
  have h1 := half_two H T1 i 1 hi (by omega)
  simp only [Nat.mul_zero, Nat.zero_add, Nat.mul_one] at h0 h1
  rw [h0, h1]
  by_cases h : i / 28 = 0
  · rw [if_pos h, if_neg (by omega), add_zero]; simp only [if_pos h]
  · rw [if_neg h, if_pos (by omega), zero_add]; simp only [if_neg h]

theorem bR_eq (T : ℕ → ℕ → ℕ → EReal) (k m r : ℕ) (hm : m < 112) :
    bR (kx4 H) T k m r = (∑ a : Fin 28, H (ix2 a ⟨m % 28, Nat.mod_lt _ (by decide)⟩) * T a.val (4 * k + m / 28) r) * c84 := by
  unfold bR
  rw [two_eq H _ _ _ (by omega)]
  congr 1
  refine Finset.sum_congr rfl fun a _ => ?_
  have e : (⟨m % 56 % 28, Nat.mod_lt _ (by decide)⟩ : Fin 28) = ⟨m % 28, Nat.mod_lt _ (by decide)⟩ := Fin.ext (by simp only; omega)
  rw [e]
  congr 1
  by_cases h : m % 56 / 28 = 0
  · rw [if_pos h]; congr 1; omega
  · rw [if_neg h]; congr 1; omega

theorem rho_eq (n : Fin 3) (r : Fin 4096) (k : ℕ) (hk : k < 8) (hb : ri (ix2 n r) = BitVec.ofNat 32 k) (hc : ∀ k : Fin 8, cst (ix1 k) = rat k.val) :
    rRho cst ri n r = rat k := by
  unfold rRho
  rw [hb]
  simp only [hc]
  rw [Fin.sum_univ_eight]
  interval_cases k <;> simp [Scalar.select, IntOp.cmpi]

variable (n : Fin 3) (s : ℕ) (hs : s < 16) (rr : ℕ) (hrr : rr < 256) (r : Fin 4096) (hr : r.val = 256 * s + rr)

include hs hrr hr in
theorem W_eq (x : ℕ) (c : Fin 7168) (hc : x = c.val) : bW (kx2 U n.val s) rr x = rW U n r c := by
  subst hc
  unfold bW rW kx2
  rw [ofNat_eq n.val n rfl, ofNat_eq (128 * s + rr / 2) (⟨r.val / 2, by omega⟩ : Fin 2048) (by show _ = r.val / 2; omega), ofNat_eq c.val c rfl,
    show 16 * (rr % 2) = r.val % 2 * 16 by omega]

include hs hrr hr in
theorem T_eq (a : Fin 28) (j : Fin 256) : kT U A n.val s a.val j.val rr = ∑ b : Fin 256, rW U n r ⟨a.val * 256 + b.val, by omega⟩ * A (ix2 b j) := by
  unfold kT bT
  rw [if_pos a.isLt]
  refine Finset.sum_congr rfl fun b _ => ?_
  rw [W_eq U n s hs rr hrr r hr (256 * a.val + b.val) ⟨a.val * 256 + b.val, by omega⟩ (by simp only; omega), mul_comm]
  unfold kx3
  rw [ofNat_eq b.val b rfl, ofNat_eq j.val j rfl]

include hs hrr hr in
theorem R_eq (k m : ℕ) (hk : k < 64) (hm : m < 112) (C : Fin 7168) (hC : C.val = 256 * (m % 28) + 4 * k + m / 28) :
    bR (kx4 H) (kT U A n.val s) k m rr = rX U H A n r C := by
  rw [bR_eq H _ _ _ _ hm]
  unfold rX c84
  congr 1
  refine Finset.sum_congr rfl fun a _ => ?_
  have e1 : (⟨m % 28, Nat.mod_lt _ (by decide)⟩ : Fin 28) = ⟨C.val / 256, by omega⟩ := Fin.ext (by simp only; omega)
  have e2 : 4 * k + m / 28 = (⟨C.val % 256, by omega⟩ : Fin 256).val := by simp only; omega
  rw [e1, e2, T_eq U A n s hs rr hrr r hr]

include hs hrr hr in
theorem A_eq : bA (kx4 H) (kT U A n.val s) rr = rAmax U H A n r := by
  unfold rAmax
  rw [ofBits_neg_inf]
  show _ = (Finset.univ : Finset (Fin 7168)).sup fun k => max (rX U H A n r k) (-(rX U H A n r k))
  unfold bA
  apply le_antisymm
  · refine Finset.sup_le fun p _ => ?_
    rw [R_eq U A H n s hs rr hrr r hr p.1.val p.2.val p.1.isLt p.2.isLt (col p) rfl]
    exact Finset.le_sup (f := fun k => max (rX U H A n r k) (-(rX U H A n r k))) (Finset.mem_univ _)
  · refine Finset.sup_le fun c _ => ?_
    obtain ⟨p, rfl⟩ := col_bij.2 c
    have h := R_eq U A H n s hs rr hrr r hr p.1.val p.2.val p.1.isLt p.2.isLt (col p) rfl
    have hle := Finset.le_sup (f := fun p : Fin 64 × Fin 112 => eabs (bR (kx4 H) (kT U A n.val s) p.1.val p.2.val rr)) (Finset.mem_univ p)
    rw [h] at hle
    exact hle

theorem kx6_eq (hr : r.val = 256 * s + rr) : kx6 ri n.val s rr = ri (ix2 n r) := by
  unfold kx6; rw [ofNat_eq n.val n rfl, ofNat_eq (256 * s + rr) r hr.symm]

include hs hrr hr in
theorem scale_eq (k : ℕ) (hk : k < 8) (hb : ri (ix2 n r) = BitVec.ofNat 32 k) (hc : ∀ k : Fin 8, cst (ix1 k) = rat k.val) :
    kScale U A H ri n.val s rr = rScale U H A cst ri n r := by
  unfold kScale rScale
  rw [A_eq U A H n s hs rr hrr r hr, kx6_eq ri n s rr r hr, ratSel_eq _ k hk hb, rho_eq ri cst n r k hk hb hc, sc_eq]

include hs hrr hr in
theorem error_eq (k : Fin 8) (hc : ∀ k : Fin 8, cst (ix1 k) = rat k.val) :
    kErr U A H n.val s k.val rr = rErr U H A cst n r k := by
  unfold kErr bE bErr rErr
  rw [A_eq U A H n s hs rr hrr r hr, hc k, ← sc_eq]
  rw [← Fintype.sum_prod_type' (fun (j : Fin 64) (q : Fin 112) => errT (bR (kx4 H) (kT U A n.val s) j.val q.val rr) (Ideal.div 1 (bSc (rAmax U H A n r) (rat k.val))) (bSc (rAmax U H A n r) (rat k.val)))]
  refine Fintype.sum_bijective col col_bij _ _ fun p => ?_
  rw [R_eq U A H n s hs rr hrr r hr p.1.val p.2.val p.1.isLt p.2.isLt (col p) rfl, err_eq _ _ (sc_ne _ _ (rat_ne k.val k.isLt))]

/-! The words. -/

theorem kx5_eq (i u q : ℕ) (hi : i < 28) (hu : u < 4) (hq : q < 28) : kx5 i (q + 28 * u) = if i = q then ((wt u : ℝ) : EReal) else 0 := by
  unfold kx5
  rw [eye_eq _ _ (by omega) (by omega), cL, c4, show (q + 28 * u) / 28 = u by omega, show (q + 28 * u) % 28 = q by omega]
  have e : FloatOps.sitofp (F := Ideal) FTy.f32 (BitVec.ofNat 32 u) = ((u : ℝ) : EReal) := by
    show ((((BitVec.ofNat 32 u).toInt : ℤ) : ℝ) : EReal) = _
    have : (BitVec.ofNat 32 u).toInt = (u : ℤ) := by interval_cases u <;> rfl
    rw [this]; push_cast; rfl
  rw [e, ← EReal.coe_mul, ← EReal.coe_mul]
  by_cases h : i = q
  · rw [if_pos h, if_pos h, mul_one]; rfl
  · rw [if_neg h, if_neg h, mul_zero]

theorem half_eq (R : ℕ → ℕ → ℕ → EReal) (inv : EReal) (b i : ℕ) (hi : i < 28) :
    halfE kx5 R inv b i rr = ((wt 0 * code (R b (i + 28 * 0) rr * inv) + wt 1 * code (R b (i + 28 * 1) rr * inv) + wt 2 * code (R b (i + 28 * 2) rr * inv) + wt 3 * code (R b (i + 28 * 3) rr * inv) : ℝ) : EReal) := by
  unfold halfE
  rw [sumProd 4 28 (fun p => kx5 i p * qz (R b p rr * inv))]
  have h : ∀ u : Fin 4, ∑ q : Fin 28, kx5 i (q.val + 28 * u.val) * qz (R b (q.val + 28 * u.val) rr * inv)
      = ((wt u.val * code (R b (i + 28 * u.val) rr * inv) : ℝ) : EReal) := by
    intro u
    rw [Finset.sum_eq_single (⟨i, hi⟩ : Fin 28)]
    · rw [kx5_eq i u.val i hi u.isLt hi, if_pos rfl, qz_eq, EReal.coe_mul]
    · intro q _ hq
      rw [kx5_eq i u.val q.val hi u.isLt q.isLt, if_neg (fun h => hq (Fin.ext h.symm)), zero_mul]
    · intro h; exact absurd (Finset.mem_univ _) h
  simp only [h]
  rw [Fin.sum_univ_four]
  push_cast
  rfl

include hs hrr hr in
theorem word_eq' (q : Fin 896) (k : ℕ) (hk : k < 8) (hb : ri (ix2 n r) = BitVec.ofNat 32 k) (hc : ∀ k : Fin 8, cst (ix1 k) = rat k.val) :
    kWord U A H ri n.val s rr q.val = rWord U H A cst ri n r q := by
  have hsc := scale_eq U A H ri cst n s hs rr hrr r hr k hk hb hc
  have hne : rScale U H A cst ri n r ≠ 0 := by
    rw [← hsc]; unfold kScale; rw [kx6_eq ri n s rr r hr, ratSel_eq _ k hk hb]; exact sc_ne _ _ (rat_ne k hk)
  unfold kWord G7 wordE mkWord rWord
  have hi : bInv (kx4 H) (kT U A n.val s) (kx6 ri n.val s) rr = Ideal.div 1 (rScale U H A cst ri n r) := by
    rw [← hsc]; rfl
  have hcode : ∀ (e : Fin 8) (b m : ℕ), b = 2 * (q.val % 32) + e.val / 4 → m = q.val / 32 + 28 * (e.val % 4) →
      bR (kx4 H) (kT U A n.val s) b m rr * Ideal.div 1 (rScale U H A cst ri n r)
      = Ideal.div (rX U H A n r ⟨q.val * 8 + e.val, by omega⟩) (rScale U H A cst ri n r) := by
    intro e b m hb hm
    rw [mul_inv_eq _ _ hne, R_eq U A H n s hs rr hrr r hr b m (by omega) (by omega) ⟨q.val * 8 + e.val, by omega⟩ (by simp only; omega)]
  rw [hi, half_eq rr _ _ _ _ (by omega), half_eq rr _ _ _ _ (by omega)]
  have h0 := hcode 0 (2 * (q.val % 32)) (q.val / 32 + 28 * 0) rfl rfl
  have h1 := hcode 1 (2 * (q.val % 32)) (q.val / 32 + 28 * 1) rfl rfl
  have h2 := hcode 2 (2 * (q.val % 32)) (q.val / 32 + 28 * 2) rfl rfl
  have h3 := hcode 3 (2 * (q.val % 32)) (q.val / 32 + 28 * 3) rfl rfl
  have h4 := hcode 4 (2 * (q.val % 32) + 1) (q.val / 32 + 28 * 0) rfl rfl
  have h5 := hcode 5 (2 * (q.val % 32) + 1) (q.val / 32 + 28 * 1) rfl rfl
  have h6 := hcode 6 (2 * (q.val % 32) + 1) (q.val / 32 + 28 * 2) rfl rfl
  have h7 := hcode 7 (2 * (q.val % 32) + 1) (q.val / 32 + 28 * 3) rfl rfl
  have hw := word_eq (fun e => code (Ideal.div (rX U H A n r ⟨q.val * 8 + e.val, by omega⟩) (rScale U H A cst ri n r))) (fun e => code_bd _)
  simp only [rq_eq, fptosi_code]
  refine Eq.trans ?_ hw
  show IntOp.xori (IntOp.ori (IntOp.addi (Ideal.fptosi 32 _) _) (IntOp.shli _ (IntOp.addi (Ideal.fptosi 32 _) _) _)) _ = _
  rw [trunc_eq _ _ _ _ (code_bd _) (code_bd _) (code_bd _) (code_bd _), trunc_eq _ _ _ _ (code_bd _) (code_bd _) (code_bd _) (code_bd _)]
  rw [h0, h1, h2, h3, h4, h5, h6, h7]

/-! Finiteness of the first rotation. -/

theorem finT (hU : ∀ i (h : ℕ), h < 2 → fin (Ideal.ofBits FTy.bf16 ((U i).extractLsb' (16 * h) 16))) (hA : ∀ i, fin (A i)) (n s a j r : ℕ) :
    fin (kT U A n s a j r) := by
  unfold kT bT
  split
  · unfold kx3 bW kx2
    exact fin_sum _ _ fun p _ => (hA _).mul (hU _ _ (by omega))
  · exact (fin_iff _).2 ⟨0, rfl⟩

end

end Cert.DEqn

end
-- ==== Proof.PreA.lean ====
/- What the precondition says of the arguments: the float ones finite, the ratio indices between 0 and 7. -/
module

public import proofs.«01_k».proof.Pre_tame
public import proofs.«01_k».proof.Proof.EqA
public import Idealize.ShloMosaic.Lib.ReduceAll
public import Idealize.ShloMosaic.Lib.Affine
public import Idealize.ShloMosaic.Lib.Decide

@[expose] public section

noncomputable section

namespace Cert.Pre_tame.Gen

open Idealize.ShloMosaic Cert.Pre_tame

instance facts : Cert.Pre_tame.Facts where
  bcast_S_S3x7168x4096 := by decide
  reducesTo_S3x7168x4096_S_d0_1_2 := by decide
  h_S_ := by decide
  bcast_S_S3x56x32 := by decide
  reducesTo_S3x56x32_S_d0_1_2 := by decide
  bcast_S_S3x4096 := by decide
  reducesTo_S3x4096_S_d0_1 := by decide
  bcast_S_S4096 := by decide
  reducesTo_S4096_S_d0 := by decide
  bcast_S_S64x64 := by decide
  reducesTo_S64x64_S_d0_1 := by decide
  bcast_S_S3x7168 := by decide
  reducesTo_S3x7168_S_d0_1 := by decide

theorem inf32 : Ideal.ofBits FTy.f32 2139095040#32 = ⊤ := by simp [Ideal.ofBits, Ideal.ieee]
theorem inf16 : Ideal.ofBits FTy.bf16 32640#16 = ⊤ := by simp [Ideal.ofBits, Ideal.ieee]

theorem fin_of_lt (x : EReal) (h : (BitVec.ofBool (decide (max x (-x) < ⊤))) = 1#1) : Cert.Eqn.fin x := by
  have hx : max x (-x) < ⊤ := by
    by_contra hn
    rw [decide_eq_false hn] at h
    exact absurd h (by decide)
  refine ⟨fun e => ?_, fun e => ?_⟩ <;> subst e <;> simp at hx

theorem nat_of_range (b : BitVec 32) (h0 : IntOp.cmpi CmpIPredicate.sge b 0#32 = 1#1) (h1 : IntOp.cmpi CmpIPredicate.slt b 8#32 = 1#1) :
    ∃ k : ℕ, k < 8 ∧ b = BitVec.ofNat 32 k := by
  have a0 : (0 : ℤ) ≤ b.toInt := by
    have := IntOp.cmpi_sge.1 h0; simpa using this
  have a1 : b.toInt < 8 := by
    have := IntOp.cmpi_slt.1 h1; simpa using this
  refine ⟨b.toInt.toNat, by omega, ?_⟩
  apply BitVec.eq_of_toInt_eq
  have : ∀ k : ℕ, k < 8 → (BitVec.ofNat 32 k).toInt = (k : ℤ) := by intro k hk; interval_cases k <;> rfl
  rw [this _ (by omega)]
  omega

theorem read (a0 : FVec Ideal S3x7168x4096 .f32) (a1 : FVec Ideal S3x56x32 .f32) (a2 : FVec Ideal S3x4096 .f32) (a3 : FVec Ideal S4096 .f32)
    (a4 a5 : FVec Ideal S64x64 .bf16) (a6 : FVec Ideal S128x128 .bf16) (a7 : IVec S3x7168 32)
    (h : fn (F := Ideal) a0 a1 a2 a3 a4 a5 a6 a7 = fun _ => 1#1) :
    (∀ i, Cert.Eqn.fin (a0 i)) ∧ (∀ i, Cert.Eqn.fin (a1 i)) ∧ (∀ i, Cert.Eqn.fin (a2 i)) ∧ (∀ i, Cert.Eqn.fin (a3 i)) ∧ (∀ i, Cert.Eqn.fin (a5 i))
      ∧ (∀ i, ∃ k : ℕ, k < 8 ∧ a7 i = BitVec.ofNat 32 k) := by
  have h' := congrFun h (Shape.Idx.first Facts.h_S_)
  dsimp only [fn, fn_part1] at h'
  obtain ⟨h', e7⟩ := IntOp.andi_eq_one.1 h'
  obtain ⟨h', e5⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  haveI : Subsingleton S_.Idx := ⟨fun a b => funext fun i => i.elim0⟩
  refine ⟨fun i => ?_, fun i => ?_, fun i => ?_, fun i => ?_, fun i => ?_, fun i => ?_⟩
  · have := Host.reduce_andi_all _ _ _ _ _ e0 i
    refine fin_of_lt _ ?_
    rw [← inf32]; exact this
  · have := Host.reduce_andi_all _ _ _ _ _ e1 i
    refine fin_of_lt _ ?_
    rw [← inf32]; exact this
  · have := Host.reduce_andi_all _ _ _ _ _ e2 i
    refine fin_of_lt _ ?_
    rw [← inf32]; exact this
  · have := Host.reduce_andi_all _ _ _ _ _ e3 i
    refine fin_of_lt _ ?_
    rw [← inf32]; exact this
  · have := Host.reduce_andi_all _ _ _ _ _ e5 i
    refine fin_of_lt _ ?_
    rw [← inf16]; exact this
  · have := Host.reduce_andi_all _ _ _ _ _ e7 i
    obtain ⟨b0, b1⟩ := IntOp.andi_eq_one.1 this
    exact nat_of_range _ b0 b1

end Cert.Pre_tame.Gen

end
-- ==== Proof.DPreA.lean ====
/- What the second precondition says of the arguments: the float ones finite, the ratio indices between 0 and 7. -/
module

public import proofs.«01_k».proof.Proof.Gen.Pre_tame_down
public import proofs.«01_k».proof.Proof.PreA
public import Idealize.ShloMosaic.Lib.BitcastConvert
public import Idealize.ShloMosaic.Lib.Pointwise

@[expose] public section

noncomputable section

namespace Cert.Pre_tame_down.Hand

open Idealize.ShloMosaic Idealize.ShloMosaic.Tactic Cert.Pre_tame_down
open Cert.Pre_tame.Gen (fin_of_lt inf16 nat_of_range)

theorem drop_eq (n : Fin 3) (a : Fin 2048) (b : Fin 7168) (e : Fin 2) : Facts.splits_S3x2048x7168_w32_S3x2048x7168x2_w16.drop (ix4 n a b e) = ix3 n a b := by
  funext k
  apply Fin.ext
  rw [Shape.SplitsWords.drop_apply_val]
  fin_cases k <;> rfl

/-- One half of a packed word, as a row's value. -/
theorem half (a0 : IVec S3x2048x7168 32) (n : Fin 3) (p : Fin 2048) (C : Fin 7168) (h : Fin 2) (r : Fin 4096) (hr : r.val = 2 * p.val + h.val) :
    shapeCast S3x4096x7168 (transpose S3x2048x2x7168 [0, 1, 3, 2]
      (bitcastToFloat (F := Ideal) .bf16 (Host.bitcastConvertNarrow S3x2048x7168x2 16 a0 Facts.splits_S3x2048x7168_w32_S3x2048x7168x2_w16))
      Facts.transposes_S3x2048x7168x2_S3x2048x2x7168_0_1_3_2) Facts.shapeCasts_S3x2048x2x7168_S3x4096x7168 (ix3 n r C)
      = Ideal.ofBits .bf16 ((a0 (ix3 n p C)).extractLsb' (h.val * 16) 16) := by
  pointwise
  have e1 : r.val / 2 = p.val := by omega
  have e2 : r.val % 2 = h.val := by omega
  have e1' : (⟨r.val / 2, by omega⟩ : Fin 2048) = p := Fin.ext e1
  have e2' : (⟨r.val % 2, by omega⟩ : Fin 2) = h := Fin.ext e2
  refine Eq.trans (congrArg (fun z => Ideal.ofBits .bf16 ((a0 z).extractLsb' (r.val % 2 * 16) 16)) (drop_eq n ⟨r.val / 2, by omega⟩ C ⟨r.val % 2, by omega⟩)) ?_
  rw [e1', e2]

/-- A test of finiteness over a whole array, read at one element. -/
theorem fin_all (x : FVec Ideal S3x4096x7168 .bf16)
    (e : Host.reduce IntOp.andi (cmpf .olt (Host.absf x) (broadcastInDim S3x4096x7168 ![] Facts.bcast_S_S3x4096x7168 (constant (F := Ideal) S_ .bf16 0x7F80#16)))
      (constantI S_ 1 1#1) Facts.reducesTo_S3x4096x7168_S_d0_1_2 Facts.h_S_ (Shape.Idx.first Facts.h_S_) = 1#1) (i : S3x4096x7168.Idx) : Cert.Eqn.fin (x i) := by
  haveI : Subsingleton S_.Idx := ⟨fun a b => funext fun i => i.elim0⟩
  have := Host.reduce_andi_all _ _ _ _ _ e i
  refine fin_of_lt _ ?_
  rw [← inf16]; exact this

theorem read (a0 : IVec S3x2048x7168 32) (a1 : FVec Ideal S256x256 .bf16) (a2 : FVec Ideal S28x28 .bf16) (a3 : IVec S3x4096 32)
    (h : fn (F := Ideal) a0 a1 a2 a3 = fun _ => 1#1) :
    (∀ i (h : ℕ), h < 2 → Cert.Eqn.fin (Ideal.ofBits .bf16 ((a0 i).extractLsb' (16 * h) 16))) ∧ (∀ i, Cert.Eqn.fin (a1 i))
      ∧ (∀ i, ∃ k : ℕ, k < 8 ∧ a3 i = BitVec.ofNat 32 k) := by
  have h' := congrFun h (Shape.Idx.first Facts.h_S_)
  dsimp only [fn, fn_part1] at h'
  obtain ⟨h', e3⟩ := IntOp.andi_eq_one.1 h'
  obtain ⟨e0, e1⟩ := IntOp.andi_eq_one.1 h'
  haveI : Subsingleton S_.Idx := ⟨fun a b => funext fun i => i.elim0⟩
  refine ⟨fun i h hh => ?_, fun i => ?_, fun i => ?_⟩
  · obtain ⟨n, p, C, rfl⟩ : ∃ (n : Fin 3) (p : Fin 2048) (C : Fin 7168), i = ix3 n p C := ⟨_, _, _, eq_ix3 i⟩
    have := fin_all _ e0 (ix3 n (⟨2 * p.val + h, by omega⟩ : Fin 4096) C)
    rw [half a0 n p C ⟨h, hh⟩ ⟨2 * p.val + h, by omega⟩ rfl] at this
    rw [Nat.mul_comm 16 h]
    exact this
  · have := Host.reduce_andi_all _ _ _ _ _ e1 i
    refine fin_of_lt _ ?_
    rw [← inf16]; exact this
  · have := Host.reduce_andi_all _ _ _ _ _ e3 i
    obtain ⟨b0, b1⟩ := IntOp.andi_eq_one.1 this
    exact nat_of_range _ b0 b1

end Cert.Pre_tame_down.Hand

end
-- ==== Proof.DFinal.lean ====
/- The second kernel and its reference end with equal results. -/
module

public import proofs.«01_k».proof.Defs
public import proofs.«01_k».proof.Proof.DValH
public import proofs.«01_k».proof.Proof.DRefB
public import proofs.«01_k».proof.Proof.DEqA
public import proofs.«01_k».proof.Proof.DPreA
public import Idealize.ShloMosaic.Lib.Claim

@[expose] public section

noncomputable section

namespace Cert.DownIdeal.HandV

open Cert.DownIdeal.Hand hiding frame
open Cert.DownIdeal Cert.DownIdeal.Gen
open Idealize.ShloMosaic Idealize.ShloMosaic.TcCoe Idealize.ShloMosaic.Tactic Idealize.SL.Sem

variable (m : (ℓ : Loc nD τ sig) → Buf (Elt Ideal) ℓ) (c : Dev nD)

/-- The buffers as the lines after the kernel find them. -/
abbrev WK := Pipeline.withArrays (cfgs 0).spec c (V0 m c) fun w => (datsV m 0 c).arrAt w (cfgs 0).N

set_option maxRecDepth 10000 in
theorem WK_1 : eW S3x16x1x256 (WK m c (Proc.devRef .tc main_v31_1)) = W6 m c :=
  (Pipeline.withArrays_arr (cfgs 0).spec (by decide) c (V0 m c) (fun w => (datsV m 0 c).arrAt w (cfgs 0).N) 6).trans (arr6 m c)
set_option maxRecDepth 10000 in
theorem WK_2 : eW S3x16x8x256 (WK m c (Proc.devRef .tc main_v31_2)) = W7 m c :=
  (Pipeline.withArrays_arr (cfgs 0).spec (by decide) c (V0 m c) (fun w => (datsV m 0 c).arrAt w (cfgs 0).N) 7).trans (arr7 m c)

section
variable (W : Valuation τ sig (Elt Ideal))
theorem sfx32 (n : Fin 3) (r : Fin 4096) : eW S3x4096 (StableHlo.after (List.flatten [hostOps1]) W (Proc.devRef .tc main_v32)) (ix2 n r)
    = eW S3x16x1x256 (W (Proc.devRef .tc main_v31_1)) (ix4 n ⟨r.val / 256, by omega⟩ 0 ⟨r.val % 256, by omega⟩) := by
  after_reads_at
  rfl
theorem sfx34 (n : Fin 3) (r : Fin 4096) (k : Fin 8) : eW S3x4096x8 (StableHlo.after (List.flatten [hostOps1]) W (Proc.devRef .tc main_v34)) (ix3 n r k)
    = eW S3x16x8x256 (W (Proc.devRef .tc main_v31_2)) (ix4 n ⟨r.val / 256, by omega⟩ k ⟨r.val % 256, by omega⟩) := by
  after_reads_at
  rfl
end

theorem res32 (n : Fin 3) (r : Fin 4096) : eW S3x4096 (Pipeline.afterTail₀ cfgs (datsV m) 0 (V0 m) [hostOps1] c main_v32) (ix2 n r)
    = kScale (gW m c) (gA m c) (gH m c) (gR m c) n.val (r.val / 256) (r.val % 256) := by
  refine (sfx32 (WK m c) n r).trans ?_
  rw [WK_1]; rfl
theorem res34 (n : Fin 3) (r : Fin 4096) (k : Fin 8) : eW S3x4096x8 (Pipeline.afterTail₀ cfgs (datsV m) 0 (V0 m) [hostOps1] c main_v34) (ix3 n r k)
    = kErr (gW m c) (gA m c) (gH m c) n.val (r.val / 256) k.val (r.val % 256) := by
  refine (sfx34 (WK m c) n r k).trans ?_
  rw [WK_2]; rfl

end Cert.DownIdeal.HandV

namespace Cert.DFin

open Idealize.ShloMosaic Idealize.ShloMosaic.TcCoe Idealize.ShloMosaic.Tactic Idealize.SL.Sem
open Cert.DEqn

theorem hC_rat (k : Fin 8) : Cert.DownReferenceIdeal.Hand.hC (ix1 k) = Cert.KernelIdeal.Hand.rat k.val := by
  unfold Cert.DownReferenceIdeal.Hand.hC
  fin_cases k <;> first | exact Ideal.ofBits_one_f32 | rfl

section
variable (m : (ℓ : Loc Cert.DownIdeal.nD Cert.DownIdeal.τ Cert.DownIdeal.sig) → Buf (Elt Ideal) ℓ)
  (m' : (ℓ : Loc Cert.DownReferenceIdeal.nD Cert.DownReferenceIdeal.τ Cert.DownReferenceIdeal.sig) → Buf (Elt Ideal) ℓ)
  (c : Dev Cert.DownIdeal.nD)

/-- The two programs' argument arrays agree. -/
def Same : Prop :=
  Cert.DownReferenceIdeal.Hand.hU m' c = Cert.DownIdeal.Hand.gW m c ∧ Cert.DownReferenceIdeal.Hand.hA m' c = Cert.DownIdeal.Hand.gA m c
    ∧ Cert.DownReferenceIdeal.Hand.hH m' c = Cert.DownIdeal.Hand.gH m c ∧ Cert.DownReferenceIdeal.Hand.hR m' c = Cert.DownIdeal.Hand.gR m c

variable (hs : Same m m' c) (hr : ∀ i, ∃ k : ℕ, k < 8 ∧ (Cert.DownIdeal.Hand.gR m c) i = BitVec.ofNat 32 k)

/-- The reference's buffers at its end. -/
abbrev RV : Valuation Cert.DownReferenceIdeal.τ Cert.DownReferenceIdeal.sig (Elt Ideal) :=
  StableHlo.after (Cert.DownReferenceIdeal.Value.ops) (StableHlo.launchContents m' c)

include hs hr in
theorem eq76 : (RV m' c (Proc.devRef .tc Cert.DownReferenceIdeal.main_v76) : Cert.DownIdeal.S3x4096x896.Idx → BitVec 32) = Cert.DownIdeal.HandV.W5 m c := by
  obtain ⟨e0, e1, e2, e3⟩ := hs
  funext i
  obtain ⟨n, r, q, rfl⟩ : ∃ (n : Fin 3) (r : Fin 4096) (q : Fin 896), i = ix3 n r q := ⟨_, _, _, eq_ix3 i⟩
  obtain ⟨k, hk, hb⟩ := hr (ix2 n r)
  refine (Cert.DownReferenceIdeal.Hand.res76 m' c n r q).trans ?_
  rw [e0, e1, e2, e3]
  exact (word_eq' (Cert.DownIdeal.Hand.gW m c) (Cert.DownIdeal.Hand.gA m c) (Cert.DownIdeal.Hand.gH m c) (Cert.DownIdeal.Hand.gR m c) Cert.DownReferenceIdeal.Hand.hC n (r.val / 256) (by omega) (r.val % 256) (by omega) r (by omega) q k hk hb hC_rat).symm

include hs hr in
theorem eq59 : (RV m' c (Proc.devRef .tc Cert.DownReferenceIdeal.main_v59) : Cert.DownIdeal.S3x4096.Idx → EReal)
    = Pipeline.afterTail₀ Cert.DownIdeal.cfgs (Cert.DownIdeal.HandV.datsV m) 0 (Cert.DownIdeal.Gen.V0 m) [Cert.DownIdeal.Gen.hostOps1] c Cert.DownIdeal.main_v32 := by
  obtain ⟨e0, e1, e2, e3⟩ := hs
  funext i
  obtain ⟨n, r, rfl⟩ : ∃ (n : Fin 3) (r : Fin 4096), i = ix2 n r := ⟨_, _, eq_ix2 i⟩
  obtain ⟨k, hk, hb⟩ := hr (ix2 n r)
  refine (Cert.DownReferenceIdeal.Hand.res59 m' c n r).trans (Eq.trans ?_ (Cert.DownIdeal.HandV.res32 m c n r).symm)
  rw [e0, e1, e2, e3]
  exact (scale_eq (Cert.DownIdeal.Hand.gW m c) (Cert.DownIdeal.Hand.gA m c) (Cert.DownIdeal.Hand.gH m c) (Cert.DownIdeal.Hand.gR m c) Cert.DownReferenceIdeal.Hand.hC n (r.val / 256) (by omega) (r.val % 256) (by omega) r (by omega) k hk hb hC_rat).symm

include hs in
theorem eq43 : (RV m' c (Proc.devRef .tc Cert.DownReferenceIdeal.main_v43) : Cert.DownIdeal.S3x4096x8.Idx → EReal)
    = Pipeline.afterTail₀ Cert.DownIdeal.cfgs (Cert.DownIdeal.HandV.datsV m) 0 (Cert.DownIdeal.Gen.V0 m) [Cert.DownIdeal.Gen.hostOps1] c Cert.DownIdeal.main_v34 := by
  obtain ⟨e0, e1, e2, e3⟩ := hs
  funext i
  obtain ⟨n, r, k, rfl⟩ : ∃ (n : Fin 3) (r : Fin 4096) (k : Fin 8), i = ix3 n r k := ⟨_, _, _, eq_ix3 i⟩
  refine (Cert.DownReferenceIdeal.Hand.res43 m' c n r k).trans (Eq.trans ?_ (Cert.DownIdeal.HandV.res34 m c n r k).symm)
  rw [e0, e1, e2]
  exact (error_eq (Cert.DownIdeal.Hand.gW m c) (Cert.DownIdeal.Hand.gA m c) (Cert.DownIdeal.Hand.gH m c) Cert.DownReferenceIdeal.Hand.hC n (r.val / 256) (by omega) (r.val % 256) (by omega) r (by omega) k hC_rat).symm
end

theorem alg : Cert.algebraic_DownIdeal_DownReferenceIdeal_pre_tame_down (hPre_tame_down := Cert.Pre_tame_down.Gen.facts) := by
  intro m g m' g' hpre hargs
  have hp := fun c => Cert.Pre_tame_down.Hand.read _ _ _ _ (hpre c)
  have hfin : ∀ c, Cert.DownIdeal.HandV.FinT m c := fun c n s a j r _ _ _ =>
    finT _ _ (hp c).1 (hp c).2.1 n s a j r
  refine ⟨fun c => Cert.DownIdeal.HandV.W5 m c,
    fun c => Pipeline.afterTail₀ Cert.DownIdeal.cfgs (Cert.DownIdeal.HandV.datsV m) 0 (Cert.DownIdeal.Gen.V0 m) [Cert.DownIdeal.Gen.hostOps1] c Cert.DownIdeal.main_v32,
    fun c => Pipeline.afterTail₀ Cert.DownIdeal.cfgs (Cert.DownIdeal.HandV.datsV m) 0 (Cert.DownIdeal.Gen.V0 m) [Cert.DownIdeal.Gen.hostOps1] c Cert.DownIdeal.main_v34, ?_⟩
  have h1 := (θ_run Cert.DownIdeal.defs _ _).mono (fun r h => h.1) (Cert.DownIdeal.HandV.run_mainV m g hfin)
  have h2 := Cert.DownReferenceIdeal.Hand.run_all m' g'
  have hsame : ∀ c, Same m m' c := fun c => ⟨(hargs c).1, (hargs c).2.1, (hargs c).2.2.1, (hargs c).2.2.2⟩
  refine ⟨?_, ?_⟩
  · refine (θ_run Cert.DownIdeal.defs _ _).mono (fun r h c => ?_) (θ_run_and h1 (Cert.DownIdeal.Hand.frame m g))
    refine ⟨((h.1 c).1 5).trans (Cert.DownIdeal.HandV.arr5 m c), ?_, ?_, h.2.1 c⟩
    · exact (h.1 c).2 Cert.DownIdeal.main_v32 (Pipeline.mem_restRefs_of _ (by decide) (by decide))
    · exact (h.1 c).2 Cert.DownIdeal.main_v34 (Pipeline.mem_restRefs_of _ (by decide) (by decide))
  · refine (θ_run Cert.DownReferenceIdeal.defs _ _).mono (fun r h c => ?_) (θ_run_and h2 (Cert.DownReferenceIdeal.Hand.frame m' g'))
    refine ⟨?_, ?_, ?_, h.2.1 c⟩
    · exact (h.1 c Cert.DownReferenceIdeal.main_v76).trans (eq76 m m' c (hsame c) (hp c).2.2)
    · exact (h.1 c Cert.DownReferenceIdeal.main_v59).trans (eq59 m m' c (hsame c) (hp c).2.2)
    · exact (h.1 c Cert.DownReferenceIdeal.main_v43).trans (eq43 m m' c (hsame c))

end Cert.DFin

end
-- ==== Proof.ValH.lean ====
/- The run of the kernel's program with every output named: what each staging buffer holds after the body at a grid point. -/
module

public import proofs.«01_k».proof.Proof.ValG

@[expose] public section

noncomputable section
namespace Cert.KernelIdeal.HandV

open Cert.KernelIdeal.Hand hiding frame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The first rotation is finite in every block. -/
def FinT (c : Dev nD) : Prop := ∀ n s a j r : ℕ, a < 64 → j < 64 → r < 256 →
  kT (gD m c) (gS m c) (gG m c) (gSg m c) (gB m c) n s a j r ≠ ⊤ ∧ kT (gD m c) (gS m c) (gG m c) (gSg m c) (gB m c) n s a j r ≠ ⊥

def o8 (c : Dev nD) (t : Fin cfg0.N) : Vec Ideal S1x256x512 .i32 := fun y =>
  kWord (gD m c) (gS m c) (gG m c) (gSg m c) (gA m c) (gB m c) (gR m c) (t.val / 28) (t.val % 28) (y 1).val (y 2).val
def o9 (c : Dev nD) (t : Fin cfg0.N) : Vec Ideal S1x1x1x256 .f32 := fun y =>
  kScale (gD m c) (gS m c) (gG m c) (gSg m c) (gA m c) (gB m c) (gR m c) (t.val / 28) (t.val % 28) (y 3).val
def o10 (c : Dev nD) (t : Fin cfg0.N) : Vec Ideal S1x1x8x256 .f32 := fun y =>
  kErr (gD m c) (gS m c) (gG m c) (gSg m c) (gA m c) (gB m c) (t.val / 28) (t.val % 28) (y 2).val (y 3).val

/-- The proof data: the arrays as the region finds them; each input's buffer at its block after the body. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 m c t
    | ⟨9, _⟩ => o9 m c t
    | ⟨10, _⟩ => o10 m c t
  Φ _ := Pipeline.ΦA spec0 c
  q _ := fullShare
  owed _ := 0

theorem A_eqV (c : Dev nD) (w : Fin cfg0.W) : (datsV m 0 c).A w = V m c (Pipeline.arrRef spec0 w) := by
  dsimp only [datsV]
theorem afterV_0 (c : Dev nD) (t : Fin cfg0.N) : (datsV m 0 c).after 0 t = iblk m c 0 t := by dsimp only [datsV]
theorem beforeV_0 (c : Dev nD) (t : Fin cfg0.N) (d) : (datsV m 0 c).before 0 t d = iblk m c 0 t :=
  before0_0_of m (datsV m 0 c) (A_eqV m c 0) (afterV_0 m c) t d
theorem afterV_1 (c : Dev nD) (t : Fin cfg0.N) : (datsV m 0 c).after 1 t = iblk m c 1 t := by dsimp only [datsV]
theorem beforeV_1 (c : Dev nD) (t : Fin cfg0.N) (d) : (datsV m 0 c).before 1 t d = iblk m c 1 t :=
  before0_1_of m (datsV m 0 c) (A_eqV m c 1) (afterV_1 m c) t d
theorem afterV_2 (c : Dev nD) (t : Fin cfg0.N) : (datsV m 0 c).after 2 t = iblk m c 2 t := by dsimp only [datsV]
theorem beforeV_2 (c : Dev nD) (t : Fin cfg0.N) (d) : (datsV m 0 c).before 2 t d = iblk m c 2 t :=
  before0_2_of m (datsV m 0 c) (A_eqV m c 2) (afterV_2 m c) t d
theorem afterV_3 (c : Dev nD) (t : Fin cfg0.N) : (datsV m 0 c).after 3 t = iblk m c 3 t := by dsimp only [datsV]
theorem beforeV_3 (c : Dev nD) (t : Fin cfg0.N) (d) : (datsV m 0 c).before 3 t d = iblk m c 3 t :=
  before0_3_of m (datsV m 0 c) (A_eqV m c 3) (afterV_3 m c) t d
theorem afterV_4 (c : Dev nD) (t : Fin cfg0.N) : (datsV m 0 c).after 4 t = iblk m c 4 t := by dsimp only [datsV]
theorem beforeV_4 (c : Dev nD) (t : Fin cfg0.N) (d) : (datsV m 0 c).before 4 t d = iblk m c 4 t :=
  before0_4_of m (datsV m 0 c) (A_eqV m c 4) (afterV_4 m c) t d
theorem afterV_5 (c : Dev nD) (t : Fin cfg0.N) : (datsV m 0 c).after 5 t = iblk m c 5 t := by dsimp only [datsV]
theorem beforeV_5 (c : Dev nD) (t : Fin cfg0.N) (d) : (datsV m 0 c).before 5 t d = iblk m c 5 t :=
  before0_5_of m (datsV m 0 c) (A_eqV m c 5) (afterV_5 m c) t d
theorem afterV_6 (c : Dev nD) (t : Fin cfg0.N) : (datsV m 0 c).after 6 t = iblk m c 6 t := by dsimp only [datsV]
theorem beforeV_6 (c : Dev nD) (t : Fin cfg0.N) (d) : (datsV m 0 c).before 6 t d = iblk m c 6 t :=
  before0_6_of m (datsV m 0 c) (A_eqV m c 6) (afterV_6 m c) t d
theorem afterV_7 (c : Dev nD) (t : Fin cfg0.N) : (datsV m 0 c).after 7 t = iblk m c 7 t := by dsimp only [datsV]
theorem beforeV_7 (c : Dev nD) (t : Fin cfg0.N) (d) : (datsV m 0 c).before 7 t d = iblk m c 7 t :=
  before0_7_of m (datsV m 0 c) (A_eqV m c 7) (afterV_7 m c) t d

theorem afterV_8 (c : Dev nD) (t : Fin cfg0.N) : (datsV m 0 c).after 8 t = o8 m c t := by dsimp only [datsV]
theorem afterV_9 (c : Dev nD) (t : Fin cfg0.N) : (datsV m 0 c).after 9 t = o9 m c t := by dsimp only [datsV]
theorem afterV_10 (c : Dev nD) (t : Fin cfg0.N) : (datsV m 0 c).after 10 t = o10 m c t := by dsimp only [datsV]

/-- What the body is called with at point `t`. -/
def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d))
    ∗ (∃ d, owns (c : Thread nD τ) (st0_7 t) fullShare ((datsV m 0 c).before 7 t d))
    ∗ (∃ d, owns (c : Thread nD τ) (st0_8 t) fullShare ((datsV m 0 c).before 8 t d))
    ∗ (∃ d, owns (c : Thread nD τ) (st0_9 t) fullShare ((datsV m 0 c).before 9 t d))
    ∗ (∃ d, owns (c : Thread nD τ) (st0_10 t) fullShare ((datsV m 0 c).before 10 t d)))

/-- What the body returns. -/
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ owns (c : Thread nD τ) (st0_5 t) fullShare ((datsV m 0 c).after 5 t)
    ∗ owns (c : Thread nD τ) (st0_6 t) fullShare ((datsV m 0 c).after 6 t)
    ∗ owns (c : Thread nD τ) (st0_7 t) fullShare ((datsV m 0 c).after 7 t)
    ∗ owns (c : Thread nD τ) (st0_8 t) fullShare ((datsV m 0 c).after 8 t)
    ∗ owns (c : Thread nD τ) (st0_9 t) fullShare ((datsV m 0 c).after 9 t)
    ∗ owns (c : Thread nD τ) (st0_10 t) fullShare ((datsV m 0 c).after 10 t))

set_option maxHeartbeats 1000000 in
theorem sound_bodyV (c : Dev nD) (hfin : FinT m c) (t : Fin cfg0.N) :
    bodyPreV m c t ⊢ wp frame (wpE (defs₀ (F := Ideal)) Variants.none (c : Thread nD τ) none) Set.univ (bodyAt0 t) (fun _ => bodyPostV m c t) := by
  unfold bodyPreV bodyPostV bodyAt0
  simp only [beforeV_0, beforeV_1, beforeV_2, beforeV_3, beforeV_4, beforeV_5, beforeV_6, beforeV_7]
  rw [show (datsV m 0 c).Φ t.succ = (datsV m 0 c).Φ t.castSucc from rfl,
    show (datsV m 0 c).owesAt () t.succ = (datsV m 0 c).owesAt () t.castSucc from rfl,
    show (datsV m 0 c).Φ t.castSucc = Pipeline.ΦA spec0 c from rfl, PhiA_eq, afterV_0, afterV_1, afterV_2, afterV_3, afterV_4, afterV_5, afterV_6, afterV_7, afterV_8, afterV_9, afterV_10]
  unfold owns
  iintro ⟨⟨⟨⟨%e0, %s0, %hs0, S0⟩, ⟨%e1, %s1, %hs1, S1⟩, ⟨%e2, %s2, %hs2, S2⟩⟩, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩⟩
  iapply ((kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) f0 f1 f2 f3 f4 f5 f6 f7 s0 s1 s2).2.2.2 Set.univ f8 f9 f10 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  iintro ⟨H0, H1, H2, H3, H4, H5, H6, H7, H8, H9, H10, ⟨%z0, S0⟩, ⟨%z1, S1⟩, ⟨%z2, S2⟩⟩
  isplitl [S0 S1 S2 Hp]
  · isplitl [S0 S1 S2]
    · isplitl [S0]
      · iexists _, z0; isplitr; swap; · iexact S0
        ipureintro; rfl
      isplitl [S1]
      · iexists _, z1; isplitr; swap; · iexact S1
        ipureintro; rfl
      iexists _, z2; isplitr; swap; · iexact S2
      ipureintro; rfl
    iexact Hp
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; isplitr; swap; · iexact H8
    ipureintro; exact funext fun y => kr10 (fun y => (congrFun hf0 y).trans (ib0 m c t y)) (fun y => (congrFun hf1 y).trans (ib1 m c t y)) (fun y => (congrFun hf2 y).trans (ib2 m c t y)) (fun y => (congrFun hf3 y).trans (ib3 m c t y)) (fun y => (congrFun hf4 y).trans (ib4 m c t y)) (fun y => (congrFun hf6 y).trans (ib6 m c t y)) (fun y => (congrFun hf7 y).trans (ib7 m c t y)) (fun a j r ha hj hr => hfin (t.val / 28) (t.val % 28) a j r ha hj hr) f8 y
  isplitl [H9]
  · iexists _; isplitr; swap; · iexact H9
    ipureintro; exact funext fun y => kr11 (fun y => (congrFun hf0 y).trans (ib0 m c t y)) (fun y => (congrFun hf1 y).trans (ib1 m c t y)) (fun y => (congrFun hf2 y).trans (ib2 m c t y)) (fun y => (congrFun hf3 y).trans (ib3 m c t y)) (fun y => (congrFun hf4 y).trans (ib4 m c t y)) (fun y => (congrFun hf7 y).trans (ib7 m c t y)) (fun a j r ha hj hr => hfin (t.val / 28) (t.val % 28) a j r ha hj hr) y
  iexists _; isplitr; swap; · iexact H10
  ipureintro; exact funext fun y => kr12 (fun y => (congrFun hf0 y).trans (ib0 m c t y)) (fun y => (congrFun hf1 y).trans (ib1 m c t y)) (fun y => (congrFun hf2 y).trans (ib2 m c t y)) (fun y => (congrFun hf3 y).trans (ib3 m c t y)) (fun y => (congrFun hf4 y).trans (ib4 m c t y)) (fun a j r ha hj hr => hfin (t.val / 28) (t.val % 28) a j r ha hj hr) y

theorem body_obligationV (c : Dev nD) (hfin : FinT m c) : BodyObligation (datsV m 0 c) (defs₀ (F := Ideal)) Variants.none () Set.univ := fun t => by
  rw [bigSep_W0, bigSep_W0, defs₀_row]
  exact triple_restated (sound_bodyV m c hfin t) rfl .rfl fun _ => .rfl

set_option backward.isDefEq.respectTransparency.types false in
set_option maxHeartbeats 800000 in
theorem run_mainV (hfin : ∀ c, FinT m c) : θ_run defs (onTc (τ := τ) (main (F := Ideal))) (s₀ m ρ) (fun r => (Pipeline.FramePost cfgs (datsV m) 0 (Pipeline.afterTail₀ cfgs (datsV m) 0 (V0 m) [hostOps1])) r ∧ r.2.sem = fun _ => 0) :=
  Pipeline.θ_run_frame_around (Q' := _) cfgs (datsV m) (0 : Fin 1) launch0 defs₀ Variants.none m ρ main
    (hbody := fun c => (body_obligationV m c (hfin c)).loose) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := A_eqV m) (hΦ := fun _ _ => rfl)

section Arr
variable (c : Dev nD)
/-- The packed words, over the whole array. -/
def W8 : S3x7168x512.Idx → BitVec 32 := fun i =>
  kWord (gD m c) (gS m c) (gG m c) (gSg m c) (gA m c) (gB m c) (gR m c) (i 0).val ((i 1).val / 256) ((i 1).val % 256) (i 2).val
def W9 : S3x28x1x256.Idx → EReal := fun i =>
  kScale (gD m c) (gS m c) (gG m c) (gSg m c) (gA m c) (gB m c) (gR m c) (i 0).val (i 1).val (i 3).val
def W10 : S3x28x8x256.Idx → EReal := fun i =>
  kErr (gD m c) (gS m c) (gG m c) (gSg m c) (gA m c) (gB m c) (i 0).val (i 1).val (i 2).val (i 3).val
theorem arr8 : iW S3x7168x512 ((datsV m 0 c).arrAt 8 cfg0.N) = W8 m c := by
  refine (datsV m 0 c).arrAt_eq_of_covers 8 _ (by decide +kernel) fun t hf y => ?_
  blk_simp [idx8 t]
  rw [afterV_8]
  have e0 : (((win0_8.blk t).view.emb y : S3x7168x512.Idx) 0).val = t.val / 28 := by
    blk_simp [idx8 t]; try omega
  have e1 : (((win0_8.blk t).view.emb y : S3x7168x512.Idx) 1).val = t.val % 28 * 256 + ((y : S1x256x512.Idx) 1).val := by
    blk_simp [idx8 t]; try omega
  have e2 : (((win0_8.blk t).view.emb y : S3x7168x512.Idx) 2).val = ((y : S1x256x512.Idx) 2).val := by
    blk_simp [idx8 t]; try omega
  have b1 : ((y : S1x256x512.Idx) 1).val < 256 := ((y : S1x256x512.Idx) 1).isLt
  have d1 : (((win0_8.blk t).view.emb y : S3x7168x512.Idx) 1).val / 256 = t.val % 28 := by rw [e1]; omega
  have d2 : (((win0_8.blk t).view.emb y : S3x7168x512.Idx) 1).val % 256 = ((y : S1x256x512.Idx) 1).val := by rw [e1]; omega
  unfold o8 W8
  rw [e0, d1, d2, e2]
theorem arr9 : eW S3x28x1x256 ((datsV m 0 c).arrAt 9 cfg0.N) = W9 m c := by
  refine (datsV m 0 c).arrAt_eq_of_covers 9 _ (by decide +kernel) fun t hf y => ?_
  blk_simp [idx9 t]
  rw [afterV_9]
  have e0 : (((win0_9.blk t).view.emb y : S3x28x1x256.Idx) 0).val = t.val / 28 := by
    blk_simp [idx9 t]; try omega
  have e1 : (((win0_9.blk t).view.emb y : S3x28x1x256.Idx) 1).val = t.val % 28 := by
    blk_simp [idx9 t]; try omega
  have e3 : (((win0_9.blk t).view.emb y : S3x28x1x256.Idx) 3).val = ((y : S1x1x1x256.Idx) 3).val := by
    blk_simp [idx9 t]; try omega
  unfold o9 W9
  rw [e0, e1, e3]
theorem arr10 : eW S3x28x8x256 ((datsV m 0 c).arrAt 10 cfg0.N) = W10 m c := by
  refine (datsV m 0 c).arrAt_eq_of_covers 10 _ (by decide +kernel) fun t hf y => ?_
  blk_simp [idx10 t]
  rw [afterV_10]
  have e0 : (((win0_10.blk t).view.emb y : S3x28x8x256.Idx) 0).val = t.val / 28 := by
    blk_simp [idx10 t]; try omega
  have e1 : (((win0_10.blk t).view.emb y : S3x28x8x256.Idx) 1).val = t.val % 28 := by
    blk_simp [idx10 t]; try omega
  have e2 : (((win0_10.blk t).view.emb y : S3x28x8x256.Idx) 2).val = ((y : S1x1x8x256.Idx) 2).val := by
    blk_simp [idx10 t]; try omega
  have e3 : (((win0_10.blk t).view.emb y : S3x28x8x256.Idx) 3).val = ((y : S1x1x8x256.Idx) 3).val := by
    blk_simp [idx10 t]; try omega
  unfold o10 W10
  rw [e0, e1, e2, e3]
end Arr
end Cert.KernelIdeal.HandV
-- ==== Proof.RefB.lean ====
/- The reference's results, as functions of its arguments. -/
module

public import proofs.«01_k».proof.Proof.RefA
public import Idealize.ShloMosaic.Lib.Pipeline.ValueKit

@[expose] public section

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

abbrev hD : S3x7168x4096.Idx → EReal := m ((c.tc : Thread nD τ).loc main_arg0)
abbrev hS : S3x56x32.Idx → EReal := m ((c.tc : Thread nD τ).loc main_arg1)
abbrev hG : S3x4096.Idx → EReal := m ((c.tc : Thread nD τ).loc main_arg2)
abbrev hSg : S4096.Idx → EReal := m ((c.tc : Thread nD τ).loc main_arg3)
abbrev hA : S64x64.Idx → EReal := m ((c.tc : Thread nD τ).loc main_arg4)
abbrev hB : S64x64.Idx → EReal := m ((c.tc : Thread nD τ).loc main_arg5)
abbrev hR : S3x7168.Idx → BitVec 32 := m ((c.tc : Thread nD τ).loc main_arg7)
/-- The ratios, as the host's constant holds them. -/
def hC : S8.Idx → EReal := fun i => FloatOps.ofBits (F := Ideal) .f32 (lit0 (S8.rowMajor i))

theorem V_v0 (i : S3x7168x4096.Idx) : eW S3x7168x4096 (V m c main_v0) i = hD m c i := by
  unfold V; after_reads_at; try rfl
theorem V_cst (i : S8.Idx) : eW S8 (V m c main_cst) i = hC i := by
  unfold V; after_reads_at; try rfl

theorem rdx0 : ∀ t : Fin grid0.N, win0_0.index t = ![0, 0, 0] := by decide +kernel
theorem rdx1 : ∀ t : Fin grid0.N, win0_1.index t = ![0, 0, 0] := by decide +kernel

theorem ri0 (t : Fin cfg0.N) (y : S3x7168x4096.Idx) : eW S3x7168x4096 (iblk m c 0 t) y = hD m c y := by
  refine (V_v0 m c (((cfg0.win 0).blk t).view.emb y)).trans ?_
  congr 1
  blk_ext [rdx0 t]

/-- The decode leaves the codes' values. -/
theorem arr1 : eW S3x7168x4096 ((dats m 0 c).arrAt 1 cfg0.N) = hD m c := by
  refine (dats m 0 c).arrAt_eq_of_covers 1 _ (by decide +kernel) fun t hf y => ?_
  blk_simp [rdx1 t]
  rw [after0_1]
  frame_out
  have e : (((View.whole main_v1).slice (win0_1.rect t)).emb y : S3x7168x4096.Idx) = y := by
    blk_ext [rdx1 t]
  rw [e]
  refine Eq.trans (?_ : _ = eW S3x7168x4096 (iblk m c 0 t) y) (ri0 m c t y)
  unfold k0_pay1 eW
  rw [shapeCast_self]
  rfl

/-- The buffers as the lines after the decode find them. -/
abbrev WR := Pipeline.withArrays (cfgs 0).spec c (V0 m c) fun w => (dats (F := Ideal) m 0 c).arrAt w (cfgs 0).N

set_option maxRecDepth 10000 in
theorem WR_D : wD (WR m c) = hD m c := (Pipeline.withArrays_arr (cfgs 0).spec (by decide) c (V0 m c) (fun w => (dats (F := Ideal) m 0 c).arrAt w (cfgs 0).N) 1).trans (arr1 m c)
theorem WR_hS : wS (WR m c) = hS m c := (Pipeline.withArrays_of_ne (cfgs 0).spec c (V0 m c) _ main_arg1 (by decide)).trans (V_main_arg1 m c)
theorem WR_hG : wG (WR m c) = hG m c := (Pipeline.withArrays_of_ne (cfgs 0).spec c (V0 m c) _ main_arg2 (by decide)).trans (V_main_arg2 m c)
theorem WR_hSg : wSg (WR m c) = hSg m c := (Pipeline.withArrays_of_ne (cfgs 0).spec c (V0 m c) _ main_arg3 (by decide)).trans (V_main_arg3 m c)
theorem WR_hA : wA (WR m c) = hA m c := (Pipeline.withArrays_of_ne (cfgs 0).spec c (V0 m c) _ main_arg4 (by decide)).trans (V_main_arg4 m c)
theorem WR_hB : wB (WR m c) = hB m c := (Pipeline.withArrays_of_ne (cfgs 0).spec c (V0 m c) _ main_arg5 (by decide)).trans (V_main_arg5 m c)
theorem WR_hR : wR (WR m c) = hR m c := (Pipeline.withArrays_of_ne (cfgs 0).spec c (V0 m c) _ main_arg7 (by decide)).trans (V_main_arg7 m c)
theorem WR_hC : wC (WR m c) = hC := (Pipeline.withArrays_of_ne (cfgs 0).spec c (V0 m c) _ main_cst (by decide)).trans (funext fun i => V_cst m c i)

abbrev opss : List (List (HloOp τ sig (Elt Ideal))) := [hostOps1, hostOps1_1, hostOps1_2, hostOps1_3, hostOps1_4, hostOps1_5, hostOps1_6, hostOps1_7, hostOps1_8, hostOps1_9, hostOps1_10, hostOps1_11, hostOps1_12, hostOps1_13, hostOps1_14]

theorem res56 (n : Fin 3) (r : Fin 7168) (k : Fin 8) : eW S3x7168x8 (Pipeline.afterTail₀ cfgs (dats m) 0 (V0 m) opss c main_v56) (ix3 n r k)
    = rErr (hD m c) (hS m c) (hG m c) (hSg m c) (hA m c) (hB m c) hC n r k := by
  refine (g56 (WR m c) n r k).trans ?_
  rw [WR_D, WR_hS, WR_hG, WR_hSg, WR_hA, WR_hB, WR_hC]
theorem res72 (n : Fin 3) (r : Fin 7168) : eW S3x7168 (Pipeline.afterTail₀ cfgs (dats m) 0 (V0 m) opss c main_v72) (ix2 n r)
    = rScale (hD m c) (hS m c) (hG m c) (hSg m c) (hA m c) (hB m c) hC (hR m c) n r := by
  refine (g72 (WR m c) n r).trans ?_
  rw [WR_D, WR_hS, WR_hG, WR_hSg, WR_hA, WR_hB, WR_hC, WR_hR]
theorem res89 (n : Fin 3) (r : Fin 7168) (q : Fin 512) : (Pipeline.afterTail₀ cfgs (dats m) 0 (V0 m) opss c main_v89 : S3x7168x512.Idx → BitVec 32) (ix3 n r q)
    = rWord (hD m c) (hS m c) (hG m c) (hSg m c) (hA m c) (hB m c) hC (hR m c) n r q := by
  refine (g89 (WR m c) n r q).trans ?_
  rw [WR_D, WR_hS, WR_hG, WR_hSg, WR_hA, WR_hB, WR_hC, WR_hR]

end Cert.ReferenceIdeal.Hand
-- ==== Proof.Final.lean ====
/- The kernel and the reference end with equal results. -/
module

public import proofs.«01_k».proof.Defs
public import proofs.«01_k».proof.Proof.ValH
public import proofs.«01_k».proof.Proof.RefB
public import proofs.«01_k».proof.Proof.PreA
public import Idealize.ShloMosaic.Lib.Claim

@[expose] public section

noncomputable section

namespace Cert.KernelIdeal.HandV

open Cert.KernelIdeal.Hand hiding frame
open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- The buffers as the lines after the kernel find them. -/
abbrev WK := Pipeline.withArrays (cfgs 0).spec c (V0 m c) fun w => (datsV m 0 c).arrAt w (cfgs 0).N

set_option maxRecDepth 10000 in
theorem WK_1 : eW S3x28x1x256 (WK m c (Proc.devRef .tc main_v48_1)) = W9 m c :=
  (Pipeline.withArrays_arr (cfgs 0).spec (by decide) c (V0 m c) (fun w => (datsV m 0 c).arrAt w (cfgs 0).N) 9).trans (arr9 m c)
set_option maxRecDepth 10000 in
theorem WK_2 : eW S3x28x8x256 (WK m c (Proc.devRef .tc main_v48_2)) = W10 m c :=
  (Pipeline.withArrays_arr (cfgs 0).spec (by decide) c (V0 m c) (fun w => (datsV m 0 c).arrAt w (cfgs 0).N) 10).trans (arr10 m c)

section
variable (W : Valuation τ sig (Elt Ideal))
theorem sfx49 (n : Fin 3) (r : Fin 7168) : eW S3x7168 (StableHlo.after (List.flatten [hostOps1]) W (Proc.devRef .tc main_v49)) (ix2 n r)
    = eW S3x28x1x256 (W (Proc.devRef .tc main_v48_1)) (ix4 n ⟨r.val / 256, by omega⟩ 0 ⟨r.val % 256, by omega⟩) := by
  after_reads_at
  rfl
theorem sfx51 (n : Fin 3) (r : Fin 7168) (k : Fin 8) : eW S3x7168x8 (StableHlo.after (List.flatten [hostOps1]) W (Proc.devRef .tc main_v51)) (ix3 n r k)
    = eW S3x28x8x256 (W (Proc.devRef .tc main_v48_2)) (ix4 n ⟨r.val / 256, by omega⟩ k ⟨r.val % 256, by omega⟩) := by
  after_reads_at
  rfl
end

theorem res49 (n : Fin 3) (r : Fin 7168) : eW S3x7168 (Pipeline.afterTail₀ cfgs (datsV m) 0 (V0 m) [hostOps1] c main_v49) (ix2 n r)
    = kScale (gD m c) (gS m c) (gG m c) (gSg m c) (gA m c) (gB m c) (gR m c) n.val (r.val / 256) (r.val % 256) := by
  refine (sfx49 (WK m c) n r).trans ?_
  rw [WK_1]; rfl
theorem res51 (n : Fin 3) (r : Fin 7168) (k : Fin 8) : eW S3x7168x8 (Pipeline.afterTail₀ cfgs (datsV m) 0 (V0 m) [hostOps1] c main_v51) (ix3 n r k)
    = kErr (gD m c) (gS m c) (gG m c) (gSg m c) (gA m c) (gB m c) n.val (r.val / 256) k.val (r.val % 256) := by
  refine (sfx51 (WK m c) n r k).trans ?_
  rw [WK_2]; rfl

end Cert.KernelIdeal.HandV

namespace Cert.Fin

open Idealize.ShloMosaic Idealize.ShloMosaic.TcCoe Idealize.ShloMosaic.Tactic Idealize.SL.Sem
open Cert.Eqn

theorem hC_rat (k : Fin 8) : Cert.ReferenceIdeal.Hand.hC (ix1 k) = Cert.KernelIdeal.Hand.rat k.val := by
  unfold Cert.ReferenceIdeal.Hand.hC
  fin_cases k <;> first | exact Ideal.ofBits_one_f32 | rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' argument arrays agree. -/
def Same : Prop :=
  Cert.ReferenceIdeal.Hand.hD m' c = Cert.KernelIdeal.Hand.gD m c ∧ Cert.ReferenceIdeal.Hand.hS m' c = Cert.KernelIdeal.Hand.gS m c
    ∧ Cert.ReferenceIdeal.Hand.hG m' c = Cert.KernelIdeal.Hand.gG m c ∧ Cert.ReferenceIdeal.Hand.hSg m' c = Cert.KernelIdeal.Hand.gSg m c
    ∧ Cert.ReferenceIdeal.Hand.hA m' c = Cert.KernelIdeal.Hand.gA m c ∧ Cert.ReferenceIdeal.Hand.hB m' c = Cert.KernelIdeal.Hand.gB m c
    ∧ Cert.ReferenceIdeal.Hand.hR m' c = Cert.KernelIdeal.Hand.gR m c

variable (hs : Same m m' c) (hr : ∀ i, ∃ k : ℕ, k < 8 ∧ (Cert.KernelIdeal.Hand.gR m c) i = BitVec.ofNat 32 k)

include hs hr in
theorem eq89 : (Pipeline.afterTail₀ Cert.ReferenceIdeal.cfgs (Cert.ReferenceIdeal.Gen.dats m') 0 (Cert.ReferenceIdeal.Gen.V0 m') Cert.ReferenceIdeal.Hand.opss c Cert.ReferenceIdeal.main_v89 : Cert.KernelIdeal.S3x7168x512.Idx → BitVec 32)
    = Cert.KernelIdeal.HandV.W8 m c := by
  obtain ⟨e0, e1, e2, e3, e4, e5, e7⟩ := hs
  funext i
  obtain ⟨n, r, q, rfl⟩ : ∃ (n : Fin 3) (r : Fin 7168) (q : Fin 512), i = ix3 n r q := ⟨_, _, _, eq_ix3 i⟩
  obtain ⟨k, hk, hb⟩ := hr (ix2 n r)
  refine (Cert.ReferenceIdeal.Hand.res89 m' c n r q).trans ?_
  rw [e0, e1, e2, e3, e4, e5, e7]
  exact (word_eq' (Cert.KernelIdeal.Hand.gD m c) (Cert.KernelIdeal.Hand.gS m c) (Cert.KernelIdeal.Hand.gG m c) (Cert.KernelIdeal.Hand.gSg m c) (Cert.KernelIdeal.Hand.gA m c) (Cert.KernelIdeal.Hand.gB m c) (Cert.KernelIdeal.Hand.gR m c) Cert.ReferenceIdeal.Hand.hC n (r.val / 256) (by omega) (r.val % 256) (by omega) r (by omega) q k hk hb hC_rat).symm

include hs hr in
theorem eq72 : (Pipeline.afterTail₀ Cert.ReferenceIdeal.cfgs (Cert.ReferenceIdeal.Gen.dats m') 0 (Cert.ReferenceIdeal.Gen.V0 m') Cert.ReferenceIdeal.Hand.opss c Cert.ReferenceIdeal.main_v72 : Cert.KernelIdeal.S3x7168.Idx → EReal)
    = Pipeline.afterTail₀ Cert.KernelIdeal.cfgs (Cert.KernelIdeal.HandV.datsV m) 0 (Cert.KernelIdeal.Gen.V0 m) [Cert.KernelIdeal.Gen.hostOps1] c Cert.KernelIdeal.main_v49 := by
  obtain ⟨e0, e1, e2, e3, e4, e5, e7⟩ := hs
  funext i
  obtain ⟨n, r, rfl⟩ : ∃ (n : Fin 3) (r : Fin 7168), i = ix2 n r := ⟨_, _, eq_ix2 i⟩
  obtain ⟨k, hk, hb⟩ := hr (ix2 n r)
  refine (Cert.ReferenceIdeal.Hand.res72 m' c n r).trans (Eq.trans ?_ (Cert.KernelIdeal.HandV.res49 m c n r).symm)
  rw [e0, e1, e2, e3, e4, e5, e7]
  exact (scale_eq (Cert.KernelIdeal.Hand.gD m c) (Cert.KernelIdeal.Hand.gS m c) (Cert.KernelIdeal.Hand.gG m c) (Cert.KernelIdeal.Hand.gSg m c) (Cert.KernelIdeal.Hand.gA m c) (Cert.KernelIdeal.Hand.gB m c) (Cert.KernelIdeal.Hand.gR m c) Cert.ReferenceIdeal.Hand.hC n (r.val / 256) (by omega) (r.val % 256) (by omega) r (by omega) k hk hb hC_rat).symm

include hs in
theorem eq56 : (Pipeline.afterTail₀ Cert.ReferenceIdeal.cfgs (Cert.ReferenceIdeal.Gen.dats m') 0 (Cert.ReferenceIdeal.Gen.V0 m') Cert.ReferenceIdeal.Hand.opss c Cert.ReferenceIdeal.main_v56 : Cert.KernelIdeal.S3x7168x8.Idx → EReal)
    = Pipeline.afterTail₀ Cert.KernelIdeal.cfgs (Cert.KernelIdeal.HandV.datsV m) 0 (Cert.KernelIdeal.Gen.V0 m) [Cert.KernelIdeal.Gen.hostOps1] c Cert.KernelIdeal.main_v51 := by
  obtain ⟨e0, e1, e2, e3, e4, e5, e7⟩ := hs
  funext i
  obtain ⟨n, r, k, rfl⟩ : ∃ (n : Fin 3) (r : Fin 7168) (k : Fin 8), i = ix3 n r k := ⟨_, _, _, eq_ix3 i⟩
  refine (Cert.ReferenceIdeal.Hand.res56 m' c n r k).trans (Eq.trans ?_ (Cert.KernelIdeal.HandV.res51 m c n r k).symm)
  rw [e0, e1, e2, e3, e4, e5]
  exact (error_eq (Cert.KernelIdeal.Hand.gD m c) (Cert.KernelIdeal.Hand.gS m c) (Cert.KernelIdeal.Hand.gG m c) (Cert.KernelIdeal.Hand.gSg m c) (Cert.KernelIdeal.Hand.gA m c) (Cert.KernelIdeal.Hand.gB m c) Cert.ReferenceIdeal.Hand.hC n (r.val / 256) (by omega) (r.val % 256) (by omega) r (by omega) k hC_rat).symm
end

theorem alg : Cert.algebraic_KernelIdeal_ReferenceIdeal_pre_tame (hPre_tame := Cert.Pre_tame.Gen.facts) := by
  intro m g m' g' hpre hargs
  have hp := fun c => Cert.Pre_tame.Gen.read _ _ _ _ _ _ _ _ (hpre c)
  have hfin : ∀ c, Cert.KernelIdeal.HandV.FinT m c := fun c n s a j r _ _ _ =>
    finT _ _ _ _ _ (hp c).1 (hp c).2.1 (hp c).2.2.1 (hp c).2.2.2.1 (hp c).2.2.2.2.1 n s a j r
  refine ⟨fun c => Cert.KernelIdeal.HandV.W8 m c,
    fun c => Pipeline.afterTail₀ Cert.KernelIdeal.cfgs (Cert.KernelIdeal.HandV.datsV m) 0 (Cert.KernelIdeal.Gen.V0 m) [Cert.KernelIdeal.Gen.hostOps1] c Cert.KernelIdeal.main_v49,
    fun c => Pipeline.afterTail₀ Cert.KernelIdeal.cfgs (Cert.KernelIdeal.HandV.datsV m) 0 (Cert.KernelIdeal.Gen.V0 m) [Cert.KernelIdeal.Gen.hostOps1] c Cert.KernelIdeal.main_v51, ?_⟩
  have h1 := (θ_run Cert.KernelIdeal.defs _ _).mono (fun r h => h.1) (Cert.KernelIdeal.HandV.run_mainV m g hfin)
  have h2 := Cert.ReferenceIdeal.Gen.run_main m' g'
  have hsame : ∀ c, Same m m' c := fun c =>
    ⟨(hargs c).1, (hargs c).2.1, (hargs c).2.2.1, (hargs c).2.2.2.1, (hargs c).2.2.2.2.1, (hargs c).2.2.2.2.2.1, (hargs c).2.2.2.2.2.2.2⟩
  refine ⟨?_, ?_⟩
  · refine (θ_run Cert.KernelIdeal.defs _ _).mono (fun r h c => ?_) (θ_run_and h1 (Cert.KernelIdeal.Hand.frame m g))
    refine ⟨((h.1 c).1 8).trans (Cert.KernelIdeal.HandV.arr8 m c), ?_, ?_, h.2.1 c⟩
    · exact (h.1 c).2 Cert.KernelIdeal.main_v49 (Pipeline.mem_restRefs_of _ (by decide) (by decide))
    · exact (h.1 c).2 Cert.KernelIdeal.main_v51 (Pipeline.mem_restRefs_of _ (by decide) (by decide))
  · refine (θ_run Cert.ReferenceIdeal.defs _ _).mono (fun r h c => ?_) (θ_run_and h2 (Cert.ReferenceIdeal.Gen.frame m' g'))
    refine ⟨?_, ?_, ?_, h.2.1 c⟩
    · exact ((h.1 c).2 Cert.ReferenceIdeal.main_v89 (Pipeline.mem_restRefs_of _ (by decide) (by decide))).trans (eq89 m m' c (hsame c) (hp c).2.2.2.2.2)
    · exact ((h.1 c).2 Cert.ReferenceIdeal.main_v72 (Pipeline.mem_restRefs_of _ (by decide) (by decide))).trans (eq72 m m' c (hsame c) (hp c).2.2.2.2.2)
    · exact ((h.1 c).2 Cert.ReferenceIdeal.main_v56 (Pipeline.mem_restRefs_of _ (by decide) (by decide))).trans (eq56 m m' c (hsame c))

end Cert.Fin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Run
public import proofs.«01_k».proof.Pre_tame_down
public import proofs.«01_k».proof.Proof.FrameK
public import proofs.«01_k».proof.Proof.FrameIdeal
public import proofs.«01_k».proof.Proof.Gen.Pre_tame_down
public import proofs.«01_k».proof.Proof.DFrameK
public import proofs.«01_k».proof.Proof.DFrameIdeal
public import proofs.«01_k».proof.Proof.DFinal
public import proofs.«01_k».proof.Pre_tame
public import proofs.«01_k».proof.Proof.PreA
public import proofs.«01_k».proof.Proof.Final
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts, Cert.Pre_tame.Gen.facts, Cert.Pre_tame_down.Gen.facts,
  fun m g _ => Cert.Kernel.Hand.frame m g, fun m g _ => Cert.KernelIdeal.Hand.frame m g, fun m g _ => Cert.KernelIdeal.Hand.frame m g,
  fun m g _ => Cert.ReferenceIdeal.Gen.frame m g, fun m g _ => Cert.ReferenceIdeal.Gen.frame m g,
  fun m g _ => Cert.Down.Hand.frame m g, fun m g _ => Cert.DownIdeal.Hand.frame m g, fun m g _ => Cert.DownIdeal.Hand.frame m g,
  fun m g _ => Cert.DownReferenceIdeal.Hand.frame m g, fun m g _ => Cert.DownReferenceIdeal.Hand.frame m g,
  IdealRules.bf16_pack.statement _, Cert.Fin.alg, IdealRules.bf16_pack.statement _, Cert.DFin.alg⟩

end Cert.Proof

end
